-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_v23) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v21) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v43) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v21) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v43) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_all_finite : Cert.Pre_all_finite.Facts) (hPre_finite5 : Cert.Pre_finite5.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_all_finite.lean ====
abbrev S2x2048x4x96 : Shape := ⟨4, ![2, 2048, 4, 96]⟩
abbrev S2x2048x4x64 : Shape := ⟨4, ![2, 2048, 4, 64]⟩
abbrev S2x2048x256 : Shape := ⟨3, ![2, 2048, 256]⟩
abbrev S_ : Shape := ⟨0, ![]⟩

class Facts : Prop where
  bcast_S_S2x2048x4x96 : S_.BroadcastsInDim S2x2048x4x96 (![] : Fin 0 → Fin S2x2048x4x96.rank)
  reducesTo_S2x2048x4x96_S_d0_1_2_3 : S2x2048x4x96.ReducesTo [0, 1, 2, 3] S_
  h_S_ : 0 < S_.numel
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_
  bcast_S_S2x2048x256 : S_.BroadcastsInDim S2x2048x256 (![] : Fin 0 → Fin S2x2048x256.rank)
  reducesTo_S2x2048x256_S_d0_1_2 : S2x2048x256.ReducesTo [0, 1, 2] S_

variable [Facts]

def fn_part1 {F : FTy → Type} [FloatOps F] (main_v13 : IVec S_ 1) (main_v16 : IVec S2x2048x256 1) : IVec S_ 1 :=
  let main_c_5 : IVec S_ 1 := constantI S_ 1 1#1
  let main_v17 : IVec S_ 1 := (fun x v => Host.reduce IntOp.andi x v reducesTo_S2x2048x256_S_d0_1_2 h_S_) main_v16 main_c_5
  let main_v18 : IVec S_ 1 := andi main_v13 main_v17
  main_v18

def fn {F : FTy → Type} [FloatOps F] (main_arg0 : FVec F S2x2048x4x96 .f32) (main_arg1 : FVec F S2x2048x4x96 .f32) (main_arg2 : FVec F S2x2048x4x64 .f32) (main_arg3 : FVec F S2x2048x256 .f32) : IVec S_ 1 :=
  let main_v0 : FVec F S2x2048x4x96 .f32 := Host.absf main_arg0
  let main_cst : FVec F S_ .f32 := constant S_ .f32 0x7F800000#32
  let main_v1 : FVec F S2x2048x4x96 .f32 := broadcastInDim S2x2048x4x96 ![] bcast_S_S2x2048x4x96 main_cst
  let main_v2 : IVec S2x2048x4x96 1 := cmpf .olt main_v0 main_v1
  let main_c : IVec S_ 1 := constantI S_ 1 1#1
  let main_v3 : IVec S_ 1 := (fun x v => Host.reduce IntOp.andi x v reducesTo_S2x2048x4x96_S_d0_1_2_3 h_S_) main_v2 main_c
  let main_v4 : FVec F S2x2048x4x96 .f32 := Host.absf main_arg1
  let main_cst_0 : FVec F S_ .f32 := constant S_ .f32 0x7F800000#32
  let main_v5 : FVec F S2x2048x4x96 .f32 := broadcastInDim S2x2048x4x96 ![] bcast_S_S2x2048x4x96 main_cst_0
  let main_v6 : IVec S2x2048x4x96 1 := cmpf .olt main_v4 main_v5
  let main_c_1 : IVec S_ 1 := constantI S_ 1 1#1
  let main_v7 : IVec S_ 1 := (fun x v => Host.reduce IntOp.andi x v reducesTo_S2x2048x4x96_S_d0_1_2_3 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  let main_v14 : FVec F S2x2048x256 .f32 := Host.absf main_arg3
  let main_cst_4 : FVec F S_ .f32 := constant S_ .f32 0x7F800000#32
  let main_v15 : FVec F S2x2048x256 .f32 := broadcastInDim S2x2048x256 ![] bcast_S_S2x2048x256 main_cst_4
  let main_v16 : IVec S2x2048x256 1 := cmpf .olt main_v14 main_v15
  fn_part1 (F := F) main_v13 main_v16
-- ==== Pre_finite5.lean ====
abbrev S4096x1024 : Shape := ⟨2, ![4096, 1024]⟩
abbrev S1x4x704x1024 : Shape := ⟨4, ![1, 4, 704, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x4x704x1024 : S_.BroadcastsInDim S1x4x704x1024 (![] : Fin 0 → Fin S1x4x704x1024.rank)
  reducesTo_S1x4x704x1024_S_d0_1_2_3 : S1x4x704x1024.ReducesTo [0, 1, 2, 3] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S1x4x704x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x4x704x1024 .f32 := (extf .f32 · bitsLt_bf16_f32) main_arg1
  let main_v6 : FVec F S1x4x704x1024 .f32 := Host.absf main_v5
  let main_cst_0 : FVec F S_ .f32 := constant S_ .f32 0x7F800000#32
  let main_v7 : FVec F S1x4x704x1024 .f32 := broadcastInDim S1x4x704x1024 ![] bcast_S_S1x4x704x1024 main_cst_0
  let main_v8 : IVec S1x4x704x1024 1 := cmpf .olt main_v6 main_v7
  let main_c_1 : IVec S_ 1 := constantI S_ 1 1#1
  let main_v9 : IVec S_ 1 := (fun x v => Host.reduce IntOp.andi x v reducesTo_S1x4x704x1024_S_d0_1_2_3 h_S_) main_v8 main_c_1
  let main_v10 : IVec S_ 1 := andi main_v4 main_v9
  let main_v11 : FVec F S4096x2816 .f32 := (extf .f32 · bitsLt_bf16_f32) main_arg3
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  main_v16
-- ==== Kernel.lean ====
abbrev S2x2048x4x96 : Shape := ⟨4, ![2, 2048, 4, 96]⟩
abbrev S2x2048x4x64 : Shape := ⟨4, ![2, 2048, 4, 64]⟩
abbrev S2x2048x256 : Shape := ⟨3, ![2, 2048, 256]⟩
abbrev S_ : Shape := ⟨0, ![]⟩
abbrev S4096x256 : Shape := ⟨2, ![4096, 256]⟩
abbrev S2x2048x4x128 : Shape := ⟨4, ![2, 2048, 4, 128]⟩
abbrev S4096x512 : Shape := ⟨2, ![4096, 512]⟩
abbrev S4096x768 : Shape := ⟨2, ![4096, 768]⟩
abbrev S4096x1536 : Shape := ⟨2, ![4096, 1536]⟩
abbrev S256x128 : Shape := ⟨2, ![256, 128]⟩
abbrev S2048x128 : Shape := ⟨2, ![2048, 128]⟩
abbrev S256x256 : Shape := ⟨2, ![256, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 32
  | .vmem => 16
  | .smem => 0
  | _ => 0

abbrev bufTy : (tb : Table) → Fin (tcTables nBuf tb) → BufTy
  | .hbm, ⟨0, _⟩ => ⟨S2x2048x4x96, .f32⟩
  | .hbm, ⟨1, _⟩ => ⟨S2x2048x4x96, .f32⟩
  | .hbm, ⟨2, _⟩ => ⟨S2x2048x4x64, .f32⟩
  | .hbm, ⟨3, _⟩ => ⟨S2x2048x256, .f32⟩
  | .hbm, ⟨4, _⟩ => ⟨S_, .f32⟩
  | .hbm, ⟨5, _⟩ => ⟨S4096x256, .f32⟩
  | .hbm, ⟨6, _⟩ => ⟨S2x2048x4x64, .f32⟩
  | .hbm, ⟨7, _⟩ => ⟨S_, .i32⟩
  | .hbm, ⟨8, _⟩ => ⟨S_, .f32⟩
  | .hbm, ⟨9, _⟩ => ⟨S2x2048x4x128, .f32⟩
  | .hbm, ⟨10, _⟩ => ⟨S4096x512, .f32⟩
  | .hbm, ⟨11, _⟩ => ⟨S_, .f32⟩
  | .hbm, ⟨12, _⟩ => ⟨S4096x768, .f32⟩
  | .hbm, ⟨13, _⟩ => ⟨S4096x1536, .f32⟩
  | .hbm, ⟨14, _⟩ => ⟨S_, .i32⟩
  | .hbm, ⟨15, _⟩ => ⟨S_, .f32⟩
  | .hbm, ⟨16, _⟩ => ⟨S2x2048x4x128, .f32⟩
  | .hbm, ⟨17, _⟩ => ⟨S4096x512, .f32⟩
  | .hbm, ⟨18, _⟩ => ⟨S4096x512, .bf16⟩
  | .hbm, ⟨19, _⟩ => ⟨S_, .i32⟩
  | .hbm, ⟨20, _⟩ => ⟨S_, .f32⟩
  | .hbm, ⟨21, _⟩ => ⟨S2x2048x4x128, .f32⟩
  | .hbm, ⟨22, _⟩ => ⟨S4096x512, .f32⟩
  | .hbm, ⟨23, _⟩ => ⟨S4096x512, .bf16⟩
  | .hbm, ⟨24, _⟩ => ⟨S_, .i32⟩
  | .hbm, ⟨25, _⟩ => ⟨S_, .f32⟩
  | .hbm, ⟨26, _⟩ => ⟨S2x2048x4x128, .f32⟩
  | .hbm, ⟨27, _⟩ => ⟨S4096x512, .f32⟩
  | .hbm, ⟨28, _⟩ => ⟨S4096x512, .bf16⟩
  | .hbm, ⟨29, _⟩ => ⟨S4096x512, .f32⟩
  | .hbm, ⟨30, _⟩ => ⟨S4096x512, .f32⟩
  | .hbm, ⟨31, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2x2048x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .sge arg2 c0_i32_1
  let c1_i32 : BitVec 32 := 1#32
  let v4 : BitVec 1 := Scalar.cmpi .slt arg2 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c1_i32_3 : BitVec 32 := 1#32
  let v8 : BitVec 1 := Scalar.cmpi .sge arg2 c1_i32_3
  let c2_i32 : BitVec 32 := 2#32
  let v9 : BitVec 1 := Scalar.cmpi .slt arg2 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg2 : BitVec 32 := BitVec.ofNat 32 (i 2).val
  let c2_i32_5 : BitVec 32 := 2#32
  let v13 : BitVec 1 := Scalar.cmpi .sge arg2 c2_i32_5
  let c3_i32 : BitVec 32 := 3#32
  let v14 : BitVec 1 := Scalar.cmpi .slt arg2 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg2 : BitVec 32 := BitVec.ofNat 32 (i 2).val
  let c3_i32_7 : BitVec 32 := 3#32
  let v18 : BitVec 1 := Scalar.cmpi .sge arg2 c3_i32_7
  let c4_i32 : BitVec 32 := 4#32
  let v19 : BitVec 1 := Scalar.cmpi .slt arg2 c4_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg2 : BitVec 32 := BitVec.ofNat 32 (i 2).val
  let c4_i32_9 : BitVec 32 := 4#32
  let v23 : BitVec 1 := Scalar.cmpi .sge arg2 c4_i32_9
  let c5_i32 : BitVec 32 := 5#32
  let v24 : BitVec 1 := Scalar.cmpi .slt arg2 c5_i32
  let v25 : BitVec 1 := Scalar.andi v23 v24
  let v26 : BitVec 32 := Scalar.extui v25
  let c0_i32_10 : BitVec 32 := 0#32
  let v27 : BitVec 1 := Scalar.cmpi .ne v26 c0_i32_10
  v27

def k0_cond7 (i : grid0.Coords) : BitVec 1 :=
  let arg2 : BitVec 32 := BitVec.ofNat 32 (i 2).val
  let c5_i32_11 : BitVec 32 := 5#32
  let v28 : BitVec 1 := Scalar.cmpi .sge arg2 c5_i32_11
  let c6_i32 : BitVec 32 := 6#32
  let v29 : BitVec 1 := Scalar.cmpi .slt arg2 c6_i32
  let v30 : BitVec 1 := Scalar.andi v28 v29
  let v31 : BitVec 32 := Scalar.extui v30
  let c0_i32_12 : BitVec 32 := 0#32
  let v32 : BitVec 1 := Scalar.cmpi .ne v31 c0_i32_12
  v32

def k0_cond8 (i : grid0.Coords) : BitVec 1 :=
  let arg2 : BitVec 32 := BitVec.ofNat 32 (i 2).val
  let c6_i32_13 : BitVec 32 := 6#32
  let v33 : BitVec 1 := Scalar.cmpi .sge arg2 c6_i32_13
  let c7_i32 : BitVec 32 := 7#32
  let v34 : BitVec 1 := Scalar.cmpi .slt arg2 c7_i32
  let v35 : BitVec 1 := Scalar.andi v33 v34
  let v36 : BitVec 32 := Scalar.extui v35
  let c0_i32_14 : BitVec 32 := 0#32
  let v37 : BitVec 1 := Scalar.cmpi .ne v36 c0_i32_14
  v37

def k0_cond9 (i : grid0.Coords) : BitVec 1 :=
  let arg2 : BitVec 32 := BitVec.ofNat 32 (i 2).val
  let c7_i32_15 : BitVec 32 := 7#32
  let v38 : BitVec 1 := Scalar.cmpi .sge arg2 c7_i32_15
  let c8_i32 : BitVec 32 := 8#32
  let v39 : BitVec 1 := Scalar.cmpi .slt arg2 c8_i32
  let v40 : BitVec 1 := Scalar.andi v38 v39
  let v41 : BitVec 32 := Scalar.extui v40
  let c0_i32_16 : BitVec 32 := 0#32
  let v42 : BitVec 1 := Scalar.cmpi .ne v41 c0_i32_16
  v42

def k0_cond10 (i : grid0.Coords) : BitVec 1 :=
  let arg2 : BitVec 32 := BitVec.ofNat 32 (i 2).val
  let c7_i32_17 : BitVec 32 := 7#32
  let v43 : BitVec 1 := Scalar.cmpi .eq arg2 c7_i32_17
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S2x2048x4x96 : Shape := ⟨4, ![2, 2048, 4, 96]⟩
abbrev S2x2048x4x64 : Shape := ⟨4, ![2, 2048, 4, 64]⟩
abbrev S2x2048x256 : Shape := ⟨3, ![2, 2048, 256]⟩
abbrev S2x4x2048x2048 : Shape := ⟨4, ![2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x4x2048x96 : Shape := ⟨4, ![2, 4, 2048, 96]⟩
abbrev S2x2048x4x128 : Shape := ⟨4, ![2, 2048, 4, 128]⟩
abbrev S4096x512 : Shape := ⟨2, ![4096, 512]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x4x96, .f32⟩
  | .hbm, ⟨1, _⟩ => ⟨S2x2048x4x96, .f32⟩
  | .hbm, ⟨2, _⟩ => ⟨S2x2048x4x64, .f32⟩
  | .hbm, ⟨3, _⟩ => ⟨S2x2048x256, .f32⟩
  | .hbm, ⟨4, _⟩ => ⟨S2x4x2048x2048, .f32⟩
  | .hbm, ⟨5, _⟩ => ⟨S_, .f32⟩
  | .hbm, ⟨6, _⟩ => ⟨S2x4x2048x2048, .f32⟩
  | .hbm, ⟨7, _⟩ => ⟨S2x4x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x4x2048x2048, .i1⟩
  | .hbm, ⟨17, _⟩ => ⟨S2x4x2048x2048, .f32⟩
  | .hbm, ⟨18, _⟩ => ⟨S2x4x2048x2048, .f32⟩
  | .hbm, ⟨19, _⟩ => ⟨S_, .f32⟩
  | .hbm, ⟨20, _⟩ => ⟨S2x4x2048x2048, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x2048, .f32⟩
  | .hbm, ⟨25, _⟩ => ⟨S2x4x2048x2048, .i1⟩
  | .hbm, ⟨26, _⟩ => ⟨S2x4x2048x2048, .f32⟩
  | .hbm, ⟨27, _⟩ => ⟨S_, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S2x4x2048, .i1⟩
  | .hbm, ⟨35, _⟩ => ⟨S_, .f32⟩
  | .hbm, ⟨36, _⟩ => ⟨S2x4x2048, .f32⟩
  | .hbm, ⟨37, _⟩ => ⟨S2x4x2048, .i1⟩
  | .hbm, ⟨38, _⟩ => ⟨S_, .f32⟩
  | .hbm, ⟨39, _⟩ => ⟨S2x4x2048, .f32⟩
  | .hbm, ⟨40, _⟩ => ⟨S_, .f32⟩
  | .hbm, ⟨41, _⟩ => ⟨S2x4x2048, .f32⟩
  | .hbm, ⟨42, _⟩ => ⟨S_, .f32⟩
  | .hbm, ⟨43, _⟩ => ⟨S2x4x2048, .f32⟩
  | .hbm, ⟨44, _⟩ => ⟨S2x4x2048, .f32⟩
  | .hbm, ⟨45, _⟩ => ⟨S2x4x2048, .f32⟩
  | .hbm, ⟨46, _⟩ => ⟨S2x4x2048x1, .f32⟩
  | .hbm, ⟨47, _⟩ => ⟨S2x4x2048x2048, .f32⟩
  | .hbm, ⟨48, _⟩ => ⟨S2x4x2048x2048, .f32⟩
  | .hbm, ⟨49, _⟩ => ⟨S2x4x2048x2048, .f32⟩
  | .hbm, ⟨50, _⟩ => ⟨S_, .f32⟩
  | .hbm, ⟨51, _⟩ => ⟨S2x4x2048, .f32⟩
  | .hbm, ⟨52, _⟩ => ⟨S2x4x2048x1, .f32⟩
  | .hbm, ⟨53, _⟩ => ⟨S2x4x2048x2048, .f32⟩
  | .hbm, ⟨54, _⟩ => ⟨S2x4x2048x2048, .f32⟩
  | .hbm, ⟨55, _⟩ => ⟨S2x4x2048x1, .f32⟩
  | .hbm, ⟨56, _⟩ => ⟨S_, .f32⟩
  | .hbm, ⟨57, _⟩ => ⟨S2x4x2048x1, .f32⟩
  | .hbm, ⟨58, _⟩ => ⟨S2x4x2048x1, .f32⟩
  | .hbm, ⟨59, _⟩ => ⟨S2x4x64x2048, .f32⟩
  | .hbm, ⟨60, _⟩ => ⟨S2x2048x4x64, .f32⟩
  | .hbm, ⟨61, _⟩ => ⟨S2x2048x256, .f32⟩
  | .hbm, ⟨62, _⟩ => ⟨S2x2048x4x64, .f32⟩
  | .hbm, ⟨63, _⟩ => ⟨S2x4x64x2048, .f32⟩
  | .hbm, ⟨64, _⟩ => ⟨S2x4x2048x2048, .f32⟩
  | .hbm, ⟨65, _⟩ => ⟨S2x4x64x2048, .f32⟩
  | .hbm, ⟨66, _⟩ => ⟨S2x2048x4x64, .f32⟩
  | .hbm, ⟨67, _⟩ => ⟨S2x4x2048x2048, .f32⟩
  | .hbm, ⟨68, _⟩ => ⟨S2x4x2048x2048, .f32⟩
  | .hbm, ⟨69, _⟩ => ⟨S2x4x2048x2048, .f32⟩
  | .hbm, ⟨70, _⟩ => ⟨S_, .f32⟩
  | .hbm, ⟨71, _⟩ => ⟨S2x4x2048, .f32⟩
  | .hbm, ⟨72, _⟩ => ⟨S2x4x2048x1, .f32⟩
  | .hbm, ⟨73, _⟩ => ⟨S2x4x2048x1, .f32⟩
  | .hbm, ⟨74, _⟩ => ⟨S2x4x2048x2048, .f32⟩
  | .hbm, ⟨75, _⟩ => ⟨S2x4x2048x2048, .f32⟩
  | .hbm, ⟨76, _⟩ => ⟨S_, .f32⟩
  | .hbm, ⟨77, _⟩ => ⟨S2x4x2048, .f32⟩
  | .hbm, ⟨78, _⟩ => ⟨S2x4x2048x2048, .f32⟩
  | .hbm, ⟨79, _⟩ => ⟨S2x4x2048x2048, .f32⟩
  | .hbm, ⟨80, _⟩ => ⟨S2x4x2048x2048, .f32⟩
  | .hbm, ⟨81, _⟩ => ⟨S_, .f32⟩
  | .hbm, ⟨82, _⟩ => ⟨S2x4x2048x2048, .f32⟩
  | .hbm, ⟨83, _⟩ => ⟨S2x4x2048x2048, .f32⟩
  | .hbm, ⟨84, _⟩ => ⟨S_, .f32⟩
  | .hbm, ⟨85, _⟩ => ⟨S2x4x2048x2048, .f32⟩
  | .hbm, ⟨86, _⟩ => ⟨S2x4x2048x2048, .f32⟩
  | .hbm, ⟨87, _⟩ => ⟨S2x4x2048x96, .f32⟩
  | .hbm, ⟨88, _⟩ => ⟨S2x2048x4x96, .f32⟩
  | .hbm, ⟨89, _⟩ => ⟨S2x4x2048x96, .f32⟩
  | .hbm, ⟨90, _⟩ => ⟨S2x2048x4x96, .f32⟩
  | .hbm, ⟨91, _⟩ => ⟨S_, .i32⟩
  | .hbm, ⟨92, _⟩ => ⟨S_, .f32⟩
  | .hbm, ⟨93, _⟩ => ⟨S2x2048x4x128, .f32⟩
  | .hbm, ⟨94, _⟩ => ⟨S4096x512, .f32⟩
  | .hbm, ⟨95, _⟩ => ⟨S_, .i32⟩
  | .hbm, ⟨96, _⟩ => ⟨S_, .f32⟩
  | .hbm, ⟨97, _⟩ => ⟨S2x2048x4x128, .f32⟩
  | .hbm, ⟨98, _⟩ => ⟨S4096x512, .f32⟩
  | .hbm, ⟨99, _⟩ => ⟨S_, .i32⟩
  | .hbm, ⟨100, _⟩ => ⟨S_, .f32⟩
  | .hbm, ⟨101, _⟩ => ⟨S2x2048x4x128, .f32⟩
  | .hbm, ⟨102, _⟩ => ⟨S4096x512, .f32⟩
  | _, _ => ⟨S2x2048x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_call4_v0 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel2.lean ====
abbrev S4096x1024 : Shape := ⟨2, ![4096, 1024]⟩
abbrev S2x9x1024 : Shape := ⟨3, ![2, 9, 1024]⟩
abbrev S4096x2816 : Shape := ⟨2, ![4096, 2816]⟩
abbrev S4x1024x1408 : Shape := ⟨3, ![4, 1024, 1408]⟩
abbrev S1024x1024 : Shape := ⟨2, ![1024, 1024]⟩
abbrev S1x9x1024 : Shape := ⟨3, ![1, 9, 1024]⟩
abbrev S1024x1408 : Shape := ⟨2, ![1024, 1408]⟩
abbrev S1x1024x1408 : Shape := ⟨3, ![1, 1024, 1408]⟩
abbrev S1x1x1024 : Shape := ⟨3, ![1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S4096x2816, .bf16⟩
  | .hbm, ⟨3, _⟩ => ⟨S4096x2816, .bf16⟩
  | .hbm, ⟨4, _⟩ => ⟨S4x1024x1408, .bf16⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c2_i32 : BitVec 32 := 2#32
  let v12 : BitVec 1 := Scalar.cmpi .slt arg0 c2_i32
  let v13 : BitVec 32 := Scalar.extui v12
  let c0_i32 : BitVec 32 := 0#32
  let v14 : BitVec 1 := Scalar.cmpi .ne v13 c0_i32
  v14

def k0_cond4 (i : grid0.Coords) : BitVec 1 :=
  let arg1 : BitVec 32 := BitVec.ofNat 32 (i 1).val
  let c3_i32_15 : BitVec 32 := 3#32
  let v28 : BitVec 1 := Scalar.cmpi .eq arg1 c3_i32_15
  let v29 : BitVec 32 := Scalar.extui v28
  let c0_i32_16 : BitVec 32 := 0#32
  let v30 : BitVec 1 := Scalar.cmpi .ne v29 c0_i32_16
  v30

def k0_cond5 (i : grid0.Coords) : BitVec 1 :=
  let arg0 : BitVec 32 := BitVec.ofNat 32 (i 0).val
  let c2_i32_6 : BitVec 32 := 2#32
  let v15 : BitVec 1 := Scalar.cmpi .sge arg0 c2_i32_6
  let v16 : BitVec 32 := Scalar.extui v15
  let c0_i32_7 : BitVec 32 := 0#32
  let v17 : BitVec 1 := Scalar.cmpi .ne v16 c0_i32_7
  v17

def k0_cond8 (i : grid0.Coords) : BitVec 1 :=
  let arg1 : BitVec 32 := BitVec.ofNat 32 (i 1).val
  let c3_i32_15 : BitVec 32 := 3#32
  let v28 : BitVec 1 := Scalar.cmpi .eq arg1 c3_i32_15
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4096x1024 : Shape := ⟨2, ![4096, 1024]⟩
abbrev S2x9x1024 : Shape := ⟨3, ![2, 9, 1024]⟩
abbrev S4096x2816 : Shape := ⟨2, ![4096, 2816]⟩
abbrev S4096x5632 : Shape := ⟨2, ![4096, 5632]⟩
abbrev S2x2048x5632 : Shape := ⟨3, ![2, 2048, 5632]⟩
abbrev S_ : Shape := ⟨0, ![]⟩
abbrev S1024x5632 : Shape := ⟨2, ![1024, 5632]⟩
abbrev S2x2048x1024 : Shape := ⟨3, ![2, 2048, 1024]⟩
abbrev S2x1x1024 : Shape := ⟨3, ![2, 1, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S4096x2816, .bf16⟩
  | .hbm, ⟨3, _⟩ => ⟨S4096x2816, .bf16⟩
  | .hbm, ⟨4, _⟩ => ⟨S4096x5632, .bf16⟩
  | .hbm, ⟨5, _⟩ => ⟨S4096x5632, .f32⟩
  | .hbm, ⟨6, _⟩ => ⟨S2x2048x5632, .f32⟩
  | .hbm, ⟨7, _⟩ => ⟨S_, .f32⟩
  | .hbm, ⟨8, _⟩ => ⟨S1024x5632, .f32⟩
  | .hbm, ⟨9, _⟩ => ⟨S2x2048x1024, .f32⟩
  | .hbm, ⟨10, _⟩ => ⟨S2x1x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x5632, .f32⟩
  | .hbm, ⟨20, _⟩ => ⟨S5632x1024, .f32⟩
  | .hbm, ⟨21, _⟩ => ⟨S1024x5632, .f32⟩
  | .hbm, ⟨22, _⟩ => ⟨S1024x4x1408, .f32⟩
  | .hbm, ⟨23, _⟩ => ⟨S4x1024x1408, .f32⟩
  | .hbm, ⟨24, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S4096x2816 : Shape := ⟨2, ![4096, 2816]⟩
abbrev S1x4x1024x1408 : Shape := ⟨4, ![1, 4, 1024, 1408]⟩
abbrev S4096x1024 : Shape := ⟨2, ![4096, 1024]⟩
abbrev S2x9x1024 : Shape := ⟨3, ![2, 9, 1024]⟩
abbrev S2x1x1024 : Shape := ⟨3, ![2, 1, 1024]⟩
abbrev S1024x1408 : Shape := ⟨2, ![1024, 1408]⟩
abbrev S1x1x1024x1408 : Shape := ⟨4, ![1, 1, 1024, 1408]⟩
abbrev S1024x1024 : Shape := ⟨2, ![1024, 1024]⟩
abbrev S1x9x1024 : Shape := ⟨3, ![1, 9, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 9
  | .vmem => 21
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x4x1024x1408, .bf16⟩
  | .hbm, ⟨3, _⟩ => ⟨S4096x1024, .f32⟩
  | .hbm, ⟨4, _⟩ => ⟨S2x9x1024, .f32⟩
  | .hbm, ⟨5, _⟩ => ⟨S4096x1024, .f32⟩
  | .hbm, ⟨6, _⟩ => ⟨S4096x1024, .f32⟩
  | .hbm, ⟨7, _⟩ => ⟨S2x1x1024, .f32⟩
  | .hbm, ⟨8, _⟩ => ⟨S2x1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1x9x1024, .f32⟩
  | .local _ .vmem, ⟨11, _⟩ => ⟨S1x9x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_16 : BitVec 32 := 0#32
  let v19 : BitVec 1 := Scalar.cmpi .ne v18 c0_i32_16
  v19

def k0_cond4 (i : grid0.Coords) : BitVec 1 :=
  let arg0 : BitVec 32 := BitVec.ofNat 32 (i 0).val
  let c2_i32 : BitVec 32 := 2#32
  let c0_i32_26 : BitVec 32 := 0#32
  let v30 : BitVec 1 := Scalar.cmpi .eq c2_i32 c0_i32_26
  let c1_i32_27 : BitVec 32 := 1#32
  let v31 : BitVec 32 := Scalar.select v30 c1_i32_27 c2_i32
  let v32 : BitVec 32 := Scalar.remsi arg0 v31
  let c0_i32_29 : BitVec 32 := 0#32
  let v34 : BitVec 1 := Scalar.cmpi .slt v32 c0_i32_29
  let c0_i32_30 : BitVec 32 := 0#32
  let v35 : BitVec 1 := Scalar.cmpi .slt v31 c0_i32_30
  let v36 : BitVec 1 := Scalar.xori v34 v35
  let c0_i32_28 : BitVec 32 := 0#32
  let v33 : BitVec 1 := Scalar.cmpi .ne v32 c0_i32_28
  let v37 : BitVec 1 := Scalar.andi v36 v33
  let v38 : BitVec 32 := Scalar.addi v32 v31
  let v39 : BitVec 32 := Scalar.select v37 v38 v32
  let c0_i32_31 : BitVec 32 := 0#32
  let v40 : BitVec 1 := Scalar.cmpi .eq v39 c0_i32_31
  let v41 : BitVec 32 := Scalar.extui v40
  let c0_i32_32 : BitVec 32 := 0#32
  let v42 : BitVec 1 := Scalar.cmpi .ne v41 c0_i32_32
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S4096x2816 : Shape := ⟨2, ![4096, 2816]⟩
abbrev S1x4x1024x1408 : Shape := ⟨4, ![1, 4, 1024, 1408]⟩
abbrev S4096x1024 : Shape := ⟨2, ![4096, 1024]⟩
abbrev S2x9x1024 : Shape := ⟨3, ![2, 9, 1024]⟩
abbrev S4096x5632 : Shape := ⟨2, ![4096, 5632]⟩
abbrev S2x2048x5632 : Shape := ⟨3, ![2, 2048, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2x2048x1024 : Shape := ⟨3, ![2, 2048, 1024]⟩
abbrev S2x1x1024 : Shape := ⟨3, ![2, 1, 1024]⟩
abbrev S_ : Shape := ⟨0, ![]⟩
abbrev S2x1024 : Shape := ⟨2, ![2, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x4x1024x1408, .bf16⟩
  | .hbm, ⟨3, _⟩ => ⟨S4096x1024, .f32⟩
  | .hbm, ⟨4, _⟩ => ⟨S2x9x1024, .f32⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S2x2048x5632, .f32⟩
  | .hbm, ⟨9, _⟩ => ⟨S4x1024x1408, .bf16⟩
  | .hbm, ⟨10, _⟩ => ⟨S1024x4x1408, .bf16⟩
  | .hbm, ⟨11, _⟩ => ⟨S1024x5632, .bf16⟩
  | .hbm, ⟨12, _⟩ => ⟨S1024x5632, .f32⟩
  | .hbm, ⟨13, _⟩ => ⟨S2x2048x1024, .f32⟩
  | .hbm, ⟨14, _⟩ => ⟨S2x1x1024, .f32⟩
  | .hbm, ⟨15, _⟩ => ⟨S2x1x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x5632, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1024, .f32⟩
  | .hbm, ⟨28, _⟩ => ⟨S2x1x1024, .f32⟩
  | .hbm, ⟨29, _⟩ => ⟨S2x2048x1024, .f32⟩
  | .hbm, ⟨30, _⟩ => ⟨S_, .f32⟩
  | .hbm, ⟨31, _⟩ => ⟨S2x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32_6 : BitVec 32 := 1#32
  let v11 : BitVec 1 := Scalar.cmpi .eq arg1 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1x4x704x1024 : Shape := ⟨4, ![1, 4, 704, 1024]⟩
abbrev S4096x2816 : Shape := ⟨2, ![4096, 2816]⟩
abbrev S1024x1024 : Shape := ⟨2, ![1024, 1024]⟩
abbrev S1x2x704x1024 : Shape := ⟨4, ![1, 2, 704, 1024]⟩
abbrev S1024x1408 : Shape := ⟨2, ![1024, 1408]⟩
abbrev S2x704x1024 : Shape := ⟨3, ![2, 704, 1024]⟩
abbrev S1408x1024 : Shape := ⟨2, ![1408, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1x4x704x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S1x4x704x1024 : Shape := ⟨4, ![1, 4, 704, 1024]⟩
abbrev S4096x2816 : Shape := ⟨2, ![4096, 2816]⟩
abbrev S4x704x1024 : Shape := ⟨3, ![4, 704, 1024]⟩
abbrev S2816x1024 : Shape := ⟨2, ![2816, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x4x704x1024, .bf16⟩
  | .hbm, ⟨2, _⟩ => ⟨S4096x2816, .bf16⟩
  | .hbm, ⟨3, _⟩ => ⟨S4096x2816, .bf16⟩
  | .hbm, ⟨4, _⟩ => ⟨S4x704x1024, .bf16⟩
  | .hbm, ⟨5, _⟩ => ⟨S2816x1024, .bf16⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel6.lean ====
abbrev S4096x1024 : Shape := ⟨2, ![4096, 1024]⟩
abbrev S2x9x1024 : Shape := ⟨3, ![2, 9, 1024]⟩
abbrev S4096x2816 : Shape := ⟨2, ![4096, 2816]⟩
abbrev S4x1024x1408 : Shape := ⟨3, ![4, 1024, 1408]⟩
abbrev S1024x1024 : Shape := ⟨2, ![1024, 1024]⟩
abbrev S1x9x1024 : Shape := ⟨3, ![1, 9, 1024]⟩
abbrev S1024x1408 : Shape := ⟨2, ![1024, 1408]⟩
abbrev S1x1024x1408 : Shape := ⟨3, ![1, 1024, 1408]⟩
abbrev S1x1x1024 : Shape := ⟨3, ![1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S4096x2816, .bf16⟩
  | .hbm, ⟨3, _⟩ => ⟨S4096x2816, .bf16⟩
  | .hbm, ⟨4, _⟩ => ⟨S4x1024x1408, .bf16⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c2_i32 : BitVec 32 := 2#32
  let v12 : BitVec 1 := Scalar.cmpi .slt arg0 c2_i32
  let v13 : BitVec 32 := Scalar.extui v12
  let c0_i32 : BitVec 32 := 0#32
  let v14 : BitVec 1 := Scalar.cmpi .ne v13 c0_i32
  v14

def k0_cond4 (i : grid0.Coords) : BitVec 1 :=
  let arg1 : BitVec 32 := BitVec.ofNat 32 (i 1).val
  let c3_i32_14 : BitVec 32 := 3#32
  let v28 : BitVec 1 := Scalar.cmpi .eq arg1 c3_i32_14
  let v29 : BitVec 32 := Scalar.extui v28
  let c0_i32_15 : BitVec 32 := 0#32
  let v30 : BitVec 1 := Scalar.cmpi .ne v29 c0_i32_15
  v30

def k0_cond5 (i : grid0.Coords) : BitVec 1 :=
  let arg0 : BitVec 32 := BitVec.ofNat 32 (i 0).val
  let c2_i32_5 : BitVec 32 := 2#32
  let v15 : BitVec 1 := Scalar.cmpi .sge arg0 c2_i32_5
  let v16 : BitVec 32 := Scalar.extui v15
  let c0_i32_6 : BitVec 32 := 0#32
  let v17 : BitVec 1 := Scalar.cmpi .ne v16 c0_i32_6
  v17

def k0_cond8 (i : grid0.Coords) : BitVec 1 :=
  let arg1 : BitVec 32 := BitVec.ofNat 32 (i 1).val
  let c3_i32_14 : BitVec 32 := 3#32
  let v28 : BitVec 1 := Scalar.cmpi .eq arg1 c3_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4096x1024 : Shape := ⟨2, ![4096, 1024]⟩
abbrev S2x9x1024 : Shape := ⟨3, ![2, 9, 1024]⟩
abbrev S4096x2816 : Shape := ⟨2, ![4096, 2816]⟩
abbrev S4096x5632 : Shape := ⟨2, ![4096, 5632]⟩
abbrev S2x2048x5632 : Shape := ⟨3, ![2, 2048, 5632]⟩
abbrev S_ : Shape := ⟨0, ![]⟩
abbrev S1024x5632 : Shape := ⟨2, ![1024, 5632]⟩
abbrev S2x2048x1024 : Shape := ⟨3, ![2, 2048, 1024]⟩
abbrev S2x1x1024 : Shape := ⟨3, ![2, 1, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S4096x2816, .bf16⟩
  | .hbm, ⟨3, _⟩ => ⟨S4096x2816, .bf16⟩
  | .hbm, ⟨4, _⟩ => ⟨S4096x5632, .bf16⟩
  | .hbm, ⟨5, _⟩ => ⟨S4096x5632, .f32⟩
  | .hbm, ⟨6, _⟩ => ⟨S2x2048x5632, .f32⟩
  | .hbm, ⟨7, _⟩ => ⟨S_, .f32⟩
  | .hbm, ⟨8, _⟩ => ⟨S1024x5632, .f32⟩
  | .hbm, ⟨9, _⟩ => ⟨S2x2048x1024, .f32⟩
  | .hbm, ⟨10, _⟩ => ⟨S2x1x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x5632, .f32⟩
  | .hbm, ⟨20, _⟩ => ⟨S5632x1024, .f32⟩
  | .hbm, ⟨21, _⟩ => ⟨S1024x5632, .f32⟩
  | .hbm, ⟨22, _⟩ => ⟨S1024x4x1408, .f32⟩
  | .hbm, ⟨23, _⟩ => ⟨S4x1024x1408, .f32⟩
  | .hbm, ⟨24, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S4096x2816 : Shape := ⟨2, ![4096, 2816]⟩
abbrev S1x4x1024x1408 : Shape := ⟨4, ![1, 4, 1024, 1408]⟩
abbrev S4096x1024 : Shape := ⟨2, ![4096, 1024]⟩
abbrev S2x9x1024 : Shape := ⟨3, ![2, 9, 1024]⟩
abbrev S2x1x1024 : Shape := ⟨3, ![2, 1, 1024]⟩
abbrev S1024x1408 : Shape := ⟨2, ![1024, 1408]⟩
abbrev S1x1x1024x1408 : Shape := ⟨4, ![1, 1, 1024, 1408]⟩
abbrev S1024x1024 : Shape := ⟨2, ![1024, 1024]⟩
abbrev S1x9x1024 : Shape := ⟨3, ![1, 9, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 9
  | .vmem => 21
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x4x1024x1408, .bf16⟩
  | .hbm, ⟨3, _⟩ => ⟨S4096x1024, .f32⟩
  | .hbm, ⟨4, _⟩ => ⟨S2x9x1024, .f32⟩
  | .hbm, ⟨5, _⟩ => ⟨S4096x1024, .f32⟩
  | .hbm, ⟨6, _⟩ => ⟨S4096x1024, .f32⟩
  | .hbm, ⟨7, _⟩ => ⟨S2x1x1024, .f32⟩
  | .hbm, ⟨8, _⟩ => ⟨S2x1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1x9x1024, .f32⟩
  | .local _ .vmem, ⟨11, _⟩ => ⟨S1x9x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_16 : BitVec 32 := 0#32
  let v19 : BitVec 1 := Scalar.cmpi .ne v18 c0_i32_16
  v19

def k0_cond4 (i : grid0.Coords) : BitVec 1 :=
  let arg0 : BitVec 32 := BitVec.ofNat 32 (i 0).val
  let c2_i32 : BitVec 32 := 2#32
  let c0_i32_26 : BitVec 32 := 0#32
  let v30 : BitVec 1 := Scalar.cmpi .eq c2_i32 c0_i32_26
  let c1_i32_27 : BitVec 32 := 1#32
  let v31 : BitVec 32 := Scalar.select v30 c1_i32_27 c2_i32
  let v32 : BitVec 32 := Scalar.remsi arg0 v31
  let c0_i32_29 : BitVec 32 := 0#32
  let v34 : BitVec 1 := Scalar.cmpi .slt v32 c0_i32_29
  let c0_i32_30 : BitVec 32 := 0#32
  let v35 : BitVec 1 := Scalar.cmpi .slt v31 c0_i32_30
  let v36 : BitVec 1 := Scalar.xori v34 v35
  let c0_i32_28 : BitVec 32 := 0#32
  let v33 : BitVec 1 := Scalar.cmpi .ne v32 c0_i32_28
  let v37 : BitVec 1 := Scalar.andi v36 v33
  let v38 : BitVec 32 := Scalar.addi v32 v31
  let v39 : BitVec 32 := Scalar.select v37 v38 v32
  let c0_i32_31 : BitVec 32 := 0#32
  let v40 : BitVec 1 := Scalar.cmpi .eq v39 c0_i32_31
  let v41 : BitVec 32 := Scalar.extui v40
  let c0_i32_32 : BitVec 32 := 0#32
  let v42 : BitVec 1 := Scalar.cmpi .ne v41 c0_i32_32
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference7Ideal.lean ====
abbrev S4096x2816 : Shape := ⟨2, ![4096, 2816]⟩
abbrev S1x4x1024x1408 : Shape := ⟨4, ![1, 4, 1024, 1408]⟩
abbrev S4096x1024 : Shape := ⟨2, ![4096, 1024]⟩
abbrev S2x9x1024 : Shape := ⟨3, ![2, 9, 1024]⟩
abbrev S4096x5632 : Shape := ⟨2, ![4096, 5632]⟩
abbrev S2x2048x5632 : Shape := ⟨3, ![2, 2048, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2x2048x1024 : Shape := ⟨3, ![2, 2048, 1024]⟩
abbrev S2x1x1024 : Shape := ⟨3, ![2, 1, 1024]⟩
abbrev S_ : Shape := ⟨0, ![]⟩
abbrev S2x1024 : Shape := ⟨2, ![2, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1x4x1024x1408, .bf16⟩
  | .hbm, ⟨3, _⟩ => ⟨S4096x1024, .f32⟩
  | .hbm, ⟨4, _⟩ => ⟨S2x9x1024, .f32⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S2x2048x5632, .f32⟩
  | .hbm, ⟨9, _⟩ => ⟨S4x1024x1408, .bf16⟩
  | .hbm, ⟨10, _⟩ => ⟨S1024x4x1408, .bf16⟩
  | .hbm, ⟨11, _⟩ => ⟨S1024x5632, .bf16⟩
  | .hbm, ⟨12, _⟩ => ⟨S1024x5632, .f32⟩
  | .hbm, ⟨13, _⟩ => ⟨S2x2048x1024, .f32⟩
  | .hbm, ⟨14, _⟩ => ⟨S2x1x1024, .f32⟩
  | .hbm, ⟨15, _⟩ => ⟨S2x1x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x5632, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1024, .f32⟩
  | .hbm, ⟨28, _⟩ => ⟨S2x1x1024, .f32⟩
  | .hbm, ⟨29, _⟩ => ⟨S2x2048x1024, .f32⟩
  | .hbm, ⟨30, _⟩ => ⟨S_, .f32⟩
  | .hbm, ⟨31, _⟩ => ⟨S2x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel8.lean ====
abbrev S4096x1024 : Shape := ⟨2, ![4096, 1024]⟩
abbrev S2x9x1024 : Shape := ⟨3, ![2, 9, 1024]⟩
abbrev S1x4x1024x1408 : Shape := ⟨4, ![1, 4, 1024, 1408]⟩
abbrev S4096x2816 : Shape := ⟨2, ![4096, 2816]⟩
abbrev S1024x1024 : Shape := ⟨2, ![1024, 1024]⟩
abbrev S1x9x1024 : Shape := ⟨3, ![1, 9, 1024]⟩
abbrev S1x1x1024x1408 : Shape := ⟨4, ![1, 1, 1024, 1408]⟩
abbrev S1024x1408 : Shape := ⟨2, ![1024, 1408]⟩
abbrev S1x1x1024 : Shape := ⟨3, ![1, 1, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S1x4x1024x1408, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S4096x1024 : Shape := ⟨2, ![4096, 1024]⟩
abbrev S2x9x1024 : Shape := ⟨3, ![2, 9, 1024]⟩
abbrev S1x4x1024x1408 : Shape := ⟨4, ![1, 4, 1024, 1408]⟩
abbrev S2x2048x1024 : Shape := ⟨3, ![2, 2048, 1024]⟩
abbrev S2x1x1024 : Shape := ⟨3, ![2, 1, 1024]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S1x4x1024x1408, .bf16⟩
  | .hbm, ⟨3, _⟩ => ⟨S2x2048x1024, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S2x2048x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S4x1024x1408, .bf16⟩
  | .hbm, ⟨14, _⟩ => ⟨S1024x4x1408, .bf16⟩
  | .hbm, ⟨15, _⟩ => ⟨S1024x5632, .bf16⟩
  | .hbm, ⟨16, _⟩ => ⟨S1024x5632, .f32⟩
  | .hbm, ⟨17, _⟩ => ⟨S4096x1024, .f32⟩
  | .hbm, ⟨18, _⟩ => ⟨S4096x5632, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .bf16⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel9.lean ====
abbrev S4096x2816 : Shape := ⟨2, ![4096, 2816]⟩
abbrev S1x4x704x1024 : Shape := ⟨4, ![1, 4, 704, 1024]⟩
abbrev S4096x1024 : Shape := ⟨2, ![4096, 1024]⟩
abbrev S2x9x1024 : Shape := ⟨3, ![2, 9, 1024]⟩
abbrev S1x1024 : Shape := ⟨2, ![1, 1024]⟩
abbrev S512x2816 : Shape := ⟨2, ![512, 2816]⟩
abbrev S512x1024 : Shape := ⟨2, ![512, 1024]⟩
abbrev S1x9x1024 : Shape := ⟨3, ![1, 9, 1024]⟩
abbrev S4x704x1024 : Shape := ⟨3, ![4, 704, 1024]⟩
abbrev S2816x1024 : Shape := ⟨2, ![2816, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S1x4x704x1024, .bf16⟩
  | .hbm, ⟨2, _⟩ => ⟨S4096x1024, .f32⟩
  | .hbm, ⟨3, _⟩ => ⟨S2x9x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4096x2816 : Shape := ⟨2, ![4096, 2816]⟩
abbrev S1x4x704x1024 : Shape := ⟨4, ![1, 4, 704, 1024]⟩
abbrev S4096x1024 : Shape := ⟨2, ![4096, 1024]⟩
abbrev S2x9x1024 : Shape := ⟨3, ![2, 9, 1024]⟩
abbrev S1x1024 : Shape := ⟨2, ![1, 1024]⟩
abbrev S4x704x1024 : Shape := ⟨3, ![4, 704, 1024]⟩
abbrev S2816x1024 : Shape := ⟨2, ![2816, 1024]⟩
abbrev S2x1x1024 : Shape := ⟨3, ![2, 1, 1024]⟩
abbrev S2x2048x1024 : Shape := ⟨3, ![2, 2048, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x4x704x1024, .bf16⟩
  | .hbm, ⟨2, _⟩ => ⟨S4096x1024, .f32⟩
  | .hbm, ⟨3, _⟩ => ⟨S2x9x1024, .f32⟩
  | .hbm, ⟨4, _⟩ => ⟨S1x1024, .f32⟩
  | .hbm, ⟨5, _⟩ => ⟨S1x1024, .f32⟩
  | .hbm, ⟨6, _⟩ => ⟨S4096x2816, .f32⟩
  | .hbm, ⟨7, _⟩ => ⟨S4x704x1024, .bf16⟩
  | .hbm, ⟨8, _⟩ => ⟨S2816x1024, .bf16⟩
  | .hbm, ⟨9, _⟩ => ⟨S2816x1024, .f32⟩
  | .hbm, ⟨10, _⟩ => ⟨S4096x1024, .f32⟩
  | .hbm, ⟨11, _⟩ => ⟨S2x1x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S2x2048x1, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel10.lean ====
abbrev S4096x1024 : Shape := ⟨2, ![4096, 1024]⟩
abbrev S2x9x1024 : Shape := ⟨3, ![2, 9, 1024]⟩
abbrev S1x4x1024x1408 : Shape := ⟨4, ![1, 4, 1024, 1408]⟩
abbrev S4096x2816 : Shape := ⟨2, ![4096, 2816]⟩
abbrev S1024x1024 : Shape := ⟨2, ![1024, 1024]⟩
abbrev S1x9x1024 : Shape := ⟨3, ![1, 9, 1024]⟩
abbrev S1x1x1024x1408 : Shape := ⟨4, ![1, 1, 1024, 1408]⟩
abbrev S1024x1408 : Shape := ⟨2, ![1024, 1408]⟩
abbrev S1x1x1024 : Shape := ⟨3, ![1, 1, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S1x4x1024x1408, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4096x1024 : Shape := ⟨2, ![4096, 1024]⟩
abbrev S2x9x1024 : Shape := ⟨3, ![2, 9, 1024]⟩
abbrev S1x4x1024x1408 : Shape := ⟨4, ![1, 4, 1024, 1408]⟩
abbrev S2x2048x1024 : Shape := ⟨3, ![2, 2048, 1024]⟩
abbrev S2x1x1024 : Shape := ⟨3, ![2, 1, 1024]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x9x1024, .f32⟩
  | .hbm, ⟨2, _⟩ => ⟨S1x4x1024x1408, .bf16⟩
  | .hbm, ⟨3, _⟩ => ⟨S2x2048x1024, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S2x2048x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S4x1024x1408, .bf16⟩
  | .hbm, ⟨14, _⟩ => ⟨S1024x4x1408, .bf16⟩
  | .hbm, ⟨15, _⟩ => ⟨S1024x5632, .bf16⟩
  | .hbm, ⟨16, _⟩ => ⟨S1024x5632, .f32⟩
  | .hbm, ⟨17, _⟩ => ⟨S4096x1024, .f32⟩
  | .hbm, ⟨18, _⟩ => ⟨S4096x5632, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .bf16⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel11.lean ====
abbrev S4096x2816 : Shape := ⟨2, ![4096, 2816]⟩
abbrev S1x4x704x1024 : Shape := ⟨4, ![1, 4, 704, 1024]⟩
abbrev S4096x1024 : Shape := ⟨2, ![4096, 1024]⟩
abbrev S2x9x1024 : Shape := ⟨3, ![2, 9, 1024]⟩
abbrev S1x1024 : Shape := ⟨2, ![1, 1024]⟩
abbrev S512x2816 : Shape := ⟨2, ![512, 2816]⟩
abbrev S512x1024 : Shape := ⟨2, ![512, 1024]⟩
abbrev S1x9x1024 : Shape := ⟨3, ![1, 9, 1024]⟩
abbrev S4x704x1024 : Shape := ⟨3, ![4, 704, 1024]⟩
abbrev S2816x1024 : Shape := ⟨2, ![2816, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S1x4x704x1024, .bf16⟩
  | .hbm, ⟨2, _⟩ => ⟨S4096x1024, .f32⟩
  | .hbm, ⟨3, _⟩ => ⟨S2x9x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x2816 : Shape := ⟨2, ![4096, 2816]⟩
abbrev S1x4x704x1024 : Shape := ⟨4, ![1, 4, 704, 1024]⟩
abbrev S4096x1024 : Shape := ⟨2, ![4096, 1024]⟩
abbrev S2x9x1024 : Shape := ⟨3, ![2, 9, 1024]⟩
abbrev S1x1024 : Shape := ⟨2, ![1, 1024]⟩
abbrev S4x704x1024 : Shape := ⟨3, ![4, 704, 1024]⟩
abbrev S2816x1024 : Shape := ⟨2, ![2816, 1024]⟩
abbrev S2x1x1024 : Shape := ⟨3, ![2, 1, 1024]⟩
abbrev S2x2048x1024 : Shape := ⟨3, ![2, 2048, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x4x704x1024, .bf16⟩
  | .hbm, ⟨2, _⟩ => ⟨S4096x1024, .f32⟩
  | .hbm, ⟨3, _⟩ => ⟨S2x9x1024, .f32⟩
  | .hbm, ⟨4, _⟩ => ⟨S1x1024, .f32⟩
  | .hbm, ⟨5, _⟩ => ⟨S1x1024, .f32⟩
  | .hbm, ⟨6, _⟩ => ⟨S4096x2816, .f32⟩
  | .hbm, ⟨7, _⟩ => ⟨S4x704x1024, .bf16⟩
  | .hbm, ⟨8, _⟩ => ⟨S2816x1024, .bf16⟩
  | .hbm, ⟨9, _⟩ => ⟨S2816x1024, .f32⟩
  | .hbm, ⟨10, _⟩ => ⟨S4096x1024, .f32⟩
  | .hbm, ⟨11, _⟩ => ⟨S2x1x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S2x2048x1, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Reals.lean ====
module

public import Idealize.ShloMosaic.Lib.Pointwise.IndexVar
public import Idealize.ShloMosaic.Lib.MatmulPlain

@[expose] public section

/-! # Arrays of real numbers at the exact instance

`IsR x X` says that every entry of the two-dimensional array `x` is the real number that `X` gives. The lemmas say
what each operation of the kernel's body does to such an array. -/

noncomputable section

namespace Cert.Attn

open Idealize.ShloMosaic

/-- The shape with `a` rows and `b` columns. -/
abbrev Mat (a b : ℕ) : Shape := ⟨2, ![a, b]⟩
/-- The shape with `a` entries. -/
abbrev Col (a : ℕ) : Shape := ⟨1, ![a]⟩

/-- The entries of `x` are the real numbers `X r c`. -/
def IsR {a b : ℕ} {φ : FTy} (x : FVec Ideal (Mat a b) φ) (X : ℕ → ℕ → ℝ) : Prop :=
  ∀ (r : Fin a) (c : Fin b), x (ix2 r c) = ((X r c : ℝ) : EReal)

/-- `[K, M]ᵀ × [K, N]`: both operands contracted on their first axis. -/
def colsDot (K M N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {a b n K : ℕ} {φ ψ : FTy}

theorem coe_sum_range (n : ℕ) (f : ℕ → ℝ) : (∑ i : Fin n, ((f i : ℝ) : EReal)) = ((∑ i ∈ Finset.range n, f i : ℝ) : EReal) := by
  rw [← Fin.sum_univ_eq_sum_range]
  exact (map_sum (⟨⟨Real.toEReal, EReal.coe_zero⟩, EReal.coe_add⟩ : ℝ →+ EReal) _ _).symm

theorem IsR.congr {x : FVec Ideal (Mat a b) φ} {X Y : ℕ → ℕ → ℝ} (h : IsR x X)
    (e : ∀ r < a, ∀ c < b, X r c = Y r c) : IsR x Y := fun r c => by rw [h r c, e r r.2 c c.2]

theorem IsR.nt {x : FVec Ideal (Mat a K) φ} {y : FVec Ideal (Mat b K) φ} {X Y : ℕ → ℕ → ℝ} (hx : IsR x X) (hy : IsR y Y) :
    IsR (matmul (DotDims.transposedRhs a K b) none x y (constant (Mat a b) .f32 0x00000000#32))
      (fun r c => ∑ k ∈ Finset.range K, X r k * Y c k) := by
  intro r c
  refine ((Ideal.matmul_transposedRhs_apply none x y _ r c).trans ((congrArg (· + _) Ideal.ofBits_zero_f32).trans (zero_add _))).trans ?_
  refine Eq.trans (Finset.sum_congr rfl fun k _ => ?_) (coe_sum_range _ _)
  rw [EReal.coe_mul, ← hx r k, ← hy c k]; rfl

theorem IsR.nn {x : FVec Ideal (Mat a K) φ} {y : FVec Ideal (Mat K b) φ} {X Y : ℕ → ℕ → ℝ} (hx : IsR x X) (hy : IsR y Y) :
    IsR (matmul (DotDims.plain a K b) none x y (constant (Mat a b) .f32 0x00000000#32))
      (fun r c => ∑ k ∈ Finset.range K, X r k * Y k c) := by
  intro r c
  refine ((Ideal.matmul_plain_apply none x y _ r c).trans ((congrArg (· + _) Ideal.ofBits_zero_f32).trans (zero_add _))).trans ?_
  refine Eq.trans (Finset.sum_congr rfl fun k _ => ?_) (coe_sum_range _ _)
  rw [EReal.coe_mul, ← hx r k, ← hy k c]; rfl

/-- The product contracted on both first axes, read at an entry. -/
theorem matmul_colsDot_apply (prec : Option ContractPrecision) (x : FVec Ideal (Mat K a) φ) (y : FVec Ideal (Mat K b) ψ)
    (acc : FVec Ideal (Mat a b) .f32) (r : Fin a) (c : Fin b) :
    FloatOps.matmul (colsDot K a b) prec x y acc (ix2 r c) = acc (ix2 r c) + ∑ k : Fin K, x (ix2 k r) * y (ix2 k c) := by
  have hr : (colsDot K a b).contr.rank = 1 := rfl
  have hs : (colsDot K a b).contr.size ⟨0, by rw [hr]; exact Nat.one_pos⟩ = K := rfl
  rw [Ideal.matmul_apply, ← Equiv.sum_comp (ValueIdx.contrEquiv1 _ K hr hs).symm]
  refine congrArg (acc (ix2 r c) + ·) (Finset.sum_congr rfl fun k _ => ?_)
  have hk := ValueIdx.contrEquiv1_symm_val _ K hr hs k
  congr 2
  · funext d; apply Fin.ext
    match d with
    | ⟨0, _⟩ => exact hk
    | ⟨1, _⟩ => rfl
  · funext d; apply Fin.ext
    match d with
    | ⟨0, _⟩ => exact hk
    | ⟨1, _⟩ => rfl

theorem IsR.tn {x : FVec Ideal (Mat K a) φ} {y : FVec Ideal (Mat K b) φ} {X Y : ℕ → ℕ → ℝ} (hx : IsR x X) (hy : IsR y Y) :
    IsR (matmul (colsDot K a b) none x y (constant (Mat a b) .f32 0x00000000#32))
      (fun r c => ∑ k ∈ Finset.range K, X k r * Y k c) := by
  intro r c
  refine ((matmul_colsDot_apply none x y _ r c).trans ((congrArg (· + _) Ideal.ofBits_zero_f32).trans (zero_add _))).trans ?_
  refine Eq.trans (Finset.sum_congr rfl fun k _ => ?_) (coe_sum_range _ _)
  rw [hx k r, hy k c, EReal.coe_mul]

theorem IsR.slice {x : FVec Ideal (Mat a b) φ} {X : ℕ → ℕ → ℝ} (hx : IsR x X) {a' b' o p : ℕ}
    (h : (Mat a b).Slices ![o, p] (Mat a' b')) :
    IsR (extractStridedSlice (Mat a' b') ![o, p] x h) (fun r c => X (o + r) (p + c)) := by
  intro r c
  pointwise
  rw [hx]

theorem IsR.mulf {x y : FVec Ideal (Mat a b) φ} {X Y : ℕ → ℕ → ℝ} (hx : IsR x X) (hy : IsR y Y) :
    IsR (mulf x y) (fun r c => X r c * Y r c) := by
  intro r c
  pointwise
  rw [hx, hy, EReal.coe_mul]

theorem IsR.addf {x y : FVec Ideal (Mat a b) φ} {X Y : ℕ → ℕ → ℝ} (hx : IsR x X) (hy : IsR y Y) :
    IsR (addf x y) (fun r c => X r c + Y r c) := by
  intro r c
  pointwise
  rw [hx, hy, EReal.coe_add]

theorem IsR.subf {x y : FVec Ideal (Mat a b) φ} {X Y : ℕ → ℕ → ℝ} (hx : IsR x X) (hy : IsR y Y) :
    IsR (subf x y) (fun r c => X r c - Y r c) := by
  intro r c
  pointwise
  rw [hx, hy, EReal.coe_sub]

theorem IsR.exp {x : FVec Ideal (Mat a b) φ} {X : ℕ → ℕ → ℝ} (hx : IsR x X) :
    IsR (exp x) (fun r c => Real.exp (X r c)) := by
  intro r c
  pointwise
  rw [hx, Ideal.exp_coe]

theorem IsR.truncf {x : FVec Ideal (Mat a b) φ} {X : ℕ → ℕ → ℝ} (hx : IsR x X) (h : ψ.bits < φ.bits) :
    IsR (truncf ψ x h) X := by
  intro r c
  pointwise
  rw [hx]

theorem IsR.sameShape {x : FVec Ideal (Mat a b) φ} {X : ℕ → ℕ → ℝ} (hx : IsR x X) (h : (Mat a b).ShapeCasts (Mat a b)) :
    IsR (shapeCast (Mat a b) x h) X := by
  intro r c
  pointwise
  rw [hx]

theorem IsR.across {x : FVec Ideal (Mat 256 1) φ} {X : ℕ → ℕ → ℝ} (hx : IsR x X) (h : (Mat 256 1).Broadcasts (Mat 256 b)) :
    IsR (broadcastTo (Mat 256 b) x h) (fun r _ => X r 0) := by
  intro r c
  pointwise
  exact hx r 0

theorem IsR.rowSum {x : FVec Ideal (Mat 256 b) .f32} {X : ℕ → ℕ → ℝ} (hx : IsR x X) (h : (Mat 256 b).Reduces [1] (Col 256))
    (hc : (Col 256).ShapeCasts (Mat 256 1)) :
    IsR (shapeCast (Mat 256 1) (multiReduction .add [1] (Col 256) x 0x00000000#32 h (.inl rfl) rfl) hc)
      (fun r _ => ∑ c ∈ Finset.range b, X r c) := by
  intro r c
  pointwise
  refine Eq.trans (Finset.sum_congr rfl fun k _ => ?_) (coe_sum_range _ _)
  rw [hx r k]

theorem IsR.splat {w : BitVec 32} {v : ℝ} (h : (Scalar.ofBits .f32 w : Ideal .f32) = ((v : ℝ) : EReal)) :
    IsR (broadcast (Mat a b) (Scalar.ofBits .f32 w : Ideal .f32)) (fun _ _ => v) := fun _ _ => h

theorem IsR.recip {z : FVec Ideal (Mat a b) .f32} {Z : ℕ → ℕ → ℝ} (hz : IsR z Z) (h0 : ∀ r < a, ∀ c < b, Z r c ≠ 0) :
    IsR (divf (broadcast (Mat a b) (Scalar.ofBits .f32 0x3F800000#32 : Ideal .f32)) z) (fun r c => 1 / Z r c) := by
  intro r c
  pointwise
  rw [hz r c, Ideal.div_coe (h0 r r.2 c c.2)]
  simp
end Cert.Attn
-- ==== Proof.Math.lean ====
module

public import Mathlib.Analysis.SpecialFunctions.Exp
public import Mathlib.Algebra.BigOperators.Field
public import Mathlib.Algebra.BigOperators.Intervals

@[expose] public section

/-! # The gradient of causal attention, in real numbers

Rows are queries and columns are keys. `A r s` is the logit, `G r s` the gradient of the weight that arrives from the
output. A row `r` of a band whose first row is row `n` of the sequence sees the columns `s ≤ n + r`. -/

noncomputable section

namespace Cert.Attn

/-- The unnormalised weight: the exponential of the logit where the column is seen, else zero. -/
def wt (n : ℕ) (A : ℕ → ℕ → ℝ) (r s : ℕ) : ℝ := if s ≤ n + r then Real.exp (A r s) else 0

/-- The attention weight, normalised over the first `N` columns. -/
def prob (n N : ℕ) (A : ℕ → ℕ → ℝ) (r s : ℕ) : ℝ := wt n A r s / ∑ s' ∈ Finset.range N, wt n A r s'

/-- The gradient of the logit. -/
def dlogit (n N : ℕ) (A G : ℕ → ℕ → ℝ) (r s : ℕ) : ℝ :=
  prob n N A r s * (G r s - ∑ s' ∈ Finset.range N, prob n N A r s' * G r s')

theorem wt_nonneg (n : ℕ) (A : ℕ → ℕ → ℝ) (r s : ℕ) : 0 ≤ wt n A r s := by
  unfold wt; split
  · exact (Real.exp_pos _).le
  · exact le_rfl

theorem wt_sum_pos {n N : ℕ} (A : ℕ → ℕ → ℝ) (r : ℕ) (hN : 0 < N) : 0 < ∑ s ∈ Finset.range N, wt n A r s := by
  refine lt_of_lt_of_le ?_ (Finset.single_le_sum (fun s _ => wt_nonneg n A r s) (Finset.mem_range.2 hN))
  simp [wt, Real.exp_pos]

/-- A shift of a row's logits does not change the weights. -/
theorem prob_shift (n N : ℕ) (A : ℕ → ℕ → ℝ) (m : ℕ → ℝ) (r s : ℕ) :
    prob n N (fun r s => A r s - m r) r s = prob n N A r s := by
  have h : ∀ s, wt n (fun r s => A r s - m r) r s = wt n A r s * Real.exp (-m r) := by
    intro s; unfold wt; split
    · change Real.exp (A r s - m r) = _
      rw [sub_eq_add_neg, Real.exp_add]
    · simp
  unfold prob
  rw [h, Finset.sum_congr rfl (fun s _ => h s), ← Finset.sum_mul, mul_div_mul_right _ _ (Real.exp_ne_zero _)]

/-- Columns that no row of the band sees add nothing to a sum over the weights. -/
theorem sum_seen {n N N' : ℕ} (f : ℕ → ℝ) (hN : N ≤ N') (h : ∀ s, N ≤ s → f s = 0) :
    ∑ s ∈ Finset.range N', f s = ∑ s ∈ Finset.range N, f s := by
  refine (Finset.sum_subset (Finset.range_mono hN) fun s _ hs => h s ?_).symm
  simpa using hs

theorem wt_unseen {n : ℕ} (A : ℕ → ℕ → ℝ) {r s : ℕ} (h : n + r < s) : wt n A r s = 0 := by
  simp [wt, Nat.not_le.2 h]

theorem prob_unseen {n N : ℕ} (A : ℕ → ℕ → ℝ) {r s : ℕ} (h : n + r < s) : prob n N A r s = 0 := by
  simp [prob, wt_unseen A h]

theorem dlogit_unseen {n N : ℕ} (A G : ℕ → ℕ → ℝ) {r s : ℕ} (h : n + r < s) : dlogit n N A G r s = 0 := by
  simp [dlogit, prob_unseen A h]

/-- The weights of a band of rows are the weights of the whole sequence. -/
theorem prob_band {n N N' : ℕ} (A : ℕ → ℕ → ℝ) {r : ℕ} (hr : n + r < N) (hN : N ≤ N') (s : ℕ) :
    prob n N (fun r s => A (n + r) s) r s = prob 0 N' A (n + r) s := by
  have h : ∀ s, wt n (fun r s => A (n + r) s) r s = wt 0 A (n + r) s := fun s => by simp [wt]
  unfold prob
  rw [h, Finset.sum_congr rfl (fun s _ => h s),
    sum_seen (n := n) _ hN fun s hs => wt_unseen A (by omega)]

/-- The logits' gradient of a band of rows is that of the whole sequence. -/
theorem dlogit_band {n N N' : ℕ} (A G : ℕ → ℕ → ℝ) {r : ℕ} (hr : n + r < N) (hN : N ≤ N') (s : ℕ) :
    dlogit n N (fun r s => A (n + r) s) (fun r s => G (n + r) s) r s = dlogit 0 N' A G (n + r) s := by
  unfold dlogit
  rw [prob_band A hr hN, Finset.sum_congr rfl (fun s _ => by rw [prob_band A hr hN s]),
    sum_seen (n := n) (fun s => prob 0 N' A (n + r) s * G (n + r) s) hN
      fun s hs => by rw [prob_unseen A (by omega), zero_mul]]

/-- Splits a sum over the columns into the free part and the diagonal part. -/
theorem sum_split (n w : ℕ) (f : ℕ → ℝ) :
    ∑ s ∈ Finset.range (n + w), f s = ∑ c ∈ Finset.range w, f (n + c) + ∑ j ∈ Finset.range n, f j := by
  rw [Finset.sum_range_add, add_comm]

/-- A sum over `k` blocks of `w` rows is the sum over all the rows. -/
theorem sum_blocks (w k : ℕ) (f : ℕ → ℝ) :
    ∑ t ∈ Finset.range (w * k), f t = ∑ i ∈ Finset.range k, ∑ r ∈ Finset.range w, f (w * i + r) := by
  induction k with
  | zero => simp
  | succ k ih => rw [Nat.mul_succ, Finset.sum_range_add, ih, Finset.sum_range_succ]

end Cert.Attn
-- ==== Proof.Tile.lean ====
module

public import proofs.«01_k».proof.Proof.Reals
public import proofs.«01_k».proof.Proof.Math

@[expose] public section

/-! # One band of the gradient of causal attention

A band is 256 query rows against the first `N = n + 256` keys. Its last 256 columns, the diagonal block, are masked;
its first `n` columns, the free block, are not. The definitions are the stages of the kernel's body, at any `n`; the
lemmas read them as real numbers. -/

noncomputable section

namespace Cert.Attn

open Idealize.ShloMosaic

/-! ## The stages -/

section Stages

variable {n : ℕ}

/-- The logits: queries by keys, scaled. -/
def scoreOf (σ : BitVec 32) (q : FVec Ideal (Mat 256 128) .bf16) (k : FVec Ideal (Mat n 128) .bf16) : FVec Ideal (Mat 256 n) .f32 :=
  mulf (matmul (DotDims.transposedRhs 256 128 n) none q k (constant (Mat 256 n) .f32 0x00000000#32))
    (broadcast (Mat 256 n) (Scalar.ofBits .f32 σ : Ideal .f32))

/-- The diagonal block's logits, minus infinity above the diagonal. -/
def masked (h0 : (Mat 256 256).Iotas .tc 32 [0]) (h1 : (Mat 256 256).Iotas .tc 32 [1]) (w : BitVec 32)
    (x : FVec Ideal (Mat 256 256) .f32) : FVec Ideal (Mat 256 256) .f32 :=
  select (cmpi .sle (iota .tc (Mat 256 256) 32 [1] h1) (addi (broadcast (Mat 256 256) w) (iota .tc (Mat 256 256) 32 [0] h0))) x
    (broadcast (Mat 256 256) (Scalar.ofBits .f32 0xFF800000#32 : Ideal .f32))

/-- The largest entry of each row. -/
def rowTop (h : (Mat 256 n).Reduces [1] (Col 256)) (hc : (Col 256).ShapeCasts (Mat 256 1)) (x : FVec Ideal (Mat 256 n) .f32) :
    FVec Ideal (Mat 256 1) .f32 :=
  shapeCast (Mat 256 1) (multiReduction .maximumf [1] (Col 256) x 0xFF800000#32 h (.inl rfl) rfl) hc

/-- The sum of each row. -/
def rowTotal (h : (Mat 256 n).Reduces [1] (Col 256)) (hc : (Col 256).ShapeCasts (Mat 256 1)) (x : FVec Ideal (Mat 256 n) .f32) :
    FVec Ideal (Mat 256 1) .f32 :=
  shapeCast (Mat 256 1) (multiReduction .add [1] (Col 256) x 0x00000000#32 h (.inl rfl) rfl) hc

/-- The exponentials of the logits less their row's top. -/
def expo (hb : (Mat 256 1).Broadcasts (Mat 256 n)) (x : FVec Ideal (Mat 256 n) .f32) (m : FVec Ideal (Mat 256 1) .f32) :
    FVec Ideal (Mat 256 n) .f32 :=
  exp (subf x (broadcastTo (Mat 256 n) m hb))

/-- A first summand, added to zeros. -/
def start {a b : ℕ} (x : FVec Ideal (Mat a b) .f32) : FVec Ideal (Mat a b) .f32 :=
  addf (broadcast (Mat a b) (Scalar.ofBits .f32 0x00000000#32 : Ideal .f32)) x

/-- The weights: the exponentials times the reciprocal of their row's total. -/
def share (hb : (Mat 256 1).Broadcasts (Mat 256 n)) (e : FVec Ideal (Mat 256 n) .f32) (z : FVec Ideal (Mat 256 1) .f32) :
    FVec Ideal (Mat 256 n) .f32 :=
  mulf e (broadcastTo (Mat 256 n) (divf (broadcast (Mat 256 1) (Scalar.ofBits .f32 0x3F800000#32 : Ideal .f32)) z) hb)

/-- The gradient of the weights. -/
def dweight (g : FVec Ideal (Mat 256 128) .bf16) (v : FVec Ideal (Mat n 128) .bf16) : FVec Ideal (Mat 256 n) .f32 :=
  matmul (DotDims.transposedRhs 256 128 n) none g v (constant (Mat 256 n) .f32 0x00000000#32)

/-- The gradient of the logits, rounded. -/
def dscore (hb : (Mat 256 1).Broadcasts (Mat 256 n)) (ht : FTy.bf16.bits < FTy.f32.bits) (p dp : FVec Ideal (Mat 256 n) .f32)
    (δ : FVec Ideal (Mat 256 1) .f32) : FVec Ideal (Mat 256 n) .bf16 :=
  truncf .bf16 (mulf p (subf dp (broadcastTo (Mat 256 n) δ hb))) ht

/-- The gradient of the keys. -/
def keyGrad (σ : BitVec 32) (ds : FVec Ideal (Mat 256 n) .bf16) (q : FVec Ideal (Mat 256 128) .bf16) : FVec Ideal (Mat n 128) .f32 :=
  mulf (matmul (colsDot 256 n 128) none ds q (constant (Mat n 128) .f32 0x00000000#32))
    (broadcast (Mat n 128) (Scalar.ofBits .f32 σ : Ideal .f32))

/-- The gradient of the values. -/
def valGrad (ht : FTy.bf16.bits < FTy.f32.bits) (p : FVec Ideal (Mat 256 n) .f32) (g : FVec Ideal (Mat 256 128) .bf16) :
    FVec Ideal (Mat n 128) .f32 :=
  matmul (colsDot 256 n 128) none (truncf .bf16 p ht) g (constant (Mat n 128) .f32 0x00000000#32)

/-- A block's part of the gradient of the queries, before the scale. -/
def rowGrad (ds : FVec Ideal (Mat 256 n) .bf16) (k : FVec Ideal (Mat n 128) .bf16) : FVec Ideal (Mat 256 128) .f32 :=
  matmul (DotDims.plain 256 n 128) none ds k (constant (Mat 256 128) .f32 0x00000000#32)

end Stages

/-! ## The stages in real numbers -/

theorem maskBit (r c : Fin 256) :
    IntOp.cmpi .sle (BitVec.ofNat 32 c) (IntOp.addi 0#32 (BitVec.ofNat 32 r)) = if c.val ≤ r.val then 1#1 else 0#1 := by
  have h : (BitVec.ofNat 32 c).sle (BitVec.ofNat 32 r) = decide (c.val ≤ r.val) := by
    have hr := r.isLt
    have hc := c.isLt
    rw [BitVec.sle_eq_decide]
    simp only [BitVec.toInt_eq_toNat_cond, BitVec.toNat_ofNat]
    congr 1
    rw [Nat.mod_eq_of_lt (by omega), Nat.mod_eq_of_lt (by omega), if_pos (by omega), if_pos (by omega)]
    simp
  simp only [IntOp.cmpi, IntOp.addi, BitVec.zero_add, h]
  by_cases hcr : c.val ≤ r.val
  · simp [hcr]
  · rw [if_neg hcr, decide_eq_false hcr]; rfl

theorem negInf : (Ideal.ofBits .f32 0xFF800000#32 : EReal) = ⊥ := by
  simp [Ideal.ofBits, Ideal.ieee, -EReal.coe_mul]

theorem masked_apply (h0 : (Mat 256 256).Iotas .tc 32 [0]) (h1 : (Mat 256 256).Iotas .tc 32 [1]) {x : FVec Ideal (Mat 256 256) .f32}
    {X : ℕ → ℕ → ℝ} (hx : IsR x X) (r c : Fin 256) :
    masked h0 h1 0#32 x (ix2 r c) = if c.val ≤ r.val then ((X r c : ℝ) : EReal) else ⊥ := by
  unfold masked
  pointwise
  rw [maskBit]
  split
  · exact hx r c
  · exact negInf

/-- A row of entries none of which is plus infinity, one of them real, has a real top. -/
theorem rowTop_real {n : ℕ} (h : (Mat 256 n).Reduces [1] (Col 256)) (hc : (Col 256).ShapeCasts (Mat 256 1))
    (x : FVec Ideal (Mat 256 n) .f32) (r : Fin 256) (hlt : ∀ c : Fin n, x (ix2 r c) ≠ (⊤ : EReal))
    (hgt : ∃ c : Fin n, x (ix2 r c) ≠ (⊥ : EReal)) : ∃ m : ℝ, rowTop h hc x (ix2 r 0) = ((m : ℝ) : EReal) := by
  have e : rowTop h hc x (ix2 r 0) = Finset.fold max (Ideal.ofBits .f32 0xFF800000#32) (fun c => x (ix2 r c)) Finset.univ := by
    unfold rowTop
    pointwise
  rw [e, negInf]
  refine ⟨EReal.toReal _, (EReal.coe_toReal ?_ ?_).symm⟩
  · exact ne_of_lt ((Finset.fold_max_lt _).2 ⟨bot_lt_top, fun c _ => lt_top_iff_ne_top.2 (hlt c)⟩)
  · obtain ⟨c, hc⟩ := hgt
    exact ne_of_gt ((Finset.lt_fold_max _).2 (.inr ⟨c, Finset.mem_univ _, bot_lt_iff_ne_bot.2 hc⟩))

theorem rowTop_masked (h : (Mat 256 256).Reduces [1] (Col 256)) (hc : (Col 256).ShapeCasts (Mat 256 1))
    (h0 : (Mat 256 256).Iotas .tc 32 [0]) (h1 : (Mat 256 256).Iotas .tc 32 [1]) {x : FVec Ideal (Mat 256 256) .f32}
    {X : ℕ → ℕ → ℝ} (hx : IsR x X) : ∃ m : ℕ → ℝ, IsR (rowTop h hc (masked h0 h1 0#32 x)) (fun r _ => m r) := by
  have : ∀ r : Fin 256, ∃ m : ℝ, rowTop h hc (masked h0 h1 0#32 x) (ix2 r 0) = ((m : ℝ) : EReal) := fun r =>
    rowTop_real h hc _ r (fun c => by rw [masked_apply h0 h1 hx]; split <;> simp) ⟨⟨0, by omega⟩, by rw [masked_apply h0 h1 hx]; simp⟩
  choose m hm using this
  refine ⟨fun r => if h : r < 256 then m ⟨r, h⟩ else 0, fun r c => ?_⟩
  rw [Subsingleton.elim c 0, hm]
  simp

theorem rowTop_free {n : ℕ} (hn : 0 < n) (h : (Mat 256 n).Reduces [1] (Col 256)) (hc : (Col 256).ShapeCasts (Mat 256 1))
    {x : FVec Ideal (Mat 256 n) .f32} {X : ℕ → ℕ → ℝ} (hx : IsR x X) : ∃ m : ℕ → ℝ, IsR (rowTop h hc x) (fun r _ => m r) := by
  have : ∀ r : Fin 256, ∃ m : ℝ, rowTop h hc x (ix2 r 0) = ((m : ℝ) : EReal) := fun r =>
    rowTop_real h hc _ r (fun c => by rw [hx]; simp) ⟨⟨0, hn⟩, by rw [hx]; simp⟩
  choose m hm using this
  refine ⟨fun r => if h : r < 256 then m ⟨r, h⟩ else 0, fun r c => ?_⟩
  rw [Subsingleton.elim c 0, hm]
  simp

theorem IsR.maxTop {x y : FVec Ideal (Mat 256 1) .f32} {m m' : ℕ → ℝ} (hx : IsR x fun r _ => m r) (hy : IsR y fun r _ => m' r) :
    IsR (maximumf x y) (fun r _ => max (m r) (m' r)) := by
  intro r c
  pointwise
  rw [hx, hy]
  exact (EReal.coe_strictMono.monotone.map_max).symm

/-- The exponentials of the masked block. -/
theorem expo_masked (h0 : (Mat 256 256).Iotas .tc 32 [0]) (h1 : (Mat 256 256).Iotas .tc 32 [1])
    (hb : (Mat 256 1).Broadcasts (Mat 256 256)) {x : FVec Ideal (Mat 256 256) .f32} {t : FVec Ideal (Mat 256 1) .f32}
    {X : ℕ → ℕ → ℝ} {m : ℕ → ℝ} (hx : IsR x X) (ht : IsR t fun r _ => m r) :
    IsR (expo hb (masked h0 h1 0#32 x) t) (fun r c => if c ≤ r then Real.exp (X r c - m r) else 0) := by
  intro r c
  have e : expo hb (masked h0 h1 0#32 x) t (ix2 r c) = Ideal.exp (masked h0 h1 0#32 x (ix2 r c) - t (ix2 r 0)) := by
    unfold expo
    pointwise
  rw [e, masked_apply h0 h1 hx, ht]
  by_cases hcr : c.val ≤ r.val
  · simp only [if_pos hcr]
    rw [← EReal.coe_sub, Ideal.exp_coe]
  · simp only [if_neg hcr]
    simp

theorem expo_free {n : ℕ} (hb : (Mat 256 1).Broadcasts (Mat 256 n)) {x : FVec Ideal (Mat 256 n) .f32} {t : FVec Ideal (Mat 256 1) .f32}
    {X : ℕ → ℕ → ℝ} {m : ℕ → ℝ} (hx : IsR x X) (ht : IsR t fun r _ => m r) :
    IsR (expo hb x t) (fun r c => Real.exp (X r c - m r)) :=
  (hx.subf (ht.across hb)).exp

theorem zeroWord : (Scalar.ofBits .f32 0x00000000#32 : Ideal .f32) = ((0 : ℝ) : EReal) := Ideal.ofBits_zero_f32

theorem IsR.start {a b : ℕ} {x : FVec Ideal (Mat a b) .f32} {X : ℕ → ℕ → ℝ} (hx : IsR x X) : IsR (start x) X :=
  ((IsR.splat zeroWord).addf hx).congr fun _ _ _ _ => zero_add _

theorem IsR.share {n : ℕ} (hb : (Mat 256 1).Broadcasts (Mat 256 n)) {e : FVec Ideal (Mat 256 n) .f32} {z : FVec Ideal (Mat 256 1) .f32}
    {E : ℕ → ℕ → ℝ} {Z : ℕ → ℝ} (he : IsR e E) (hz : IsR z fun r _ => Z r) (h0 : ∀ r < 256, Z r ≠ 0) :
    IsR (share hb e z) (fun r c => E r c / Z r) :=
  (he.mulf ((hz.recip fun r hr _ _ => h0 r hr).across hb)).congr fun r _ c _ => by rw [div_eq_mul_one_div (E r c)]

theorem IsR.dscore {n : ℕ} (hb : (Mat 256 1).Broadcasts (Mat 256 n)) (ht : FTy.bf16.bits < FTy.f32.bits)
    {p dp : FVec Ideal (Mat 256 n) .f32} {δ : FVec Ideal (Mat 256 1) .f32} {P D : ℕ → ℕ → ℝ} {d : ℕ → ℝ}
    (hp : IsR p P) (hd : IsR dp D) (hδ : IsR δ fun r _ => d r) : IsR (dscore hb ht p dp δ) (fun r c => P r c * (D r c - d r)) :=
  (hp.mulf (hd.subf (hδ.across hb))).truncf ht

/-! ## A band -/

/-- The shape facts of the diagonal block. -/
structure DiagFacts : Prop where
  io0 : (Mat 256 256).Iotas .tc 32 [0]
  io1 : (Mat 256 256).Iotas .tc 32 [1]
  red : (Mat 256 256).Reduces [1] (Col 256)
  cast : (Col 256).ShapeCasts (Mat 256 1)
  bc : (Mat 256 1).Broadcasts (Mat 256 256)
  tr : FTy.bf16.bits < FTy.f32.bits

/-- The shape facts of a free block of `n` columns in a band of `N`. -/
structure FreeFacts (n N : ℕ) : Prop where
  slD : (Mat 256 N).Slices ![0, n] (Mat 256 256)
  slF : (Mat 256 N).Slices ![0, 0] (Mat 256 n)
  ksD : (Mat N 128).Slices ![n, 0] (Mat 256 128)
  ksF : (Mat N 128).Slices ![0, 0] (Mat n 128)
  red : (Mat 256 n).Reduces [1] (Col 256)
  bc : (Mat 256 1).Broadcasts (Mat 256 n)

section Band

variable {n N : ℕ} (d : DiagFacts) (f : FreeFacts n N) (w : BitVec 32) (S : FVec Ideal (Mat 256 N) .f32)
  (v : FVec Ideal (Mat N 128) .bf16) (g : FVec Ideal (Mat 256 128) .bf16)

/-- The diagonal block's logits. -/
def logitD := masked d.io0 d.io1 w (extractStridedSlice (Mat 256 256) ![0, n] S f.slD)
/-- The free block's logits. -/
def logitF := extractStridedSlice (Mat 256 n) ![0, 0] S f.slF
/-- The top of each row over both blocks. -/
def bandTop := maximumf (rowTop d.red d.cast (logitD d f w S)) (rowTop f.red d.cast (logitF f S))
/-- The diagonal block's exponentials. -/
def expD := expo d.bc (logitD d f w S) (bandTop d f w S)
/-- The free block's exponentials. -/
def expF := expo f.bc (logitF f S) (bandTop d f w S)
/-- The total of each row over both blocks. -/
def bandTotal := addf (start (rowTotal d.red d.cast (expD d f w S))) (rowTotal f.red d.cast (expF d f w S))
/-- The diagonal block's weights. -/
def probD := share d.bc (expD d f w S) (bandTotal d f w S)
/-- The free block's weights. -/
def probF := share f.bc (expF d f w S) (bandTotal d f w S)
/-- The gradient of the diagonal block's weights. -/
def dprobD := dweight g (extractStridedSlice (Mat 256 128) ![n, 0] v f.ksD)
/-- The gradient of the free block's weights. -/
def dprobF := dweight g (extractStridedSlice (Mat n 128) ![0, 0] v f.ksF)
/-- The sum over each row of the weights times their gradients. -/
def bandDelta := addf (start (rowTotal d.red d.cast (mulf (probD d f w S) (dprobD f v g))))
  (rowTotal f.red d.cast (mulf (probF d f w S) (dprobF f v g)))
/-- The gradient of the diagonal block's logits. -/
def dlogitD := dscore d.bc d.tr (probD d f w S) (dprobD f v g) (bandDelta d f w S v g)
/-- The gradient of the free block's logits. -/
def dlogitF := dscore f.bc d.tr (probF d f w S) (dprobF f v g) (bandDelta d f w S v g)
/-- The gradient of the queries, before the scale. -/
def bandQuery (k : FVec Ideal (Mat N 128) .bf16) :=
  addf (start (rowGrad (dlogitD d f w S v g) (extractStridedSlice (Mat 256 128) ![n, 0] k f.ksD)))
    (rowGrad (dlogitF d f w S v g) (extractStridedSlice (Mat n 128) ![0, 0] k f.ksF))

end Band

section BandReal

variable {n N : ℕ} (d : DiagFacts) (f : FreeFacts n N) {S : FVec Ideal (Mat 256 N) .f32}
  {v k : FVec Ideal (Mat N 128) .bf16} {g : FVec Ideal (Mat 256 128) .bf16} {A V K DO : ℕ → ℕ → ℝ}

/-- The gradient of the weights, in real numbers. -/
def dprob (DO V : ℕ → ℕ → ℝ) (r s : ℕ) : ℝ := ∑ e ∈ Finset.range 128, DO r e * V s e

/-- The weights of a band are the weights of the rows over the columns they see. -/
theorem prob_real (hn : 0 < n) (hN : N = n + 256) (hS : IsR S A) :
    IsR (probD d f 0#32 S) (fun r c => prob n N A r (n + c)) ∧ IsR (probF d f 0#32 S) (prob n N A) := by
  have hD : IsR (extractStridedSlice (Mat 256 256) ![0, n] S f.slD) (fun r c => A r (n + c)) :=
    (hS.slice f.slD).congr fun r _ c _ => by rw [Nat.zero_add]
  have hF : IsR (logitF f S) A := (hS.slice f.slF).congr fun r _ c _ => by rw [Nat.zero_add, Nat.zero_add]
  obtain ⟨m₁, h₁⟩ := rowTop_masked d.red d.cast d.io0 d.io1 hD
  obtain ⟨m₀, h₀⟩ := rowTop_free hn f.red d.cast hF
  let m : ℕ → ℝ := fun r => max (m₁ r) (m₀ r)
  have ht : IsR (bandTop d f 0#32 S) (fun r _ => m r) := h₁.maxTop h₀
  let W := wt n (fun r s => A r s - m r)
  have eD : IsR (expD d f 0#32 S) (fun r c => W r (n + c)) :=
    (expo_masked d.io0 d.io1 d.bc hD ht).congr fun r _ c _ => by simp [W, wt]
  have eF : IsR (expF d f 0#32 S) W := (expo_free f.bc hF ht).congr fun r _ c hc => by
    simp only [W, wt]; rw [if_pos (by omega)]
  have hz : IsR (bandTotal d f 0#32 S) (fun r _ => ∑ s ∈ Finset.range N, W r s) :=
    ((eD.rowSum d.red d.cast).start.addf (eF.rowSum f.red d.cast)).congr fun r _ c _ => by rw [hN, sum_split]
  have hpos : ∀ r < 256, ∑ s ∈ Finset.range N, W r s ≠ 0 := fun r _ => (wt_sum_pos _ r (by omega)).ne'
  exact ⟨(eD.share d.bc hz hpos).congr fun r _ c _ => prob_shift n N A m r (n + c),
    (eF.share f.bc hz hpos).congr fun r _ c _ => prob_shift n N A m r c⟩

/-- The logits' gradient of a band. -/
theorem dlogit_real (hn : 0 < n) (hN : N = n + 256) (hS : IsR S A) (hv : IsR v V) (hg : IsR g DO) :
    IsR (dlogitD d f 0#32 S v g) (fun r c => dlogit n N A (dprob DO V) r (n + c)) ∧
      IsR (dlogitF d f 0#32 S v g) (dlogit n N A (dprob DO V)) := by
  obtain ⟨pD, pF⟩ := prob_real d f hn hN hS
  have gD : IsR (dprobD f v g) (fun r c => dprob DO V r (n + c)) :=
    (hg.nt (hv.slice f.ksD)).congr fun r _ c _ => by simp [dprob]
  have gF : IsR (dprobF f v g) (dprob DO V) := (hg.nt (hv.slice f.ksF)).congr fun r _ c _ => by simp [dprob]
  have hδ : IsR (bandDelta d f 0#32 S v g) (fun r _ => ∑ s ∈ Finset.range N, prob n N A r s * dprob DO V r s) :=
    (((pD.mulf gD).rowSum d.red d.cast).start.addf ((pF.mulf gF).rowSum f.red d.cast)).congr fun r _ c _ => by
      rw [hN, sum_split]
  exact ⟨pD.dscore d.bc d.tr gD hδ, pF.dscore f.bc d.tr gF hδ⟩

/-- The queries' gradient of a band, before the scale. -/
theorem query_real (hn : 0 < n) (hN : N = n + 256) (hS : IsR S A) (hv : IsR v V) (hg : IsR g DO) (hk : IsR k K) :
    IsR (bandQuery d f 0#32 S v g k) (fun r e => ∑ s ∈ Finset.range N, dlogit n N A (dprob DO V) r s * K s e) := by
  obtain ⟨hD, hF⟩ := dlogit_real d f hn hN hS hv hg
  refine ((hD.nn (hk.slice f.ksD)).start.addf (hF.nn (hk.slice f.ksF))).congr fun r _ e _ => ?_
  rw [hN, sum_split]
  simp

/-! ## What a band leaves -/

/-- The logits: scaled products of queries and keys. -/
def logit (c : ℝ) (Q K : ℕ → ℕ → ℝ) (r s : ℕ) : ℝ := (∑ e ∈ Finset.range 128, Q r e * K s e) * c

/-- The gradient of the band's queries. -/
def dQuery (n N : ℕ) (c : ℝ) (A G K : ℕ → ℕ → ℝ) (r e : ℕ) : ℝ := (∑ s ∈ Finset.range N, dlogit n N A G r s * K s e) * c
/-- The band's part of the gradient of the keys. -/
def dKey (n N : ℕ) (c : ℝ) (A G Q : ℕ → ℕ → ℝ) (s e : ℕ) : ℝ := (∑ r ∈ Finset.range 256, dlogit n N A G r s * Q r e) * c
/-- The band's part of the gradient of the values. -/
def dValue (n N : ℕ) (A DO : ℕ → ℕ → ℝ) (s e : ℕ) : ℝ := ∑ r ∈ Finset.range 256, prob n N A r s * DO r e

theorem dKey_below {n N : ℕ} (c : ℝ) (A G Q : ℕ → ℕ → ℝ) (hN : N = n + 256) {s : ℕ} (hs : N ≤ s) (e : ℕ) : dKey n N c A G Q s e = 0 := by
  unfold dKey
  rw [Finset.sum_eq_zero fun r hr => ?_, zero_mul]
  rw [dlogit_unseen A G (by have := Finset.mem_range.1 hr; omega), zero_mul]

theorem dValue_below {n N : ℕ} (A DO : ℕ → ℕ → ℝ) (hN : N = n + 256) {s : ℕ} (hs : N ≤ s) (e : ℕ) : dValue n N A DO s e = 0 := by
  unfold dValue
  refine Finset.sum_eq_zero fun r hr => ?_
  rw [prob_unseen A (by have := Finset.mem_range.1 hr; omega), zero_mul]

theorem score_real {σ : BitVec 32} {c : ℝ} (hσ : (Scalar.ofBits .f32 σ : Ideal .f32) = ((c : ℝ) : EReal))
    {q : FVec Ideal (Mat 256 128) .bf16} {Q : ℕ → ℕ → ℝ} (hq : IsR q Q) {k : FVec Ideal (Mat N 128) .bf16} (hk : IsR k K) :
    IsR (scoreOf σ q k) (logit c Q K) := (hq.nt hk).mulf (IsR.splat hσ)

/-- The five arrays that a band stores: the queries' gradient, and the accumulators' diagonal and free rows with the
band's part added. -/
theorem band_real {σ : BitVec 32} {c : ℝ} (hσ : (Scalar.ofBits .f32 σ : Ideal .f32) = ((c : ℝ) : EReal)) (hn : 0 < n) (hN : N = n + 256)
    {q : FVec Ideal (Mat 256 128) .bf16} {Q X Y : ℕ → ℕ → ℝ} (hS : IsR S A) (hq : IsR q Q) (hk : IsR k K) (hv : IsR v V) (hg : IsR g DO)
    {xD yD : FVec Ideal (Mat 256 128) .f32} {xF yF : FVec Ideal (Mat n 128) .f32}
    (hxD : IsR xD fun r e => X (n + r) e) (hyD : IsR yD fun r e => Y (n + r) e) (hxF : IsR xF X) (hyF : IsR yF Y)
    (hc : (Mat 256 128).ShapeCasts (Mat 256 128)) (hc' : (Mat n 128).ShapeCasts (Mat n 128)) :
    IsR (mulf (bandQuery d f 0#32 S v g k) (broadcast (Mat 256 128) (Scalar.ofBits .f32 σ : Ideal .f32))) (dQuery n N c A (dprob DO V) K) ∧
    IsR (shapeCast (Mat 256 128) (addf xD (keyGrad σ (dlogitD d f 0#32 S v g) q)) hc)
      (fun r e => X (n + r) e + dKey n N c A (dprob DO V) Q (n + r) e) ∧
    IsR (shapeCast (Mat 256 128) (addf yD (valGrad d.tr (probD d f 0#32 S) g)) hc)
      (fun r e => Y (n + r) e + dValue n N A DO (n + r) e) ∧
    IsR (shapeCast (Mat n 128) (addf xF (keyGrad σ (dlogitF d f 0#32 S v g) q)) hc')
      (fun s e => X s e + dKey n N c A (dprob DO V) Q s e) ∧
    IsR (shapeCast (Mat n 128) (addf yF (valGrad d.tr (probF d f 0#32 S) g)) hc')
      (fun s e => Y s e + dValue n N A DO s e) := by
  obtain ⟨pD, pF⟩ := prob_real d f hn hN hS
  obtain ⟨lD, lF⟩ := dlogit_real d f hn hN hS hv hg
  exact ⟨(query_real d f hn hN hS hv hg hk).mulf (IsR.splat hσ),
    (hxD.addf ((lD.tn hq).mulf (IsR.splat hσ))).sameShape hc, (hyD.addf ((pD.truncf d.tr).tn hg)).sameShape hc,
    (hxF.addf ((lF.tn hq).mulf (IsR.splat hσ))).sameShape hc', (hyF.addf ((pF.truncf d.tr).tn hg)).sameShape hc'⟩

end BandReal

/-! ## The first band: a diagonal block alone -/

section First

variable (d : DiagFacts) (w : BitVec 32) (S : FVec Ideal (Mat 256 256) .f32) (v : FVec Ideal (Mat 256 128) .bf16) (g : FVec Ideal (Mat 256 128) .bf16)

/-- The exponentials of the first band. -/
def firstExp := expo d.bc (masked d.io0 d.io1 w S) (rowTop d.red d.cast (masked d.io0 d.io1 w S))
/-- The weights of the first band. -/
def firstProb := share d.bc (firstExp d w S) (start (rowTotal d.red d.cast (firstExp d w S)))
/-- The gradient of the first band's logits. -/
def firstDlogit := dscore d.bc d.tr (firstProb d w S) (dweight g v) (start (rowTotal d.red d.cast (mulf (firstProb d w S) (dweight g v))))

variable {S v g} {k : FVec Ideal (Mat 256 128) .bf16} {A V K DO : ℕ → ℕ → ℝ}

theorem firstProb_real (hS : IsR S A) : IsR (firstProb d 0#32 S) (prob 0 256 A) := by
  obtain ⟨m, hm⟩ := rowTop_masked d.red d.cast d.io0 d.io1 hS
  let W := wt 0 (fun r s => A r s - m r)
  have he : IsR (firstExp d 0#32 S) W := (expo_masked d.io0 d.io1 d.bc hS hm).congr fun r _ c _ => by simp [W, wt]
  have hz := (he.rowSum d.red d.cast).start
  exact (he.share d.bc hz fun r _ => (wt_sum_pos _ r (by omega)).ne').congr fun r _ c _ => prob_shift 0 256 A m r c

theorem firstDlogit_real (hS : IsR S A) (hv : IsR v V) (hg : IsR g DO) :
    IsR (firstDlogit d 0#32 S v g) (dlogit 0 256 A (dprob DO V)) :=
  (firstProb_real d hS).dscore d.bc d.tr (hg.nt hv) (((firstProb_real d hS).mulf (hg.nt hv)).rowSum d.red d.cast).start

/-- The three arrays that the first band stores. -/
theorem first_real {σ : BitVec 32} {c : ℝ} (hσ : (Scalar.ofBits .f32 σ : Ideal .f32) = ((c : ℝ) : EReal))
    {q : FVec Ideal (Mat 256 128) .bf16} {Q X Y : ℕ → ℕ → ℝ} (hS : IsR S A) (hq : IsR q Q) (hk : IsR k K) (hv : IsR v V) (hg : IsR g DO)
    {x y : FVec Ideal (Mat 256 128) .f32} (hx : IsR x X) (hy : IsR y Y) (hc : (Mat 256 128).ShapeCasts (Mat 256 128)) :
    IsR (mulf (start (rowGrad (firstDlogit d 0#32 S v g) k)) (broadcast (Mat 256 128) (Scalar.ofBits .f32 σ : Ideal .f32)))
      (dQuery 0 256 c A (dprob DO V) K) ∧
    IsR (shapeCast (Mat 256 128) (addf x (keyGrad σ (firstDlogit d 0#32 S v g) q)) hc) (fun s e => X s e + dKey 0 256 c A (dprob DO V) Q s e) ∧
    IsR (shapeCast (Mat 256 128) (addf y (valGrad d.tr (firstProb d 0#32 S) g)) hc) (fun s e => Y s e + dValue 0 256 A DO s e) := by
  have hl := firstDlogit_real d hS hv hg
  exact ⟨(hl.nn hk).start.mulf (IsR.splat hσ), (hx.addf ((hl.tn hq).mulf (IsR.splat hσ))).sameShape hc,
    (hy.addf (((firstProb_real d hS).truncf d.tr).tn hg)).sameShape hc⟩

end First

end Cert.Attn
-- ==== Proof.Acc.lean ====
module

public import proofs.«01_k».proof.Proof.Tile
public import Idealize.ShloMosaic.Lib.WritesUnit
public import Idealize.ShloMosaic.Lib.Pipeline.Value

@[expose] public section

/-! # A band's stores, read back as real numbers

The accumulators of the keys' and the values' gradients hold 2048 rows. A band loads its free rows and its diagonal
rows, adds its part and stores them again. `IsR.addRows` says what such a pair of stores leaves. -/

noncomputable section

namespace Cert.Attn

open Idealize.ShloMosaic

variable {sig : RefSig} {κ : Kind} {sp : Space} {R n N : ℕ}

/-- Rows loaded from an array of real numbers. -/
theorem IsR.load {v : View sig κ sp (Mat R 128) .f32} {f : v.ty.Contents (Elt Ideal)} {X : ℕ → ℕ → ℝ}
    (h : IsR (φ := .f32) (v.read (Elt Ideal) f) X) {o k : ℕ} (inb : ∀ a, (![o, 0] : Fin 2 → ℕ) a + (![k, 128] : Fin 2 → ℕ) a ≤ (Mat R 128).size a) :
    IsR (φ := .f32) (v.readAt (Elt Ideal) (Rect.unit (s := Mat R 128) ![o, 0] ![k, 128] inb).toLoadRect f) (fun r c => X (o + r) c) := by
  rw [View.readAt_eq_ld, View.ld_unit]
  exact (h.slice _).congr fun r _ c _ => by rw [Nat.zero_add]

/-- The first rows loaded from an array of real numbers. -/
theorem IsR.load0 {v : View sig κ sp (Mat R 128) .f32} {f : v.ty.Contents (Elt Ideal)} {X : ℕ → ℕ → ℝ}
    (h : IsR (φ := .f32) (v.read (Elt Ideal) f) X) {k : ℕ} (inb : ∀ a, (![0, 0] : Fin 2 → ℕ) a + (![k, 128] : Fin 2 → ℕ) a ≤ (Mat R 128).size a) :
    IsR (φ := .f32) (v.readAt (Elt Ideal) (Rect.unit (s := Mat R 128) ![0, 0] ![k, 128] inb).toLoadRect f) X :=
  (h.load inb).congr fun r _ c _ => by rw [Nat.zero_add]

/-- Rows loaded from an array of real numbers, at the half-width format. -/
theorem IsR.load16 {v : View sig κ sp (Mat R 128) .bf16} {f : v.ty.Contents (Elt Ideal)} {X : ℕ → ℕ → ℝ}
    (h : IsR (φ := .bf16) (v.read (Elt Ideal) f) X) {k : ℕ} (inb : ∀ a, (![0, 0] : Fin 2 → ℕ) a + (![k, 128] : Fin 2 → ℕ) a ≤ (Mat R 128).size a) :
    IsR (φ := .bf16) (v.readAt (Elt Ideal) (Rect.unit (s := Mat R 128) ![0, 0] ![k, 128] inb).toLoadRect f) X := by
  rw [View.readAt_eq_ld, View.ld_unit]
  exact (h.slice _).congr fun r _ c _ => by rw [Nat.zero_add, Nat.zero_add]

/-- The free rows and the diagonal rows stored over an accumulator: every row has its band's part added, where the part
of a row below the band is zero. -/
theorem IsR.addRows {v : View sig κ sp (Mat R 128) .f32} {f : v.ty.Contents (Elt Ideal)} {X T : ℕ → ℕ → ℝ}
    (h : ∀ (s : Fin R) (e : Fin 128), N ≤ s.val → v.read (Elt Ideal) f (ix2 s e) = ((X s e : ℝ) : EReal)) (hN : N = n + 256)
    {inbF : ∀ a, (![0, 0] : Fin 2 → ℕ) a + (![n, 128] : Fin 2 → ℕ) a ≤ (Mat R 128).size a}
    {inbD : ∀ a, (![n, 0] : Fin 2 → ℕ) a + (![256, 128] : Fin 2 → ℕ) a ≤ (Mat R 128).size a}
    {pF : FVec Ideal (Mat n 128) .f32} {pD : FVec Ideal (Mat 256 128) .f32}
    (hF : IsR pF fun j e => X j e + T j e) (hD : IsR pD fun c e => X (n + c) e + T (n + c) e)
    (h0 : ∀ s, N ≤ s → ∀ e, T s e = 0) :
    IsR (φ := .f32) (v.read (Elt Ideal) (v.writes (Elt Ideal) f
      [⟨Rect.unit (s := Mat R 128) ![0, 0] ![n, 128] inbF, pF⟩, ⟨Rect.unit (s := Mat R 128) ![n, 0] ![256, 128] inbD, pD⟩]))
      (fun s e => X s e + T s e) := by
  intro s e
  by_cases hs : s.val < n
  · refine (View.read_writes_cons_rows_of_mem v f inbF pF _ (ix2 s e) (ix2 ⟨s, hs⟩ e) rfl (Nat.zero_add _).symm rfl).trans ?_
    exact hF ⟨s, hs⟩ e
  · refine (View.read_writes_cons_rows_of_not_mem v f inbF pF _ (ix2 s e) rfl rfl (.inr (by rw [Nat.zero_add]; exact not_lt.1 hs))).trans ?_
    by_cases hs' : s.val < N
    · refine (View.read_writes_cons_rows_of_mem v f inbD pD _ (ix2 s e) (ix2 ⟨s - n, by omega⟩ e) rfl (by simp; omega) rfl).trans ?_
      refine (hD ⟨s - n, by omega⟩ e).trans ?_
      simp only [Nat.add_sub_cancel' (not_lt.1 hs)]
    · refine (View.read_writes_cons_rows_of_not_mem v f inbD pD _ (ix2 s e) rfl rfl (.inr (by simp; omega))).trans ?_
      refine (h s e (not_lt.1 hs')).trans ?_
      simp only [h0 s (not_lt.1 hs'), add_zero]

/-- The first band's store over an accumulator just set to zero. -/
theorem IsR.firstRows {v : View sig κ sp (Mat R 128) .f32} {f : v.ty.Contents (Elt Ideal)} {T : ℕ → ℕ → ℝ}
    {L : List (View.Piece (Elt Ideal) (Mat R 128) .f32)}
    (h : IsR (φ := .f32) (v.read (Elt Ideal) (v.writes (Elt Ideal) f L)) fun _ _ => 0)
    {inb : ∀ a, (![0, 0] : Fin 2 → ℕ) a + (![256, 128] : Fin 2 → ℕ) a ≤ (Mat R 128).size a} {p : FVec Ideal (Mat 256 128) .f32}
    (hp : IsR p T) (h0 : ∀ s, 256 ≤ s → ∀ e, T s e = 0) :
    IsR (φ := .f32) (v.read (Elt Ideal) (v.writes (Elt Ideal) f (⟨Rect.unit (s := Mat R 128) ![0, 0] ![256, 128] inb, p⟩ :: L))) T := by
  intro s e
  by_cases hs : s.val < 256
  · exact (View.read_writes_cons_rows_of_mem v f inb p _ (ix2 s e) (ix2 ⟨s, hs⟩ e) rfl (Nat.zero_add _).symm rfl).trans (hp ⟨s, hs⟩ e)
  · refine (View.read_writes_cons_rows_of_not_mem v f inb p _ (ix2 s e) rfl rfl (.inr (by rw [Nat.zero_add]; exact not_lt.1 hs))).trans ?_
    refine (h s e).trans ?_
    simp only [h0 s (not_lt.1 hs)]

/-- A store of the whole array. -/
theorem IsR.stored {v : View sig κ sp (Mat R 128) .f32} {f : v.ty.Contents (Elt Ideal)} {X : ℕ → ℕ → ℝ}
    {L : List (View.Piece (Elt Ideal) (Mat R 128) .f32)}
    {inb : ∀ a, (![0, 0] : Fin 2 → ℕ) a + (![R, 128] : Fin 2 → ℕ) a ≤ (Mat R 128).size a} {p : FVec Ideal (Mat R 128) .f32}
    (hp : IsR p X) :
    IsR (φ := .f32) (v.read (Elt Ideal) (v.writes (Elt Ideal) f (⟨Rect.unit (s := Mat R 128) ![0, 0] ![R, 128] inb, p⟩ :: L))) X :=
  fun s e => (View.read_writes_cons_rows_of_mem v f inb p _ (ix2 s e) (ix2 s e) rfl (Nat.zero_add _).symm rfl).trans (hp s e)

end Cert.Attn
-- ==== Proof.Bands.lean ====
module

public import proofs.«01_k».proof.Proof.Acc
public import proofs.«01_k».proof.Proof.Gen.KernelIdeal.Value

@[expose] public section

/-! # The kernel's eight bands

Point `t` of the grid works on band `t % 8` of a pair (batch entry, head). What each point leaves is what `band_real`
and `Acc.lean` say, at that band's number of free columns. -/

noncomputable section

namespace Cert.Attn

open Idealize.ShloMosaic Idealize.ShloMosaic.TcCoe Idealize.SL.Sem
open Cert.KernelIdeal Cert.KernelIdeal.Gen

/-- The kernel's scale, as a real number. -/
def scale : ℝ := EReal.toReal (Scalar.ofBits .f32 0x3DD105EC#32 : Ideal .f32)

theorem scale_word : (Scalar.ofBits .f32 0x3DD105EC#32 : Ideal .f32) = ((scale : ℝ) : EReal) := by
  unfold scale
  refine (EReal.coe_toReal ?_ ?_).symm
  all_goals
    show Ideal.ofBits .f32 0x3DD105EC#32 ≠ _
    simp [Ideal.ofBits, Ideal.ieee, -EReal.coe_mul]

theorem diagFacts : DiagFacts :=
  ⟨by decide, by decide, by decide, by decide, by decide, by decide⟩

theorem freeFacts (n N : ℕ) (hN : N = n + 256) : FreeFacts n N := by
  subst hN
  refine ⟨⟨rfl, fun a => ?_⟩, ⟨rfl, fun a => ?_⟩, ⟨rfl, fun a => ?_⟩, ⟨rfl, fun a => ?_⟩, ⟨rfl, Nat.one_pos, fun b => ?_⟩, ⟨le_rfl, fun a => ?_⟩⟩
  · fin_cases a <;> simp
  · fin_cases a <;> simp
  · fin_cases a <;> simp
  · fin_cases a <;> simp
  · rw [Subsingleton.elim b 0]; rfl
  · fin_cases a <;> simp

section Run

variable {sig' : RefSig} {κ κ' κx κy κx' κy' : Kind} {sp sp' spx spy spx' spy' : Space} {n N : ℕ}

/-- What a band with free columns leaves: the queries' gradient, and the two accumulators with the band's part added. -/
theorem band_leaves (hn : 0 < n) (hN : N = n + 256)
    {q : FVec Ideal (Mat 256 128) .bf16} {k v : FVec Ideal (Mat N 128) .bf16} {g : FVec Ideal (Mat 256 128) .bf16}
    {Q K V DO X Y : ℕ → ℕ → ℝ} (hq : IsR q Q) (hk : IsR k K) (hv : IsR v V) (hg : IsR g DO)
    {vo : View sig' κ' sp' (Mat 256 128) .f32} {fo : vo.ty.Contents (Elt Ideal)}
    {inbO : ∀ a, (![0, 0] : Fin 2 → ℕ) a + (![256, 128] : Fin 2 → ℕ) a ≤ (Mat 256 128).size a}
    {vx : View sig' κx spx (Mat 2048 128) .f32} {fx : vx.ty.Contents (Elt Ideal)}
    {vy : View sig' κy spy (Mat 2048 128) .f32} {fy : vy.ty.Contents (Elt Ideal)}
    {xD yD : FVec Ideal (Mat 256 128) .f32} {xF yF : FVec Ideal (Mat n 128) .f32}
    (hxD : IsR xD fun r e => X (n + r) e) (hyD : IsR yD fun r e => Y (n + r) e)
    (hxF : IsR xF X) (hyF : IsR yF Y)
    (hx : ∀ (s : Fin 2048) (e : Fin 128), N ≤ s.val → vx.read (Elt Ideal) fx (ix2 s e) = ((X s e : ℝ) : EReal))
    (hy : ∀ (s : Fin 2048) (e : Fin 128), N ≤ s.val → vy.read (Elt Ideal) fy (ix2 s e) = ((Y s e : ℝ) : EReal))
    {inbF inbF' : ∀ a, (![0, 0] : Fin 2 → ℕ) a + (![n, 128] : Fin 2 → ℕ) a ≤ (Mat 2048 128).size a}
    {inbD inbD' : ∀ a, (![n, 0] : Fin 2 → ℕ) a + (![256, 128] : Fin 2 → ℕ) a ≤ (Mat 2048 128).size a}
    (d : DiagFacts) (f : FreeFacts n N) (hc : (Mat 256 128).ShapeCasts (Mat 256 128)) (hc' : (Mat n 128).ShapeCasts (Mat n 128)) :
    IsR (φ := .f32) (vo.read (Elt Ideal) (vo.writes (Elt Ideal) fo [⟨Rect.unit (s := Mat 256 128) ![0, 0] ![256, 128] inbO,
        mulf (bandQuery d f 0#32 (scoreOf 0x3DD105EC#32 q k) v g k) (broadcast (Mat 256 128) (Scalar.ofBits .f32 0x3DD105EC#32 : Ideal .f32))⟩]))
      (dQuery n N scale (logit scale Q K) (dprob DO V) K) ∧
    IsR (φ := .f32) (vx.read (Elt Ideal) (vx.writes (Elt Ideal) fx
      [⟨Rect.unit (s := Mat 2048 128) ![0, 0] ![n, 128] inbF,
          shapeCast (Mat n 128) (addf xF (keyGrad 0x3DD105EC#32 (dlogitF d f 0#32 (scoreOf 0x3DD105EC#32 q k) v g) q)) hc'⟩,
        ⟨Rect.unit (s := Mat 2048 128) ![n, 0] ![256, 128] inbD,
          shapeCast (Mat 256 128) (addf xD (keyGrad 0x3DD105EC#32 (dlogitD d f 0#32 (scoreOf 0x3DD105EC#32 q k) v g) q)) hc⟩]))
      (fun s e => X s e + dKey n N scale (logit scale Q K) (dprob DO V) Q s e) ∧
    IsR (φ := .f32) (vy.read (Elt Ideal) (vy.writes (Elt Ideal) fy
      [⟨Rect.unit (s := Mat 2048 128) ![0, 0] ![n, 128] inbF',
          shapeCast (Mat n 128) (addf yF (valGrad d.tr (probF d f 0#32 (scoreOf 0x3DD105EC#32 q k)) g)) hc'⟩,
        ⟨Rect.unit (s := Mat 2048 128) ![n, 0] ![256, 128] inbD',
          shapeCast (Mat 256 128) (addf yD (valGrad d.tr (probD d f 0#32 (scoreOf 0x3DD105EC#32 q k)) g)) hc⟩]))
      (fun s e => Y s e + dValue n N (logit scale Q K) DO s e) := by
  obtain ⟨h1, h2, h3, h4, h5⟩ := band_real d f scale_word hn hN (score_real scale_word hq hk) hq hk hv hg hxD hyD hxF hyF hc hc'
  exact ⟨IsR.stored h1, IsR.addRows hx hN h4 h2 fun s hs e => dKey_below _ _ _ _ hN hs e,
    IsR.addRows hy hN h5 h3 fun s hs e => dValue_below _ _ hN hs e⟩

end Run

end Cert.Attn
-- ==== Proof.Point.lean ====
module

public import proofs.«01_k».proof.Proof.Bands

@[expose] public section

/-! # What a grid point leaves

A point loads its query rows, the keys and values that its band sees, and the accumulators' rows; it stores its block
of the queries' gradient and the accumulators with its part added. `band_point` says so at any band; the lemmas after
it say that each of the kernel's bands is that one. -/

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

/-- The blocks that a point reads, as real numbers. -/
structure Reads (c : Dev nD) (t : Fin cfg0.N) (Q K V DO : ℕ → ℕ → ℝ) : Prop where
  q : IsR (a := 256) (b := 128) (φ := .bf16) (iblk m c 0 t) Q
  k : IsR (a := 2048) (b := 128) (φ := .bf16) (iblk m c 1 t) K
  v : IsR (a := 2048) (b := 128) (φ := .bf16) (iblk m c 2 t) V
  g : IsR (a := 256) (b := 128) (φ := .f32) (iblk m c 3 t) DO

/-- What a point leaves, as real numbers: its block of the queries' gradient and the two accumulators. -/
structure Leaves (o : Vec Ideal S256x128 .f32 × Vec Ideal S2048x128 .f32 × Vec Ideal S2048x128 .f32 × Vec Ideal S2048x128 .f32 × Vec Ideal S2048x128 .f32)
    (DQ X Y : ℕ → ℕ → ℝ) : Prop where
  dq : IsR (a := 256) (b := 128) (φ := .f32) o.1 DQ
  dk : IsR (a := 2048) (b := 128) (φ := .f32) o.2.2.2.1 X
  dv : IsR (a := 2048) (b := 128) (φ := .f32) o.2.2.2.2 Y

/-- The point before. -/
abbrev before (c : Dev nD) (t : Fin cfg0.N) := outsAt0 m c (t.val - 1) (Nat.lt_of_le_of_lt (Nat.sub_le _ _) t.isLt)

theorem band_coord : ∀ t : Fin cfg0.N, (grid0.coords t 2).val = t.val % 8 :=
  (by decide +kernel : ∀ t : Fin grid0.N, (grid0.coords t 2).val = t.val % 8)

theorem IsR.held {sig : RefSig} {κ : Kind} {sp : Space} {R : ℕ} {m : Memref sig κ sp (Mat R 128) .f32} (h : m.IsWhole)
    {x : FVec Ideal (Mat R 128) .f32} {X : ℕ → ℕ → ℝ} (hx : IsR x X) : IsR (φ := .f32) (m.view.read (Elt Ideal) (h.unread x)) X := by
  rw [h.read_unread]; exact hx

theorem IsR.held16 {sig : RefSig} {κ : Kind} {sp : Space} {R : ℕ} {m : Memref sig κ sp (Mat R 128) .bf16} (h : m.IsWhole)
    {x : FVec Ideal (Mat R 128) .bf16} {X : ℕ → ℕ → ℝ} (hx : IsR x X) : IsR (φ := .bf16) (m.view.read (Elt Ideal) (h.unread x)) X := by
  rw [h.read_unread]; exact hx

/-! ## What a point loads -/

theorem inb_rows {R k : ℕ} {o : ℕ} (h : o + k ≤ R) : ∀ a, (![o, 0] : Fin 2 → ℕ) a + (![k, 128] : Fin 2 → ℕ) a ≤ (Mat R 128).size a := by
  intro a
  fin_cases a
  · exact h
  · exact le_rfl

theorem same (n : ℕ) : (Mat n 128).ShapeCasts (Mat n 128) := rfl

/-- The queries of point `t`. -/
def qAt (c : Dev nD) (t : Fin cfg0.N) : FVec Ideal (Mat 256 128) .bf16 :=
  shapeCast (Mat 256 128) ((ms0_0 t).view.readAt (Elt Ideal) (Rect.unit (s := Mat 256 128) ![0, 0] ![256, 128] (inb_rows le_rfl)).toLoadRect
    ((hs0_0 t).unread (iblk m c 0 t))) (same 256)
/-- The first `N` keys of point `t`. -/
def kAt (c : Dev nD) (t : Fin cfg0.N) (N : ℕ) (h : 0 + N ≤ 2048) : FVec Ideal (Mat N 128) .bf16 :=
  shapeCast (Mat N 128) ((ms0_1 t).view.readAt (Elt Ideal) (Rect.unit (s := Mat 2048 128) ![0, 0] ![N, 128] (inb_rows h)).toLoadRect
    ((hs0_1 t).unread (iblk m c 1 t))) (same N)
/-- The first `N` values of point `t`. -/
def vAt (c : Dev nD) (t : Fin cfg0.N) (N : ℕ) (h : 0 + N ≤ 2048) : FVec Ideal (Mat N 128) .bf16 :=
  shapeCast (Mat N 128) ((ms0_2 t).view.readAt (Elt Ideal) (Rect.unit (s := Mat 2048 128) ![0, 0] ![N, 128] (inb_rows h)).toLoadRect
    ((hs0_2 t).unread (iblk m c 2 t))) (same N)
/-- The output gradients of point `t`. -/
def gAt (c : Dev nD) (t : Fin cfg0.N) : FVec Ideal (Mat 256 128) .bf16 :=
  truncf .bf16 (shapeCast (Mat 256 128) ((ms0_3 t).view.readAt (Elt Ideal)
    (Rect.unit (s := Mat 256 128) ![0, 0] ![256, 128] (inb_rows le_rfl)).toLoadRect ((hs0_3 t).unread (iblk m c 3 t))) (same 256)) bitsLt_bf16_f32
/-- Rows of the keys' accumulator as the point before left it. -/
def xAt (c : Dev nD) (t : Fin cfg0.N) (o k : ℕ) (h : o + k ≤ 2048) : FVec Ideal (Mat k 128) .f32 :=
  scM0_0.view.readAt (Elt Ideal) (Rect.unit (s := Mat 2048 128) ![o, 0] ![k, 128] (inb_rows h)).toLoadRect
    ((Memref.isWhole_whole _ : scM0_0.IsWhole).unread (before m c t).2.2.2.1)
/-- Rows of the values' accumulator as the point before left it. -/
def yAt (c : Dev nD) (t : Fin cfg0.N) (o k : ℕ) (h : o + k ≤ 2048) : FVec Ideal (Mat k 128) .f32 :=
  scM0_1.view.readAt (Elt Ideal) (Rect.unit (s := Mat 2048 128) ![o, 0] ![k, 128] (inb_rows h)).toLoadRect
    ((Memref.isWhole_whole _ : scM0_1.IsWhole).unread (before m c t).2.2.2.2)

section Loads

variable {m} {c : Dev nD} {t : Fin cfg0.N} {Q K V DO DQ X Y : ℕ → ℕ → ℝ}

theorem Reads.qAt (hr : Reads m c t Q K V DO) : IsR (qAt m c t) Q := (IsR.load16 (IsR.held16 (hs0_0 t) hr.q) _).sameShape _
theorem Reads.kAt (hr : Reads m c t Q K V DO) (N : ℕ) (h : 0 + N ≤ 2048) : IsR (kAt m c t N h) K :=
  (IsR.load16 (IsR.held16 (hs0_1 t) hr.k) _).sameShape _
theorem Reads.vAt (hr : Reads m c t Q K V DO) (N : ℕ) (h : 0 + N ≤ 2048) : IsR (vAt m c t N h) V :=
  (IsR.load16 (IsR.held16 (hs0_2 t) hr.v) _).sameShape _
theorem Reads.gAt (hr : Reads m c t Q K V DO) : IsR (gAt m c t) DO := ((IsR.load0 (IsR.held (hs0_3 t) hr.g) _).sameShape _).truncf _
theorem Leaves.xAt (hb : Leaves (before m c t) DQ X Y) (o k : ℕ) (h : o + k ≤ 2048) : IsR (xAt m c t o k h) fun r e => X (o + r) e :=
  IsR.load (IsR.held (m := scM0_0) (Memref.isWhole_whole _) hb.dk) _
theorem Leaves.yAt (hb : Leaves (before m c t) DQ X Y) (o k : ℕ) (h : o + k ≤ 2048) : IsR (yAt m c t o k h) fun r e => Y (o + r) e :=
  IsR.load (IsR.held (m := scM0_1) (Memref.isWhole_whole _) hb.dv) _

end Loads

/-! ## A band with free columns -/

section Point

variable (c : Dev nD) (t : Fin cfg0.N) (n N : ℕ)

/-- The stores of the queries' gradient, at a band with `n` free columns. -/
def qPieces (hN : N = n + 256) (h : 0 + N ≤ 2048) : List (View.Piece (Elt Ideal) (Mat 256 128) .f32) :=
  [⟨Rect.unit (s := Mat 256 128) ![0, 0] ![256, 128] (inb_rows le_rfl),
    mulf (bandQuery diagFacts (freeFacts n N hN) 0#32 (scoreOf 0x3DD105EC#32 (qAt m c t) (kAt m c t N h)) (vAt m c t N h) (gAt m c t) (kAt m c t N h))
      (broadcast (Mat 256 128) (Scalar.ofBits .f32 0x3DD105EC#32 : Ideal .f32))⟩]

/-- The stores into the keys' accumulator. -/
def kPieces (hN : N = n + 256) (h : 0 + N ≤ 2048) (hF : 0 + n ≤ 2048) (hD : n + 256 ≤ 2048) : List (View.Piece (Elt Ideal) (Mat 2048 128) .f32) :=
  [⟨Rect.unit (s := Mat 2048 128) ![0, 0] ![n, 128] (inb_rows hF),
    shapeCast (Mat n 128) (addf (xAt m c t 0 n hF) (keyGrad 0x3DD105EC#32
      (dlogitF diagFacts (freeFacts n N hN) 0#32 (scoreOf 0x3DD105EC#32 (qAt m c t) (kAt m c t N h)) (vAt m c t N h) (gAt m c t)) (qAt m c t))) (same n)⟩,
   ⟨Rect.unit (s := Mat 2048 128) ![n, 0] ![256, 128] (inb_rows hD),
    shapeCast (Mat 256 128) (addf (xAt m c t n 256 hD) (keyGrad 0x3DD105EC#32
      (dlogitD diagFacts (freeFacts n N hN) 0#32 (scoreOf 0x3DD105EC#32 (qAt m c t) (kAt m c t N h)) (vAt m c t N h) (gAt m c t)) (qAt m c t))) (same 256)⟩]

/-- The stores into the values' accumulator. -/
def vPieces (hN : N = n + 256) (h : 0 + N ≤ 2048) (hF : 0 + n ≤ 2048) (hD : n + 256 ≤ 2048) : List (View.Piece (Elt Ideal) (Mat 2048 128) .f32) :=
  [⟨Rect.unit (s := Mat 2048 128) ![0, 0] ![n, 128] (inb_rows hF),
    shapeCast (Mat n 128) (addf (yAt m c t 0 n hF) (valGrad diagFacts.tr
      (probF diagFacts (freeFacts n N hN) 0#32 (scoreOf 0x3DD105EC#32 (qAt m c t) (kAt m c t N h))) (gAt m c t))) (same n)⟩,
   ⟨Rect.unit (s := Mat 2048 128) ![n, 0] ![256, 128] (inb_rows hD),
    shapeCast (Mat 256 128) (addf (yAt m c t n 256 hD) (valGrad diagFacts.tr
      (probD diagFacts (freeFacts n N hN) 0#32 (scoreOf 0x3DD105EC#32 (qAt m c t) (kAt m c t N h))) (gAt m c t))) (same 256)⟩]

variable {m c t} {Q K V DO DQ X Y : ℕ → ℕ → ℝ}

/-- What a band with free columns leaves, read through any view of the block or of an accumulator. -/
theorem band_point (hn : 0 < n) (hN : N = n + 256) (h : 0 + N ≤ 2048) (hF : 0 + n ≤ 2048) (hD : n + 256 ≤ 2048)
    (hr : Reads m c t Q K V DO) (hb : Leaves (before m c t) DQ X Y)
    {κx κy : Kind} {spx spy : Space} (vx : View sig κx spx (Mat 2048 128) .f32) (vy : View sig κy spy (Mat 2048 128) .f32)
    (fx : vx.ty.Contents (Elt Ideal)) (fy : vy.ty.Contents (Elt Ideal))
    (hx : ∀ (s : Fin 2048) (e : Fin 128), N ≤ s.val → vx.read (Elt Ideal) fx (ix2 s e) = ((X s e : ℝ) : EReal))
    (hy : ∀ (s : Fin 2048) (e : Fin 128), N ≤ s.val → vy.read (Elt Ideal) fy (ix2 s e) = ((Y s e : ℝ) : EReal)) :
    IsR (φ := .f32) (VO0_4.read (Elt Ideal) (VO0_4.writes (Elt Ideal) VO0_4.junk (qPieces m c t n N hN h)))
      (dQuery n N scale (logit scale Q K) (dprob DO V) K) ∧
    IsR (φ := .f32) (vx.read (Elt Ideal) (vx.writes (Elt Ideal) fx (kPieces m c t n N hN h hF hD)))
      (fun s e => X s e + dKey n N scale (logit scale Q K) (dprob DO V) Q s e) ∧
    IsR (φ := .f32) (vy.read (Elt Ideal) (vy.writes (Elt Ideal) fy (vPieces m c t n N hN h hF hD)))
      (fun s e => Y s e + dValue n N (logit scale Q K) DO s e) :=
  band_leaves hn hN hr.qAt (hr.kAt N h) (hr.vAt N h) hr.gAt (hb.xAt n 256 hD) (hb.yAt n 256 hD)
    ((hb.xAt 0 n hF).congr fun r _ e _ => by rw [Nat.zero_add]) ((hb.yAt 0 n hF).congr fun r _ e _ => by rw [Nat.zero_add])
    hx hy diagFacts (freeFacts n N hN) (same 256) (same n)

theorem kept_x (hb : Leaves (before m c t) DQ X Y) (s : Fin 2048) (e : Fin 128) (_ : N ≤ s.val) :
    scM0_0.view.read (Elt Ideal) ((Memref.isWhole_whole _ : scM0_0.IsWhole).unread (before m c t).2.2.2.1) (ix2 s e) = ((X s e : ℝ) : EReal) :=
  IsR.held (m := scM0_0) (Memref.isWhole_whole _) hb.dk s e
theorem kept_y (hb : Leaves (before m c t) DQ X Y) (s : Fin 2048) (e : Fin 128) (_ : N ≤ s.val) :
    scM0_1.view.read (Elt Ideal) ((Memref.isWhole_whole _ : scM0_1.IsWhole).unread (before m c t).2.2.2.2) (ix2 s e) = ((Y s e : ℝ) : EReal) :=
  IsR.held (m := scM0_1) (Memref.isWhole_whole _) hb.dv s e

/-- A point's result from its three arrays. -/
theorem Leaves.of {o : Vec Ideal S256x128 .f32 × Vec Ideal S2048x128 .f32 × Vec Ideal S2048x128 .f32 × Vec Ideal S2048x128 .f32 × Vec Ideal S2048x128 .f32}
    (H : IsR (a := 256) (b := 128) (φ := .f32) o.1 DQ ∧ IsR (a := 2048) (b := 128) (φ := .f32) o.2.2.2.1 X ∧
      IsR (a := 2048) (b := 128) (φ := .f32) o.2.2.2.2 Y) : Leaves o DQ X Y := ⟨H.1, H.2.1, H.2.2⟩

end Point

/-- What band `n / 256` adds to what the point before left. -/
abbrev Adds (c : Dev nD) (t : Fin cfg0.N) (n N : ℕ) (Q K V DO X Y : ℕ → ℕ → ℝ) : Prop :=
  Leaves (outsAt0 m c t.val t.isLt) (dQuery n N scale (logit scale Q K) (dprob DO V) K)
    (fun s e => X s e + dKey n N scale (logit scale Q K) (dprob DO V) Q s e) (fun s e => Y s e + dValue n N (logit scale Q K) DO s e)

variable {m} {c : Dev nD} {t : Fin cfg0.N} {Q K V DO DQ X Y : ℕ → ℕ → ℝ}

theorem adds_1 (h : t.val % 8 = 1) (hr : Reads m c t Q K V DO) (hb : Leaves (before m c t) DQ X Y) : Adds m c t 256 512 Q K V DO X Y := by
  unfold Adds
  rw [outsAt0_B m c t (by omega) (by omega) h (by omega) (by omega) (by omega) (by omega) (by omega) (by omega) (by omega)]
  refine Leaves.of ?_
  unfold out0_B_4 sout0_B_0 sout0_B_1 kernelRun0_B
  dsimp only
  sl_unfold_words
  rw [band_coord t, h]
  exact band_point 256 512 (by omega) rfl (by omega) (by omega) (by omega) hr hb scM0_0.view scM0_1.view _ _ (kept_x _ hb) (kept_y _ hb)

theorem adds_2 (h : t.val % 8 = 2) (hr : Reads m c t Q K V DO) (hb : Leaves (before m c t) DQ X Y) : Adds m c t 512 768 Q K V DO X Y := by
  unfold Adds
  rw [outsAt0_C m c t (by omega) (by omega) (by omega) h (by omega) (by omega) (by omega) (by omega) (by omega) (by omega)]
  refine Leaves.of ?_
  unfold out0_C_4 sout0_C_0 sout0_C_1 kernelRun0_C
  dsimp only
  sl_unfold_words
  rw [band_coord t, h]
  exact band_point 512 768 (by omega) rfl (by omega) (by omega) (by omega) hr hb scM0_0.view scM0_1.view _ _ (kept_x _ hb) (kept_y _ hb)

theorem adds_3 (h : t.val % 8 = 3) (hr : Reads m c t Q K V DO) (hb : Leaves (before m c t) DQ X Y) : Adds m c t 768 1024 Q K V DO X Y := by
  unfold Adds
  rw [outsAt0_D m c t (by omega) (by omega) (by omega) (by omega) h (by omega) (by omega) (by omega) (by omega) (by omega)]
  refine Leaves.of ?_
  unfold out0_D_4 sout0_D_0 sout0_D_1 kernelRun0_D
  dsimp only
  sl_unfold_words
  rw [band_coord t, h]
  exact band_point 768 1024 (by omega) rfl (by omega) (by omega) (by omega) hr hb scM0_0.view scM0_1.view _ _ (kept_x _ hb) (kept_y _ hb)

theorem adds_4 (h : t.val % 8 = 4) (hr : Reads m c t Q K V DO) (hb : Leaves (before m c t) DQ X Y) : Adds m c t 1024 1280 Q K V DO X Y := by
  unfold Adds
  rw [outsAt0_E m c t (by omega) (by omega) (by omega) (by omega) (by omega) h (by omega) (by omega) (by omega) (by omega)]
  refine Leaves.of ?_
  unfold out0_E_4 sout0_E_0 sout0_E_1 kernelRun0_E
  dsimp only
  sl_unfold_words
  rw [band_coord t, h]
  exact band_point 1024 1280 (by omega) rfl (by omega) (by omega) (by omega) hr hb scM0_0.view scM0_1.view _ _ (kept_x _ hb) (kept_y _ hb)

theorem adds_5 (h : t.val % 8 = 5) (hr : Reads m c t Q K V DO) (hb : Leaves (before m c t) DQ X Y) : Adds m c t 1280 1536 Q K V DO X Y := by
  unfold Adds
  rw [outsAt0_F m c t (by omega) (by omega) (by omega) (by omega) (by omega) (by omega) h (by omega) (by omega) (by omega)]
  refine Leaves.of ?_
  unfold out0_F_4 sout0_F_0 sout0_F_1 kernelRun0_F
  dsimp only
  sl_unfold_words
  rw [band_coord t, h]
  exact band_point 1280 1536 (by omega) rfl (by omega) (by omega) (by omega) hr hb scM0_0.view scM0_1.view _ _ (kept_x _ hb) (kept_y _ hb)

theorem adds_6 (h : t.val % 8 = 6) (hr : Reads m c t Q K V DO) (hb : Leaves (before m c t) DQ X Y) : Adds m c t 1536 1792 Q K V DO X Y := by
  unfold Adds
  rw [outsAt0_G m c t (by omega) (by omega) (by omega) (by omega) (by omega) (by omega) (by omega) h (by omega) (by omega)]
  refine Leaves.of ?_
  unfold out0_G_4 sout0_G_0 sout0_G_1 kernelRun0_G
  dsimp only
  sl_unfold_words
  rw [band_coord t, h]
  exact band_point 1536 1792 (by omega) rfl (by omega) (by omega) (by omega) hr hb scM0_0.view scM0_1.view _ _ (kept_x _ hb) (kept_y _ hb)

theorem adds_7 (h : t.val % 8 = 7) (hr : Reads m c t Q K V DO) (hb : Leaves (before m c t) DQ X Y) : Adds m c t 1792 2048 Q K V DO X Y := by
  unfold Adds
  rw [outsAt0_H m c t (by omega) (by omega) (by omega) (by omega) (by omega) (by omega) (by omega) (by omega) h h]
  refine Leaves.of ?_
  unfold out0_H_4 sout0_H_0 sout0_H_1 kernelRun0_H
  dsimp only
  sl_unfold_words
  rw [band_coord t, h]
  exact band_point 1792 2048 (by omega) rfl (by omega) (by omega) (by omega) hr hb VS0_0 VS0_1 _ _
    (fun s _ hs => absurd s.isLt (not_lt.2 hs)) (fun s _ hs => absurd s.isLt (not_lt.2 hs))

/-- The last band's point also stores both accumulators into the outputs. -/
theorem stores_7 (h : t.val % 8 = 7) (hr : Reads m c t Q K V DO) (hb : Leaves (before m c t) DQ X Y) :
    IsR (a := 2048) (b := 128) (φ := .f32) (outsAt0 m c t.val t.isLt).2.1
      (fun s e => X s e + dKey 1792 2048 scale (logit scale Q K) (dprob DO V) Q s e) ∧
    IsR (a := 2048) (b := 128) (φ := .f32) (outsAt0 m c t.val t.isLt).2.2.1 (fun s e => Y s e + dValue 1792 2048 (logit scale Q K) DO s e) := by
  rw [outsAt0_H m c t (by omega) (by omega) (by omega) (by omega) (by omega) (by omega) (by omega) (by omega) h h]
  unfold out0_H_5 out0_H_6 kernelRun0_H
  dsimp only
  sl_unfold_words
  rw [band_coord t, h]
  obtain ⟨_, hx, hy⟩ := band_point 1792 2048 (by omega) rfl (by omega) (by omega) (by omega) hr hb scM0_0.view scM0_1.view
    scM0_0.view.junk scM0_1.view.junk (fun s _ hs => absurd s.isLt (not_lt.2 hs)) (fun s _ hs => absurd s.isLt (not_lt.2 hs))
  exact ⟨IsR.stored (hx.load0 (inb_rows (le_refl 2048))), IsR.stored (hy.load0 (inb_rows (le_refl 2048)))⟩

/-! ## The first band -/

theorem filled {κ : Kind} {sp : Space} {v : View sig κ sp (Mat 2048 128) .f32} {f : v.ty.Contents (Elt Ideal)}
    {inb : ∀ a, (![0, 0] : Fin 2 → ℕ) a + (![2048, 128] : Fin 2 → ℕ) a ≤ (Mat 2048 128).size a} {hc : (Mat 2048 128).ShapeCasts (Mat 2048 128)} :
    IsR (φ := .f32) (v.read (Elt Ideal) (v.writes (Elt Ideal) f [⟨Rect.unit (s := Mat 2048 128) ![0, 0] ![2048, 128] inb,
      shapeCast (Mat 2048 128) (broadcast (Mat 2048 128) (Scalar.ofBits .f32 0x00000000#32 : Ideal .f32)) hc⟩])) fun _ _ => 0 :=
  IsR.stored ((IsR.splat (Ideal.ofBits_zero_f32.trans EReal.coe_zero.symm)).sameShape hc)

theorem adds_0 (h : t.val % 8 = 0) (hr : Reads m c t Q K V DO) : Adds m c t 0 256 Q K V DO (fun _ _ => 0) (fun _ _ => 0) := by
  unfold Adds
  rw [outsAt0_A m c t h h (by omega) (by omega) (by omega) (by omega) (by omega) (by omega) (by omega) (by omega)]
  refine Leaves.of ?_
  unfold out0_A_4 sout0_A_0 sout0_A_1 kernelRun0_A
  dsimp only
  sl_unfold_words
  rw [band_coord t, h]
  obtain ⟨h1, h2, h3⟩ := first_real diagFacts scale_word (score_real scale_word hr.qAt (hr.kAt 256 (by omega))) hr.qAt (hr.kAt 256 (by omega))
    (hr.vAt 256 (by omega)) hr.gAt
    ((filled (v := scM0_0.view) (f := scM0_0.view.junk) (inb := inb_rows (le_refl 2048)) (hc := same 2048)).load0 (k := 256) (inb_rows (by omega)))
    ((filled (v := scM0_1.view) (f := scM0_1.view.junk) (inb := inb_rows (le_refl 2048)) (hc := same 2048)).load0 (k := 256) (inb_rows (by omega)))
    (same 256)
  exact ⟨IsR.stored h1,
    IsR.firstRows (filled (v := VS0_0) (inb := inb_rows (le_refl 2048)) (hc := same 2048)) h2 fun s hs e => by rw [dKey_below _ _ _ _ rfl hs, add_zero],
    IsR.firstRows (filled (v := VS0_1) (inb := inb_rows (le_refl 2048)) (hc := same 2048)) h3 fun s hs e => by rw [dValue_below _ _ rfl hs, add_zero]⟩

end Cert.Attn
-- ==== Proof.Entry.lean ====
module

public import proofs.«01_k».proof.Proof.Point
public import Idealize.ShloMosaic.Lib.Claim

@[expose] public section

/-! # What the kernel's windows read

The host pads each head to 128 columns and lays the heads side by side. At the region's entry the arrays hold the
arguments' entries in those places and zeros in the others. -/

noncomputable section

namespace Cert.Attn

open Idealize.ShloMosaic Idealize.ShloMosaic.TcCoe Idealize.SL.Sem
open Cert.KernelIdeal Cert.KernelIdeal.Gen

/-- Entry `(R, C)` of heads of `w` columns, each padded to 128, side by side. -/
def wide (w : ℕ) (x : ℕ → ℕ → ℕ → ℕ → ℝ) (R C : ℕ) : ℝ := if C % 128 < w then x (R / 2048) (R % 2048) (C / 128) (C % 128) else 0

theorem filler : (FloatOps.sitofp (F := Ideal) FTy.f32 0#32 : EReal) = 0 := by
  show (((0#32 : BitVec 32).toInt : ℝ) : EReal) = 0
  simp

/-- The host's padding of heads of 96 columns, the heads then side by side. -/
theorem heads96 {x : FVec Ideal S2x2048x4x96 .f32} {X : ℕ → ℕ → ℕ → ℕ → ℝ} (hx : ∀ b s h d, x (ix4 b s h d) = ((X b s h d : ℝ) : EReal)) (hp) (hs) (hc) :
    IsR (a := 4096) (b := 512) (φ := .f32) (shapeCast S4096x512 (pad S2x2048x4x128 ![0, 0, 0, 0] ![0, 0, 0, 32] ![0, 0, 0, 0] x
      (sitofp .f32 (constantI S_ 32 0#32) : FVec Ideal S_ .f32) hp hs) hc) (wide 96 X) := by
  intro R C
  pointwise
  rw [filler]
  unfold wide
  by_cases h : C.val % 128 < 96
  · simp only [h, and_true, if_true]
    split
    · rw [hx]
    · omega
  · simp only [h, and_false, if_false]
    exact EReal.coe_zero.symm

/-- The same of heads of 64 columns. -/
theorem heads64 {x : FVec Ideal S2x2048x4x64 .f32} {X : ℕ → ℕ → ℕ → ℕ → ℝ} (hx : ∀ b s h d, x (ix4 b s h d) = ((X b s h d : ℝ) : EReal)) (hp) (hs) (hc) :
    IsR (a := 4096) (b := 512) (φ := .f32) (shapeCast S4096x512 (pad S2x2048x4x128 ![0, 0, 0, 0] ![0, 0, 0, 64] ![0, 0, 0, 0] x
      (sitofp .f32 (constantI S_ 32 0#32) : FVec Ideal S_ .f32) hp hs) hc) (wide 64 X) := by
  intro R C
  pointwise
  rw [filler]
  unfold wide
  by_cases h : C.val % 128 < 64
  · simp only [h, and_true, if_true]
    split
    · rw [hx]
    · omega
  · simp only [h, and_false, if_false]
    exact EReal.coe_zero.symm

variable (m : (ℓ : Loc nD τ sig) → Buf (Elt Ideal) ℓ)

/-- The queries' array. -/
theorem entry_q (c : Dev nD) {X : ℕ → ℕ → ℕ → ℕ → ℝ} (hx : ∀ b s h d, (m (c, Proc.tc.devRef main_arg0) : FVec Ideal S2x2048x4x96 .f32) (ix4 b s h d) = ((X b s h d : ℝ) : EReal)) :
    IsR (a := 4096) (b := 512) (φ := .bf16) (V m c main_v8) (wide 96 X) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  exact heads96 hx pads_S2x2048x4x96_S2x2048x4x128_000_000_000_0320 h_S_ shapeCasts_S2x2048x4x128_S4096x512

/-- The keys' array. -/
theorem entry_k (c : Dev nD) {X : ℕ → ℕ → ℕ → ℕ → ℝ} (hx : ∀ b s h d, (m (c, Proc.tc.devRef main_arg1) : FVec Ideal S2x2048x4x96 .f32) (ix4 b s h d) = ((X b s h d : ℝ) : EReal)) :
    IsR (a := 4096) (b := 512) (φ := .bf16) (V m c main_v11) (wide 96 X) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  exact heads96 hx pads_S2x2048x4x96_S2x2048x4x128_000_000_000_0320 h_S_ shapeCasts_S2x2048x4x128_S4096x512

/-- The values' array. -/
theorem entry_v (c : Dev nD) {X : ℕ → ℕ → ℕ → ℕ → ℝ} (hx : ∀ b s h d, (m (c, Proc.tc.devRef main_arg2) : FVec Ideal S2x2048x4x64 .f32) (ix4 b s h d) = ((X b s h d : ℝ) : EReal)) :
    IsR (a := 4096) (b := 512) (φ := .bf16) (V m c main_v14) (wide 64 X) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  exact heads64 hx pads_S2x2048x4x64_S2x2048x4x128_000_000_000_0640 h_S_ shapeCasts_S2x2048x4x128_S4096x512

/-- The host's operations before the concatenation of the gradient with the zeros beside it. -/
abbrev early : List (HloOp τ sig (Elt Ideal)) := hostOps0 ++ hostOps0_1 ++ hostOps0_2.take 3

/-- Those after it. -/
abbrev late : List (HloOp τ sig (Elt Ideal)) := hostOps0_2.drop 4 ++ hostOps0_3 ++ hostOps0_4 ++ hostOps0_5 ++ hostOps0_6 ++ hostOps0_7 ++ hostOps0_8

theorem middle (x : FVec Ideal S4096x256 .f32) (y : FVec Ideal S4096x512 .f32) (z : FVec Ideal S4096x768 .f32) (hc) (R : Fin 4096) (C : Fin 512) :
    (concatenate S4096x1536 1 [⟨S4096x256, x⟩, ⟨S4096x512, y⟩, ⟨S4096x768, z⟩] hc : FVec Ideal S4096x1536 .f32) (ix2 R ⟨256 + C, by omega⟩) = y (ix2 R C) := by
  refine concatenate_apply_piece (t := S4096x1536) 1 [⟨S4096x256, x⟩, ⟨S4096x512, y⟩, ⟨S4096x768, z⟩] hc _ 1 (by simp) S4096x512 y rfl rfl 256 rfl _ ?_ rfl
  intro b hb
  match b, hb with
  | ⟨0, _⟩, _ => rfl
  | ⟨1, _⟩, h => exact absurd rfl h

theorem entry_do_early (c : Dev nD) (R : Fin 4096) (C : Fin 512) :
    (V m c main_v5 : FVec Ideal (Mat 4096 1536) .f32) (ix2 R ⟨256 + C, by omega⟩)
      = (StableHlo.after early (fun b => m (c, b)) main_v3 : FVec Ideal (Mat 4096 512) .f32) (ix2 R C) := by
  have hV : V m c main_v5 = StableHlo.after late ((hostOps0_2[3]).result (StableHlo.after early (fun b => m (c, b)))) main_v5 := rfl
  rw [hV, StableHlo.after_of_forall_not_mem]
  · generalize StableHlo.after early (fun b => m (c, b)) = W
    exact middle (W main_v0) (W main_v3) (W main_v4) concatenates_S4096x256_S4096x512_S4096x768_S4096x1536_d1 R C
  · simp [late, hostOps0_2, hostOps0_3, hostOps0_4, hostOps0_5, hostOps0_6, hostOps0_7, hostOps0_8]

/-- The gradient's array, in the columns the windows read. -/
theorem entry_do (c : Dev nD) {X : ℕ → ℕ → ℕ → ℝ} (hx : ∀ b s e, (m (c, Proc.tc.devRef main_arg3) : FVec Ideal S2x2048x256 .f32) (ix3 b s e) = ((X b s e : ℝ) : EReal))
    (R : Fin 4096) (C : Fin 512) :
    (V m c main_v5 : FVec Ideal (Mat 4096 1536) .f32) (ix2 R ⟨256 + C, by omega⟩) = ((wide 64 (fun b s h d => X b s (64 * h + d)) R C : ℝ) : EReal) := by
  rw [entry_do_early]
  simp only [early, hostOps0, hostOps0_1, hostOps0_2, List.take_succ_cons, List.take_zero, List.cons_append, List.nil_append]
  entry_read
  refine heads64 (x := shapeCast S2x2048x4x64 (m (c, Proc.tc.devRef main_arg3) : FVec Ideal S2x2048x256 .f32) shapeCasts_S2x2048x256_S2x2048x4x64) ?_ pads_S2x2048x4x64_S2x2048x4x128_000_000_000_0640 h_S_ shapeCasts_S2x2048x4x128_S4096x512 R C
  intro b s h d
  pointwise
  rw [hx, mul_comm 64]
end Cert.Attn
-- ==== Proof.Blocks.lean ====
module

public import proofs.«01_k».proof.Proof.Entry

@[expose] public section

/-! # The blocks of a grid point

Point `t` works on batch `t / 32`, head `t / 8 % 4` and the band of 256 query rows `t % 8`. -/

noncomputable section

namespace Cert.Attn

open Idealize.ShloMosaic Idealize.ShloMosaic.TcCoe Idealize.SL.Sem
open Cert.KernelIdeal Cert.KernelIdeal.Gen

theorem at_q : ∀ t : Fin grid0.N, win0_0.index t 0 = t.val / 32 * 8 + t.val % 8 ∧ win0_0.index t 1 = t.val / 8 % 4 := by decide +kernel
theorem at_k : ∀ t : Fin grid0.N, win0_1.index t 0 = t.val / 32 ∧ win0_1.index t 1 = t.val / 8 % 4 := by decide +kernel
theorem at_v : ∀ t : Fin grid0.N, win0_2.index t 0 = t.val / 32 ∧ win0_2.index t 1 = t.val / 8 % 4 := by decide +kernel
theorem at_do : ∀ t : Fin grid0.N, win0_3.index t 0 = t.val / 32 * 8 + t.val % 8 ∧ win0_3.index t 1 = 2 + t.val / 8 % 4 := by decide +kernel
theorem at_dq : ∀ t : Fin grid0.N, win0_4.index t 0 = t.val / 32 * 8 + t.val % 8 ∧ win0_4.index t 1 = t.val / 8 % 4 := by decide +kernel
theorem at_dk : ∀ t : Fin grid0.N, win0_5.index t 0 = t.val / 32 ∧ win0_5.index t 1 = t.val / 8 % 4 := by decide +kernel
theorem at_dv : ∀ t : Fin grid0.N, win0_6.index t 0 = t.val / 32 ∧ win0_6.index t 1 = t.val / 8 % 4 := by decide +kernel

theorem point_lt (t : Fin grid0.N) : t.val < 64 := N_0 ▸ t.isLt

/-- The rows of group `g` (one head of one batch entry), of an array of heads side by side. -/
def part (g : ℕ) (A : ℕ → ℕ → ℝ) (r e : ℕ) : ℝ := A (2048 * (g / 4) + r) (128 * (g % 4) + e)

variable (m : (ℓ : Loc nD τ sig) → Buf (Elt Ideal) ℓ)

theorem block_q (c : Dev nD) (t : Fin grid0.N) {A : ℕ → ℕ → ℝ} (hA : IsR (a := 4096) (b := 512) (φ := .bf16) (V m c main_v8) A) :
    IsR (a := 256) (b := 128) (φ := .bf16) (iblk m c 0 t) (fun r e => part (t.val / 8) A (256 * (t.val % 8) + r) e) := by
  intro r e
  have ht := point_lt t
  have hi := at_q t
  unfold iblk
  rw [View.read_apply]
  show V m c main_v8 _ = _
  have h := hA ⟨2048 * (t.val / 32) + (256 * (t.val % 8) + r.val), by omega⟩ ⟨128 * (t.val / 8 % 4) + e.val, by omega⟩
  unfold part
  rw [show t.val / 8 / 4 = t.val / 32 by omega]
  refine Eq.trans ?_ h
  congr 1
  funext a
  apply Fin.ext
  match a with
  | ⟨0, _⟩ => show win0_0.index t 0 * 256 + 1 * r.val = 2048 * (t.val / 32) + (256 * (t.val % 8) + r.val); rw [hi.1]; omega
  | ⟨1, _⟩ => show win0_0.index t 1 * 128 + 1 * e.val = 128 * (t.val / 8 % 4) + e.val; rw [hi.2]; omega

theorem block_k (c : Dev nD) (t : Fin grid0.N) {A : ℕ → ℕ → ℝ} (hA : IsR (a := 4096) (b := 512) (φ := .bf16) (V m c main_v11) A) :
    IsR (a := 2048) (b := 128) (φ := .bf16) (iblk m c 1 t) (part (t.val / 8) A) := by
  intro r e
  have ht := point_lt t
  have hi := at_k t
  unfold iblk
  rw [View.read_apply]
  show V m c main_v11 _ = _
  have h := hA ⟨2048 * (t.val / 32) + r.val, by omega⟩ ⟨128 * (t.val / 8 % 4) + e.val, by omega⟩
  unfold part
  rw [show t.val / 8 / 4 = t.val / 32 by omega]
  refine Eq.trans ?_ h
  congr 1
  funext a
  apply Fin.ext
  match a with
  | ⟨0, _⟩ => show win0_1.index t 0 * 2048 + 1 * r.val = 2048 * (t.val / 32) + r.val; rw [hi.1]; omega
  | ⟨1, _⟩ => show win0_1.index t 1 * 128 + 1 * e.val = 128 * (t.val / 8 % 4) + e.val; rw [hi.2]; omega

theorem block_v (c : Dev nD) (t : Fin grid0.N) {A : ℕ → ℕ → ℝ} (hA : IsR (a := 4096) (b := 512) (φ := .bf16) (V m c main_v14) A) :
    IsR (a := 2048) (b := 128) (φ := .bf16) (iblk m c 2 t) (part (t.val / 8) A) := by
  intro r e
  have ht := point_lt t
  have hi := at_v t
  unfold iblk
  rw [View.read_apply]
  show V m c main_v14 _ = _
  have h := hA ⟨2048 * (t.val / 32) + r.val, by omega⟩ ⟨128 * (t.val / 8 % 4) + e.val, by omega⟩
  unfold part
  rw [show t.val / 8 / 4 = t.val / 32 by omega]
  refine Eq.trans ?_ h
  congr 1
  funext a
  apply Fin.ext
  match a with
  | ⟨0, _⟩ => show win0_2.index t 0 * 2048 + 1 * r.val = 2048 * (t.val / 32) + r.val; rw [hi.1]; omega
  | ⟨1, _⟩ => show win0_2.index t 1 * 128 + 1 * e.val = 128 * (t.val / 8 % 4) + e.val; rw [hi.2]; omega

theorem block_do (c : Dev nD) (t : Fin grid0.N) {A : ℕ → ℕ → ℝ}
    (hA : ∀ (R : Fin 4096) (C : Fin 512), (V m c main_v5 : FVec Ideal (Mat 4096 1536) .f32) (ix2 R ⟨256 + C, by omega⟩) = ((A R C : ℝ) : EReal)) :
    IsR (a := 256) (b := 128) (φ := .f32) (iblk m c 3 t) (fun r e => part (t.val / 8) A (256 * (t.val % 8) + r) e) := by
  intro r e
  have ht := point_lt t
  have hi := at_do t
  unfold iblk
  rw [View.read_apply]
  show V m c main_v5 _ = _
  have h := hA ⟨2048 * (t.val / 32) + (256 * (t.val % 8) + r.val), by omega⟩ ⟨128 * (t.val / 8 % 4) + e.val, by omega⟩
  unfold part
  rw [show t.val / 8 / 4 = t.val / 32 by omega]
  refine Eq.trans ?_ h
  congr 1
  funext a
  apply Fin.ext
  match a with
  | ⟨0, _⟩ => show win0_3.index t 0 * 256 + 1 * r.val = 2048 * (t.val / 32) + (256 * (t.val % 8) + r.val); rw [hi.1]; omega
  | ⟨1, _⟩ => show win0_3.index t 1 * 128 + 1 * e.val = 256 + (128 * (t.val / 8 % 4) + e.val); rw [hi.2]; omega

end Cert.Attn
-- ==== Proof.Total.lean ====
module

public import proofs.«01_k».proof.Proof.Blocks
public import proofs.«01_k».proof.Proof.Gen.KernelIdeal.Value

@[expose] public section

/-! # The bands of a head add up to the whole gradients

The eight points of one head add their parts of the gradients of the keys and the values to the accumulators, and the
last stores them. -/

noncomputable section

namespace Cert.Attn

open Idealize.ShloMosaic Idealize.ShloMosaic.TcCoe Idealize.SL.Sem
open Cert.KernelIdeal Cert.KernelIdeal.Gen

variable (Q K V DO : ℕ → ℕ → ℝ)

/-- The gradient of a head's queries. -/
def headQuery (r e : ℕ) : ℝ := dQuery 0 2048 scale (logit scale Q K) (dprob DO V) K r e
/-- The gradient of a head's keys, from the first `M` query rows. -/
def headKey (M s e : ℕ) : ℝ := (∑ r ∈ Finset.range M, dlogit 0 2048 (logit scale Q K) (dprob DO V) r s * Q r e) * scale
/-- The gradient of a head's values, from the first `M` query rows. -/
def headValue (M s e : ℕ) : ℝ := ∑ r ∈ Finset.range M, prob 0 2048 (logit scale Q K) r s * DO r e

variable {Q K V DO}

theorem band_query (i : ℕ) (hi : i < 8) (r e : ℕ) (hr : r < 256) :
    dQuery (256 * i) (256 * i + 256) scale (logit scale (fun r e => Q (256 * i + r) e) K) (dprob (fun r e => DO (256 * i + r) e) V) K r e
      = headQuery Q K V DO (256 * i + r) e := by
  unfold headQuery dQuery
  congr 1
  rw [sum_seen (n := 256 * i) (N := 256 * i + 256) _ (by omega : 256 * i + 256 ≤ 2048) fun s hs => by rw [dlogit_unseen _ _ (by omega), zero_mul]]
  exact Finset.sum_congr rfl fun s _ => congrArg (· * K s e)
    (dlogit_band (N' := 2048) (logit scale Q K) (dprob DO V) (by omega : 256 * i + r < 256 * i + 256) (by omega) s)

theorem band_key (i : ℕ) (hi : i < 8) (s e : ℕ) :
    headKey Q K V DO (256 * i) s e + dKey (256 * i) (256 * i + 256) scale (logit scale (fun r e => Q (256 * i + r) e) K)
        (dprob (fun r e => DO (256 * i + r) e) V) (fun r e => Q (256 * i + r) e) s e
      = headKey Q K V DO (256 * i + 256) s e := by
  unfold headKey dKey
  rw [Finset.sum_range_add, add_mul]
  congr 2
  exact Finset.sum_congr rfl fun r hr => congrArg (· * Q (256 * i + r) e)
    (dlogit_band (N' := 2048) (logit scale Q K) (dprob DO V) (by have := Finset.mem_range.1 hr; omega : 256 * i + r < 256 * i + 256) (by omega) s)

theorem band_value (i : ℕ) (hi : i < 8) (s e : ℕ) :
    headValue Q K DO (256 * i) s e + dValue (256 * i) (256 * i + 256) (logit scale (fun r e => Q (256 * i + r) e) K) (fun r e => DO (256 * i + r) e) s e
      = headValue Q K DO (256 * i + 256) s e := by
  unfold headValue dValue
  rw [Finset.sum_range_add]
  congr 1
  exact Finset.sum_congr rfl fun r hr => congrArg (· * DO (256 * i + r) e)
    (prob_band (N' := 2048) (logit scale Q K) (by have := Finset.mem_range.1 hr; omega : 256 * i + r < 256 * i + 256) (by omega) s)

/-- What the kernel's four arrays hold at the region's entry. -/
structure Arrays (m : (ℓ : Loc nD τ sig) → Buf (Elt Ideal) ℓ) (c : Dev nD) (Q K V DO : ℕ → ℕ → ℝ) : Prop where
  q : IsR (a := 4096) (b := 512) (φ := .bf16) (Gen.V m c main_v8) Q
  k : IsR (a := 4096) (b := 512) (φ := .bf16) (Gen.V m c main_v11) K
  v : IsR (a := 4096) (b := 512) (φ := .bf16) (Gen.V m c main_v14) V
  g : ∀ (R : Fin 4096) (C : Fin 512), (Gen.V m c main_v5 : FVec Ideal (Mat 4096 1536) .f32) (ix2 R ⟨256 + C, by omega⟩) = ((DO R C : ℝ) : EReal)

variable {m : (ℓ : Loc nD τ sig) → Buf (Elt Ideal) ℓ} {c : Dev nD}

theorem Arrays.reads (h : Arrays m c Q K V DO) (t : Fin cfg0.N) :
    Reads m c t (fun r e => part (t.val / 8) Q (256 * (t.val % 8) + r) e) (part (t.val / 8) K) (part (t.val / 8) V)
      (fun r e => part (t.val / 8) DO (256 * (t.val % 8) + r) e) :=
  ⟨block_q m c t h.q, block_k m c t h.k, block_v m c t h.v, block_do m c t h.g⟩

/-- What a point has left once its band is added. -/
abbrev After (m : (ℓ : Loc nD τ sig) → Buf (Elt Ideal) ℓ) (c : Dev nD) (t : Fin cfg0.N) (Q K V DO : ℕ → ℕ → ℝ) (i : ℕ) : Prop :=
  Leaves (outsAt0 m c t.val t.isLt) (fun r e => headQuery Q K V DO (256 * i + r) e) (headKey Q K V DO (256 * i + 256)) (headValue Q K DO (256 * i + 256))

theorem Adds.after {t : Fin cfg0.N} (i : ℕ) (hi : i < 8)
    (h : Adds m c t (256 * i) (256 * i + 256) (fun r e => Q (256 * i + r) e) K V (fun r e => DO (256 * i + r) e)
      (headKey Q K V DO (256 * i)) (headValue Q K DO (256 * i))) : After m c t Q K V DO i :=
  ⟨h.dq.congr fun r hr e _ => band_query i hi r e hr, h.dk.congr fun s _ e _ => band_key i hi s e, h.dv.congr fun s _ e _ => band_value i hi s e⟩

theorem point_after (h : Arrays m c Q K V DO) (i : ℕ) (hi : i < 8) : ∀ t : Fin cfg0.N, t.val % 8 = i →
    After m c t (part (t.val / 8) Q) (part (t.val / 8) K) (part (t.val / 8) V) (part (t.val / 8) DO) i := by
  induction i with
  | zero =>
    intro t ht
    have hr := h.reads t
    rw [ht] at hr
    refine Adds.after 0 hi ?_
    have := adds_0 ht hr
    unfold Adds at this ⊢
    simpa [headKey, headValue] using this
  | succ i ih =>
    intro t ht
    have hr := h.reads t
    rw [ht] at hr
    refine Adds.after (i + 1) hi ?_
    have hb := ih (by omega) ⟨t.val - 1, Nat.lt_of_le_of_lt (Nat.sub_le _ _) t.isLt⟩ (by show (t.val - 1) % 8 = i; omega)
    have hg : (t.val - 1) / 8 = t.val / 8 := by omega
    simp only [After, hg] at hb
    have hi' : i < 7 := by omega
    clear hi ih
    interval_cases i
    · exact adds_1 ht hr hb
    · exact adds_2 ht hr hb
    · exact adds_3 ht hr hb
    · exact adds_4 ht hr hb
    · exact adds_5 ht hr hb
    · exact adds_6 ht hr hb
    · exact adds_7 ht hr hb

theorem point_stores (h : Arrays m c Q K V DO) (t : Fin cfg0.N) (ht : t.val % 8 = 7) :
    IsR (a := 2048) (b := 128) (φ := .f32) (outsAt0 m c t.val t.isLt).2.1
      (headKey (part (t.val / 8) Q) (part (t.val / 8) K) (part (t.val / 8) V) (part (t.val / 8) DO) 2048) ∧
    IsR (a := 2048) (b := 128) (φ := .f32) (outsAt0 m c t.val t.isLt).2.2.1
      (headValue (part (t.val / 8) Q) (part (t.val / 8) K) (part (t.val / 8) DO) 2048) := by
  have hr := h.reads t
  rw [ht] at hr
  have hb := point_after h 6 (by omega) ⟨t.val - 1, Nat.lt_of_le_of_lt (Nat.sub_le _ _) t.isLt⟩ (by show (t.val - 1) % 8 = 6; omega)
  have hg : (t.val - 1) / 8 = t.val / 8 := by omega
  simp only [After, hg] at hb
  have hs := stores_7 ht hr hb
  exact ⟨hs.1.congr fun s _ e _ => band_key 7 (by omega) s e, hs.2.congr fun s _ e _ => band_value 7 (by omega) s e⟩

/-- Group `C / 128` of batch `R / 2048`, at the row and column within it. -/
def whole (f : ℕ → ℕ → ℕ → ℝ) (R C : ℕ) : ℝ := f (R / 2048 * 4 + C / 128) (R % 2048) (C % 128)

theorem place_dq (t : Fin cfg0.N) (r : Fin 256) (e : Fin 128) {R : Fin 4096} {C : Fin 512}
    (hR : R.val = 2048 * (t.val / 32) + (256 * (t.val % 8) + r.val)) (hC : C.val = 128 * (t.val / 8 % 4) + e.val) :
    ((dats m 0 c).arrAt 4 cfg0.N : FVec Ideal (Mat 4096 512) .f32) (ix2 R C) = (outsAt0 m c t.val t.isLt).1 (ix2 r e) := by
  have hb := Value.blocks4 m c t (flush0_4 t)
  rw [Value.flushed4] at hb
  have he := congrFun hb (ix2 r e)
  rw [View.read_apply] at he
  refine Eq.trans ?_ he
  have hi := at_dq t
  congr 1
  funext a
  apply Fin.ext
  match a with
  | ⟨0, _⟩ => show R.val = win0_4.index t 0 * 256 + 1 * r.val; rw [hi.1]; omega
  | ⟨1, _⟩ => show C.val = win0_4.index t 1 * 128 + 1 * e.val; rw [hi.2]; omega

theorem apart_dk : ∀ t t' : Fin cfg0.N, (cfg0.win 5).flush t = true → (cfg0.win 5).flush t' = true → t ≠ t' →
    Disjoint ((cfg0.win 5).blk t).view.set ((cfg0.win 5).blk t').view.set := fun t t' hf hf' hne => by
  have h1 := (flush0_5 t).1 hf
  have h2 := (flush0_5 t').1 hf'
  refine (cfg0.win 5).disjoint_blk fun h => hne (Fin.ext ?_)
  have a : win0_5.index t = win0_5.index t' := h
  have a0 := congrFun a 0
  have a1 := congrFun a 1
  rw [(at_dk t).1, (at_dk t').1] at a0
  rw [(at_dk t).2, (at_dk t').2] at a1
  omega

theorem apart_dv : ∀ t t' : Fin cfg0.N, (cfg0.win 6).flush t = true → (cfg0.win 6).flush t' = true → t ≠ t' →
    Disjoint ((cfg0.win 6).blk t).view.set ((cfg0.win 6).blk t').view.set := fun t t' hf hf' hne => by
  have h1 := (flush0_6 t).1 hf
  have h2 := (flush0_6 t').1 hf'
  refine (cfg0.win 6).disjoint_blk fun h => hne (Fin.ext ?_)
  have a : win0_6.index t = win0_6.index t' := h
  have a0 := congrFun a 0
  have a1 := congrFun a 1
  rw [(at_dv t).1, (at_dv t').1] at a0
  rw [(at_dv t).2, (at_dv t').2] at a1
  omega

theorem place_dk (t : Fin cfg0.N) (ht : t.val % 8 = 7) (r : Fin 2048) (e : Fin 128) {R : Fin 4096} {C : Fin 512}
    (hR : R.val = 2048 * (t.val / 32) + r.val) (hC : C.val = 128 * (t.val / 8 % 4) + e.val) :
    ((dats m 0 c).arrAt 5 cfg0.N : FVec Ideal (Mat 4096 512) .f32) (ix2 R C) = (outsAt0 m c t.val t.isLt).2.1 (ix2 r e) := by
  have hb := (dats m 0 c).read_blk_arrAt_eq_flushed 5 apart_dk cfg0.N t t.isLt ((flush0_5 t).2 ht)
  rw [Value.flushed5] at hb
  have he := congrFun hb (ix2 r e)
  rw [View.read_apply] at he
  refine Eq.trans ?_ he
  have hi := at_dk t
  congr 1
  funext a
  apply Fin.ext
  match a with
  | ⟨0, _⟩ => show R.val = win0_5.index t 0 * 2048 + 1 * r.val; rw [hi.1]; omega
  | ⟨1, _⟩ => show C.val = win0_5.index t 1 * 128 + 1 * e.val; rw [hi.2]; omega

theorem place_dv (t : Fin cfg0.N) (ht : t.val % 8 = 7) (r : Fin 2048) (e : Fin 128) {R : Fin 4096} {C : Fin 512}
    (hR : R.val = 2048 * (t.val / 32) + r.val) (hC : C.val = 128 * (t.val / 8 % 4) + e.val) :
    ((dats m 0 c).arrAt 6 cfg0.N : FVec Ideal (Mat 4096 512) .f32) (ix2 R C) = (outsAt0 m c t.val t.isLt).2.2.1 (ix2 r e) := by
  have hb := (dats m 0 c).read_blk_arrAt_eq_flushed 6 apart_dv cfg0.N t t.isLt ((flush0_6 t).2 ht)
  rw [Value.flushed6] at hb
  have he := congrFun hb (ix2 r e)
  rw [View.read_apply] at he
  refine Eq.trans ?_ he
  have hi := at_dv t
  congr 1
  funext a
  apply Fin.ext
  match a with
  | ⟨0, _⟩ => show R.val = win0_6.index t 0 * 2048 + 1 * r.val; rw [hi.1]; omega
  | ⟨1, _⟩ => show C.val = win0_6.index t 1 * 128 + 1 * e.val; rw [hi.2]; omega

/-- A grid point by its head's group and its band. -/
theorem point_of {g i : ℕ} (hg : g < 8) (hi : i < 8) : ∃ t : Fin cfg0.N, t.val / 8 = g ∧ t.val % 8 = i :=
  ⟨⟨g * 8 + i, by have : grid0.N = 64 := N_0; show _ < grid0.N; omega⟩, by show (g * 8 + i) / 8 = g; omega, by show (g * 8 + i) % 8 = i; omega⟩

theorem array_dq (h : Arrays m c Q K V DO) :
    IsR (a := 4096) (b := 512) (φ := .f32) ((dats m 0 c).arrAt 4 cfg0.N) (whole fun g => headQuery (part g Q) (part g K) (part g V) (part g DO)) := by
  intro R C
  obtain ⟨t, hg, hi⟩ := point_of (g := R.val / 2048 * 4 + C.val / 128) (i := R.val % 2048 / 256) (by omega) (by omega)
  have hp := (point_after h (R.val % 2048 / 256) (by omega) t hi).dq ⟨R.val % 256, by omega⟩ ⟨C.val % 128, by omega⟩
  refine (place_dq t ⟨R.val % 256, by omega⟩ ⟨C.val % 128, by omega⟩ ?_ ?_).trans (hp.trans ?_)
  · show R.val = 2048 * (t.val / 32) + (256 * (t.val % 8) + R.val % 256); omega
  · show C.val = 128 * (t.val / 8 % 4) + C.val % 128; omega
  · rw [hg]
    unfold whole
    congr 2
    show 256 * (R.val % 2048 / 256) + R.val % 256 = R.val % 2048
    omega

theorem array_dk (h : Arrays m c Q K V DO) :
    IsR (a := 4096) (b := 512) (φ := .f32) ((dats m 0 c).arrAt 5 cfg0.N) (whole fun g => headKey (part g Q) (part g K) (part g V) (part g DO) 2048) := by
  intro R C
  obtain ⟨t, hg, hi⟩ := point_of (g := R.val / 2048 * 4 + C.val / 128) (i := 7) (by omega) (by omega)
  have hp := (point_stores h t hi).1 ⟨R.val % 2048, by omega⟩ ⟨C.val % 128, by omega⟩
  rw [hg] at hp
  refine (place_dk t hi ⟨R.val % 2048, by omega⟩ ⟨C.val % 128, by omega⟩ ?_ ?_).trans hp
  · show R.val = 2048 * (t.val / 32) + R.val % 2048; omega
  · show C.val = 128 * (t.val / 8 % 4) + C.val % 128; omega

theorem array_dv (h : Arrays m c Q K V DO) :
    IsR (a := 4096) (b := 512) (φ := .f32) ((dats m 0 c).arrAt 6 cfg0.N) (whole fun g => headValue (part g Q) (part g K) (part g DO) 2048) := by
  intro R C
  obtain ⟨t, hg, hi⟩ := point_of (g := R.val / 2048 * 4 + C.val / 128) (i := 7) (by omega) (by omega)
  have hp := (point_stores h t hi).2 ⟨R.val % 2048, by omega⟩ ⟨C.val % 128, by omega⟩
  rw [hg] at hp
  refine (place_dv t hi ⟨R.val % 2048, by omega⟩ ⟨C.val % 128, by omega⟩ ?_ ?_).trans hp
  · show R.val = 2048 * (t.val / 32) + R.val % 2048; omega
  · show C.val = 128 * (t.val / 8 % 4) + C.val % 128; omega

end Cert.Attn
-- ==== Proof.Ref.lean ====
module

public import proofs.«01_k».proof.Proof.Bands
public import proofs.«01_k».proof.Proof.Gen.ReferenceIdeal.Read
public import Idealize.ShloMosaic.Lib.Claim

@[expose] public section

/-! # The reference's gradients

Its stages one after the other, at one head of one batch entry. -/

noncomputable section

namespace Cert.Attn

open Idealize.ShloMosaic Idealize.ShloMosaic.TcCoe Idealize.SL.Sem
open Cert.ReferenceIdeal Cert.ReferenceIdeal.Gen Cert.ReferenceIdeal.Read

/-- One head of one batch entry: the arguments' entries there are real numbers. -/
structure Head (x0 x1 : FVec Ideal S2x2048x4x96 .f32) (x2 : FVec Ideal S2x2048x4x64 .f32) (x3 : FVec Ideal S2x2048x256 .f32)
    (b : Fin 2) (h : Fin 4) (Q K V DO : ℕ → ℕ → ℝ) : Prop where
  q : ∀ s d, x0 (ix4 b s h d) = ((Q s d : ℝ) : EReal)
  k : ∀ s d, x1 (ix4 b s h d) = ((K s d : ℝ) : EReal)
  v : ∀ s e, x2 (ix4 b s h e) = ((V s e : ℝ) : EReal)
  g : ∀ s (e : Fin 64), x3 (ix3 b s ⟨h * 64 + e, by omega⟩) = ((DO s e : ℝ) : EReal)

/-- The reference's logits. -/
def rlogit (Q K : ℕ → ℕ → ℝ) (r s : ℕ) : ℝ := (∑ d ∈ Finset.range 96, Q r d * K s d) * scale
/-- The reference's gradients of the weights. -/
def rdprob (DO V : ℕ → ℕ → ℝ) (r s : ℕ) : ℝ := ∑ e ∈ Finset.range 64, DO r e * V s e

variable {x0 x1 : FVec Ideal S2x2048x4x96 .f32} {x2 : FVec Ideal S2x2048x4x64 .f32} {x3 : FVec Ideal S2x2048x256 .f32}
  {b : Fin 2} {h : Fin 4} {Q K V DO : ℕ → ℕ → ℝ}

theorem Head.logit (H : Head x0 x1 x2 x3 b h Q K V DO) (q s : Fin 2048) :
    val_main_v2 (F := Ideal) x0 x1 (ix4 b h q s) = ((rlogit Q K q s : ℝ) : EReal) := by
  unfold val_main_v2 val_main_v1 val_main_v0 val_main_cst
  pointwise
  unfold rlogit
  rw [EReal.coe_mul, ← coe_sum_range, ← scale_word]
  congr 1
  exact Finset.sum_congr rfl fun d _ => by rw [H.q, H.k, EReal.coe_mul]

theorem seen (q s : Fin 2048) : val_main_v8 (F := Ideal) (ix2 q s) = if s.val ≤ q.val then 1#1 else 0#1 := by
  unfold val_main_v8 val_main_v7 val_main_v6 val_main_v5 val_main_v4 val_main_v3
  pointwise
  have e : (BitVec.ofNat 32 s).sle (BitVec.ofNat 32 q) = decide (s.val ≤ q.val) := by
    have hq := q.isLt
    have hs := s.isLt
    rw [BitVec.sle_eq_decide, BitVec.toInt_eq_toNat_of_lt (by simp; omega), BitVec.toInt_eq_toNat_of_lt (by simp; omega)]
    simp only [BitVec.toNat_ofNat, Nat.mod_eq_of_lt (show s.val < 2 ^ 32 by omega), Nat.mod_eq_of_lt (show q.val < 2 ^ 32 by omega), Nat.cast_le]
  simp only [IntOp.cmpi, e]
  by_cases hs : s.val ≤ q.val
  · simp [hs]
  · rw [if_neg hs, decide_eq_false hs]; rfl

theorem Head.masked (H : Head x0 x1 x2 x3 b h Q K V DO) (q s : Fin 2048) :
    val_main_v9_0 (F := Ideal) x0 x1 (ix4 b h q s) = if s.val ≤ q.val then ((rlogit Q K q s : ℝ) : EReal) else ⊥ := by
  unfold val_main_v9_0 val_main_v9_1 val_main_call0_v2 val_main_call0_v0 val_main_cst_0
  pointwise
  rw [seen]
  split
  · exact H.logit q s
  · exact negInf

theorem Head.top (H : Head x0 x1 x2 x3 b h Q K V DO) (q : Fin 2048) : ∃ m : ℝ, val_main_v10 (F := Ideal) x0 x1 (ix3 b h q) = ((m : ℝ) : EReal) := by
  have e : val_main_v10 (F := Ideal) x0 x1 (ix3 b h q) = Finset.fold max (Ideal.ofBits .f32 0xFF800000#32) (fun s => val_main_v9_0 (F := Ideal) x0 x1 (ix4 b h q s)) Finset.univ := by
    unfold val_main_v10 val_main_cst_1
    pointwise
  rw [e, negInf]
  refine ⟨EReal.toReal _, (EReal.coe_toReal ?_ ?_).symm⟩
  · refine ne_of_lt ((Finset.fold_max_lt _).2 ⟨bot_lt_top, fun s _ => ?_⟩)
    rw [H.masked]
    split
    · exact EReal.coe_lt_top _
    · exact bot_lt_top
  · refine ne_of_gt ((Finset.lt_fold_max _).2 (.inr ⟨q, Finset.mem_univ _, ?_⟩))
    rw [H.masked, if_pos le_rfl]
    exact EReal.bot_lt_coe _

theorem top_eq (i : S2x4x2048.Idx) : val_main_v17 (F := Ideal) x0 x1 i = max (⊥ : EReal) (val_main_v10 (F := Ideal) x0 x1 i) := by
  rw [val_main_v17_apply, val_main_v16_apply, val_main_cst_3_apply]
  generalize val_main_v10 (F := Ideal) x0 x1 i = z
  rw [Ideal.maximumf_def]
  exact congrArg (fun x : EReal => max x z) negInf

theorem shifted (q s : Fin 2048) : val_main_v30 (F := Ideal) x0 x1 (ix4 b h q s)
    = Ideal.exp (val_main_v9_0 (F := Ideal) x0 x1 (ix4 b h q s) - val_main_v17 (F := Ideal) x0 x1 (ix3 b h q)) := by
  unfold val_main_v30 val_main_v29 val_main_v28 val_main_v27
  generalize val_main_v9_0 (F := Ideal) x0 x1 = y
  generalize val_main_v17 (F := Ideal) x0 x1 = z
  pointwise

/-- The exponentials, the row's top taken off. -/
theorem Head.weights (H : Head x0 x1 x2 x3 b h Q K V DO) : ∃ m : ℕ → ℝ, ∀ q s : Fin 2048,
    val_main_v30 (F := Ideal) x0 x1 (ix4 b h q s) = ((wt 0 (fun r s => rlogit Q K r s - m r) q s : ℝ) : EReal) := by
  choose m hm using H.top
  refine ⟨fun r => if hr : r < 2048 then m ⟨r, hr⟩ else 0, fun q s => ?_⟩
  rw [shifted, top_eq, H.masked, hm, bot_sup_eq]
  have e : (if hr : (q : ℕ) < 2048 then m ⟨q, hr⟩ else 0) = m q := dif_pos q.2
  unfold wt
  rw [zero_add]
  change _ = (((if s.val ≤ q.val then Real.exp (rlogit Q K q s - (if hr : (q : ℕ) < 2048 then m ⟨q, hr⟩ else 0)) else 0 : ℝ)) : EReal)
  rw [e]
  split
  · rw [← EReal.coe_sub]; rfl
  · rw [EReal.bot_sub]; rfl

section Rows

variable {m : ℕ → ℝ} (hw : ∀ q s : Fin 2048, val_main_v30 (F := Ideal) x0 x1 (ix4 b h q s) = ((wt 0 (fun r s => rlogit Q K r s - m r) q s : ℝ) : EReal))

/-- The sum of a row's exponentials. -/
def total (Q K : ℕ → ℕ → ℝ) (m : ℕ → ℝ) (r : ℕ) : ℝ := ∑ s ∈ Finset.range 2048, wt 0 (fun r s => rlogit Q K r s - m r) r s

theorem total_ne (r : ℕ) : total Q K m r ≠ 0 := (wt_sum_pos _ r (by omega)).ne'

include hw in
theorem row_total (q : Fin 2048) : val_main_v31 (F := Ideal) x0 x1 (ix3 b h q) = ((total Q K m q : ℝ) : EReal) := by
  unfold val_main_v31 val_main_cst_9
  pointwise
  unfold total
  rw [← coe_sum_range]
  exact Finset.sum_congr rfl fun s _ => hw q s

include hw in
theorem row_prob (q s : Fin 2048) : val_main_v34 (F := Ideal) x0 x1 (ix4 b h q s) = ((prob 0 2048 (rlogit Q K) q s : ℝ) : EReal) := by
  unfold val_main_v34 val_main_v33 val_main_v32
  pointwise
  rw [row_total hw, hw, Ideal.div_coe (total_ne _)]
  rw [← prob_shift 0 2048 (rlogit Q K) m, ← EReal.coe_mul, mul_one_div]
  rfl

include hw in
theorem row_square (q : Fin 2048) : val_main_v37 (F := Ideal) x0 x1 (ix4 b h q 0) = ((1 / (total Q K m q * total Q K m q) : ℝ) : EReal) := by
  unfold val_main_v37 val_main_v36 val_main_v35 val_main_v32 val_main_cst_10
  pointwise
  rw [row_total hw, ← EReal.coe_mul, Ideal.div_coe (mul_ne_zero (total_ne _) (total_ne _)), one_mul]

end Rows

theorem Head.dprob (H : Head x0 x1 x2 x3 b h Q K V DO) (q s : Fin 2048) : val_main_v43 (F := Ideal) x2 x3 (ix4 b h q s) = ((rdprob DO V q s : ℝ) : EReal) := by
  unfold val_main_v43 val_main_v42 val_main_v41
  pointwise
  unfold rdprob
  rw [← coe_sum_range]
  exact Finset.sum_congr rfl fun e _ => by rw [H.g, H.v, EReal.coe_mul]

theorem picked (x y : EReal) : Scalar.select (1#1) x y = x := rfl

theorem opened (q s : Fin 2048) : val_main_v60 (F := Ideal) x0 x1 x2 x3 (ix4 b h q s)
    = Scalar.select (val_main_v8 (F := Ideal) (ix2 q s))
        ((Ideal.div (val_main_v43 (F := Ideal) x2 x3 (ix4 b h q s)) (val_main_v31 (F := Ideal) x0 x1 (ix3 b h q))
            + -∑ x, val_main_v43 (F := Ideal) x2 x3 (ix4 b h q x) * val_main_v37 (F := Ideal) x0 x1 (ix4 b h q 0) * val_main_v30 (F := Ideal) x0 x1 (ix4 b h q x))
          * val_main_v30 (F := Ideal) x0 x1 (ix4 b h q s) * Ideal.ofBits .f32 0x3DD105EC#32) (0 : EReal) := by
  unfold val_main_v60 val_main_v59 val_main_v58 val_main_v57 val_main_v56 val_main_v55 val_main_v54 val_main_v53 val_main_v52 val_main_v51 val_main_v50 val_main_v49 val_main_v48 val_main_v47 val_main_v46 val_main_cst_13 val_main_cst_12 val_main_cst_11 val_main_call1_v0 val_main_call1_cst val_main_v9_1 val_main_v32
  generalize val_main_v8 (F := Ideal) = u
  generalize val_main_v30 (F := Ideal) x0 x1 = w
  generalize val_main_v31 (F := Ideal) x0 x1 = z
  generalize val_main_v37 (F := Ideal) x0 x1 = y
  generalize val_main_v43 (F := Ideal) x2 x3 = g
  pointwise
  rw [Fin.sum_univ_one]

theorem Head.dlogit (H : Head x0 x1 x2 x3 b h Q K V DO) (q s : Fin 2048) :
    val_main_v60 (F := Ideal) x0 x1 x2 x3 (ix4 b h q s) = ((Attn.dlogit 0 2048 (rlogit Q K) (rdprob DO V) q s * scale : ℝ) : EReal) := by
  obtain ⟨m, hw⟩ := H.weights
  rw [opened, seen, H.dprob, row_total hw, row_square hw, hw, Ideal.div_coe (total_ne _)]
  have e : (∑ x : Fin 2048, val_main_v43 (F := Ideal) x2 x3 (ix4 b h q x) * (((1 / (total Q K m q * total Q K m q) : ℝ)) : EReal) * val_main_v30 (F := Ideal) x0 x1 (ix4 b h q x))
      = ((∑ x ∈ Finset.range 2048, rdprob DO V q x * (1 / (total Q K m q * total Q K m q)) * wt 0 (fun r s => rlogit Q K r s - m r) q x : ℝ) : EReal) := by
    rw [← coe_sum_range]
    exact Finset.sum_congr rfl fun x _ => by rw [H.dprob, hw, EReal.coe_mul, EReal.coe_mul]
  rw [e]
  have hp : ∀ s, prob 0 2048 (rlogit Q K) q s = wt 0 (fun r s => rlogit Q K r s - m r) q s / total Q K m q := fun s => by
    rw [← prob_shift 0 2048 (rlogit Q K) m]; rfl
  rw [show (Ideal.ofBits .f32 0x3DD105EC#32 : EReal) = ((scale : ℝ) : EReal) from scale_word]
  split
  · rw [picked, ← EReal.coe_neg, ← EReal.coe_mul, ← EReal.coe_add, ← EReal.coe_mul, ← EReal.coe_mul]
    congr 2
    unfold Attn.dlogit
    simp only [hp]
    have hz : total Q K m q ≠ 0 := total_ne _
    rw [show (∑ x ∈ Finset.range 2048, rdprob DO V q x * (1 / (total Q K m q * total Q K m q)) * wt 0 (fun r s => rlogit Q K r s - m r) q x)
      = (∑ x ∈ Finset.range 2048, wt 0 (fun r s => rlogit Q K r s - m r) q x / total Q K m q * rdprob DO V q x) * (1 / total Q K m q) by
        rw [Finset.sum_mul]
        exact Finset.sum_congr rfl fun x _ => by field_simp]
    generalize (∑ x ∈ Finset.range 2048, wt 0 (fun r s => rlogit Q K r s - m r) q x / total Q K m q * rdprob DO V q x) = S
    field_simp
    ring
  · rw [dlogit_unseen _ _ (by omega), zero_mul]; rfl

theorem Head.dk (H : Head x0 x1 x2 x3 b h Q K V DO) (s : Fin 2048) (d : Fin 96) :
    val_main_v62 (F := Ideal) x0 x1 x2 x3 (ix4 b s h d) = (((∑ r ∈ Finset.range 2048, Attn.dlogit 0 2048 (rlogit Q K) (rdprob DO V) r s * Q r d) * scale : ℝ) : EReal) := by
  unfold val_main_v62 val_main_v61
  pointwise
  rw [Finset.sum_mul, ← coe_sum_range]
  exact Finset.sum_congr rfl fun r _ => by rw [H.dlogit, H.q, ← EReal.coe_mul, mul_right_comm]

theorem Head.dq (H : Head x0 x1 x2 x3 b h Q K V DO) (r : Fin 2048) (d : Fin 96) :
    val_main_v64 (F := Ideal) x0 x1 x2 x3 (ix4 b r h d) = (((∑ s ∈ Finset.range 2048, Attn.dlogit 0 2048 (rlogit Q K) (rdprob DO V) r s * K s d) * scale : ℝ) : EReal) := by
  unfold val_main_v64 val_main_v63
  pointwise
  rw [Finset.sum_mul, ← coe_sum_range]
  exact Finset.sum_congr rfl fun s _ => by rw [H.dlogit, H.k, ← EReal.coe_mul, mul_right_comm]

theorem Head.dv (H : Head x0 x1 x2 x3 b h Q K V DO) (s : Fin 2048) (e : Fin 64) :
    val_main_v45 (F := Ideal) x0 x1 x3 (ix4 b s h e) = ((∑ r ∈ Finset.range 2048, prob 0 2048 (rlogit Q K) r s * DO r e : ℝ) : EReal) := by
  obtain ⟨m, hw⟩ := H.weights
  unfold val_main_v45 val_main_v44 val_main_v42 val_main_v41
  pointwise
  rw [← coe_sum_range]
  exact Finset.sum_congr rfl fun r _ => by rw [H.g, row_prob hw, ← EReal.coe_mul, mul_comm]

end Cert.Attn
-- ==== Proof.Same.lean ====
module

public import proofs.«01_k».proof.Proof.Total
public import proofs.«01_k».proof.Proof.Ref

@[expose] public section

/-! # The two programs' results are the same real numbers

The zeros beside a head add nothing to its products, and the gradients there are zero. -/

noncomputable section

namespace Cert.Attn

open Idealize.ShloMosaic Idealize.ShloMosaic.TcCoe Idealize.SL.Sem

theorem part_wide {w g r e : ℕ} (x : ℕ → ℕ → ℕ → ℕ → ℝ) (hr : r < 2048) (he : e < 128) :
    part g (wide w x) r e = if e < w then x (g / 4) r (g % 4) e else 0 := by
  unfold part wide
  rw [show (128 * (g % 4) + e) % 128 = e by omega, show (128 * (g % 4) + e) / 128 = g % 4 by omega,
    show (2048 * (g / 4) + r) / 2048 = g / 4 by omega, show (2048 * (g / 4) + r) % 2048 = r by omega]

/-- A sum whose terms past the first `w` are zero. -/
theorem sum_pad {n w : ℕ} (hw : w ≤ n) {f f' : ℕ → ℝ} (h : ∀ e < w, f e = f' e) (h0 : ∀ e, w ≤ e → e < n → f e = 0) :
    ∑ e ∈ Finset.range n, f e = ∑ e ∈ Finset.range w, f' e := by
  obtain ⟨d, rfl⟩ := Nat.exists_eq_add_of_le hw
  rw [Finset.sum_range_add, Finset.sum_congr rfl fun e he => h e (Finset.mem_range.1 he),
    Finset.sum_eq_zero (s := Finset.range d) fun e he => h0 _ (by omega) (by have := Finset.mem_range.1 he; omega), add_zero]

theorem prob_congr {n N : ℕ} {A B : ℕ → ℕ → ℝ} {r : ℕ} (h : ∀ s < N, A r s = B r s) {s : ℕ} (hs : s < N) :
    prob n N A r s = prob n N B r s := by
  have e : ∀ s < N, wt n A r s = wt n B r s := fun s hs => by unfold wt; rw [h s hs]
  unfold prob
  rw [e s hs, Finset.sum_congr rfl fun s hs => e s (Finset.mem_range.1 hs)]

theorem dlogit_congr {n N : ℕ} {A B G H : ℕ → ℕ → ℝ} {r : ℕ} (h : ∀ s < N, A r s = B r s) (hG : ∀ s < N, G r s = H r s) {s : ℕ} (hs : s < N) :
    dlogit n N A G r s = dlogit n N B H r s := by
  unfold dlogit
  rw [prob_congr h hs, hG s hs, Finset.sum_congr rfl fun s hs => by rw [prob_congr h (Finset.mem_range.1 hs), hG s (Finset.mem_range.1 hs)]]

variable (q k v d : ℕ → ℕ → ℕ → ℕ → ℝ)

/-- One head of one batch entry. -/
abbrev one (x : ℕ → ℕ → ℕ → ℕ → ℝ) (b h s e : ℕ) : ℝ := x b s h e

/-- The gradients, head by head. -/
def gradQ (b r h e : ℕ) : ℝ := (∑ s ∈ Finset.range 2048, dlogit 0 2048 (rlogit (one q b h) (one k b h)) (rdprob (one d b h) (one v b h)) r s * one k b h s e) * scale
def gradK (b s h e : ℕ) : ℝ := (∑ r ∈ Finset.range 2048, dlogit 0 2048 (rlogit (one q b h) (one k b h)) (rdprob (one d b h) (one v b h)) r s * one q b h r e) * scale
def gradV (b s h e : ℕ) : ℝ := ∑ r ∈ Finset.range 2048, prob 0 2048 (rlogit (one q b h) (one k b h)) r s * one d b h r e

variable {q k v d}

theorem logit_part {g r s : ℕ} (hr : r < 2048) (hs : s < 2048) :
    logit scale (part g (wide 96 q)) (part g (wide 96 k)) r s = rlogit (one q (g / 4) (g % 4)) (one k (g / 4) (g % 4)) r s := by
  unfold logit rlogit
  refine congrArg (· * scale) (sum_pad (by omega) (fun e he => ?_) fun e he hn => ?_)
  · rw [part_wide q hr (by omega), part_wide k hs (by omega), if_pos he, if_pos he]
  · rw [part_wide q hr hn, if_neg (by omega), zero_mul]

theorem dprob_part {g r s : ℕ} (hr : r < 2048) (hs : s < 2048) :
    dprob (part g (wide 64 d)) (part g (wide 64 v)) r s = rdprob (one d (g / 4) (g % 4)) (one v (g / 4) (g % 4)) r s := by
  unfold dprob rdprob
  refine sum_pad (by omega) (fun e he => ?_) fun e he hn => ?_
  · rw [part_wide d hr (by omega), part_wide v hs (by omega), if_pos he, if_pos he]
  · rw [part_wide d hr hn, if_neg (by omega), zero_mul]

theorem dlogit_part {g r s : ℕ} (hr : r < 2048) (hs : s < 2048) :
    dlogit 0 2048 (logit scale (part g (wide 96 q)) (part g (wide 96 k))) (dprob (part g (wide 64 d)) (part g (wide 64 v))) r s
      = dlogit 0 2048 (rlogit (one q (g / 4) (g % 4)) (one k (g / 4) (g % 4))) (rdprob (one d (g / 4) (g % 4)) (one v (g / 4) (g % 4))) r s :=
  dlogit_congr (fun _ h => logit_part hr h) (fun _ h => dprob_part hr h) hs

theorem same_q {R C : ℕ} (hR : R < 4096) (hC : C < 512) :
    whole (fun g => headQuery (part g (wide 96 q)) (part g (wide 96 k)) (part g (wide 64 v)) (part g (wide 64 d))) R C = wide 96 (gradQ q k v d) R C := by
  have h4 : (R / 2048 * 4 + C / 128) / 4 = R / 2048 := by omega
  have hm : (R / 2048 * 4 + C / 128) % 4 = C / 128 := by omega
  unfold whole headQuery dQuery wide gradQ
  split <;> rename_i h
  · refine congrArg (· * scale) (Finset.sum_congr rfl fun s hs => ?_)
    have hs := Finset.mem_range.1 hs
    have e := part_wide (w := 96) (g := R / 2048 * 4 + C / 128) k hs (show C % 128 < 128 by omega)
    have l := dlogit_part (q := q) (k := k) (v := v) (d := d) (g := R / 2048 * 4 + C / 128) (r := R % 2048) (s := s) (by omega) hs
    rw [h4, hm] at e l
    rw [if_pos h] at e
    exact congrArg₂ (· * ·) l e
  · refine (congrArg (· * scale) (Finset.sum_eq_zero fun s hs => ?_)).trans (zero_mul scale)
    have hs := Finset.mem_range.1 hs
    have e := part_wide (w := 96) (g := R / 2048 * 4 + C / 128) k hs (show C % 128 < 128 by omega)
    rw [if_neg h] at e
    exact (congrArg _ e).trans (mul_zero _)

theorem same_k {R C : ℕ} (hR : R < 4096) (hC : C < 512) :
    whole (fun g => headKey (part g (wide 96 q)) (part g (wide 96 k)) (part g (wide 64 v)) (part g (wide 64 d)) 2048) R C = wide 96 (gradK q k v d) R C := by
  have h4 : (R / 2048 * 4 + C / 128) / 4 = R / 2048 := by omega
  have hm : (R / 2048 * 4 + C / 128) % 4 = C / 128 := by omega
  unfold whole headKey wide gradK
  split <;> rename_i h
  · refine congrArg (· * scale) (Finset.sum_congr rfl fun r hr => ?_)
    have hr := Finset.mem_range.1 hr
    have e := part_wide (w := 96) (g := R / 2048 * 4 + C / 128) q hr (show C % 128 < 128 by omega)
    have l := dlogit_part (q := q) (k := k) (v := v) (d := d) (g := R / 2048 * 4 + C / 128) (r := r) (s := R % 2048) hr (by omega)
    rw [h4, hm] at e l
    rw [if_pos h] at e
    exact congrArg₂ (· * ·) l e
  · refine (congrArg (· * scale) (Finset.sum_eq_zero fun r hr => ?_)).trans (zero_mul scale)
    have hr := Finset.mem_range.1 hr
    have e := part_wide (w := 96) (g := R / 2048 * 4 + C / 128) q hr (show C % 128 < 128 by omega)
    rw [if_neg h] at e
    exact (congrArg _ e).trans (mul_zero _)

theorem same_v {R C : ℕ} (hR : R < 4096) (hC : C < 512) :
    whole (fun g => headValue (part g (wide 96 q)) (part g (wide 96 k)) (part g (wide 64 d)) 2048) R C = wide 64 (gradV q k d) R C := by
  have h4 : (R / 2048 * 4 + C / 128) / 4 = R / 2048 := by omega
  have hm : (R / 2048 * 4 + C / 128) % 4 = C / 128 := by omega
  unfold whole headValue wide gradV
  split <;> rename_i h
  · refine Finset.sum_congr rfl fun r hr => ?_
    have hr := Finset.mem_range.1 hr
    have e := part_wide (w := 64) (g := R / 2048 * 4 + C / 128) d hr (show C % 128 < 128 by omega)
    have l := prob_congr (n := 0) (N := 2048) (r := r) (fun s hs => logit_part (q := q) (k := k) (g := R / 2048 * 4 + C / 128) hr hs) (s := R % 2048) (by omega)
    rw [h4, hm] at e l
    rw [if_pos h] at e
    exact congrArg₂ (· * ·) l e
  · refine Finset.sum_eq_zero fun r hr => ?_
    have hr := Finset.mem_range.1 hr
    have e := part_wide (w := 64) (g := R / 2048 * 4 + C / 128) d hr (show C % 128 < 128 by omega)
    rw [if_neg h] at e
    exact (congrArg _ e).trans (mul_zero _)

end Cert.Attn
-- ==== Proof.Finite.lean ====
module

public import proofs.«01_k».proof.Proof.Entry
public import proofs.«01_k».proof.Defs
public import proofs.«01_k».proof.Proof.Gen.Pre_all_finite
public import Idealize.ShloMosaic.Lib.ReduceAll
public import Idealize.ShloMosaic.Lib.KernelVsHost

@[expose] public section

/-! # What the precondition says: every entry of the four operands is a real number -/

noncomputable section

namespace Cert.Attn

open Idealize.ShloMosaic Idealize.ShloMosaic.TcCoe Idealize.SL.Sem

theorem real_of_word {x : Ideal .f32} (h : FloatOps.cmpf .olt (FloatOps.hostAbsf x) (FloatOps.ofBits (F := Ideal) .f32 0x7F800000#32) = 1#1) :
    ∃ r : ℝ, (x : EReal) = (r : EReal) := by
  rw [← Ideal.xori_weird_eq_hostAbsf_olt_inf] at h
  have hn : ¬ ((x : EReal) = ⊤ ∨ (x : EReal) = ⊥) := by
    intro hx
    have hw : FloatOps.weird x = 1#1 := by
      show BitVec.ofBool (decide ((x : EReal) = ⊤ ∨ (x : EReal) = ⊥)) = 1#1
      rw [decide_eq_true hx]; rfl
    rw [hw] at h
    exact absurd h (by decide)
  push Not at hn
  exact ⟨EReal.toReal x, (EReal.coe_toReal hn.1 hn.2).symm⟩

/-- One operand's test: `|x| < +∞` everywhere. -/
theorem real_of_all {s t u : Shape} [Subsingleton t.Idx] {axes : List (Fin s.rank)} {x : FVec Ideal s .f32} {init : u.Idx → BitVec 1} (hb : (⟨0, ![]⟩ : Shape).BroadcastsInDim s (![] : Fin 0 → Fin s.rank))
    {hr : s.ReducesTo axes t} {hu : 0 < u.numel} {j : t.Idx}
    (h : Host.reduce IntOp.andi (cmpf .olt (Host.absf x) (broadcastInDim s ![] hb (constant ⟨0, ![]⟩ .f32 0x7F800000#32))) init hr hu j = 1#1) (i : s.Idx) :
    ∃ r : ℝ, (x i : EReal) = (r : EReal) := by
  have e := Host.reduce_andi_all _ init hr hu j h i
  exact real_of_word e

instance : Subsingleton (Cert.Pre_all_finite.S_).Idx := ⟨fun a b => funext fun i => i.elim0⟩

open Cert.Pre_all_finite in
theorem real_of_pre [Cert.Pre_all_finite.Facts] {x0 x1 : FVec Ideal S2x2048x4x96 .f32} {x2 : FVec Ideal S2x2048x4x64 .f32} {x3 : FVec Ideal S2x2048x256 .f32}
    (h : fn (F := Ideal) x0 x1 x2 x3 = fun _ => 1#1) :
    (∀ i, ∃ r : ℝ, (x0 i : EReal) = r) ∧ (∀ i, ∃ r : ℝ, (x1 i : EReal) = r) ∧ (∀ i, ∃ r : ℝ, (x2 i : EReal) = r) ∧ ∀ i, ∃ r : ℝ, (x3 i : EReal) = r := by
  have e := congrFun h (fun i => i.elim0)
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨real_of_all _ e0, real_of_all _ e1, real_of_all _ e2, real_of_all _ e3⟩

/-- Real entries, as a function of natural numbers. -/
theorem choose4 {a b c d : ℕ} {x : FVec Ideal ⟨4, ![a, b, c, d]⟩ .f32} (h : ∀ i, ∃ r : ℝ, (x i : EReal) = r) :
    ∃ X : ℕ → ℕ → ℕ → ℕ → ℝ, ∀ (i : Fin a) (j : Fin b) (k : Fin c) (l : Fin d), (x (ix4 i j k l) : EReal) = ((X i j k l : ℝ) : EReal) := by
  choose f hf using h
  refine ⟨fun i j k l => if hi : i < a then if hj : j < b then if hk : k < c then if hl : l < d then f (ix4 ⟨i, hi⟩ ⟨j, hj⟩ ⟨k, hk⟩ ⟨l, hl⟩) else 0 else 0 else 0 else 0, fun i j k l => ?_⟩
  simp only [i.isLt, j.isLt, k.isLt, l.isLt, dif_pos]
  exact hf _

theorem choose3 {a b c : ℕ} {x : FVec Ideal ⟨3, ![a, b, c]⟩ .f32} (h : ∀ i, ∃ r : ℝ, (x i : EReal) = r) :
    ∃ X : ℕ → ℕ → ℕ → ℝ, ∀ (i : Fin a) (j : Fin b) (k : Fin c), (x (ix3 i j k) : EReal) = ((X i j k : ℝ) : EReal) := by
  choose f hf using h
  refine ⟨fun i j k => if hi : i < a then if hj : j < b then if hk : k < c then f (ix3 ⟨i, hi⟩ ⟨j, hj⟩ ⟨k, hk⟩) else 0 else 0 else 0, fun i j k => ?_⟩
  simp only [i.isLt, j.isLt, k.isLt, dif_pos]
  exact hf _

end Cert.Attn

end
-- ==== Proof.Agree.lean ====
module

public import proofs.«01_k».proof.Proof.Same
public import proofs.«01_k».proof.Proof.Finite

@[expose] public section

/-! # The two programs' results, array by array -/

noncomputable section

namespace Cert.Attn

open Idealize.ShloMosaic Idealize.ShloMosaic.TcCoe Idealize.SL.Sem

theorem IsR.same {a b : ℕ} {φ : FTy} {x y : FVec Ideal (Mat a b) φ} {X Y : ℕ → ℕ → ℝ} (hx : IsR x X) (hy : IsR y Y) (h : ∀ r < a, ∀ c < b, X r c = Y r c) : x = y := by
  funext i
  have e : ∀ (r : Fin a) (c : Fin b), x (ix2 r c) = y (ix2 r c) := fun r c => (hx r c).trans ((congrArg _ (h r r.isLt c c.isLt)).trans (hy r c).symm)
  rw [← ix2_eta i]
  exact e _ _

/-- The gradient of the output, by heads. -/
abbrev byHead (g : ℕ → ℕ → ℕ → ℝ) (b s h e : ℕ) : ℝ := g b s (64 * h + e)

/-- The four operands' entries are real numbers. -/
structure Operands (x0 x1 : FVec Ideal Cert.ReferenceIdeal.S2x2048x4x96 .f32) (x2 : FVec Ideal Cert.ReferenceIdeal.S2x2048x4x64 .f32)
    (x3 : FVec Ideal Cert.ReferenceIdeal.S2x2048x256 .f32) (q k v : ℕ → ℕ → ℕ → ℕ → ℝ) (g : ℕ → ℕ → ℕ → ℝ) : Prop where
  q : ∀ b s h d, x0 (ix4 b s h d) = ((q b s h d : ℝ) : EReal)
  k : ∀ b s h d, x1 (ix4 b s h d) = ((k b s h d : ℝ) : EReal)
  v : ∀ b s h e, x2 (ix4 b s h e) = ((v b s h e : ℝ) : EReal)
  g : ∀ b s e, x3 (ix3 b s e) = ((g b s e : ℝ) : EReal)

section Reference
open Cert.ReferenceIdeal Cert.ReferenceIdeal.Gen Cert.ReferenceIdeal.Read

variable {x0 x1 : FVec Ideal S2x2048x4x96 .f32} {x2 : FVec Ideal S2x2048x4x64 .f32} {x3 : FVec Ideal S2x2048x256 .f32}
  {q k v : ℕ → ℕ → ℕ → ℕ → ℝ} {g : ℕ → ℕ → ℕ → ℝ}

theorem Operands.head (H : Operands x0 x1 x2 x3 q k v g) (b : Fin 2) (h : Fin 4) :
    Head x0 x1 x2 x3 b h (one q b h) (one k b h) (one v b h) (one (byHead g) b h) :=
  ⟨fun s d => H.q b s h d, fun s d => H.k b s h d, fun s e => H.v b s h e, fun s e => (H.g b s _).trans (by
    show ((g b s (h * 64 + e) : ℝ) : EReal) = ((g b s (64 * h + e) : ℝ) : EReal)
    rw [mul_comm])⟩

theorem Operands.ref_q (H : Operands x0 x1 x2 x3 q k v g) :
    IsR (a := 4096) (b := 512) (φ := .f32) (val_main_v66 (F := Ideal) x0 x1 x2 x3) (wide 96 (gradQ q k v (byHead g))) :=
  heads96 (x := val_main_v64 (F := Ideal) x0 x1 x2 x3) (fun b s h d => (H.head b h).dq s d) _ _ _

theorem Operands.ref_k (H : Operands x0 x1 x2 x3 q k v g) :
    IsR (a := 4096) (b := 512) (φ := .f32) (val_main_v68 (F := Ideal) x0 x1 x2 x3) (wide 96 (gradK q k v (byHead g))) :=
  heads96 (x := val_main_v62 (F := Ideal) x0 x1 x2 x3) (fun b s h d => (H.head b h).dk s d) _ _ _

theorem Operands.ref_v (H : Operands x0 x1 x2 x3 q k v g) :
    IsR (a := 4096) (b := 512) (φ := .f32) (val_main_v70 (F := Ideal) x0 x1 x3) (wide 64 (gradV q k (byHead g))) :=
  heads64 (x := val_main_v45 (F := Ideal) x0 x1 x3) (fun b s h e => (H.head b h).dv s e) _ _ _

end Reference

section Kernel
open Cert.KernelIdeal Cert.KernelIdeal.Gen

variable {m : (ℓ : Loc nD τ sig) → Buf (Elt Ideal) ℓ} {c : Dev nD} {q k v : ℕ → ℕ → ℕ → ℕ → ℝ} {g : ℕ → ℕ → ℕ → ℝ}

theorem Operands.arrays (H : Operands (m (c, Proc.tc.devRef main_arg0)) (m (c, Proc.tc.devRef main_arg1)) (m (c, Proc.tc.devRef main_arg2)) (m (c, Proc.tc.devRef main_arg3)) q k v g) :
    Arrays m c (wide 96 q) (wide 96 k) (wide 64 v) (wide 64 (byHead g)) :=
  ⟨entry_q m c H.q, entry_k m c H.k, entry_v m c H.v, entry_do m c H.g⟩

open Cert.ReferenceIdeal.Read in
/-- The kernel's three arrays are the reference's. -/
theorem Operands.agree (H : Operands (m (c, Proc.tc.devRef main_arg0)) (m (c, Proc.tc.devRef main_arg1)) (m (c, Proc.tc.devRef main_arg2)) (m (c, Proc.tc.devRef main_arg3)) q k v g) :
    val_main_v66 (F := Ideal) (m (c, Proc.tc.devRef main_arg0)) (m (c, Proc.tc.devRef main_arg1)) (m (c, Proc.tc.devRef main_arg2)) (m (c, Proc.tc.devRef main_arg3)) = (dats m 0 c).arrAt 4 cfg0.N
    ∧ val_main_v68 (F := Ideal) (m (c, Proc.tc.devRef main_arg0)) (m (c, Proc.tc.devRef main_arg1)) (m (c, Proc.tc.devRef main_arg2)) (m (c, Proc.tc.devRef main_arg3)) = (dats m 0 c).arrAt 5 cfg0.N
    ∧ val_main_v70 (F := Ideal) (m (c, Proc.tc.devRef main_arg0)) (m (c, Proc.tc.devRef main_arg1)) (m (c, Proc.tc.devRef main_arg3)) = (dats m 0 c).arrAt 6 cfg0.N :=
  ⟨H.ref_q.same (array_dq H.arrays) fun _ hr _ hc => (same_q hr hc).symm,
    H.ref_k.same (array_dk H.arrays) fun _ hr _ hc => (same_k hr hc).symm,
    H.ref_v.same (array_dv H.arrays) fun _ hr _ hc => (same_v hr hc).symm⟩

/-- Under the precondition the operands' entries are real numbers. -/
theorem operands_of_pre (h : Cert.Pre_all_finite.fn (F := Ideal) (m (c, Proc.tc.devRef main_arg0)) (m (c, Proc.tc.devRef main_arg1)) (m (c, Proc.tc.devRef main_arg2)) (m (c, Proc.tc.devRef main_arg3)) = fun _ => 1#1) :
    ∃ q k v g, Operands (m (c, Proc.tc.devRef main_arg0)) (m (c, Proc.tc.devRef main_arg1)) (m (c, Proc.tc.devRef main_arg2)) (m (c, Proc.tc.devRef main_arg3)) q k v g := by
  obtain ⟨h0, h1, h2, h3⟩ := real_of_pre h
  obtain ⟨q, hq⟩ := choose4 h0
  obtain ⟨k, hk⟩ := choose4 h1
  obtain ⟨v, hv⟩ := choose4 h2
  obtain ⟨g, hg⟩ := choose3 h3
  exact ⟨q, k, v, g, hq, hk, hv, hg⟩

end Kernel

end Cert.Attn

end
-- ==== Proof.Sums.lean ====
module

public import proofs.«01_k».proof.Proof.Reals

@[expose] public section

/-! # Sums taken part by part

The exact instance's sums are sums in a commutative monoid, so a sum over many rows is the sum of its parts' sums,
whatever the entries are. -/

noncomputable section

namespace Cert.Ffn

open Idealize.ShloMosaic

variable {M : Type*} [AddCommMonoid M]

/-- A sum over `n * K` rows, in `n` parts of `K` rows. -/
theorem sum_parts (n K : ℕ) (f : ℕ → M) :
    ∑ k : Fin (n * K), f k = ∑ i : Fin n, ∑ k : Fin K, f (K * i + k) := by
  rw [← Equiv.sum_comp finProdFinEquiv, Fintype.sum_prod_type]
  exact Finset.sum_congr rfl fun i _ => Finset.sum_congr rfl fun k _ => congrArg f (Nat.add_comm _ _)

/-- Two halves. -/
theorem sum_halves {N : ℕ} (K : ℕ) (h : N = 2 * K) (f : ℕ → M) :
    ∑ k : Fin N, f k = ∑ k : Fin K, f k + ∑ k : Fin K, f (K + k) := by
  subst h
  rw [sum_parts, Fin.sum_univ_two]
  simp

/-- Four quarters. -/
theorem sum_quarters {N : ℕ} (K : ℕ) (h : N = 4 * K) (f : ℕ → M) :
    ∑ k : Fin N, f k = ∑ k : Fin K, f k + ∑ k : Fin K, f (K + k) + ∑ k : Fin K, f (K * 2 + k) + ∑ k : Fin K, f (K * 3 + k) := by
  subst h
  rw [sum_parts, Fin.sum_univ_four]
  simp

/-- The entry of a matrix at a row and a column, and zero outside it. -/
def at2 {a b : ℕ} {φ : FTy} (x : FVec Ideal (Cert.Attn.Mat a b) φ) (r c : ℕ) : EReal :=
  if h : r < a ∧ c < b then x (ix2 ⟨r, h.1⟩ ⟨c, h.2⟩) else 0

theorem at2_of {a b : ℕ} {φ : FTy} (x : FVec Ideal (Cert.Attn.Mat a b) φ) {r c : ℕ} (R : Fin a) (C : Fin b) (hr : R.val = r) (hc : C.val = c) :
    at2 x r c = x (ix2 R C) := by
  subst hr hc
  exact dif_pos ⟨R.2, C.2⟩

theorem at2_mk {a b : ℕ} {φ : FTy} (x : FVec Ideal (Cert.Attn.Mat a b) φ) (R : Fin a) (C : Fin b) :
    at2 x R C = x (ix2 R C) := at2_of x R C rfl rfl

/-- The entry of a stack of matrices at a matrix, a row and a column, and zero outside it. -/
def at3 {a b d : ℕ} {φ : FTy} (x : FVec Ideal ⟨3, ![a, b, d]⟩ φ) (r c e : ℕ) : EReal :=
  if h : r < a ∧ c < b ∧ e < d then x (ix3 ⟨r, h.1⟩ ⟨c, h.2.1⟩ ⟨e, h.2.2⟩) else 0

theorem at3_of {a b d : ℕ} {φ : FTy} (x : FVec Ideal ⟨3, ![a, b, d]⟩ φ) {r c e : ℕ} (R : Fin a) (C : Fin b) (E : Fin d)
    (hr : R.val = r) (hc : C.val = c) (he : E.val = e) : at3 x r c e = x (ix3 R C E) := by
  subst hr hc he
  exact dif_pos ⟨R.2, C.2, E.2⟩

/-- Two matrices beside each other, the first of `w` columns. -/
def beside {a b : ℕ} {φ : FTy} (w : ℕ) (x y : FVec Ideal (Cert.Attn.Mat a b) φ) (r c : ℕ) : EReal :=
  if c < w then at2 x r c else at2 y r (c - w)

/-- A concatenation along the columns, read at an entry. -/
theorem joined {φ : FTy} (x y : FVec Ideal (Cert.Attn.Mat 4096 2816) φ) (hc) (r : Fin 4096) (f : Fin 5632) :
    (concatenate (Cert.Attn.Mat 4096 5632) 1 [⟨Cert.Attn.Mat 4096 2816, x⟩, ⟨Cert.Attn.Mat 4096 2816, y⟩] hc : FVec Ideal (Cert.Attn.Mat 4096 5632) φ) (ix2 r f)
      = beside 2816 x y r f := by
  unfold beside
  by_cases h : f.val < 2816
  · rw [if_pos h, at2_of x r ⟨f.val, h⟩ rfl rfl]
    refine concatenate_apply_piece (t := Cert.Attn.Mat 4096 5632) 1 [⟨Cert.Attn.Mat 4096 2816, x⟩, ⟨Cert.Attn.Mat 4096 2816, y⟩] hc _ 0 (by simp) (Cert.Attn.Mat 4096 2816) x rfl rfl 0 rfl _ ?_ (Nat.zero_add f.val)
    intro b hb
    match b, hb with
    | ⟨0, _⟩, _ => rfl
    | ⟨1, _⟩, h => exact absurd rfl h
  · rw [if_neg h, at2_of y r ⟨f.val - 2816, by omega⟩ rfl rfl]
    refine concatenate_apply_piece (t := Cert.Attn.Mat 4096 5632) 1 [⟨Cert.Attn.Mat 4096 2816, x⟩, ⟨Cert.Attn.Mat 4096 2816, y⟩] hc _ 1 (by simp) (Cert.Attn.Mat 4096 2816) y rfl rfl 2816 rfl _ ?_ (Nat.add_sub_cancel' (Nat.le_of_not_lt h))
    intro b hb
    match b, hb with
    | ⟨0, _⟩, _ => rfl
    | ⟨1, _⟩, h => exact absurd rfl h

/-- The word the programs write one as. -/
abbrev oneWord : EReal := Ideal.ofBits .f32 0x3F800000#32

/-- A token's row of the feed-forward block's input, scaled and shifted by its sequence's modulation. -/
def modulated (sh sc : ℕ) (x : FVec Ideal (Cert.Attn.Mat 4096 1024) .f32) (md : FVec Ideal ⟨3, ![2, 9, 1024]⟩ .f32) (r d : ℕ) : EReal :=
  at2 x r d * (oneWord + at3 md (r / 2048) sc d) + at3 md (r / 2048) sh d

end Cert.Ffn
-- ==== Proof.InGrad.lean ====
module

public import proofs.«01_k».proof.Proof.Sums
public import proofs.«01_k».proof.Proof.Gen.Kernel3Ideal.Value
public import proofs.«01_k».proof.Proof.Gen.Reference3Ideal.Read

@[expose] public section

/-! # The gradients of the first feed-forward block's input and of its modulation

The kernel works on tiles of tokens; for each it adds the products over the two halves of the hidden columns, of the gate and of the
up columns, and adds the tile's share of the shift's and the scale's gradients to what the sequence's earlier tile left. -/

noncomputable section

namespace Cert.InGrad

open Idealize.ShloMosaic Idealize.ShloMosaic.TcCoe Idealize.SL.Sem
open Cert.Kernel3Ideal Cert.Kernel3Ideal.Gen Cert.Attn Cert.Ffn

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The scale's row of a sequence's modulation. -/
abbrev scaleRow (md : Vec Ideal S1x9x1024 .f32) : Vec Ideal S1x1x1024 .f32 :=
  View.ld md (Rect.unit (s := S1x9x1024) ![0, 1, 0] S1x1x1024.size inb_S1x9x1024_S1x1x1024_0_1_0)

section Case

variable (c : Dev nD) (i : grid0.Coords) (a2 : Memref sig .tc .vmem S1024x1408 .bf16) (h2 : a2.IsWhole)
  (a3 : Memref sig .tc .vmem S1024x1408 .bf16) (h3 : a3.IsWhole) (a4 : Memref sig .tc .vmem S1x1x1024x1408 .bf16) (h4 : a4.IsWhole)
  (a5 : Memref sig .tc .vmem S1x1x1024x1408 .bf16) (h5 : a5.IsWhole) (a6 : Memref sig .tc .vmem S1024x1024 .f32) (h6 : a6.IsWhole)
  (a7 : Memref sig .tc .vmem S1x9x1024 .f32) (h7 : a7.IsWhole) (a8 : Memref sig .tc .vmem S1024x1024 .f32) (h8 : a8.IsWhole)
  (a9 : Memref sig .tc .vmem S1024x1024 .f32) (h9 : a9.IsWhole) (a10 : Memref sig .tc .vmem S1x1x1024 .f32) (h10 : a10.IsWhole)
  (a11 : Memref sig .tc .vmem S1x1x1024 .f32) (h11 : a11.IsWhole) (a12 : Memref sig .tc .vmem S1024x1024 .f32) (h12 : a12.IsWhole)
  (g u : Vec Ideal S1024x1408 .bf16) (wg wu : Vec Ideal S1x1x1024x1408 .bf16) (x : Vec Ideal S1024x1024 .f32) (md : Vec Ideal S1x9x1024 .f32)
  (res : Vec Ideal S1024x1024 .f32) (sh sc : Vec Ideal S1x1x1024 .f32) (acc : Vec Ideal S1024x1024 .f32)

/-- The first half of the hidden columns leaves its products in the accumulator. -/
theorem first (k0 : cond0_0 i) (k1 : ¬cond0_1 i) (k2 : ¬cond0_2 i) :
    sout0_A_0 c i a2 h2 a3 h3 a4 h4 a5 h5 a6 h6 a7 h7 a8 h8 a9 h9 a10 h10 a11 h11 a12 h12 k0 k1 k2 g u wg wu x md res = k0_pay1 g wg u wu := by
  unfold sout0_A_0
  rw [View.read_writes_eq_canon _ _ _ (scover0_A_0 c i a2 h2 a3 h3 a4 h4 a5 h5 a6 h6 a7 h7 a8 h8 a9 h9 a10 h10 a11 h11 a12 h12 k0 k1 k2 g u wg wu x md res)]
  unfold kernelRun0_A
  dsimp only
  sl_unfold_words
  rw [View.canon_cons_unit_zero (S := S1024x1024) hz]
  unfold k0_pay2
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The input's gradient, at the sequence's first tile. -/
theorem fresh_x (k0 : ¬cond0_0 i) (k1 : cond0_1 i) (k2 : cond0_2 i) (k3 : cond0_3 i) :
    out0_B_7 c i a2 h2 a3 h3 a4 h4 a5 h5 a6 h6 a7 h7 a8 h8 a9 h9 a10 h10 a11 h11 a12 h12 k0 k1 k2 k3 g u wg wu x md res acc = k0_pay5 (addf acc (k0_pay1 g wg u wu)) (scaleRow md) res := by
  unfold out0_B_7
  rw [View.read_writes_eq_canon _ _ _ (cover0_B_7 c i a2 h2 a3 h3 a4 h4 a5 h5 a6 h6 a7 h7 a8 h8 a9 h9 a10 h10 a11 h11 a12 h12 k0 k1 k2 k3 g u wg wu x md res acc)]
  unfold kernelRun0_B
  dsimp only
  sl_unfold_words
  rw [View.canon_cons_unit_zero (S := S1024x1024) hz]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The shift's gradient, at the sequence's first tile. -/
theorem fresh_sh (k0 : ¬cond0_0 i) (k1 : cond0_1 i) (k2 : cond0_2 i) (k3 : cond0_3 i) :
    out0_B_8 c i a2 h2 a3 h3 a4 h4 a5 h5 a6 h6 a7 h7 a8 h8 a9 h9 a10 h10 a11 h11 a12 h12 k0 k1 k2 k3 g u wg wu x md res acc = k0_pay8 (addf acc (k0_pay1 g wg u wu)) (k0_pay6 (F := Ideal)) := by
  unfold out0_B_8
  rw [View.read_writes_eq_canon _ _ _ (cover0_B_8 c i a2 h2 a3 h3 a4 h4 a5 h5 a6 h6 a7 h7 a8 h8 a9 h9 a10 h10 a11 h11 a12 h12 k0 k1 k2 k3 g u wg wu x md res acc)]
  unfold kernelRun0_B
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The scale's gradient, at the sequence's first tile. -/
theorem fresh_sc (k0 : ¬cond0_0 i) (k1 : cond0_1 i) (k2 : cond0_2 i) (k3 : cond0_3 i) :
    out0_B_9 c i a2 h2 a3 h3 a4 h4 a5 h5 a6 h6 a7 h7 a8 h8 a9 h9 a10 h10 a11 h11 a12 h12 k0 k1 k2 k3 g u wg wu x md res acc = k0_pay4 (addf acc (k0_pay1 g wg u wu)) (k0_pay7 (F := Ideal)) x := by
  unfold out0_B_9
  rw [View.read_writes_eq_canon _ _ _ (cover0_B_9 c i a2 h2 a3 h3 a4 h4 a5 h5 a6 h6 a7 h7 a8 h8 a9 h9 a10 h10 a11 h11 a12 h12 k0 k1 k2 k3 g u wg wu x md res acc)]
  unfold kernelRun0_B
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The input's gradient, at the sequence's second tile. -/
theorem again_x (k0 : ¬cond0_0 i) (k1 : cond0_1 i) (k2 : cond0_2 i) (k3 : ¬cond0_3 i) :
    out0_C_7 c i a2 h2 a3 h3 a4 h4 a5 h5 a6 h6 a7 h7 a8 h8 a9 h9 a10 h10 a11 h11 a12 h12 k0 k1 k2 k3 g u wg wu x md res sh sc acc = k0_pay5 (addf acc (k0_pay1 g wg u wu)) (scaleRow md) res := by
  unfold out0_C_7
  rw [View.read_writes_eq_canon _ _ _ (cover0_C_7 c i a2 h2 a3 h3 a4 h4 a5 h5 a6 h6 a7 h7 a8 h8 a9 h9 a10 h10 a11 h11 a12 h12 k0 k1 k2 k3 g u wg wu x md res sh sc acc)]
  unfold kernelRun0_C
  dsimp only
  sl_unfold_words
  rw [View.canon_cons_unit_zero (S := S1024x1024) hz]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The shift's gradient, at the sequence's second tile. -/
theorem again_sh (k0 : ¬cond0_0 i) (k1 : cond0_1 i) (k2 : cond0_2 i) (k3 : ¬cond0_3 i) :
    out0_C_8 c i a2 h2 a3 h3 a4 h4 a5 h5 a6 h6 a7 h7 a8 h8 a9 h9 a10 h10 a11 h11 a12 h12 k0 k1 k2 k3 g u wg wu x md res sh sc acc = k0_pay8 (addf acc (k0_pay1 g wg u wu)) sh := by
  unfold out0_C_8
  rw [View.read_writes_eq_canon _ _ _ (cover0_C_8 c i a2 h2 a3 h3 a4 h4 a5 h5 a6 h6 a7 h7 a8 h8 a9 h9 a10 h10 a11 h11 a12 h12 k0 k1 k2 k3 g u wg wu x md res sh sc acc)]
  unfold kernelRun0_C
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The scale's gradient, at the sequence's second tile. -/
theorem again_sc (k0 : ¬cond0_0 i) (k1 : cond0_1 i) (k2 : cond0_2 i) (k3 : ¬cond0_3 i) :
    out0_C_9 c i a2 h2 a3 h3 a4 h4 a5 h5 a6 h6 a7 h7 a8 h8 a9 h9 a10 h10 a11 h11 a12 h12 k0 k1 k2 k3 g u wg wu x md res sh sc acc = k0_pay4 (addf acc (k0_pay1 g wg u wu)) sc x := by
  unfold out0_C_9
  rw [View.read_writes_eq_canon _ _ _ (cover0_C_9 c i a2 h2 a3 h3 a4 h4 a5 h5 a6 h6 a7 h7 a8 h8 a9 h9 a10 h10 a11 h11 a12 h12 k0 k1 k2 k3 g u wg wu x md res sh sc acc)]
  unfold kernelRun0_C
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

end Case

abbrev nt (x y : FVec Ideal (Mat 1024 1408) .bf16) : FVec Ideal (Mat 1024 1024) .f32 :=
  matmul (DotDims.transposedRhs 1024 1408 1024) none x y (constant (Mat 1024 1024) .f32 0x00000000#32)

theorem nt_apply (x y : FVec Ideal (Mat 1024 1408) .bf16) (r d : Fin 1024) :
    nt x y (ix2 r d) = ∑ f : Fin 1408, x (ix2 r f) * y (ix2 d f) :=
  (Ideal.matmul_transposedRhs_apply none x y _ r d).trans ((congrArg (· + _) Ideal.ofBits_zero_f32).trans (zero_add _))

theorem flat (w : FVec Ideal S1x1x1024x1408 .bf16) (d : Fin 1024) (f : Fin 1408) :
    shapeCast S1024x1408 w shapeCasts_S1x1x1024x1408_S1024x1408 (ix2 d f) = w (ix4 0 0 d f) := by
  pointwise

theorem dz_apply (g u : FVec Ideal (Mat 1024 1408) .bf16) (wg wu : FVec Ideal S1x1x1024x1408 .bf16) (k d : Fin 1024) :
    (k0_pay1 (F := Ideal) g wg u wu : FVec Ideal (Mat 1024 1024) .f32) (ix2 k d)
      = ∑ f : Fin 1408, g (ix2 k f) * wg (ix4 0 0 d f) + ∑ f : Fin 1408, u (ix2 k f) * wu (ix4 0 0 d f) := by
  show (Ideal.ofBits .f32 0x00000000#32 + nt g (shapeCast S1024x1408 wg shapeCasts_S1x1x1024x1408_S1024x1408) (ix2 k d))
    + nt u (shapeCast S1024x1408 wu shapeCasts_S1x1x1024x1408_S1024x1408) (ix2 k d) = _
  rw [Ideal.ofBits_zero_f32, zero_add, nt_apply, nt_apply]
  simp only [flat]

theorem dx_apply (v : FVec Ideal S1024x1024 .f32) (md : FVec Ideal S1x9x1024 .f32) (res : FVec Ideal S1024x1024 .f32) (k d : Fin 1024) :
    k0_pay5 v (scaleRow md) res (ix2 k d) = v (ix2 k d) * (oneWord + md (ix3 0 1 d)) + res (ix2 k d) := by
  unfold scaleRow
  rw [View.ld_unit]
  unfold k0_pay5
  dsimp only
  pointwise

theorem dsh_apply (v : FVec Ideal S1024x1024 .f32) (s : FVec Ideal S1x1x1024 .f32) (d : Fin 1024) :
    k0_pay8 v s (ix3 0 0 d) = s (ix3 0 0 d) + ∑ k : Fin 1024, v (ix2 k d) := by
  unfold k0_pay8
  dsimp only
  pointwise

theorem dsc_apply (v x : FVec Ideal S1024x1024 .f32) (s : FVec Ideal S1x1x1024 .f32) (d : Fin 1024) :
    k0_pay4 v s x (ix3 0 0 d) = s (ix3 0 0 d) + ∑ k : Fin 1024, v (ix2 k d) * x (ix2 k d) := by
  unfold k0_pay4
  dsimp only
  pointwise

theorem zero_sh (d : Fin 1024) : (k0_pay6 (F := Ideal)) (ix3 0 0 d) = 0 := by
  unfold k0_pay6
  pointwise

theorem zero_sc (d : Fin 1024) : (k0_pay7 (F := Ideal)) (ix3 0 0 d) = 0 := by
  unfold k0_pay7
  pointwise

variable (m : (ℓ : Loc nD τ sig) → Buf (Elt Ideal) ℓ) (c : Dev nD)

/-- The gate's gradient. -/
abbrev Dg : FVec Ideal (Mat 4096 2816) .bf16 := m ((c : Thread nD τ).loc main_arg0)
/-- The up columns' gradient. -/
abbrev Du : FVec Ideal (Mat 4096 2816) .bf16 := m ((c : Thread nD τ).loc main_arg1)
/-- The weight, as shards. -/
abbrev W : FVec Ideal ⟨4, ![1, 4, 1024, 1408]⟩ .bf16 := m ((c : Thread nD τ).loc main_arg2)
/-- The tokens. -/
abbrev X : FVec Ideal (Mat 4096 1024) .f32 := m ((c : Thread nD τ).loc main_arg3)
/-- The modulation. -/
abbrev Md : FVec Ideal ⟨3, ![2, 9, 1024]⟩ .f32 := m ((c : Thread nD τ).loc main_arg4)
/-- What the residual path adds. -/
abbrev Res : FVec Ideal (Mat 4096 1024) .f32 := m ((c : Thread nD τ).loc main_arg5)

theorem at_g : ∀ t : Fin grid0.N, win0_0.index t 0 = t.val / 2 ∧ win0_0.index t 1 = t.val % 2 := by decide +kernel
theorem at_u : ∀ t : Fin grid0.N, win0_1.index t 0 = t.val / 2 ∧ win0_1.index t 1 = t.val % 2 := by decide +kernel
theorem at_wg : ∀ t : Fin grid0.N, win0_2.index t = ![0, t.val % 2, 0, 0] := by decide +kernel
theorem at_wu : ∀ t : Fin grid0.N, win0_3.index t = ![0, t.val % 2 + 2, 0, 0] := by decide +kernel
theorem at_x : ∀ t : Fin grid0.N, win0_4.index t 0 = t.val / 2 ∧ win0_4.index t 1 = 0 := by decide +kernel
theorem at_md : ∀ t : Fin grid0.N, win0_5.index t = ![t.val / 4, 0, 0] := by decide +kernel
theorem at_res : ∀ t : Fin grid0.N, win0_6.index t 0 = t.val / 2 ∧ win0_6.index t 1 = 0 := by decide +kernel

theorem block_g (t : Fin grid0.N) (k : Fin 1024) (f : Fin 1408) :
    (iblk m c 0 t : FVec Ideal (Mat 1024 1408) .bf16) (ix2 k f) = beside 2816 (Dg m c) (Du m c) (1024 * (t.val / 2) + k) (1408 * (t.val % 2) + f) := by
  have ht : t.val < 8 := lt_of_lt_of_eq t.isLt N_0
  have hi := at_g t
  rw [beside, if_pos (by omega), at2_of (Dg m c) ⟨1024 * (t.val / 2) + k, by omega⟩ ⟨1408 * (t.val % 2) + f, by omega⟩ rfl rfl]
  unfold iblk
  rw [View.read_apply]
  show V m c main_arg0 _ = _
  rw [V_main_arg0]
  congr 1
  funext a
  apply Fin.ext
  match a with
  | ⟨0, _⟩ => show win0_0.index t 0 * 1024 + 1 * k.val = 1024 * (t.val / 2) + k.val; omega
  | ⟨1, _⟩ => show win0_0.index t 1 * 1408 + 1 * f.val = 1408 * (t.val % 2) + f.val; omega

theorem block_u (t : Fin grid0.N) (k : Fin 1024) (f : Fin 1408) :
    (iblk m c 1 t : FVec Ideal (Mat 1024 1408) .bf16) (ix2 k f) = beside 2816 (Dg m c) (Du m c) (1024 * (t.val / 2) + k) (2816 + (1408 * (t.val % 2) + f)) := by
  have ht : t.val < 8 := lt_of_lt_of_eq t.isLt N_0
  have hi := at_u t
  rw [beside, if_neg (by omega), at2_of (Du m c) ⟨1024 * (t.val / 2) + k, by omega⟩ ⟨1408 * (t.val % 2) + f, by omega⟩ rfl (by dsimp only; omega)]
  unfold iblk
  rw [View.read_apply]
  show V m c main_arg1 _ = _
  rw [V_main_arg1]
  congr 1
  funext a
  apply Fin.ext
  match a with
  | ⟨0, _⟩ => show win0_1.index t 0 * 1024 + 1 * k.val = 1024 * (t.val / 2) + k.val; omega
  | ⟨1, _⟩ => show win0_1.index t 1 * 1408 + 1 * f.val = 1408 * (t.val % 2) + f.val; omega

/-- The weight's entry at a row and a column, the shards laid beside each other. -/
def flatW (w : FVec Ideal ⟨4, ![1, 4, 1024, 1408]⟩ .bf16) (d f : ℕ) : EReal :=
  if h : d < 1024 ∧ f < 5632 then w (ix4 0 ⟨f / 1408, by omega⟩ ⟨d, h.1⟩ ⟨f % 1408, Nat.mod_lt _ (by decide)⟩) else 0

theorem flatW_of (w : FVec Ideal ⟨4, ![1, 4, 1024, 1408]⟩ .bf16) {f : ℕ} (j : Fin 4) (d : Fin 1024) (e : Fin 1408) (h : f = 1408 * j.val + e.val) :
    flatW w d f = w (ix4 0 j d e) := by
  subst h
  refine (dif_pos ⟨d.2, by omega⟩).trans (congrArg w ?_)
  funext a; apply Fin.ext
  match a with
  | ⟨0, _⟩ => rfl
  | ⟨1, _⟩ => show (1408 * j.val + e.val) / 1408 = j.val; omega
  | ⟨2, _⟩ => rfl
  | ⟨3, _⟩ => show (1408 * j.val + e.val) % 1408 = e.val; omega

theorem block_wg (t : Fin grid0.N) (d : Fin 1024) (f : Fin 1408) :
    (iblk m c 2 t : FVec Ideal S1x1x1024x1408 .bf16) (ix4 0 0 d f) = flatW (W m c) d (1408 * (t.val % 2) + f) := by
  have ht : t.val < 8 := lt_of_lt_of_eq t.isLt N_0
  have hi := at_wg t
  rw [flatW_of (W m c) ⟨t.val % 2, by omega⟩ d f rfl]
  unfold iblk
  rw [View.read_apply]
  show V m c main_arg2 _ = _
  rw [V_main_arg2]
  congr 1
  funext a
  apply Fin.ext
  match a with
  | ⟨0, _⟩ => show win0_2.index t 0 * 1 + 1 * 0 = 0; rw [hi]; rfl
  | ⟨1, _⟩ => show win0_2.index t 1 * 1 + 1 * 0 = t.val % 2; rw [hi]; show (t.val % 2) * 1 + 1 * 0 = _; omega
  | ⟨2, _⟩ => show win0_2.index t 2 * 1024 + 1 * d.val = d.val; rw [hi]; show 0 * 1024 + 1 * d.val = d.val; omega
  | ⟨3, _⟩ => show win0_2.index t 3 * 1408 + 1 * f.val = f.val; rw [hi]; show 0 * 1408 + 1 * f.val = f.val; omega

theorem block_wu (t : Fin grid0.N) (d : Fin 1024) (f : Fin 1408) :
    (iblk m c 3 t : FVec Ideal S1x1x1024x1408 .bf16) (ix4 0 0 d f) = flatW (W m c) d (2816 + (1408 * (t.val % 2) + f)) := by
  have ht : t.val < 8 := lt_of_lt_of_eq t.isLt N_0
  have hi := at_wu t
  rw [flatW_of (W m c) ⟨t.val % 2 + 2, by omega⟩ d f (by dsimp only; omega)]
  unfold iblk
  rw [View.read_apply]
  show V m c main_arg2 _ = _
  rw [V_main_arg2]
  congr 1
  funext a
  apply Fin.ext
  match a with
  | ⟨0, _⟩ => show win0_3.index t 0 * 1 + 1 * 0 = 0; rw [hi]; rfl
  | ⟨1, _⟩ => show win0_3.index t 1 * 1 + 1 * 0 = t.val % 2 + 2; rw [hi]; show (t.val % 2 + 2) * 1 + 1 * 0 = _; omega
  | ⟨2, _⟩ => show win0_3.index t 2 * 1024 + 1 * d.val = d.val; rw [hi]; show 0 * 1024 + 1 * d.val = d.val; omega
  | ⟨3, _⟩ => show win0_3.index t 3 * 1408 + 1 * f.val = f.val; rw [hi]; show 0 * 1408 + 1 * f.val = f.val; omega

theorem block_x (t : Fin grid0.N) (k d : Fin 1024) :
    (iblk m c 4 t : FVec Ideal (Mat 1024 1024) .f32) (ix2 k d) = at2 (X m c) (1024 * (t.val / 2) + k) d := by
  have ht : t.val < 8 := lt_of_lt_of_eq t.isLt N_0
  have hi := at_x t
  rw [at2_of (X m c) ⟨1024 * (t.val / 2) + k, by omega⟩ d rfl rfl]
  unfold iblk
  rw [View.read_apply]
  show V m c main_arg3 _ = _
  rw [V_main_arg3]
  congr 1
  funext a
  apply Fin.ext
  match a with
  | ⟨0, _⟩ => show win0_4.index t 0 * 1024 + 1 * k.val = 1024 * (t.val / 2) + k.val; omega
  | ⟨1, _⟩ => show win0_4.index t 1 * 1024 + 1 * d.val = d.val; omega

theorem block_res (t : Fin grid0.N) (k d : Fin 1024) :
    (iblk m c 6 t : FVec Ideal (Mat 1024 1024) .f32) (ix2 k d) = at2 (Res m c) (1024 * (t.val / 2) + k) d := by
  have ht : t.val < 8 := lt_of_lt_of_eq t.isLt N_0
  have hi := at_res t
  rw [at2_of (Res m c) ⟨1024 * (t.val / 2) + k, by omega⟩ d rfl rfl]
  unfold iblk
  rw [View.read_apply]
  show V m c main_arg5 _ = _
  rw [V_main_arg5]
  congr 1
  funext a
  apply Fin.ext
  match a with
  | ⟨0, _⟩ => show win0_6.index t 0 * 1024 + 1 * k.val = 1024 * (t.val / 2) + k.val; omega
  | ⟨1, _⟩ => show win0_6.index t 1 * 1024 + 1 * d.val = d.val; omega

theorem block_md (t : Fin grid0.N) (r : Fin 9) (d : Fin 1024) :
    (iblk m c 5 t : FVec Ideal S1x9x1024 .f32) (ix3 0 r d) = at3 (Md m c) (t.val / 4) r d := by
  have ht : t.val < 8 := lt_of_lt_of_eq t.isLt N_0
  have hi := at_md t
  rw [at3_of (Md m c) ⟨t.val / 4, by omega⟩ r d rfl rfl rfl]
  unfold iblk
  rw [View.read_apply]
  show V m c main_arg4 _ = _
  rw [V_main_arg4]
  congr 1
  funext a
  apply Fin.ext
  match a with
  | ⟨0, _⟩ => show win0_5.index t 0 * 1 + 1 * 0 = t.val / 4; rw [hi]; show t.val / 4 * 1 + 1 * 0 = _; omega
  | ⟨1, _⟩ => show win0_5.index t 1 * 9 + 1 * r.val = r.val; rw [hi]; show 0 * 9 + 1 * r.val = r.val; omega
  | ⟨2, _⟩ => show win0_5.index t 2 * 1024 + 1 * d.val = d.val; rw [hi]; show 0 * 1024 + 1 * d.val = d.val; omega

/-- One summand of an entry of the product with the weight. -/
abbrev term (T d f : ℕ) : EReal := beside 2816 (Dg m c) (Du m c) T f * flatW (W m c) d f

/-- The gradient at the modulated rows. -/
abbrev dz (T d : ℕ) : EReal := ∑ f : Fin 5632, term m c T d f

/-- A point's two products. -/
abbrev D (t : Fin grid0.N) : FVec Ideal S1024x1024 .f32 := k0_pay1 (F := Ideal) (iblk m c 0 t) (iblk m c 2 t) (iblk m c 1 t) (iblk m c 3 t)

theorem D_apply (t : Fin grid0.N) (k d : Fin 1024) :
    D m c t (ix2 k d) = ∑ f : Fin 1408, term m c (1024 * (t.val / 2) + k) d (1408 * (t.val % 2) + f)
      + ∑ f : Fin 1408, term m c (1024 * (t.val / 2) + k) d (2816 + (1408 * (t.val % 2) + f)) :=
  (dz_apply _ _ _ _ k d).trans (congrArg₂ (· + ·)
    (Finset.sum_congr rfl fun f _ => congrArg₂ (· * ·) (block_g m c t k f) (block_wg m c t d f))
    (Finset.sum_congr rfl fun f _ => congrArg₂ (· * ·) (block_u m c t k f) (block_wu m c t d f)))

theorem pred_lt (t : Fin cfg0.N) : t.val - 1 < cfg0.N := Nat.lt_of_le_of_lt (Nat.sub_le _ _) t.isLt

/-- The two halves of the hidden columns added. -/
abbrev Z (t : Fin cfg0.N) : FVec Ideal S1024x1024 .f32 := addf (outsAt0 m c (t.val - 1) (pred_lt t)).2.2.2 (D m c t)

theorem left (s : Fin cfg0.N) (hs : s.val % 2 = 0) (n : ℕ) (h : n < cfg0.N) (e : n = s.val) :
    (outsAt0 m c n h).2.2.2 = D m c s := by
  subst e
  refine (congrArg (fun p => p.2.2.2) (outsAt0_A m c s hs (by omega) (by omega))).trans ?_
  dsimp only
  rw [first]

/-- A point in between leaves the shift's and the scale's gradients as they were. -/
theorem kept (s : Fin cfg0.N) (hs : s.val % 2 = 0) (n : ℕ) (h : n < cfg0.N) (e : n = s.val) :
    (outsAt0 m c n h).2.1 = (outsAt0 m c (s.val - 1) (pred_lt s)).2.1 ∧ (outsAt0 m c n h).2.2.1 = (outsAt0 m c (s.val - 1) (pred_lt s)).2.2.1 := by
  subst e
  constructor
  · refine (congrArg (fun p => p.2.1) (outsAt0_A m c s hs (by omega) (by omega))).trans ?_
    dsimp only
    unfold out0_A_8
    rfl
  · refine (congrArg (fun p => p.2.2.1) (outsAt0_A m c s hs (by omega) (by omega))).trans ?_
    dsimp only
    unfold out0_A_9
    rfl

theorem Z_apply (t : Fin cfg0.N) (ht : t.val % 2 = 1) (k d : Fin 1024) : Z m c t (ix2 k d) = dz m c (1024 * (t.val / 2) + k) d := by
  obtain ⟨s, hs⟩ : ∃ s : Fin cfg0.N, s.val = t.val - 1 := ⟨⟨t.val - 1, pred_lt t⟩, rfl⟩
  unfold Z
  rw [left m c s (by omega) _ _ hs.symm]
  show D m c s (ix2 k d) + D m c t (ix2 k d) = _
  rw [D_apply, D_apply, ht, show s.val % 2 = 0 by omega, show s.val / 2 = t.val / 2 by omega]
  refine Eq.trans ?_ (sum_quarters 1408 rfl fun f => term m c (1024 * (t.val / 2) + k) d f).symm
  simp only [Nat.mul_zero, Nat.zero_add, Nat.mul_one, ← Nat.add_assoc, Nat.reduceMul, Nat.reduceAdd]
  abel

theorem stored_x (t : Fin cfg0.N) (ht : t.val % 2 = 1) : (outsAt0 m c t.val t.isLt).1 = k0_pay5 (Z m c t) (scaleRow (iblk m c 5 t)) (iblk m c 6 t) := by
  by_cases h : t.val % 4 = 0 ∨ t.val % 4 = 1
  · refine (congrArg Prod.fst (outsAt0_B m c t (by omega) ht ht h)).trans ?_
    dsimp only
    rw [fresh_x]
  · refine (congrArg Prod.fst (outsAt0_C m c t (by omega) ht ht h)).trans ?_
    dsimp only
    rw [again_x]

theorem fresh_shift (t : Fin cfg0.N) (ht : t.val % 4 = 1) (n : ℕ) (h : n < cfg0.N) (e : n = t.val) : (outsAt0 m c n h).2.1 = k0_pay8 (F := Ideal) (Z m c t) (k0_pay6 (F := Ideal)) := by
  subst e
  refine (congrArg (fun p => p.2.1) (outsAt0_B m c t (by omega) (by omega) (by omega) (Or.inr ht))).trans ?_
  dsimp only
  rw [fresh_sh]

theorem fresh_scale (t : Fin cfg0.N) (ht : t.val % 4 = 1) (n : ℕ) (h : n < cfg0.N) (e : n = t.val) : (outsAt0 m c n h).2.2.1 = k0_pay4 (Z m c t) (k0_pay7 (F := Ideal)) (iblk m c 4 t) := by
  subst e
  refine (congrArg (fun p => p.2.2.1) (outsAt0_B m c t (by omega) (by omega) (by omega) (Or.inr ht))).trans ?_
  dsimp only
  rw [fresh_sc]

/-- What the last point of a sequence stores of the shift's and the scale's gradients. -/
theorem stored_shift (t s : Fin cfg0.N) (ht : t.val % 4 = 3) (hs : s.val + 2 = t.val) :
    (outsAt0 m c t.val t.isLt).2.1 = k0_pay8 (F := Ideal) (Z m c t) (k0_pay8 (F := Ideal) (Z m c s) (k0_pay6 (F := Ideal))) := by
  obtain ⟨r, hr⟩ : ∃ r : Fin cfg0.N, r.val = t.val - 1 := ⟨⟨t.val - 1, pred_lt t⟩, rfl⟩
  refine (congrArg (fun p => p.2.1) (outsAt0_C m c t (by omega) (by omega) (by omega) (by omega))).trans ?_
  dsimp only
  rw [again_sh, (kept m c r (by omega) _ _ hr.symm).1, fresh_shift m c s (by omega) (r.val - 1) _ (by omega)]

theorem stored_scale (t s : Fin cfg0.N) (ht : t.val % 4 = 3) (hs : s.val + 2 = t.val) :
    (outsAt0 m c t.val t.isLt).2.2.1 = k0_pay4 (Z m c t) (k0_pay4 (Z m c s) (k0_pay7 (F := Ideal)) (iblk m c 4 s)) (iblk m c 4 t) := by
  obtain ⟨r, hr⟩ : ∃ r : Fin cfg0.N, r.val = t.val - 1 := ⟨⟨t.val - 1, pred_lt t⟩, rfl⟩
  refine (congrArg (fun p => p.2.2.1) (outsAt0_C m c t (by omega) (by omega) (by omega) (by omega))).trans ?_
  dsimp only
  rw [again_sc, (kept m c r (by omega) _ _ hr.symm).2, fresh_scale m c s (by omega) (r.val - 1) _ (by omega)]

/-- The input's gradient after the run. -/
theorem array_x (T : Fin 4096) (d : Fin 1024) :
    ((dats m 0 c).arrAt 7 cfg0.N : FVec Ideal (Mat 4096 1024) .f32) (ix2 T d)
      = dz m c T d * (oneWord + at3 (Md m c) (T / 2048) 1 d) + at2 (Res m c) T d := by
  have hN : cfg0.N = 8 := N_0
  rw [Value.final7]
  unfold Value.G7
  have hp : Value.pt7Of (ix2 T d) = 2 * (T.val / 1024) + 1 := by
    show 2 * (1 * (T.val / 1024 - 0) + 1 * (d.val / 1024 - 0)) + 1 = _
    omega
  have hlt : Value.pt7Of (ix2 T d) < cfg0.N := by rw [hp]; omega
  rw [dif_pos hlt, ← Value.outsAt0_sweep m c _ hlt]
  have hl : Value.loc7Of (ix2 T d) = ix2 ⟨T.val % 1024, Nat.mod_lt _ (by decide)⟩ d := by
    funext a; apply Fin.ext
    match a with
    | ⟨0, _⟩ => rfl
    | ⟨1, _⟩ => show d.val % 1024 = d.val; omega
  obtain ⟨t, ht⟩ : ∃ t : Fin cfg0.N, t.val = Value.pt7Of (ix2 T d) := ⟨⟨_, hlt⟩, rfl⟩
  rw [hl]
  have h1 : t.val % 2 = 1 := by omega
  have e : (outsAt0 m c (Value.pt7Of (ix2 T d)) hlt).1 = k0_pay5 (Z m c t) (scaleRow (iblk m c 5 t)) (iblk m c 6 t) :=
    Eq.trans (by simp only [ht]) (stored_x m c t h1)
  rw [e, dx_apply, Z_apply m c t h1]
  refine congrArg₂ (· + ·) (congrArg₂ (· * ·) ?_ (congrArg (oneWord + ·) ((block_md m c t 1 d).trans ?_))) ((block_res m c t _ d).trans ?_)
  · dsimp only
    rw [show 1024 * (t.val / 2) + T.val % 1024 = T.val by omega]
  · rw [show t.val / 4 = T.val / 2048 by omega]
    rfl
  · dsimp only
    rw [show 1024 * (t.val / 2) + T.val % 1024 = T.val by omega]

/-- The shift's gradient after the run: the sum over a sequence's tokens. -/
theorem array_sh (b : Fin 2) (d : Fin 1024) :
    ((dats m 0 c).arrAt 8 cfg0.N : FVec Ideal ⟨3, ![2, 1, 1024]⟩ .f32) (ix3 b 0 d) = ∑ s : Fin 2048, dz m c (2048 * b + s) d := by
  have hN : cfg0.N = 8 := N_0
  rw [Value.final8]
  unfold Value.G8
  have hp : Value.pt8Of (ix3 b 0 d) = 4 * b.val + 3 := by
    show 4 * (1 * (b.val / 1 - 0) + 1 * (0 / 1 - 0) + 1 * (d.val / 1024 - 0)) + 3 = _
    omega
  have hlt : Value.pt8Of (ix3 b 0 d) < cfg0.N := by rw [hp]; omega
  rw [dif_pos hlt, ← Value.outsAt0_sweep m c _ hlt]
  have hl : Value.loc8Of (ix3 b 0 d) = ix3 0 0 d := by
    funext a; apply Fin.ext
    match a with
    | ⟨0, _⟩ => show b.val % 1 = 0; omega
    | ⟨1, _⟩ => rfl
    | ⟨2, _⟩ => show d.val % 1024 = d.val; omega
  obtain ⟨t, ht⟩ : ∃ t : Fin cfg0.N, t.val = Value.pt8Of (ix3 b 0 d) := ⟨⟨_, hlt⟩, rfl⟩
  obtain ⟨s, hs⟩ : ∃ s : Fin cfg0.N, s.val + 2 = t.val := ⟨⟨t.val - 2, by omega⟩, by dsimp only; omega⟩
  rw [hl]
  have e : (outsAt0 m c (Value.pt8Of (ix3 b 0 d)) hlt).2.1 = k0_pay8 (F := Ideal) (Z m c t) (k0_pay8 (F := Ideal) (Z m c s) (k0_pay6 (F := Ideal))) :=
    Eq.trans (by simp only [ht]) (stored_shift m c t s (by omega) hs)
  rw [e, dsh_apply, dsh_apply, zero_sh, zero_add, sum_halves 1024 rfl fun s => dz m c (2048 * b + s) d]
  refine congrArg₂ (· + ·) (Finset.sum_congr rfl fun k _ => (Z_apply m c s (by omega) k d).trans ?_) (Finset.sum_congr rfl fun k _ => (Z_apply m c t (by omega) k d).trans ?_)
  · rw [show 1024 * (s.val / 2) + k.val = 2048 * b.val + k.val by omega]
  · rw [show 1024 * (t.val / 2) + k.val = 2048 * b.val + (1024 + k.val) by omega]

/-- The scale's gradient after the run. -/
theorem array_sc (b : Fin 2) (d : Fin 1024) :
    ((dats m 0 c).arrAt 9 cfg0.N : FVec Ideal ⟨3, ![2, 1, 1024]⟩ .f32) (ix3 b 0 d) = ∑ s : Fin 2048, dz m c (2048 * b + s) d * at2 (X m c) (2048 * b + s) d := by
  have hN : cfg0.N = 8 := N_0
  rw [Value.final9]
  unfold Value.G9
  have hp : Value.pt9Of (ix3 b 0 d) = 4 * b.val + 3 := by
    show 4 * (1 * (b.val / 1 - 0) + 1 * (0 / 1 - 0) + 1 * (d.val / 1024 - 0)) + 3 = _
    omega
  have hlt : Value.pt9Of (ix3 b 0 d) < cfg0.N := by rw [hp]; omega
  rw [dif_pos hlt, ← Value.outsAt0_sweep m c _ hlt]
  have hl : Value.loc9Of (ix3 b 0 d) = ix3 0 0 d := by
    funext a; apply Fin.ext
    match a with
    | ⟨0, _⟩ => show b.val % 1 = 0; omega
    | ⟨1, _⟩ => rfl
    | ⟨2, _⟩ => show d.val % 1024 = d.val; omega
  obtain ⟨t, ht⟩ : ∃ t : Fin cfg0.N, t.val = Value.pt9Of (ix3 b 0 d) := ⟨⟨_, hlt⟩, rfl⟩
  obtain ⟨s, hs⟩ : ∃ s : Fin cfg0.N, s.val + 2 = t.val := ⟨⟨t.val - 2, by omega⟩, by dsimp only; omega⟩
  rw [hl]
  have e : (outsAt0 m c (Value.pt9Of (ix3 b 0 d)) hlt).2.2.1 = k0_pay4 (Z m c t) (k0_pay4 (Z m c s) (k0_pay7 (F := Ideal)) (iblk m c 4 s)) (iblk m c 4 t) :=
    Eq.trans (by simp only [ht]) (stored_scale m c t s (by omega) hs)
  rw [e, dsc_apply, dsc_apply, zero_sc, zero_add, sum_halves 1024 rfl fun s => dz m c (2048 * b + s) d * at2 (X m c) (2048 * b + s) d]
  refine congrArg₂ (· + ·) (Finset.sum_congr rfl fun k _ => (congrArg₂ (· * ·) (Z_apply m c s (by omega) k d) (block_x m c s k d)).trans ?_)
    (Finset.sum_congr rfl fun k _ => (congrArg₂ (· * ·) (Z_apply m c t (by omega) k d) (block_x m c t k d)).trans ?_)
  · rw [show 1024 * (s.val / 2) + k.val = 2048 * b.val + k.val by omega]
  · rw [show 1024 * (t.val / 2) + k.val = 2048 * b.val + (1024 + k.val) by omega]

/-! ## The reference's results -/

open Cert.Reference3Ideal.Read

section Reference

variable (y z : FVec Ideal (Mat 4096 2816) .bf16) (w : FVec Ideal ⟨4, ![1, 4, 1024, 1408]⟩ .bf16) (x : FVec Ideal (Mat 4096 1024) .f32)
  (md : FVec Ideal ⟨3, ![2, 9, 1024]⟩ .f32) (res : FVec Ideal (Mat 4096 1024) .f32)

theorem ref_beside (r : Fin 4096) (f : Fin 5632) : (val_main_v0 (F := Ideal) y z : FVec Ideal (Mat 4096 5632) .bf16) (ix2 r f) = beside 2816 y z r f :=
  joined y z _ r f

theorem ref_split (b : Fin 2) (s : Fin 2048) (f : Fin 5632) :
    (val_main_v2 (F := Ideal) y z : FVec Ideal ⟨3, ![2, 2048, 5632]⟩ .f32) (ix3 b s f) = beside 2816 y z (2048 * b + s) f := by
  rw [val_main_v2_apply, val_main_v1_apply]
  refine Eq.trans ?_ (ref_beside y z ⟨2048 * b + s, by omega⟩ f)
  show val_main_v0 (F := Ideal) y z _ = _
  refine congrArg (val_main_v0 (F := Ideal) y z) ?_
  funext a; apply Fin.ext
  match a with
  | ⟨0, _⟩ => show ((b.val * 2048 + s.val) * 5632 + f.val) / 5632 = 2048 * b.val + s.val; omega
  | ⟨1, _⟩ => show ((b.val * 2048 + s.val) * 5632 + f.val) % 5632 = f.val; omega

theorem ref_weight (d : Fin 1024) (f : Fin 5632) : (val_main_v6 (F := Ideal) w : FVec Ideal (Mat 1024 5632) .f32) (ix2 d f) = flatW w d f := by
  have hf := f.isLt
  have e : idx_main_v5 (ix2 d f) = ix3 d ⟨f.val / 1408, by omega⟩ ⟨f.val % 1408, Nat.mod_lt _ (by decide)⟩ := by
    funext a; apply Fin.ext
    match a with
    | ⟨0, _⟩ => show (d.val * 5632 + f.val) / 5632 = d.val; omega
    | ⟨1, _⟩ => show (d.val * 5632 + f.val) / 1408 % 4 = f.val / 1408; omega
    | ⟨2, _⟩ => show (d.val * 5632 + f.val) % 1408 = f.val % 1408; omega
  have e2 : ∀ (q : Fin 4) (g : Fin 1408), idx_main_v3 (idx_main_v4 (ix3 d q g)) = ix4 0 q d g := by
    intro q g
    have hq := q.isLt
    have hg := g.isLt
    have hd := d.isLt
    funext a; apply Fin.ext
    match a with
    | ⟨0, _⟩ => rfl
    | ⟨1, _⟩ => show ((q.val * 1024 + d.val) * 1408 + g.val) / 1441792 % 4 = q.val; omega
    | ⟨2, _⟩ => show ((q.val * 1024 + d.val) * 1408 + g.val) / 1408 % 1024 = d.val; omega
    | ⟨3, _⟩ => show ((q.val * 1024 + d.val) * 1408 + g.val) % 1408 = g.val; omega
  rw [val_main_v6_apply, val_main_v5_apply, e, val_main_v4_apply, val_main_v3_apply, e2, flatW_of w ⟨f.val / 1408, by omega⟩ d ⟨f.val % 1408, Nat.mod_lt _ (by decide)⟩ (by dsimp only; omega)]
  rfl

theorem ref_dz (b : Fin 2) (s : Fin 2048) (d : Fin 1024) :
    (val_main_v18 (F := Ideal) y z w : FVec Ideal ⟨3, ![2, 2048, 1024]⟩ .f32) (ix3 b s d)
      = ∑ f : Fin 5632, beside 2816 y z (2048 * b + s) f * flatW w d f := by
  rw [val_main_v18_apply]
  refine Finset.sum_congr rfl fun f _ => congrArg₂ (· * ·) (Eq.trans ?_ (ref_split y z b s f)) (Eq.trans ?_ (ref_weight w d f))
  · refine congrArg (val_main_v2 (F := Ideal) y z) ?_
    funext a; apply Fin.ext
    match a with
    | ⟨0, _⟩ => rfl
    | ⟨1, _⟩ => rfl
    | ⟨2, _⟩ => rfl
  · refine congrArg (val_main_v6 (F := Ideal) w) ?_
    funext a; apply Fin.ext
    match a with
    | ⟨0, _⟩ => rfl
    | ⟨1, _⟩ => rfl

theorem ref_sh (b : Fin 2) (d : Fin 1024) :
    (val_main_v20 (F := Ideal) y z w : FVec Ideal ⟨3, ![2, 1, 1024]⟩ .f32) (ix3 b 0 d)
      = ∑ s : Fin 2048, ∑ f : Fin 5632, beside 2816 y z (2048 * b + s) f * flatW w d f := by
  rw [val_main_v20_apply, val_main_v19_apply]
  refine (congrArg (· + _) Ideal.ofBits_zero_f32).trans ((zero_add _).trans (Finset.sum_congr rfl fun s _ => Eq.trans (congrArg _ ?_) (ref_dz y z w b s d)))
  funext a; apply Fin.ext
  match a with
  | ⟨0, _⟩ => show ((b.val * 1 + 0) * 1024 + d.val) / 1024 = b.val; omega
  | ⟨1, _⟩ => rfl
  | ⟨2, _⟩ => show ((b.val * 1 + 0) * 1024 + d.val) % 1024 = d.val; omega

theorem ref_x (b : Fin 2) (s : Fin 2048) (d : Fin 1024) :
    (val_main_v7 (F := Ideal) x : FVec Ideal ⟨3, ![2, 2048, 1024]⟩ .f32) (ix3 b s d) = at2 x (2048 * b + s) d := by
  rw [val_main_v7_apply, at2_of x ⟨2048 * b + s, by omega⟩ d rfl rfl]
  refine congrArg x ?_
  funext a; apply Fin.ext
  match a with
  | ⟨0, _⟩ => show ((b.val * 2048 + s.val) * 1024 + d.val) / 1024 = 2048 * b.val + s.val; omega
  | ⟨1, _⟩ => show ((b.val * 2048 + s.val) * 1024 + d.val) % 1024 = d.val; omega

theorem ref_sc (b : Fin 2) (d : Fin 1024) :
    (val_main_v23 (F := Ideal) y z w x : FVec Ideal ⟨3, ![2, 1, 1024]⟩ .f32) (ix3 b 0 d)
      = ∑ s : Fin 2048, (∑ f : Fin 5632, beside 2816 y z (2048 * b + s) f * flatW w d f) * at2 x (2048 * b + s) d := by
  rw [val_main_v23_apply, val_main_v22_apply]
  refine (congrArg (· + _) Ideal.ofBits_zero_f32).trans ((zero_add _).trans (Finset.sum_congr rfl fun s _ => ?_))
  have e : idx_main_v22 (idx_main_v23 (ix3 b 0 d)) s = ix3 b s d := by
    funext a; apply Fin.ext
    match a with
    | ⟨0, _⟩ => show ((b.val * 1 + 0) * 1024 + d.val) / 1024 = b.val; omega
    | ⟨1, _⟩ => rfl
    | ⟨2, _⟩ => show ((b.val * 1 + 0) * 1024 + d.val) % 1024 = d.val; omega
  rw [e, val_main_v21_apply, ← ref_dz, ← ref_x x b s d]
  exact mul_comm _ _

theorem ref_dx (T : Fin 4096) (d : Fin 1024) :
    (val_main_v27 (F := Ideal) y z w md res : FVec Ideal (Mat 4096 1024) .f32) (ix2 T d)
      = (∑ f : Fin 5632, beside 2816 y z T f * flatW w d f) * (oneWord + at3 md (T / 2048) 1 d) + at2 res T d := by
  rw [val_main_v27_apply]
  have e : idx_main_v27 (ix2 T d) = ix3 ⟨T.val / 2048, by omega⟩ ⟨T.val % 2048, Nat.mod_lt _ (by decide)⟩ d := by
    funext a; apply Fin.ext
    match a with
    | ⟨0, _⟩ => show (T.val * 1024 + d.val) / 2097152 = T.val / 2048; omega
    | ⟨1, _⟩ => show (T.val * 1024 + d.val) / 1024 % 2048 = T.val % 2048; omega
    | ⟨2, _⟩ => show (T.val * 1024 + d.val) % 1024 = d.val; omega
  rw [e, val_main_v26_apply, val_main_v25_apply, val_main_v24_apply, val_main_v11_apply, val_main_v10_apply, val_main_v9_apply, val_main_v17_apply, ref_dz]
  refine (add_comm _ _).trans (congrArg₂ (· + ·) (congrArg₂ (· * ·) ?_ (congrArg (oneWord + ·) ?_)) ?_)
  · dsimp only
    rw [show 2048 * (T.val / 2048) + T.val % 2048 = T.val by omega]
  · rw [at3_of md (r := T.val / 2048) (c := 1) ⟨T.val / 2048, by omega⟩ 1 d rfl rfl rfl]
    refine congrArg md ?_
    funext a; apply Fin.ext
    match a with
    | ⟨0, _⟩ => rfl
    | ⟨1, _⟩ => rfl
    | ⟨2, _⟩ => rfl
  · rw [at2_mk res T d]
    refine congrArg res ?_
    funext a; apply Fin.ext
    match a with
    | ⟨0, _⟩ => show ((T.val / 2048 * 2048 + T.val % 2048) * 1024 + d.val) / 1024 = T.val; omega
    | ⟨1, _⟩ => show ((T.val / 2048 * 2048 + T.val % 2048) * 1024 + d.val) % 1024 = d.val; omega

end Reference

/-- The three results are the reference's. -/
theorem result_x : ((dats m 0 c).arrAt 7 cfg0.N : FVec Ideal (Mat 4096 1024) .f32)
    = val_main_v27 (F := Ideal) (Dg m c) (Du m c) (W m c) (Md m c) (Res m c) := by
  have e : ∀ (T : Fin 4096) (d : Fin 1024), ((dats m 0 c).arrAt 7 cfg0.N : FVec Ideal (Mat 4096 1024) .f32) (ix2 T d)
      = (val_main_v27 (F := Ideal) (Dg m c) (Du m c) (W m c) (Md m c) (Res m c) : FVec Ideal (Mat 4096 1024) .f32) (ix2 T d) :=
    fun T d => (array_x m c T d).trans (ref_dx _ _ _ _ _ T d).symm
  funext i
  rw [← ix2_eta i]
  exact e _ _

theorem rows {φ : FTy} (p q : FVec Ideal ⟨3, ![2, 1, 1024]⟩ φ) (h : ∀ (b : Fin 2) (d : Fin 1024), p (ix3 b 0 d) = q (ix3 b 0 d)) : p = q := by
  funext i
  have e : i = ix3 (i 0) 0 (i 2) := (eq_ix3 i).trans (congrArg (fun k => ix3 (i 0) k (i 2)) (Subsingleton.elim (α := Fin 1) _ _))
  exact (congrArg p e).trans ((h (i 0) (i 2)).trans (congrArg q e.symm))

theorem result_sh : ((dats m 0 c).arrAt 8 cfg0.N : FVec Ideal ⟨3, ![2, 1, 1024]⟩ .f32) = val_main_v20 (F := Ideal) (Dg m c) (Du m c) (W m c) :=
  rows (φ := .f32) _ _ fun b d => (array_sh m c b d).trans (ref_sh _ _ _ b d).symm

theorem result_sc : ((dats m 0 c).arrAt 9 cfg0.N : FVec Ideal ⟨3, ![2, 1, 1024]⟩ .f32) = val_main_v23 (F := Ideal) (Dg m c) (Du m c) (W m c) (X m c) :=
  rows (φ := .f32) _ _ fun b d => (array_sc m c b d).trans (ref_sc _ _ _ _ b d).symm

end Cert.InGrad
-- ==== Proof.Gate.lean ====
module

public import proofs.«01_k».proof.Proof.Sums
public import proofs.«01_k».proof.Proof.Finite
public import proofs.«01_k».proof.Proof.Gen.Kernel5Ideal.Value
public import proofs.«01_k».proof.Proof.Gen.Reference5Ideal.Read
public import proofs.«01_k».proof.Proof.Gen.Pre_finite5

@[expose] public section

/-! # The gradients of the gate and of the up branch of a SwiGLU layer

The layer's inner array is `silu(gate) · up`. The kernel writes the derivative of `silu` as `σ (1 + g (1 - σ))`, the
reference as `σ + g σ (1 - σ)`; the two agree on every gate, the infinite ones too, if the factor before them is a real number. -/

noncomputable section

namespace Cert.Gate

open Idealize.ShloMosaic Idealize.ShloMosaic.TcCoe Idealize.SL.Sem
open Cert.Kernel5Ideal Cert.Kernel5Ideal.Gen Cert.Attn Cert.Ffn

theorem hz : (![0, 0] : Fin 2 → Nat) = fun _ => 0 := funext fun a => by fin_cases a <;> rfl
theorem hz4 : (![0, 0, 0, 0] : Fin 4 → Nat) = fun _ => 0 := funext fun a => by fin_cases a <;> rfl

/-! ## One entry -/

/-- The gate's gradient as the kernel computes it, from the gradient `a` of the inner array. -/
def gateGrad (a u g : EReal) : EReal := (a * u) * (Ideal.logistic g * (oneWord + g * (oneWord - Ideal.logistic g)))

/-- The up branch's gradient. -/
def upGrad (a g : EReal) : EReal := a * (g * Ideal.logistic g)

theorem one_word : oneWord = 1 := Ideal.ofBits_one_f32

/-- The two forms of the derivative agree. -/
theorem gateGrad_eq (a u : ℝ) (g : EReal) :
    ((a : EReal) * u) * Ideal.logistic g + (g * ((a : EReal) * u)) * (Ideal.logistic g * (oneWord - Ideal.logistic g)) = gateGrad a u g := by
  unfold gateGrad
  rw [one_word, ← EReal.coe_mul]
  induction g with
  | bot => rw [Ideal.logistic_bot, zero_mul, zero_mul, mul_zero, mul_zero, add_zero]
  | top =>
    have e : (1 : EReal) - 1 = 0 := by rw [← EReal.coe_one, ← EReal.coe_sub, sub_self, EReal.coe_zero]
    rw [Ideal.logistic_top, e, mul_zero, mul_zero, mul_zero, add_zero, add_zero, mul_one, mul_one, mul_one]
  | coe r =>
    rw [Ideal.logistic_coe]
    generalize (1 + Real.exp (-r))⁻¹ = s
    rw [← EReal.coe_one]
    simp only [← EReal.coe_mul, ← EReal.coe_add, ← EReal.coe_sub]
    exact congrArg _ (by ring)

/-! ## One block -/

/-- The weight's block with its two parts one above the other. -/
theorem stacked (v : FVec Ideal S1x2x704x1024 .bf16) (h1) (h2) (e : Fin 1408) (d : Fin 1024) :
    (shapeCast S1408x1024 (shapeCast S2x704x1024 v h1) h2 : FVec Ideal S1408x1024 .bf16) (ix2 e d)
      = v (ix4 0 ⟨e.val / 704, by omega⟩ ⟨e.val % 704, Nat.mod_lt _ (by decide)⟩ d) := by
  rw [shapeCast_apply _ h2 (ix2 e d) (ix3 ⟨e.val / 704, by omega⟩ ⟨e.val % 704, Nat.mod_lt _ (by decide)⟩ d)
      (by rewrite [Shape.rowMajor_val_three, Shape.rowMajor_val_two]
          show (e.val / 704 * 704 + e.val % 704) * 1024 + d.val = e.val * 1024 + d.val
          omega),
    shapeCast_apply _ h1 (ix3 ⟨e.val / 704, by omega⟩ ⟨e.val % 704, Nat.mod_lt _ (by decide)⟩ d) (ix4 0 ⟨e.val / 704, by omega⟩ ⟨e.val % 704, Nat.mod_lt _ (by decide)⟩ d)
      (by rewrite [Shape.rowMajor_val_four, Shape.rowMajor_val_three]
          show ((0 * 2 + e.val / 704) * 704 + e.val % 704) * 1024 + d.val = (e.val / 704 * 704 + e.val % 704) * 1024 + d.val
          omega)]

/-- The gradient of the inner array, one block of it. -/
theorem inner_apply (x : FVec Ideal S1024x1024 .bf16) (v : FVec Ideal S1x2x704x1024 .bf16) (k : Fin 1024) (e : Fin 1408) :
    k0_pay1 (F := Ideal) x v (ix2 k e) = ∑ d : Fin 1024, x (ix2 k d) * v (ix4 0 ⟨e.val / 704, by omega⟩ ⟨e.val % 704, Nat.mod_lt _ (by decide)⟩ d) := by
  unfold k0_pay1
  refine ((Ideal.matmul_transposedRhs_apply none x _ _ k e).trans ((congrArg (· + _) Ideal.ofBits_zero_f32).trans (zero_add _))).trans ?_
  exact Finset.sum_congr rfl fun d _ => congrArg (x (ix2 k d) * ·) (stacked v _ _ e d)

theorem gate_apply (x : FVec Ideal S1024x1024 .bf16) (v : FVec Ideal S1x2x704x1024 .bf16) (g u : FVec Ideal S1024x1408 .bf16) (i : S1024x1408.Idx) :
    k0_pay4 (F := Ideal) x v g u i = gateGrad (k0_pay1 (F := Ideal) x v i) (u i) (g i) := rfl

theorem up_apply (x : FVec Ideal S1024x1024 .bf16) (v : FVec Ideal S1x2x704x1024 .bf16) (g : FVec Ideal S1024x1408 .bf16) (i : S1024x1408.Idx) :
    k0_pay5 (F := Ideal) x v g i = upGrad (k0_pay1 (F := Ideal) x v i) (g i) := rfl

/-- What a point stores for the gate. -/
theorem stores_gate (x : FVec Ideal S1024x1024 .bf16) (v : FVec Ideal S1x2x704x1024 .bf16) (g u : FVec Ideal S1024x1408 .bf16) :
    out0_4 (F := Ideal) x v g u = k0_pay4 (F := Ideal) x v g u := by
  unfold out0_4
  rw [View.canon_unit_zero hz]
  simp only [View.ld_unit_zero (S := S1024x1024) hz, View.ld_unit_zero (S := S1x2x704x1024) hz4, View.ld_unit_zero (S := S1024x1408) hz]

/-- What a point stores for the up branch. -/
theorem stores_up (x : FVec Ideal S1024x1024 .bf16) (v : FVec Ideal S1x2x704x1024 .bf16) (g u : FVec Ideal S1024x1408 .bf16) :
    out0_5 (F := Ideal) x v g u = k0_pay5 (F := Ideal) x v g := by
  unfold out0_5
  rw [View.canon_unit_zero hz]
  simp only [View.ld_unit_zero (S := S1024x1024) hz, View.ld_unit_zero (S := S1x2x704x1024) hz4, View.ld_unit_zero (S := S1024x1408) hz]

/-! ## The arrays -/

/-- A row of the weight, whose four parts stand one above the other. -/
def weight (w : FVec Ideal ⟨4, ![1, 4, 704, 1024]⟩ .bf16) (f : Fin 2816) (d : Fin 1024) : EReal :=
  w (ix4 0 ⟨f.val / 704, by omega⟩ ⟨f.val % 704, Nat.mod_lt _ (by decide)⟩ d)

/-- The gradient of the inner array. -/
def inner (y : FVec Ideal (Mat 4096 1024) .bf16) (w : FVec Ideal ⟨4, ![1, 4, 704, 1024]⟩ .bf16) (T : Fin 4096) (f : Fin 2816) : EReal :=
  ∑ d : Fin 1024, y (ix2 T d) * weight w f d

variable (m : (ℓ : Loc nD τ sig) → Buf (Elt Ideal) ℓ) (c : Dev nD)

/-- The output's gradient. -/
abbrev Y : FVec Ideal (Mat 4096 1024) .bf16 := m ((c : Thread nD τ).loc main_arg0)
/-- The weight. -/
abbrev W : FVec Ideal ⟨4, ![1, 4, 704, 1024]⟩ .bf16 := m ((c : Thread nD τ).loc main_arg1)
/-- The gate. -/
abbrev Gt : FVec Ideal (Mat 4096 2816) .bf16 := m ((c : Thread nD τ).loc main_arg2)
/-- The up branch. -/
abbrev Up : FVec Ideal (Mat 4096 2816) .bf16 := m ((c : Thread nD τ).loc main_arg3)

theorem at_y : ∀ t : Fin grid0.N, win0_0.index t 0 = t.val / 2 ∧ win0_0.index t 1 = 0 := by decide +kernel
theorem at_w : ∀ t : Fin grid0.N, win0_1.index t 0 = 0 ∧ win0_1.index t 1 = t.val % 2 ∧ win0_1.index t 2 = 0 ∧ win0_1.index t 3 = 0 := by decide +kernel
theorem at_gate : ∀ t : Fin grid0.N, win0_2.index t 0 = t.val / 2 ∧ win0_2.index t 1 = t.val % 2 := by decide +kernel
theorem at_up : ∀ t : Fin grid0.N, win0_3.index t 0 = t.val / 2 ∧ win0_3.index t 1 = t.val % 2 := by decide +kernel
theorem at_dgate : ∀ t : Fin grid0.N, win0_4.index t 0 = t.val / 2 ∧ win0_4.index t 1 = t.val % 2 := by decide +kernel
theorem at_dup : ∀ t : Fin grid0.N, win0_5.index t 0 = t.val / 2 ∧ win0_5.index t 1 = t.val % 2 := by decide +kernel

theorem lt8 (t : Fin grid0.N) : t.val < 8 := lt_of_lt_of_eq t.isLt N_0

/-- The array's row that a point's row `k` is. -/
abbrev tok (t : Fin grid0.N) (k : Fin 1024) : Fin 4096 := ⟨1024 * (t.val / 2) + k, by have := lt8 t; omega⟩
/-- The array's column that a point's column `e` is. -/
abbrev col (t : Fin grid0.N) (e : Fin 1408) : Fin 2816 := ⟨1408 * (t.val % 2) + e, by omega⟩

theorem block_y (t : Fin grid0.N) (k d : Fin 1024) :
    (iblk m c 0 t : FVec Ideal S1024x1024 .bf16) (ix2 k d) = Y m c (ix2 (tok t k) d) := by
  have hi := at_y t
  unfold iblk
  rw [View.read_apply]
  show V m c main_arg0 _ = _
  rw [V_main_arg0]
  congr 1
  funext a
  apply Fin.ext
  match a with
  | ⟨0, _⟩ => show win0_0.index t 0 * 1024 + 1 * k.val = 1024 * (t.val / 2) + k.val; rw [hi.1]; omega
  | ⟨1, _⟩ => show win0_0.index t 1 * 1024 + 1 * d.val = d.val; rw [hi.2]; omega

theorem block_w (t : Fin grid0.N) (e : Fin 1408) (d : Fin 1024) :
    (iblk m c 1 t : FVec Ideal S1x2x704x1024 .bf16) (ix4 0 ⟨e.val / 704, by omega⟩ ⟨e.val % 704, Nat.mod_lt _ (by decide)⟩ d) = weight (W m c) (col t e) d := by
  obtain ⟨h0, h1, h2, h3⟩ := at_w t
  unfold iblk weight
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 2 + 1 * (e.val / 704) = (1408 * (t.val % 2) + e.val) / 704; rw [h1]; omega
  | ⟨2, _⟩ => show win0_1.index t 2 * 704 + 1 * (e.val % 704) = (1408 * (t.val % 2) + e.val) % 704; rw [h2]; omega
  | ⟨3, _⟩ => show win0_1.index t 3 * 1024 + 1 * d.val = d.val; rw [h3]; omega

theorem block_gate (t : Fin grid0.N) (k : Fin 1024) (e : Fin 1408) :
    (iblk m c 2 t : FVec Ideal S1024x1408 .bf16) (ix2 k e) = Gt m c (ix2 (tok t k) (col t e)) := by
  have hi := at_gate t
  unfold iblk
  rw [View.read_apply]
  show V m c main_arg2 _ = _
  rw [V_main_arg2]
  congr 1
  funext a
  apply Fin.ext
  match a with
  | ⟨0, _⟩ => show win0_2.index t 0 * 1024 + 1 * k.val = 1024 * (t.val / 2) + k.val; rw [hi.1]; omega
  | ⟨1, _⟩ => show win0_2.index t 1 * 1408 + 1 * e.val = 1408 * (t.val % 2) + e.val; rw [hi.2]; omega

theorem block_up (t : Fin grid0.N) (k : Fin 1024) (e : Fin 1408) :
    (iblk m c 3 t : FVec Ideal S1024x1408 .bf16) (ix2 k e) = Up m c (ix2 (tok t k) (col t e)) := by
  have hi := at_up t
  unfold iblk
  rw [View.read_apply]
  show V m c main_arg3 _ = _
  rw [V_main_arg3]
  congr 1
  funext a
  apply Fin.ext
  match a with
  | ⟨0, _⟩ => show win0_3.index t 0 * 1024 + 1 * k.val = 1024 * (t.val / 2) + k.val; rw [hi.1]; omega
  | ⟨1, _⟩ => show win0_3.index t 1 * 1408 + 1 * e.val = 1408 * (t.val % 2) + e.val; rw [hi.2]; omega

theorem block_inner (t : Fin grid0.N) (k : Fin 1024) (e : Fin 1408) :
    k0_pay1 (F := Ideal) (iblk m c 0 t) (iblk m c 1 t) (ix2 k e) = inner (Y m c) (W m c) (tok t k) (col t e) :=
  (inner_apply _ _ k e).trans (Finset.sum_congr rfl fun d _ => congrArg₂ (· * ·) (block_y m c t k d) (block_w m c t e d))

/-- The gate's gradient as an array. -/
def dGate : FVec Ideal (Mat 4096 2816) .bf16 := fun i =>
  gateGrad (inner (Y m c) (W m c) (i 0) (i 1)) (Up m c (ix2 (i 0) (i 1))) (Gt m c (ix2 (i 0) (i 1)))

/-- The up branch's gradient as an array. -/
def dUp : FVec Ideal (Mat 4096 2816) .bf16 := fun i =>
  upGrad (inner (Y m c) (W m c) (i 0) (i 1)) (Gt m c (ix2 (i 0) (i 1)))

theorem point_gate (t : Fin grid0.N) (k : Fin 1024) (e : Fin 1408) :
    out0_4 (F := Ideal) (iblk m c 0 t) (iblk m c 1 t) (iblk m c 2 t) (iblk m c 3 t) (ix2 k e) = dGate m c (ix2 (tok t k) (col t e)) := by
  rw [stores_gate, gate_apply, block_inner, block_gate, block_up]
  rfl

theorem point_up (t : Fin grid0.N) (k : Fin 1024) (e : Fin 1408) :
    out0_5 (F := Ideal) (iblk m c 0 t) (iblk m c 1 t) (iblk m c 2 t) (iblk m c 3 t) (ix2 k e) = dUp m c (ix2 (tok t k) (col t e)) := by
  rw [stores_up, up_apply, block_inner, block_gate]
  rfl

theorem flushed_gate (t : Fin cfg0.N) (_ : (cfg0.win 4).flush t = true) :
    (dats m 0 c).flushed 4 t = ((cfg0.win 4).blk t).view.read (Elt Ideal) (dGate m c) := by
  rw [Value.flushed4]
  have hi := at_dgate t
  funext y
  rw [View.read_apply]
  have hy0 : (y 0).val < 1024 := (y 0).isLt
  have hy1 : (y 1).val < 1408 := (y 1).isLt
  have hl : (cfg0.win 4).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 4).blk t).view.emb y = ix2 (tok t ⟨(y 0).val, hy0⟩) (col t ⟨(y 1).val, hy1⟩) := by
    funext a; apply Fin.ext
    match a with
    | ⟨0, _⟩ => show win0_4.index t 0 * 1024 + 1 * (y 0).val = 1024 * (t.val / 2) + (y 0).val; omega
    | ⟨1, _⟩ => show win0_4.index t 1 * 1408 + 1 * (y 1).val = 1408 * (t.val % 2) + (y 1).val; omega
  show out0_4 (F := Ideal) (iblk m c 0 t) (iblk m c 1 t) (iblk m c 2 t) (iblk m c 3 t) ((cfg0.win 4).xinj (grid0.coords t) y) = dGate m c (((cfg0.win 4).blk t).view.emb y)
  rw [hl, hb]
  exact point_gate m c t _ _

theorem flushed_up (t : Fin cfg0.N) (_ : (cfg0.win 5).flush t = true) :
    (dats m 0 c).flushed 5 t = ((cfg0.win 5).blk t).view.read (Elt Ideal) (dUp m c) := by
  rw [Value.flushed5]
  have hi := at_dup t
  funext y
  rw [View.read_apply]
  have hy0 : (y 0).val < 1024 := (y 0).isLt
  have hy1 : (y 1).val < 1408 := (y 1).isLt
  have hl : (cfg0.win 5).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 5).blk t).view.emb y = ix2 (tok t ⟨(y 0).val, hy0⟩) (col t ⟨(y 1).val, hy1⟩) := by
    funext a; apply Fin.ext
    match a with
    | ⟨0, _⟩ => show win0_5.index t 0 * 1024 + 1 * (y 0).val = 1024 * (t.val / 2) + (y 0).val; omega
    | ⟨1, _⟩ => show win0_5.index t 1 * 1408 + 1 * (y 1).val = 1408 * (t.val % 2) + (y 1).val; omega
  show out0_5 (F := Ideal) (iblk m c 0 t) (iblk m c 1 t) (iblk m c 2 t) (iblk m c 3 t) ((cfg0.win 5).xinj (grid0.coords t) y) = dUp m c (((cfg0.win 5).blk t).view.emb y)
  rw [hl, hb]
  exact point_up m c t _ _

/-- Every block of the two arrays is some point's. -/
theorem reaches : ∀ (i : Fin 4) (j : Fin 2), ∃ t : Fin grid0.N, ((win0_4.flush t = true ∧ win0_5.flush t = true) ∧ win0_4.index t = ![i.val, j.val]) ∧ win0_5.index t = ![i.val, j.val] := by
  decide +kernel

/-- The gate's gradient after the run. -/
theorem array_gate : (dats m 0 c).arrAt 4 cfg0.N = dGate m c := by
  refine (dats m 0 c).arrAt_eq_of_cover 4 _ (fun t hf => flushed_gate m c t hf) fun i => ?_
  have h0 : (i 0).val < 4096 := (i 0).isLt
  have h1 : (i 1).val < 2816 := (i 1).isLt
  obtain ⟨t, ⟨⟨hf, _⟩, ht⟩, _⟩ := reaches ⟨(i 0).val / 1024, by omega⟩ ⟨(i 1).val / 1408, by omega⟩
  refine ⟨t, hf, ?_⟩
  show i ∈ ((View.whole main_v0_0).slice (win0_4.rect t)).set
  rw [View.set_slice_whole, Rect.mem_set_unit]
  have q0 : win0_4.index t 0 = (i 0).val / 1024 := congrFun ht 0
  have q1 : win0_4.index t 1 = (i 1).val / 1408 := congrFun ht 1
  intro a
  match a with
  | ⟨0, _⟩ => show win0_4.index t 0 * 1024 ≤ (i 0).val ∧ (i 0).val < win0_4.index t 0 * 1024 + 1024; omega
  | ⟨1, _⟩ => show win0_4.index t 1 * 1408 ≤ (i 1).val ∧ (i 1).val < win0_4.index t 1 * 1408 + 1408; omega

/-- The up branch's gradient after the run. -/
theorem array_up : (dats m 0 c).arrAt 5 cfg0.N = dUp m c := by
  refine (dats m 0 c).arrAt_eq_of_cover 5 _ (fun t hf => flushed_up m c t hf) fun i => ?_
  have h0 : (i 0).val < 4096 := (i 0).isLt
  have h1 : (i 1).val < 2816 := (i 1).isLt
  obtain ⟨t, ⟨⟨_, hf⟩, _⟩, ht⟩ := reaches ⟨(i 0).val / 1024, by omega⟩ ⟨(i 1).val / 1408, by omega⟩
  refine ⟨t, hf, ?_⟩
  show i ∈ ((View.whole main_v0_1).slice (win0_5.rect t)).set
  rw [View.set_slice_whole, Rect.mem_set_unit]
  have q0 : win0_5.index t 0 = (i 0).val / 1024 := congrFun ht 0
  have q1 : win0_5.index t 1 = (i 1).val / 1408 := congrFun ht 1
  intro a
  match a with
  | ⟨0, _⟩ => show win0_5.index t 0 * 1024 ≤ (i 0).val ∧ (i 0).val < win0_5.index t 0 * 1024 + 1024; omega
  | ⟨1, _⟩ => show win0_5.index t 1 * 1408 ≤ (i 1).val ∧ (i 1).val < win0_5.index t 1 * 1408 + 1408; omega

/-! ## The reference -/

section Reference

open Cert.Reference5Ideal.Read

variable (y : FVec Ideal (Mat 4096 1024) .bf16) (w : FVec Ideal ⟨4, ![1, 4, 704, 1024]⟩ .bf16) (g u : FVec Ideal (Mat 4096 2816) .bf16)

theorem ref_weight (f : Fin 2816) (d : Fin 1024) : (val_main_v2 (F := Ideal) w : FVec Ideal (Mat 2816 1024) .f32) (ix2 f d) = weight w f d := by
  have hf := f.isLt
  have hd := d.isLt
  have e1 : idx_main_v1 (ix2 f d) = ix3 ⟨f.val / 704, by omega⟩ ⟨f.val % 704, Nat.mod_lt _ (by decide)⟩ d := by
    funext a; apply Fin.ext
    match a with
    | ⟨0, _⟩ => show (f.val * 1024 + d.val) / 720896 = f.val / 704; omega
    | ⟨1, _⟩ => show (f.val * 1024 + d.val) / 1024 % 704 = f.val % 704; omega
    | ⟨2, _⟩ => show (f.val * 1024 + d.val) % 1024 = d.val; omega
  have e0 : ∀ (p : Fin 4) (q : Fin 704), idx_main_v0 (ix3 p q d) = ix4 0 p q d := by
    intro p q
    have hp := p.isLt
    have hq := q.isLt
    funext a; apply Fin.ext
    match a with
    | ⟨0, _⟩ => rfl
    | ⟨1, _⟩ => show ((p.val * 704 + q.val) * 1024 + d.val) / 720896 % 4 = p.val; omega
    | ⟨2, _⟩ => show ((p.val * 704 + q.val) * 1024 + d.val) / 1024 % 704 = q.val; omega
    | ⟨3, _⟩ => show ((p.val * 704 + q.val) * 1024 + d.val) % 1024 = d.val; omega
  rw [val_main_v2_apply, val_main_v1_apply, e1, val_main_v0_apply, e0]
  rfl

theorem ref_inner (T : Fin 4096) (f : Fin 2816) : (val_main_v9 (F := Ideal) y w : FVec Ideal (Mat 4096 2816) .f32) (ix2 T f) = inner y w T f := by
  rw [val_main_v9_apply]
  refine Finset.sum_congr rfl fun d _ => congrArg₂ (· * ·) ?_ (Eq.trans ?_ (ref_weight w f d))
  · show y _ = _
    refine congrArg y ?_
    funext a; apply Fin.ext
    match a with
    | ⟨0, _⟩ => rfl
    | ⟨1, _⟩ => rfl
  · refine congrArg (val_main_v2 (F := Ideal) w) ?_
    funext a; apply Fin.ext
    match a with
    | ⟨0, _⟩ => rfl
    | ⟨1, _⟩ => rfl

theorem ref_logistic (i : (Mat 4096 2816).Idx) : val_main_v5_2 (F := Ideal) g i = Ideal.logistic (g i) := by
  rw [val_main_v5_2_apply, val_main_call0_v4_apply, val_main_call0_cst_0_apply, val_main_call0_v3_apply, val_main_call0_v2_apply, val_main_call0_cst_apply,
    val_main_call0_v1_apply, val_main_call0_v0_apply, val_main_v3_apply]
  show Ideal.div oneWord (oneWord + Ideal.exp (-(g i))) = _
  rw [one_word]
  rfl

theorem ref_up (T : Fin 4096) (f : Fin 2816) : (val_main_v14 (F := Ideal) y w g : FVec Ideal (Mat 4096 2816) .bf16) (ix2 T f) = upGrad (inner y w T f) (g (ix2 T f)) := by
  show (g (ix2 T f) * val_main_v5_2 (F := Ideal) g (ix2 T f)) * val_main_v9 (F := Ideal) y w (ix2 T f) = _
  rw [ref_logistic, ref_inner]
  exact mul_comm _ _

theorem ref_gate (T : Fin 4096) (f : Fin 2816) (a b : ℝ) (ha : inner y w T f = a) (hb : u (ix2 T f) = (b : EReal)) :
    (val_main_v13 (F := Ideal) y w g u : FVec Ideal (Mat 4096 2816) .bf16) (ix2 T f) = gateGrad (inner y w T f) (u (ix2 T f)) (g (ix2 T f)) := by
  show (val_main_v9 (F := Ideal) y w (ix2 T f) * u (ix2 T f)) * val_main_v5_2 (F := Ideal) g (ix2 T f)
    + (g (ix2 T f) * (val_main_v9 (F := Ideal) y w (ix2 T f) * u (ix2 T f))) * (val_main_v5_2 (F := Ideal) g (ix2 T f) * (val_main_call0_v6 (F := Ideal) (ix2 T f) - val_main_v5_2 (F := Ideal) g (ix2 T f))) = _
  rw [val_main_call0_v6_apply, val_main_call0_cst_1_apply, ref_logistic, ref_inner, ha, hb]
  exact gateGrad_eq a b _

end Reference

/-! ## The precondition, and the two results -/

instance : Subsingleton (Cert.Pre_finite5.S_).Idx := ⟨fun a b => funext fun i => i.elim0⟩

theorem real_of_pre [Cert.Pre_finite5.Facts] {y : FVec Ideal (Mat 4096 1024) .bf16} {w : FVec Ideal ⟨4, ![1, 4, 704, 1024]⟩ .bf16} {g u : FVec Ideal (Mat 4096 2816) .bf16}
    (h : Cert.Pre_finite5.fn (F := Ideal) y w g u = fun _ => 1#1) :
    (∀ i, ∃ r : ℝ, (y i : EReal) = r) ∧ (∀ i, ∃ r : ℝ, (w i : EReal) = r) ∧ ∀ i, ∃ r : ℝ, (u i : EReal) = r := by
  have e := congrFun h (fun i => i.elim0)
  dsimp only [Cert.Pre_finite5.fn] at e
  obtain ⟨e, e2⟩ := IntOp.andi_eq_one.1 e
  obtain ⟨e0, e1⟩ := IntOp.andi_eq_one.1 e
  exact ⟨fun i => real_of_all _ e0 i, fun i => real_of_all _ e1 i, fun i => real_of_all _ e2 i⟩

/-- The gradient of the inner array is real where its operands are. -/
theorem inner_real {y : FVec Ideal (Mat 4096 1024) .bf16} {w : FVec Ideal ⟨4, ![1, 4, 704, 1024]⟩ .bf16} (hy : ∀ i, ∃ r : ℝ, (y i : EReal) = r)
    (hw : ∀ i, ∃ r : ℝ, (w i : EReal) = r) (T : Fin 4096) (f : Fin 2816) : ∃ r : ℝ, inner y w T f = r := by
  refine Finset.sum_induction _ (fun x : EReal => ∃ r : ℝ, x = r) ?_ ⟨0, EReal.coe_zero.symm⟩ ?_
  · rintro _ _ ⟨a, rfl⟩ ⟨b, rfl⟩
    exact ⟨a + b, (EReal.coe_add a b).symm⟩
  · intro d _
    obtain ⟨a, ha⟩ := hy (ix2 T d)
    obtain ⟨b, hb⟩ := hw (ix4 0 ⟨f.val / 704, by omega⟩ ⟨f.val % 704, Nat.mod_lt _ (by decide)⟩ d)
    exact ⟨a * b, (congrArg₂ (· * ·) ha hb).trans (EReal.coe_mul a b).symm⟩

theorem result_gate [Cert.Pre_finite5.Facts] (h : Cert.Pre_finite5.fn (F := Ideal) (Y m c) (W m c) (Gt m c) (Up m c) = fun _ => 1#1) :
    (dats m 0 c).arrAt 4 cfg0.N = Cert.Reference5Ideal.Read.val_main_v13 (F := Ideal) (Y m c) (W m c) (Gt m c) (Up m c) := by
  obtain ⟨hy, hw, hu⟩ := real_of_pre h
  rw [array_gate]
  have e : ∀ (T : Fin 4096) (f : Fin 2816), dGate m c (ix2 T f)
      = (Cert.Reference5Ideal.Read.val_main_v13 (F := Ideal) (Y m c) (W m c) (Gt m c) (Up m c) : FVec Ideal (Mat 4096 2816) .bf16) (ix2 T f) := by
    intro T f
    obtain ⟨a, ha⟩ := inner_real hy hw T f
    obtain ⟨b, hb⟩ := hu (ix2 T f)
    exact (ref_gate (Y m c) (W m c) (Gt m c) (Up m c) T f a b ha hb).symm
  funext i
  rw [← ix2_eta i]
  exact e _ _

theorem result_up : (dats m 0 c).arrAt 5 cfg0.N = Cert.Reference5Ideal.Read.val_main_v14 (F := Ideal) (Y m c) (W m c) (Gt m c) := by
  rw [array_up]
  have e : ∀ (T : Fin 4096) (f : Fin 2816), dUp m c (ix2 T f)
      = (Cert.Reference5Ideal.Read.val_main_v14 (F := Ideal) (Y m c) (W m c) (Gt m c) : FVec Ideal (Mat 4096 2816) .bf16) (ix2 T f) :=
    fun T f => (ref_up _ _ _ T f).symm
  funext i
  rw [← ix2_eta i]
  exact e _ _

end Cert.Gate

end
-- ==== Proof.FfnIn.lean ====
module

public import proofs.«01_k».proof.Proof.InGrad
public import proofs.«01_k».proof.Proof.Gate
public import proofs.«01_k».proof.Proof.Gen.Kernel8Ideal.Value
public import proofs.«01_k».proof.Proof.Gen.Reference8Ideal.Read

@[expose] public section

/-! # The gate, the up branch and the inner array of the first feed-forward layer

For each tile of tokens the kernel scales and shifts the rows once, at the first half of the hidden columns, and keeps them for the
second half. -/

noncomputable section

namespace Cert.FfnIn

open Idealize.ShloMosaic Idealize.ShloMosaic.TcCoe Idealize.SL.Sem
open Cert.Kernel8Ideal Cert.Kernel8Ideal.Gen Cert.Attn Cert.Ffn
open Cert.InGrad (flatW flatW_of hz hz3 hz4)

/-- An entry of the product with the weight, of the scaled and shifted rows. -/
def pre (sh sc : ℕ) (x : FVec Ideal (Mat 4096 1024) .f32) (md : FVec Ideal ⟨3, ![2, 9, 1024]⟩ .f32) (w : FVec Ideal ⟨4, ![1, 4, 1024, 1408]⟩ .bf16) (T f : ℕ) : EReal :=
  ∑ d : Fin 1024, modulated sh sc x md T d * flatW w d f

/-- An entry of the inner array, from the gate's and the up branch's. -/
def inner (g u : EReal) : EReal := (g * Ideal.logistic g) * u

/-! ## One block -/

/-- The scaled and shifted rows of a tile. -/
abbrev hrow (x : Vec Ideal S1024x1024 .f32) (md : Vec Ideal S1x9x1024 .f32) : Vec Ideal S1024x1024 .bf16 :=
  k0_pay1 x (View.ld md (Rect.unit (s := S1x9x1024) ![0, 1, 0] S1x1x1024.size inb_S1x9x1024_S1x1x1024_0_1_0))
    (View.ld md (Rect.unit (s := S1x9x1024) ![0, 0, 0] S1x1x1024.size inb_S1x9x1024_S1x1x1024_0_0_0))

theorem hrow_apply (x : FVec Ideal S1024x1024 .f32) (md : FVec Ideal S1x9x1024 .f32) (k d : Fin 1024) :
    hrow x md (ix2 k d) = x (ix2 k d) * (oneWord + md (ix3 0 1 d)) + md (ix3 0 0 d) := by
  unfold hrow
  rw [View.ld_unit, View.ld_unit]
  unfold k0_pay1
  dsimp only
  pointwise

theorem gate_apply (h : FVec Ideal S1024x1024 .bf16) (w : FVec Ideal S1x1x1024x1408 .bf16) (k : Fin 1024) (f : Fin 1408) :
    k0_pay2 (F := Ideal) h w (ix2 k f) = ∑ d : Fin 1024, h (ix2 k d) * w (ix4 0 0 d f) := by
  unfold k0_pay2
  refine ((Ideal.matmul_plain_apply none h _ _ k f).trans ((congrArg (· + _) Ideal.ofBits_zero_f32).trans (zero_add _))).trans ?_
  refine Finset.sum_congr rfl fun d _ => congrArg (h (ix2 k d) * ·) (shapeCast_apply w _ (ix2 d f) (ix4 0 0 d f) ?_)
  rewrite [Shape.rowMajor_val_four, Shape.rowMajor_val_two]
  show ((0 * 1 + 0) * 1024 + d.val) * 1408 + f.val = d.val * 1408 + f.val
  omega

section Case

variable (c : Dev nD) (i : grid0.Coords) (a2 : Memref sig .tc .vmem S1024x1024 .f32) (h2 : a2.IsWhole)
  (a3 : Memref sig .tc .vmem S1x9x1024 .f32) (h3 : a3.IsWhole) (a4 : Memref sig .tc .vmem S1x1x1024x1408 .bf16) (h4 : a4.IsWhole)
  (a5 : Memref sig .tc .vmem S1x1x1024x1408 .bf16) (h5 : a5.IsWhole) (a6 : Memref sig .tc .vmem S1024x1408 .bf16) (h6 : a6.IsWhole)
  (a7 : Memref sig .tc .vmem S1024x1408 .bf16) (h7 : a7.IsWhole) (a8 : Memref sig .tc .vmem S1024x1408 .bf16) (h8 : a8.IsWhole)
  (a9 : Memref sig .tc .vmem S1024x1024 .bf16) (h9 : a9.IsWhole)
  (x : Vec Ideal S1024x1024 .f32) (md : Vec Ideal S1x9x1024 .f32) (wg wu : Vec Ideal S1x1x1024x1408 .bf16) (acc : Vec Ideal S1024x1024 .bf16)

/-- The first half keeps the rows. -/
theorem keeps (k0 : cond0_0 i) : sout0_A_0 c i a2 h2 a3 h3 a4 h4 a5 h5 a6 h6 a7 h7 a8 h8 a9 h9 k0 x md wg wu = hrow x md := by
  unfold sout0_A_0
  rw [View.read_writes_eq_canon _ _ _ (scover0_A_0 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the first half stores. -/
theorem first_gate (k0 : cond0_0 i) : out0_A_4 c i a2 h2 a3 h3 a4 h4 a5 h5 a6 h6 a7 h7 a8 h8 a9 h9 k0 x md wg wu = k0_pay4 (hrow x md) wg := by
  unfold out0_A_4
  rw [View.read_writes_eq_canon _ _ _ (cover0_A_4 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the first half stores. -/
theorem first_up (k0 : cond0_0 i) : out0_A_5 c i a2 h2 a3 h3 a4 h4 a5 h5 a6 h6 a7 h7 a8 h8 a9 h9 k0 x md wg wu = k0_pay5 (hrow x md) wu := by
  unfold out0_A_5
  rw [View.read_writes_eq_canon _ _ _ (cover0_A_5 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the first half stores. -/
theorem first_inner (k0 : cond0_0 i) : out0_A_6 c i a2 h2 a3 h3 a4 h4 a5 h5 a6 h6 a7 h7 a8 h8 a9 h9 k0 x md wg wu = k0_pay6 (hrow x md) wg (hrow x md) wu := by
  unfold out0_A_6
  rw [View.read_writes_eq_canon _ _ _ (cover0_A_6 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the second half stores. -/
theorem second_gate (k0 : ¬cond0_0 i) : out0_B_4 c i a2 h2 a3 h3 a4 h4 a5 h5 a6 h6 a7 h7 a8 h8 a9 h9 k0 x md wg wu acc = k0_pay4 acc wg := by
  unfold out0_B_4
  rw [View.read_writes_eq_canon _ _ _ (cover0_B_4 c i a2 h2 a3 h3 a4 h4 a5 h5 a6 h6 a7 h7 a8 h8 a9 h9 k0 x md wg wu acc)]
  unfold kernelRun0_B
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the second half stores. -/
theorem second_up (k0 : ¬cond0_0 i) : out0_B_5 c i a2 h2 a3 h3 a4 h4 a5 h5 a6 h6 a7 h7 a8 h8 a9 h9 k0 x md wg wu acc = k0_pay5 acc wu := by
  unfold out0_B_5
  rw [View.read_writes_eq_canon _ _ _ (cover0_B_5 c i a2 h2 a3 h3 a4 h4 a5 h5 a6 h6 a7 h7 a8 h8 a9 h9 k0 x md wg wu acc)]
  unfold kernelRun0_B
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the second half stores. -/
theorem second_inner (k0 : ¬cond0_0 i) : out0_B_6 c i a2 h2 a3 h3 a4 h4 a5 h5 a6 h6 a7 h7 a8 h8 a9 h9 k0 x md wg wu acc = k0_pay6 acc wg acc wu := by
  unfold out0_B_6
  rw [View.read_writes_eq_canon _ _ _ (cover0_B_6 c i a2 h2 a3 h3 a4 h4 a5 h5 a6 h6 a7 h7 a8 h8 a9 h9 k0 x md wg wu acc)]
  unfold kernelRun0_B
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

end Case

/-! ## The arrays -/

variable (m : (ℓ : Loc nD τ sig) → Buf (Elt Ideal) ℓ) (c : Dev nD)

/-- The tokens. -/
abbrev X : FVec Ideal (Mat 4096 1024) .f32 := m ((c : Thread nD τ).loc main_arg0)
/-- The modulation. -/
abbrev Md : FVec Ideal ⟨3, ![2, 9, 1024]⟩ .f32 := m ((c : Thread nD τ).loc main_arg1)
/-- The weight. -/
abbrev W : FVec Ideal ⟨4, ![1, 4, 1024, 1408]⟩ .bf16 := m ((c : Thread nD τ).loc main_arg2)

theorem at_x : ∀ t : Fin grid0.N, win0_0.index t 0 = t.val / 2 ∧ win0_0.index t 1 = 0 := by decide +kernel
theorem at_md : ∀ t : Fin grid0.N, win0_1.index t 0 = t.val / 4 ∧ win0_1.index t 1 = 0 ∧ win0_1.index t 2 = 0 := by decide +kernel
theorem at_wg : ∀ t : Fin grid0.N, win0_2.index t 0 = 0 ∧ win0_2.index t 1 = t.val % 2 ∧ win0_2.index t 2 = 0 ∧ win0_2.index t 3 = 0 := by decide +kernel
theorem at_wu : ∀ t : Fin grid0.N, win0_3.index t 0 = 0 ∧ win0_3.index t 1 = t.val % 2 + 2 ∧ win0_3.index t 2 = 0 ∧ win0_3.index t 3 = 0 := by decide +kernel
theorem at_gate : ∀ t : Fin grid0.N, win0_4.index t 0 = t.val / 2 ∧ win0_4.index t 1 = t.val % 2 := by decide +kernel
theorem at_up : ∀ t : Fin grid0.N, win0_5.index t 0 = t.val / 2 ∧ win0_5.index t 1 = t.val % 2 := by decide +kernel
theorem at_inner : ∀ t : Fin grid0.N, win0_6.index t 0 = t.val / 2 ∧ win0_6.index t 1 = t.val % 2 := by decide +kernel

theorem lt8 (t : Fin grid0.N) : t.val < 8 := lt_of_lt_of_eq t.isLt N_0

/-- The array's row that a point's row `k` is. -/
abbrev tok (t : Fin grid0.N) (k : Fin 1024) : Fin 4096 := ⟨1024 * (t.val / 2) + k, by have := lt8 t; omega⟩
/-- The array's column that a point's column `e` is. -/
abbrev col (t : Fin grid0.N) (e : Fin 1408) : Fin 2816 := ⟨1408 * (t.val % 2) + e, by omega⟩

theorem block_x (t : Fin grid0.N) (k d : Fin 1024) :
    (iblk m c 0 t : FVec Ideal S1024x1024 .f32) (ix2 k d) = at2 (X m c) (1024 * (t.val / 2) + k) d := by
  have hi := at_x t
  have ht := lt8 t
  rw [at2_of (X m c) ⟨1024 * (t.val / 2) + k, by omega⟩ d rfl rfl]
  unfold iblk
  rw [View.read_apply]
  show V m c main_arg0 _ = _
  rw [V_main_arg0]
  congr 1
  funext a
  apply Fin.ext
  match a with
  | ⟨0, _⟩ => show win0_0.index t 0 * 1024 + 1 * k.val = 1024 * (t.val / 2) + k.val; rw [hi.1]; omega
  | ⟨1, _⟩ => show win0_0.index t 1 * 1024 + 1 * d.val = d.val; rw [hi.2]; omega

theorem block_md (t : Fin grid0.N) (r : Fin 9) (d : Fin 1024) :
    (iblk m c 1 t : FVec Ideal S1x9x1024 .f32) (ix3 0 r d) = at3 (Md m c) (t.val / 4) r d := by
  have hi := at_md t
  have ht := lt8 t
  rw [at3_of (Md m c) ⟨t.val / 4, by omega⟩ r d rfl rfl rfl]
  unfold iblk
  rw [View.read_apply]
  show V m c main_arg1 _ = _
  rw [V_main_arg1]
  congr 1
  funext a
  apply Fin.ext
  match a with
  | ⟨0, _⟩ => show win0_1.index t 0 * 1 + 1 * 0 = t.val / 4; rw [hi.1]; omega
  | ⟨1, _⟩ => show win0_1.index t 1 * 9 + 1 * r.val = r.val; rw [hi.2.1]; omega
  | ⟨2, _⟩ => show win0_1.index t 2 * 1024 + 1 * d.val = d.val; rw [hi.2.2]; omega

theorem block_wg (t : Fin grid0.N) (d : Fin 1024) (f : Fin 1408) :
    (iblk m c 2 t : FVec Ideal S1x1x1024x1408 .bf16) (ix4 0 0 d f) = flatW (W m c) d (1408 * (t.val % 2) + f) := by
  obtain ⟨h0, h1, h2, h3⟩ := at_wg t
  rw [flatW_of (W m c) ⟨t.val % 2, by omega⟩ d f rfl]
  unfold iblk
  rw [View.read_apply]
  show V m c main_arg2 _ = _
  rw [V_main_arg2]
  congr 1
  funext a
  apply Fin.ext
  match a with
  | ⟨0, _⟩ => show win0_2.index t 0 * 1 + 1 * 0 = 0; rw [h0]
  | ⟨1, _⟩ => show win0_2.index t 1 * 1 + 1 * 0 = t.val % 2; rw [h1]; omega
  | ⟨2, _⟩ => show win0_2.index t 2 * 1024 + 1 * d.val = d.val; rw [h2]; omega
  | ⟨3, _⟩ => show win0_2.index t 3 * 1408 + 1 * f.val = f.val; rw [h3]; omega

theorem block_wu (t : Fin grid0.N) (d : Fin 1024) (f : Fin 1408) :
    (iblk m c 3 t : FVec Ideal S1x1x1024x1408 .bf16) (ix4 0 0 d f) = flatW (W m c) d (2816 + (1408 * (t.val % 2) + f)) := by
  obtain ⟨h0, h1, h2, h3⟩ := at_wu t
  rw [flatW_of (W m c) ⟨t.val % 2 + 2, by omega⟩ d f (by dsimp only; omega)]
  unfold iblk
  rw [View.read_apply]
  show V m c main_arg2 _ = _
  rw [V_main_arg2]
  congr 1
  funext a
  apply Fin.ext
  match a with
  | ⟨0, _⟩ => show win0_3.index t 0 * 1 + 1 * 0 = 0; rw [h0]
  | ⟨1, _⟩ => show win0_3.index t 1 * 1 + 1 * 0 = t.val % 2 + 2; rw [h1]; omega
  | ⟨2, _⟩ => show win0_3.index t 2 * 1024 + 1 * d.val = d.val; rw [h2]; omega
  | ⟨3, _⟩ => show win0_3.index t 3 * 1408 + 1 * f.val = f.val; rw [h3]; omega

/-- The rows of a point's tile, scaled and shifted. -/
abbrev H (t : Fin grid0.N) : Vec Ideal S1024x1024 .bf16 := hrow (iblk m c 0 t) (iblk m c 1 t)

theorem H_apply (t : Fin grid0.N) (k d : Fin 1024) : H m c t (ix2 k d) = modulated 0 1 (X m c) (Md m c) (1024 * (t.val / 2) + k) d := by
  have e : (1024 * (t.val / 2) + k.val) / 2048 = t.val / 4 := by omega
  unfold modulated
  rw [e]
  refine (hrow_apply _ _ k d).trans ?_
  rw [block_x]
  exact congrArg₂ (· + ·) (congrArg (_ * ·) (congrArg (oneWord + ·) (block_md m c t 1 d))) (block_md m c t 0 d)

theorem kept (s : Fin cfg0.N) (hs : s.val % 2 = 0) (n : ℕ) (h : n < cfg0.N) (e : n = s.val) : (outsAt0 m c n h).2.2.2 = H m c s := by
  subst e
  refine (congrArg (fun p => p.2.2.2) (outsAt0_A m c s hs)).trans ?_
  dsimp only
  rw [keeps]

/-- What a point stores, in terms of the rows it works on. -/
theorem stored (t : Fin cfg0.N) : ∃ h : Vec Ideal S1024x1024 .bf16,
    (∀ k d : Fin 1024, h (ix2 k d) = modulated 0 1 (X m c) (Md m c) (1024 * (t.val / 2) + k) d) ∧
    (outsAt0 m c t.val t.isLt).1 = k0_pay4 h (iblk m c 2 t) ∧ (outsAt0 m c t.val t.isLt).2.1 = k0_pay5 h (iblk m c 3 t)
      ∧ (outsAt0 m c t.val t.isLt).2.2.1 = k0_pay6 h (iblk m c 2 t) h (iblk m c 3 t) := by
  by_cases ht : t.val % 2 = 0
  · refine ⟨H m c t, H_apply m c t, ?_, ?_, ?_⟩
    · refine (congrArg Prod.fst (outsAt0_A m c t ht)).trans ?_
      dsimp only
      rw [first_gate]
    · refine (congrArg (fun p => p.2.1) (outsAt0_A m c t ht)).trans ?_
      dsimp only
      rw [first_up]
    · refine (congrArg (fun p => p.2.2.1) (outsAt0_A m c t ht)).trans ?_
      dsimp only
      rw [first_inner]
  · obtain ⟨s, hs⟩ : ∃ s : Fin cfg0.N, s.val = t.val - 1 := ⟨⟨t.val - 1, Nat.lt_of_le_of_lt (Nat.sub_le _ _) t.isLt⟩, rfl⟩
    have q : s.val / 2 = t.val / 2 := by omega
    refine ⟨H m c s, fun k d => q ▸ H_apply m c s k d, ?_, ?_, ?_⟩
    · refine (congrArg Prod.fst (outsAt0_B m c t ht)).trans ?_
      dsimp only
      rw [second_gate, kept m c s (by omega) _ _ hs.symm]
    · refine (congrArg (fun p => p.2.1) (outsAt0_B m c t ht)).trans ?_
      dsimp only
      rw [second_up, kept m c s (by omega) _ _ hs.symm]
    · refine (congrArg (fun p => p.2.2.1) (outsAt0_B m c t ht)).trans ?_
      dsimp only
      rw [second_inner, kept m c s (by omega) _ _ hs.symm]

/-- The gate as an array. -/
def gateArr : FVec Ideal (Mat 4096 2816) .bf16 := fun i => pre 0 1 (X m c) (Md m c) (W m c) (i 0).val (i 1).val

/-- The up branch as an array. -/
def upArr : FVec Ideal (Mat 4096 2816) .bf16 := fun i => pre 0 1 (X m c) (Md m c) (W m c) (i 0).val (2816 + (i 1).val)

/-- The inner array. -/
def innerArr : FVec Ideal (Mat 4096 2816) .bf16 := fun i => inner (gateArr m c i) (upArr m c i)

theorem product_gate (t : Fin grid0.N) (h : Vec Ideal S1024x1024 .bf16)
    (hh : ∀ k d : Fin 1024, h (ix2 k d) = modulated 0 1 (X m c) (Md m c) (1024 * (t.val / 2) + k) d) (k : Fin 1024) (f : Fin 1408) :
    k0_pay2 (F := Ideal) h (iblk m c 2 t) (ix2 k f) = gateArr m c (ix2 (tok t k) (col t f)) :=
  (gate_apply _ _ k f).trans (Finset.sum_congr rfl fun d _ => congrArg₂ (· * ·) (hh k d) (block_wg m c t d f))

theorem product_up (t : Fin grid0.N) (h : Vec Ideal S1024x1024 .bf16)
    (hh : ∀ k d : Fin 1024, h (ix2 k d) = modulated 0 1 (X m c) (Md m c) (1024 * (t.val / 2) + k) d) (k : Fin 1024) (f : Fin 1408) :
    k0_pay3 (F := Ideal) h (iblk m c 3 t) (ix2 k f) = upArr m c (ix2 (tok t k) (col t f)) :=
  (gate_apply _ _ k f).trans (Finset.sum_congr rfl fun d _ => congrArg₂ (· * ·) (hh k d) (block_wu m c t d f))

theorem point_gate (t : Fin cfg0.N) (k : Fin 1024) (e : Fin 1408) : (outsAt0 m c t.val t.isLt).1 (ix2 k e) = gateArr m c (ix2 (tok t k) (col t e)) := by
  obtain ⟨h, hh, h1, _, _⟩ := stored m c t
  rw [h1]
  exact product_gate m c t h hh k e

theorem point_up (t : Fin cfg0.N) (k : Fin 1024) (e : Fin 1408) : (outsAt0 m c t.val t.isLt).2.1 (ix2 k e) = upArr m c (ix2 (tok t k) (col t e)) := by
  obtain ⟨h, hh, _, h2, _⟩ := stored m c t
  rw [h2]
  exact product_up m c t h hh k e

theorem point_inner (t : Fin cfg0.N) (k : Fin 1024) (e : Fin 1408) : (outsAt0 m c t.val t.isLt).2.2.1 (ix2 k e) = innerArr m c (ix2 (tok t k) (col t e)) := by
  obtain ⟨h, hh, _, _, h3⟩ := stored m c t
  rw [h3]
  show inner (k0_pay2 (F := Ideal) h (iblk m c 2 t) (ix2 k e)) (k0_pay3 (F := Ideal) h (iblk m c 3 t) (ix2 k e)) = _
  rw [product_gate m c t h hh, product_up m c t h hh]
  rfl

theorem flushed_gate (t : Fin cfg0.N) (_ : (cfg0.win 4).flush t = true) :
    (dats m 0 c).flushed 4 t = ((cfg0.win 4).blk t).view.read (Elt Ideal) (gateArr m c) := by
  rw [Value.flushed4]
  have hi := at_gate t
  funext y
  rw [View.read_apply]
  have hy0 : (y 0).val < 1024 := (y 0).isLt
  have hy1 : (y 1).val < 1408 := (y 1).isLt
  have hl : (cfg0.win 4).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 4).blk t).view.emb y = ix2 (tok t ⟨(y 0).val, hy0⟩) (col t ⟨(y 1).val, hy1⟩) := by
    funext a; apply Fin.ext
    match a with
    | ⟨0, _⟩ => show win0_4.index t 0 * 1024 + 1 * (y 0).val = 1024 * (t.val / 2) + (y 0).val; omega
    | ⟨1, _⟩ => show win0_4.index t 1 * 1408 + 1 * (y 1).val = 1408 * (t.val % 2) + (y 1).val; omega
  show (outsAt0 m c t.val t.isLt).1 ((cfg0.win 4).xinj (grid0.coords t) y) = gateArr m c (((cfg0.win 4).blk t).view.emb y)
  rw [hl, hb]
  exact point_gate m c t _ _

theorem flushed_up (t : Fin cfg0.N) (_ : (cfg0.win 5).flush t = true) :
    (dats m 0 c).flushed 5 t = ((cfg0.win 5).blk t).view.read (Elt Ideal) (upArr m c) := by
  rw [Value.flushed5]
  have hi := at_up t
  funext y
  rw [View.read_apply]
  have hy0 : (y 0).val < 1024 := (y 0).isLt
  have hy1 : (y 1).val < 1408 := (y 1).isLt
  have hl : (cfg0.win 5).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 5).blk t).view.emb y = ix2 (tok t ⟨(y 0).val, hy0⟩) (col t ⟨(y 1).val, hy1⟩) := by
    funext a; apply Fin.ext
    match a with
    | ⟨0, _⟩ => show win0_5.index t 0 * 1024 + 1 * (y 0).val = 1024 * (t.val / 2) + (y 0).val; omega
    | ⟨1, _⟩ => show win0_5.index t 1 * 1408 + 1 * (y 1).val = 1408 * (t.val % 2) + (y 1).val; omega
  show (outsAt0 m c t.val t.isLt).2.1 ((cfg0.win 5).xinj (grid0.coords t) y) = upArr m c (((cfg0.win 5).blk t).view.emb y)
  rw [hl, hb]
  exact point_up m c t _ _

theorem flushed_inner (t : Fin cfg0.N) (_ : (cfg0.win 6).flush t = true) :
    (dats m 0 c).flushed 6 t = ((cfg0.win 6).blk t).view.read (Elt Ideal) (innerArr m c) := by
  rw [Value.flushed6]
  have hi := at_inner t
  funext y
  rw [View.read_apply]
  have hy0 : (y 0).val < 1024 := (y 0).isLt
  have hy1 : (y 1).val < 1408 := (y 1).isLt
  have hl : (cfg0.win 6).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 6).blk t).view.emb y = ix2 (tok t ⟨(y 0).val, hy0⟩) (col t ⟨(y 1).val, hy1⟩) := by
    funext a; apply Fin.ext
    match a with
    | ⟨0, _⟩ => show win0_6.index t 0 * 1024 + 1 * (y 0).val = 1024 * (t.val / 2) + (y 0).val; omega
    | ⟨1, _⟩ => show win0_6.index t 1 * 1408 + 1 * (y 1).val = 1408 * (t.val % 2) + (y 1).val; omega
  show (outsAt0 m c t.val t.isLt).2.2.1 ((cfg0.win 6).xinj (grid0.coords t) y) = innerArr m c (((cfg0.win 6).blk t).view.emb y)
  rw [hl, hb]
  exact point_inner m c t _ _

/-- Every block of the three arrays is some point's. -/
theorem reaches : ∀ (i : Fin 4) (j : Fin 2), ∃ t : Fin grid0.N, (win0_4.flush t = true ∧ win0_5.flush t = true ∧ win0_6.flush t = true)
    ∧ win0_4.index t = ![i.val, j.val] ∧ win0_5.index t = ![i.val, j.val] ∧ win0_6.index t = ![i.val, j.val] := by
  decide +kernel

theorem array_gate : (dats m 0 c).arrAt 4 cfg0.N = gateArr m c := by
  refine (dats m 0 c).arrAt_eq_of_cover 4 _ (fun t hf => flushed_gate m c t hf) fun i => ?_
  have h0 : (i 0).val < 4096 := (i 0).isLt
  have h1 : (i 1).val < 2816 := (i 1).isLt
  obtain ⟨t, ⟨hf, _, _⟩, ht, _, _⟩ := reaches ⟨(i 0).val / 1024, by omega⟩ ⟨(i 1).val / 1408, by omega⟩
  refine ⟨t, hf, ?_⟩
  show i ∈ ((View.whole main_v0_0).slice (win0_4.rect t)).set
  rw [View.set_slice_whole, Rect.mem_set_unit]
  have q0 : win0_4.index t 0 = (i 0).val / 1024 := congrFun ht 0
  have q1 : win0_4.index t 1 = (i 1).val / 1408 := congrFun ht 1
  intro a
  match a with
  | ⟨0, _⟩ => show win0_4.index t 0 * 1024 ≤ (i 0).val ∧ (i 0).val < win0_4.index t 0 * 1024 + 1024; omega
  | ⟨1, _⟩ => show win0_4.index t 1 * 1408 ≤ (i 1).val ∧ (i 1).val < win0_4.index t 1 * 1408 + 1408; omega

theorem array_up : (dats m 0 c).arrAt 5 cfg0.N = upArr m c := by
  refine (dats m 0 c).arrAt_eq_of_cover 5 _ (fun t hf => flushed_up m c t hf) fun i => ?_
  have h0 : (i 0).val < 4096 := (i 0).isLt
  have h1 : (i 1).val < 2816 := (i 1).isLt
  obtain ⟨t, ⟨_, hf, _⟩, _, ht, _⟩ := reaches ⟨(i 0).val / 1024, by omega⟩ ⟨(i 1).val / 1408, by omega⟩
  refine ⟨t, hf, ?_⟩
  show i ∈ ((View.whole main_v0_1).slice (win0_5.rect t)).set
  rw [View.set_slice_whole, Rect.mem_set_unit]
  have q0 : win0_5.index t 0 = (i 0).val / 1024 := congrFun ht 0
  have q1 : win0_5.index t 1 = (i 1).val / 1408 := congrFun ht 1
  intro a
  match a with
  | ⟨0, _⟩ => show win0_5.index t 0 * 1024 ≤ (i 0).val ∧ (i 0).val < win0_5.index t 0 * 1024 + 1024; omega
  | ⟨1, _⟩ => show win0_5.index t 1 * 1408 ≤ (i 1).val ∧ (i 1).val < win0_5.index t 1 * 1408 + 1408; omega

theorem array_inner : (dats m 0 c).arrAt 6 cfg0.N = innerArr m c := by
  refine (dats m 0 c).arrAt_eq_of_cover 6 _ (fun t hf => flushed_inner m c t hf) fun i => ?_
  have h0 : (i 0).val < 4096 := (i 0).isLt
  have h1 : (i 1).val < 2816 := (i 1).isLt
  obtain ⟨t, ⟨_, _, hf⟩, _, _, ht⟩ := reaches ⟨(i 0).val / 1024, by omega⟩ ⟨(i 1).val / 1408, by omega⟩
  refine ⟨t, hf, ?_⟩
  show i ∈ ((View.whole main_v0_2).slice (win0_6.rect t)).set
  rw [View.set_slice_whole, Rect.mem_set_unit]
  have q0 : win0_6.index t 0 = (i 0).val / 1024 := congrFun ht 0
  have q1 : win0_6.index t 1 = (i 1).val / 1408 := congrFun ht 1
  intro a
  match a with
  | ⟨0, _⟩ => show win0_6.index t 0 * 1024 ≤ (i 0).val ∧ (i 0).val < win0_6.index t 0 * 1024 + 1024; omega
  | ⟨1, _⟩ => show win0_6.index t 1 * 1408 ≤ (i 1).val ∧ (i 1).val < win0_6.index t 1 * 1408 + 1408; omega

/-! ## The reference -/

section Reference

open Cert.Reference8Ideal.Read

variable (x : FVec Ideal (Mat 4096 1024) .f32) (md : FVec Ideal ⟨3, ![2, 9, 1024]⟩ .f32) (w : FVec Ideal ⟨4, ![1, 4, 1024, 1408]⟩ .bf16)

theorem ref_row (b : Fin 2) (s : Fin 2048) (d : Fin 1024) :
    (val_main_v8 (F := Ideal) x md : FVec Ideal ⟨3, ![2, 2048, 1024]⟩ .f32) (ix3 b s d) = modulated 0 1 x md (2048 * b + s) d := by
  rw [val_main_v8_apply, val_main_v5_apply, val_main_v0_apply, val_main_v4_apply, val_main_v3_apply, val_main_v2_apply, val_main_cst_apply, val_main_v1_apply,
    val_main_v7_apply, val_main_v6_apply]
  unfold modulated
  rw [at2_of x ⟨2048 * b + s, by omega⟩ d rfl rfl, at3_of md (r := (2048 * b + s) / 2048) (c := 1) b 1 d (by omega) rfl rfl,
    at3_of md (r := (2048 * b + s) / 2048) (c := 0) b 0 d (by omega) rfl rfl]
  refine congrArg₂ (· + ·) (congrArg₂ (· * ·) (congrArg x ?_) (congrArg (oneWord + ·) (congrArg md ?_))) (congrArg md ?_)
  · funext a; apply Fin.ext
    match a with
    | ⟨0, _⟩ => show ((b.val * 2048 + s.val) * 1024 + d.val) / 1024 = 2048 * b.val + s.val; omega
    | ⟨1, _⟩ => show ((b.val * 2048 + s.val) * 1024 + d.val) % 1024 = d.val; omega
  all_goals
    funext a; apply Fin.ext
    match a with
    | ⟨0, _⟩ => rfl
    | ⟨1, _⟩ => rfl
    | ⟨2, _⟩ => rfl

theorem ref_pre (T : Fin 4096) (f : Fin 5632) : (val_main_v14 (F := Ideal) x md w : FVec Ideal (Mat 4096 5632) .f32) (ix2 T f) = pre 0 1 x md w T f := by
  have hT := T.isLt
  rw [val_main_v14_apply]
  refine Finset.sum_congr rfl fun d _ => congrArg₂ (· * ·) ?_ (Eq.trans ?_ (Cert.InGrad.ref_weight w d f))
  · have e : idx_main_v13 (lidx_main_v14 (ix2 T f) d) = ix3 ⟨T.val / 2048, by omega⟩ ⟨T.val % 2048, Nat.mod_lt _ (by decide)⟩ d := by
      funext a; apply Fin.ext
      match a with
      | ⟨0, _⟩ => show (T.val * 1024 + d.val) / 2097152 = T.val / 2048; omega
      | ⟨1, _⟩ => show (T.val * 1024 + d.val) / 1024 % 2048 = T.val % 2048; omega
      | ⟨2, _⟩ => show (T.val * 1024 + d.val) % 1024 = d.val; omega
    rw [val_main_v13_apply, e, ref_row]
    exact congrArg (modulated 0 1 x md · d) (show 2048 * (T.val / 2048) + T.val % 2048 = T.val by omega)
  · show val_main_v12 (F := Ideal) w _ = val_main_v12 (F := Ideal) w _
    refine congrArg (val_main_v12 (F := Ideal) w) ?_
    funext a; apply Fin.ext
    match a with
    | ⟨0, _⟩ => rfl
    | ⟨1, _⟩ => rfl

theorem ref_gate (T : Fin 4096) (f : Fin 2816) : (val_main_v15 (F := Ideal) x md w : FVec Ideal (Mat 4096 2816) .f32) (ix2 T f) = pre 0 1 x md w T f := by
  rw [val_main_v15_apply]
  refine Eq.trans (congrArg (val_main_v14 (F := Ideal) x md w) ?_) (ref_pre x md w T ⟨f.val, by omega⟩)
  funext a; apply Fin.ext
  match a with
  | ⟨0, _⟩ => rfl
  | ⟨1, _⟩ => rfl

theorem ref_up (T : Fin 4096) (f : Fin 2816) : (val_main_v16 (F := Ideal) x md w : FVec Ideal (Mat 4096 2816) .f32) (ix2 T f) = pre 0 1 x md w T (2816 + f.val) := by
  rw [val_main_v16_apply]
  refine Eq.trans (congrArg (val_main_v14 (F := Ideal) x md w) ?_) (ref_pre x md w T ⟨2816 + f.val, by omega⟩)
  funext a; apply Fin.ext
  match a with
  | ⟨0, _⟩ => rfl
  | ⟨1, _⟩ => rfl

theorem ref_inner (T : Fin 4096) (f : Fin 2816) : (val_main_v21 (F := Ideal) x md w : FVec Ideal (Mat 4096 2816) .bf16) (ix2 T f)
    = inner (pre 0 1 x md w T f) (pre 0 1 x md w T (2816 + f.val)) := by
  have e : (val_main_call0_v5 (F := Ideal) x md w : FVec Ideal (Mat 4096 2816) .f32) (ix2 T f) = Ideal.logistic (pre 0 1 x md w T f) := by
    rw [val_main_call0_v5_apply, val_main_call0_v4_apply, val_main_call0_cst_0_apply, val_main_call0_v3_apply, val_main_call0_v2_apply, val_main_call0_cst_apply,
      val_main_call0_v1_apply, val_main_call0_v0_apply, ref_gate]
    show Ideal.div oneWord (oneWord + Ideal.exp (-(pre 0 1 x md w T f))) = _
    rw [Cert.Gate.one_word]
    rfl
  show (val_main_v15 (F := Ideal) x md w (ix2 T f) * val_main_call0_v5 (F := Ideal) x md w (ix2 T f)) * val_main_v16 (F := Ideal) x md w (ix2 T f) = _
  rw [e, ref_gate, ref_up]
  rfl

end Reference

/-! ## The three results -/

theorem result_gate : (dats m 0 c).arrAt 4 cfg0.N = Cert.Reference8Ideal.Read.val_main_v17 (F := Ideal) (X m c) (Md m c) (W m c) := by
  rw [array_gate]
  have e : ∀ (T : Fin 4096) (f : Fin 2816), gateArr m c (ix2 T f)
      = (Cert.Reference8Ideal.Read.val_main_v17 (F := Ideal) (X m c) (Md m c) (W m c) : FVec Ideal (Mat 4096 2816) .bf16) (ix2 T f) :=
    fun T f => (ref_gate _ _ _ T f).symm
  funext i
  rw [← ix2_eta i]
  exact e _ _

theorem result_up : (dats m 0 c).arrAt 5 cfg0.N = Cert.Reference8Ideal.Read.val_main_v18 (F := Ideal) (X m c) (Md m c) (W m c) := by
  rw [array_up]
  have e : ∀ (T : Fin 4096) (f : Fin 2816), upArr m c (ix2 T f)
      = (Cert.Reference8Ideal.Read.val_main_v18 (F := Ideal) (X m c) (Md m c) (W m c) : FVec Ideal (Mat 4096 2816) .bf16) (ix2 T f) :=
    fun T f => (ref_up _ _ _ T f).symm
  funext i
  rw [← ix2_eta i]
  exact e _ _

theorem result_inner : (dats m 0 c).arrAt 6 cfg0.N = Cert.Reference8Ideal.Read.val_main_v21 (F := Ideal) (X m c) (Md m c) (W m c) := by
  rw [array_inner]
  have e : ∀ (T : Fin 4096) (f : Fin 2816), innerArr m c (ix2 T f)
      = (Cert.Reference8Ideal.Read.val_main_v21 (F := Ideal) (X m c) (Md m c) (W m c) : FVec Ideal (Mat 4096 2816) .bf16) (ix2 T f) :=
    fun T f => (ref_inner _ _ _ T f).symm
  funext i
  rw [← ix2_eta i]
  exact e _ _

end Cert.FfnIn

end
-- ==== Proof.FfnInNext.lean ====
module

public import proofs.«01_k».proof.Proof.FfnIn
public import proofs.«01_k».proof.Proof.Gate
public import proofs.«01_k».proof.Proof.Gen.Kernel10Ideal.Value
public import proofs.«01_k».proof.Proof.Gen.Reference10Ideal.Read

@[expose] public section

/-! # The gate, the up branch and the inner array of the second feed-forward layer

As of the first layer, with the modulation's shift and scale in other rows. -/

noncomputable section

namespace Cert.FfnInNext

open Idealize.ShloMosaic Idealize.ShloMosaic.TcCoe Idealize.SL.Sem
open Cert.Kernel10Ideal Cert.Kernel10Ideal.Gen Cert.Attn Cert.Ffn
open Cert.FfnIn (pre inner)
open Cert.InGrad (flatW flatW_of hz hz3 hz4)

/-! ## One block -/

/-- The scaled and shifted rows of a tile. -/
abbrev hrow (x : Vec Ideal S1024x1024 .f32) (md : Vec Ideal S1x9x1024 .f32) : Vec Ideal S1024x1024 .bf16 :=
  k0_pay1 x (View.ld md (Rect.unit (s := S1x9x1024) ![0, 7, 0] S1x1x1024.size inb_S1x9x1024_S1x1x1024_0_7_0))
    (View.ld md (Rect.unit (s := S1x9x1024) ![0, 6, 0] S1x1x1024.size inb_S1x9x1024_S1x1x1024_0_6_0))

theorem hrow_apply (x : FVec Ideal S1024x1024 .f32) (md : FVec Ideal S1x9x1024 .f32) (k d : Fin 1024) :
    hrow x md (ix2 k d) = x (ix2 k d) * (oneWord + md (ix3 0 7 d)) + md (ix3 0 6 d) := by
  unfold hrow
  rw [View.ld_unit, View.ld_unit]
  unfold k0_pay1
  dsimp only
  pointwise

theorem gate_apply (h : FVec Ideal S1024x1024 .bf16) (w : FVec Ideal S1x1x1024x1408 .bf16) (k : Fin 1024) (f : Fin 1408) :
    k0_pay2 (F := Ideal) h w (ix2 k f) = ∑ d : Fin 1024, h (ix2 k d) * w (ix4 0 0 d f) :=
  Cert.FfnIn.gate_apply h w k f

section Case

variable (c : Dev nD) (i : grid0.Coords) (a2 : Memref sig .tc .vmem S1024x1024 .f32) (h2 : a2.IsWhole)
  (a3 : Memref sig .tc .vmem S1x9x1024 .f32) (h3 : a3.IsWhole) (a4 : Memref sig .tc .vmem S1x1x1024x1408 .bf16) (h4 : a4.IsWhole)
  (a5 : Memref sig .tc .vmem S1x1x1024x1408 .bf16) (h5 : a5.IsWhole) (a6 : Memref sig .tc .vmem S1024x1408 .bf16) (h6 : a6.IsWhole)
  (a7 : Memref sig .tc .vmem S1024x1408 .bf16) (h7 : a7.IsWhole) (a8 : Memref sig .tc .vmem S1024x1408 .bf16) (h8 : a8.IsWhole)
  (a9 : Memref sig .tc .vmem S1024x1024 .bf16) (h9 : a9.IsWhole)
  (x : Vec Ideal S1024x1024 .f32) (md : Vec Ideal S1x9x1024 .f32) (wg wu : Vec Ideal S1x1x1024x1408 .bf16) (acc : Vec Ideal S1024x1024 .bf16)

/-- The first half keeps the rows. -/
theorem keeps (k0 : cond0_0 i) : sout0_A_0 c i a2 h2 a3 h3 a4 h4 a5 h5 a6 h6 a7 h7 a8 h8 a9 h9 k0 x md wg wu = hrow x md := by
  unfold sout0_A_0
  rw [View.read_writes_eq_canon _ _ _ (scover0_A_0 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the first half stores. -/
theorem first_gate (k0 : cond0_0 i) : out0_A_4 c i a2 h2 a3 h3 a4 h4 a5 h5 a6 h6 a7 h7 a8 h8 a9 h9 k0 x md wg wu = k0_pay4 (hrow x md) wg := by
  unfold out0_A_4
  rw [View.read_writes_eq_canon _ _ _ (cover0_A_4 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the first half stores. -/
theorem first_up (k0 : cond0_0 i) : out0_A_5 c i a2 h2 a3 h3 a4 h4 a5 h5 a6 h6 a7 h7 a8 h8 a9 h9 k0 x md wg wu = k0_pay5 (hrow x md) wu := by
  unfold out0_A_5
  rw [View.read_writes_eq_canon _ _ _ (cover0_A_5 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the first half stores. -/
theorem first_inner (k0 : cond0_0 i) : out0_A_6 c i a2 h2 a3 h3 a4 h4 a5 h5 a6 h6 a7 h7 a8 h8 a9 h9 k0 x md wg wu = k0_pay6 (hrow x md) wg (hrow x md) wu := by
  unfold out0_A_6
  rw [View.read_writes_eq_canon _ _ _ (cover0_A_6 c i a2 h2 a3 h3 a4 h4 a5 h5 a6 h6 a7 h7 a8 h8 a9 h9 k0 x md wg wu)]
  unfold kernelRun0_A
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the second half stores. -/
theorem second_gate (k0 : ¬cond0_0 i) : out0_B_4 c i a2 h2 a3 h3 a4 h4 a5 h5 a6 h6 a7 h7 a8 h8 a9 h9 k0 x md wg wu acc = k0_pay4 acc wg := by
  unfold out0_B_4
  rw [View.read_writes_eq_canon _ _ _ (cover0_B_4 c i a2 h2 a3 h3 a4 h4 a5 h5 a6 h6 a7 h7 a8 h8 a9 h9 k0 x md wg wu acc)]
  unfold kernelRun0_B
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the second half stores. -/
theorem second_up (k0 : ¬cond0_0 i) : out0_B_5 c i a2 h2 a3 h3 a4 h4 a5 h5 a6 h6 a7 h7 a8 h8 a9 h9 k0 x md wg wu acc = k0_pay5 acc wu := by
  unfold out0_B_5
  rw [View.read_writes_eq_canon _ _ _ (cover0_B_5 c i a2 h2 a3 h3 a4 h4 a5 h5 a6 h6 a7 h7 a8 h8 a9 h9 k0 x md wg wu acc)]
  unfold kernelRun0_B
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

/-- What the second half stores. -/
theorem second_inner (k0 : ¬cond0_0 i) : out0_B_6 c i a2 h2 a3 h3 a4 h4 a5 h5 a6 h6 a7 h7 a8 h8 a9 h9 k0 x md wg wu acc = k0_pay6 acc wg acc wu := by
  unfold out0_B_6
  rw [View.read_writes_eq_canon _ _ _ (cover0_B_6 c i a2 h2 a3 h3 a4 h4 a5 h5 a6 h6 a7 h7 a8 h8 a9 h9 k0 x md wg wu acc)]
  unfold kernelRun0_B
  dsimp only
  sl_unfold_words
  rw [View.canon_unit_zero hz]
  simp only [View.readAt_eq_ld, h2.read_unread, h3.read_unread, h4.read_unread, h5.read_unread, h9.read_unread, View.readCov_unit_zero (S := S1024x1024) _ hz,
    View.ld_unit_zero (S := S1024x1024) hz, View.ld_unit_zero (S := S1x1x1024x1408) hz4, shapeCast_self]

end Case

/-! ## The arrays -/

variable (m : (ℓ : Loc nD τ sig) → Buf (Elt Ideal) ℓ) (c : Dev nD)

/-- The tokens. -/
abbrev X : FVec Ideal (Mat 4096 1024) .f32 := m ((c : Thread nD τ).loc main_arg0)
/-- The modulation. -/
abbrev Md : FVec Ideal ⟨3, ![2, 9, 1024]⟩ .f32 := m ((c : Thread nD τ).loc main_arg1)
/-- The weight. -/
abbrev W : FVec Ideal ⟨4, ![1, 4, 1024, 1408]⟩ .bf16 := m ((c : Thread nD τ).loc main_arg2)

theorem at_x : ∀ t : Fin grid0.N, win0_0.index t 0 = t.val / 2 ∧ win0_0.index t 1 = 0 := by decide +kernel
theorem at_md : ∀ t : Fin grid0.N, win0_1.index t 0 = t.val / 4 ∧ win0_1.index t 1 = 0 ∧ win0_1.index t 2 = 0 := by decide +kernel
theorem at_wg : ∀ t : Fin grid0.N, win0_2.index t 0 = 0 ∧ win0_2.index t 1 = t.val % 2 ∧ win0_2.index t 2 = 0 ∧ win0_2.index t 3 = 0 := by decide +kernel
theorem at_wu : ∀ t : Fin grid0.N, win0_3.index t 0 = 0 ∧ win0_3.index t 1 = t.val % 2 + 2 ∧ win0_3.index t 2 = 0 ∧ win0_3.index t 3 = 0 := by decide +kernel
theorem at_gate : ∀ t : Fin grid0.N, win0_4.index t 0 = t.val / 2 ∧ win0_4.index t 1 = t.val % 2 := by decide +kernel
theorem at_up : ∀ t : Fin grid0.N, win0_5.index t 0 = t.val / 2 ∧ win0_5.index t 1 = t.val % 2 := by decide +kernel
theorem at_inner : ∀ t : Fin grid0.N, win0_6.index t 0 = t.val / 2 ∧ win0_6.index t 1 = t.val % 2 := by decide +kernel

theorem lt8 (t : Fin grid0.N) : t.val < 8 := lt_of_lt_of_eq t.isLt N_0

/-- The array's row that a point's row `k` is. -/
abbrev tok (t : Fin grid0.N) (k : Fin 1024) : Fin 4096 := ⟨1024 * (t.val / 2) + k, by have := lt8 t; omega⟩
/-- The array's column that a point's column `e` is. -/
abbrev col (t : Fin grid0.N) (e : Fin 1408) : Fin 2816 := ⟨1408 * (t.val % 2) + e, by omega⟩

theorem block_x (t : Fin grid0.N) (k d : Fin 1024) :
    (iblk m c 0 t : FVec Ideal S1024x1024 .f32) (ix2 k d) = at2 (X m c) (1024 * (t.val / 2) + k) d := by
  have hi := at_x t
  have ht := lt8 t
  rw [at2_of (X m c) ⟨1024 * (t.val / 2) + k, by omega⟩ d rfl rfl]
  unfold iblk
  rw [View.read_apply]
  show V m c main_arg0 _ = _
  rw [V_main_arg0]
  congr 1
  funext a
  apply Fin.ext
  match a with
  | ⟨0, _⟩ => show win0_0.index t 0 * 1024 + 1 * k.val = 1024 * (t.val / 2) + k.val; rw [hi.1]; omega
  | ⟨1, _⟩ => show win0_0.index t 1 * 1024 + 1 * d.val = d.val; rw [hi.2]; omega

theorem block_md (t : Fin grid0.N) (r : Fin 9) (d : Fin 1024) :
    (iblk m c 1 t : FVec Ideal S1x9x1024 .f32) (ix3 0 r d) = at3 (Md m c) (t.val / 4) r d := by
  have hi := at_md t
  have ht := lt8 t
  rw [at3_of (Md m c) ⟨t.val / 4, by omega⟩ r d rfl rfl rfl]
  unfold iblk
  rw [View.read_apply]
  show V m c main_arg1 _ = _
  rw [V_main_arg1]
  congr 1
  funext a
  apply Fin.ext
  match a with
  | ⟨0, _⟩ => show win0_1.index t 0 * 1 + 1 * 0 = t.val / 4; rw [hi.1]; omega
  | ⟨1, _⟩ => show win0_1.index t 1 * 9 + 1 * r.val = r.val; rw [hi.2.1]; omega
  | ⟨2, _⟩ => show win0_1.index t 2 * 1024 + 1 * d.val = d.val; rw [hi.2.2]; omega

theorem block_wg (t : Fin grid0.N) (d : Fin 1024) (f : Fin 1408) :
    (iblk m c 2 t : FVec Ideal S1x1x1024x1408 .bf16) (ix4 0 0 d f) = flatW (W m c) d (1408 * (t.val % 2) + f) := by
  obtain ⟨h0, h1, h2, h3⟩ := at_wg t
  rw [flatW_of (W m c) ⟨t.val % 2, by omega⟩ d f rfl]
  unfold iblk
  rw [View.read_apply]
  show V m c main_arg2 _ = _
  rw [V_main_arg2]
  congr 1
  funext a
  apply Fin.ext
  match a with
  | ⟨0, _⟩ => show win0_2.index t 0 * 1 + 1 * 0 = 0; rw [h0]
  | ⟨1, _⟩ => show win0_2.index t 1 * 1 + 1 * 0 = t.val % 2; rw [h1]; omega
  | ⟨2, _⟩ => show win0_2.index t 2 * 1024 + 1 * d.val = d.val; rw [h2]; omega
  | ⟨3, _⟩ => show win0_2.index t 3 * 1408 + 1 * f.val = f.val; rw [h3]; omega

theorem block_wu (t : Fin grid0.N) (d : Fin 1024) (f : Fin 1408) :
    (iblk m c 3 t : FVec Ideal S1x1x1024x1408 .bf16) (ix4 0 0 d f) = flatW (W m c) d (2816 + (1408 * (t.val % 2) + f)) := by
  obtain ⟨h0, h1, h2, h3⟩ := at_wu t
  rw [flatW_of (W m c) ⟨t.val % 2 + 2, by omega⟩ d f (by dsimp only; omega)]
  unfold iblk
  rw [View.read_apply]
  show V m c main_arg2 _ = _
  rw [V_main_arg2]
  congr 1
  funext a
  apply Fin.ext
  match a with
  | ⟨0, _⟩ => show win0_3.index t 0 * 1 + 1 * 0 = 0; rw [h0]
  | ⟨1, _⟩ => show win0_3.index t 1 * 1 + 1 * 0 = t.val % 2 + 2; rw [h1]; omega
  | ⟨2, _⟩ => show win0_3.index t 2 * 1024 + 1 * d.val = d.val; rw [h2]; omega
  | ⟨3, _⟩ => show win0_3.index t 3 * 1408 + 1 * f.val = f.val; rw [h3]; omega

/-- The rows of a point's tile, scaled and shifted. -/
abbrev H (t : Fin grid0.N) : Vec Ideal S1024x1024 .bf16 := hrow (iblk m c 0 t) (iblk m c 1 t)

theorem H_apply (t : Fin grid0.N) (k d : Fin 1024) : H m c t (ix2 k d) = modulated 6 7 (X m c) (Md m c) (1024 * (t.val / 2) + k) d := by
  have e : (1024 * (t.val / 2) + k.val) / 2048 = t.val / 4 := by omega
  unfold modulated
  rw [e]
  refine (hrow_apply _ _ k d).trans ?_
  rw [block_x]
  exact congrArg₂ (· + ·) (congrArg (_ * ·) (congrArg (oneWord + ·) (block_md m c t 7 d))) (block_md m c t 6 d)

theorem kept (s : Fin cfg0.N) (hs : s.val % 2 = 0) (n : ℕ) (h : n < cfg0.N) (e : n = s.val) : (outsAt0 m c n h).2.2.2 = H m c s := by
  subst e
  refine (congrArg (fun p => p.2.2.2) (outsAt0_A m c s hs)).trans ?_
  dsimp only
  rw [keeps]

/-- What a point stores, in terms of the rows it works on. -/
theorem stored (t : Fin cfg0.N) : ∃ h : Vec Ideal S1024x1024 .bf16,
    (∀ k d : Fin 1024, h (ix2 k d) = modulated 6 7 (X m c) (Md m c) (1024 * (t.val / 2) + k) d) ∧
    (outsAt0 m c t.val t.isLt).1 = k0_pay4 h (iblk m c 2 t) ∧ (outsAt0 m c t.val t.isLt).2.1 = k0_pay5 h (iblk m c 3 t)
      ∧ (outsAt0 m c t.val t.isLt).2.2.1 = k0_pay6 h (iblk m c 2 t) h (iblk m c 3 t) := by
  by_cases ht : t.val % 2 = 0
  · refine ⟨H m c t, H_apply m c t, ?_, ?_, ?_⟩
    · refine (congrArg Prod.fst (outsAt0_A m c t ht)).trans ?_
      dsimp only
      rw [first_gate]
    · refine (congrArg (fun p => p.2.1) (outsAt0_A m c t ht)).trans ?_
      dsimp only
      rw [first_up]
    · refine (congrArg (fun p => p.2.2.1) (outsAt0_A m c t ht)).trans ?_
      dsimp only
      rw [first_inner]
  · obtain ⟨s, hs⟩ : ∃ s : Fin cfg0.N, s.val = t.val - 1 := ⟨⟨t.val - 1, Nat.lt_of_le_of_lt (Nat.sub_le _ _) t.isLt⟩, rfl⟩
    have q : s.val / 2 = t.val / 2 := by omega
    refine ⟨H m c s, fun k d => q ▸ H_apply m c s k d, ?_, ?_, ?_⟩
    · refine (congrArg Prod.fst (outsAt0_B m c t ht)).trans ?_
      dsimp only
      rw [second_gate, kept m c s (by omega) _ _ hs.symm]
    · refine (congrArg (fun p => p.2.1) (outsAt0_B m c t ht)).trans ?_
      dsimp only
      rw [second_up, kept m c s (by omega) _ _ hs.symm]
    · refine (congrArg (fun p => p.2.2.1) (outsAt0_B m c t ht)).trans ?_
      dsimp only
      rw [second_inner, kept m c s (by omega) _ _ hs.symm]

/-- The gate as an array. -/
def gateArr : FVec Ideal (Mat 4096 2816) .bf16 := fun i => pre 6 7 (X m c) (Md m c) (W m c) (i 0).val (i 1).val

/-- The up branch as an array. -/
def upArr : FVec Ideal (Mat 4096 2816) .bf16 := fun i => pre 6 7 (X m c) (Md m c) (W m c) (i 0).val (2816 + (i 1).val)

/-- The inner array. -/
def innerArr : FVec Ideal (Mat 4096 2816) .bf16 := fun i => inner (gateArr m c i) (upArr m c i)

theorem product_gate (t : Fin grid0.N) (h : Vec Ideal S1024x1024 .bf16)
    (hh : ∀ k d : Fin 1024, h (ix2 k d) = modulated 6 7 (X m c) (Md m c) (1024 * (t.val / 2) + k) d) (k : Fin 1024) (f : Fin 1408) :
    k0_pay2 (F := Ideal) h (iblk m c 2 t) (ix2 k f) = gateArr m c (ix2 (tok t k) (col t f)) :=
  (gate_apply _ _ k f).trans (Finset.sum_congr rfl fun d _ => congrArg₂ (· * ·) (hh k d) (block_wg m c t d f))

theorem product_up (t : Fin grid0.N) (h : Vec Ideal S1024x1024 .bf16)
    (hh : ∀ k d : Fin 1024, h (ix2 k d) = modulated 6 7 (X m c) (Md m c) (1024 * (t.val / 2) + k) d) (k : Fin 1024) (f : Fin 1408) :
    k0_pay3 (F := Ideal) h (iblk m c 3 t) (ix2 k f) = upArr m c (ix2 (tok t k) (col t f)) :=
  (gate_apply _ _ k f).trans (Finset.sum_congr rfl fun d _ => congrArg₂ (· * ·) (hh k d) (block_wu m c t d f))

theorem point_gate (t : Fin cfg0.N) (k : Fin 1024) (e : Fin 1408) : (outsAt0 m c t.val t.isLt).1 (ix2 k e) = gateArr m c (ix2 (tok t k) (col t e)) := by
  obtain ⟨h, hh, h1, _, _⟩ := stored m c t
  rw [h1]
  exact product_gate m c t h hh k e

theorem point_up (t : Fin cfg0.N) (k : Fin 1024) (e : Fin 1408) : (outsAt0 m c t.val t.isLt).2.1 (ix2 k e) = upArr m c (ix2 (tok t k) (col t e)) := by
  obtain ⟨h, hh, _, h2, _⟩ := stored m c t
  rw [h2]
  exact product_up m c t h hh k e

theorem point_inner (t : Fin cfg0.N) (k : Fin 1024) (e : Fin 1408) : (outsAt0 m c t.val t.isLt).2.2.1 (ix2 k e) = innerArr m c (ix2 (tok t k) (col t e)) := by
  obtain ⟨h, hh, _, _, h3⟩ := stored m c t
  rw [h3]
  show inner (k0_pay2 (F := Ideal) h (iblk m c 2 t) (ix2 k e)) (k0_pay3 (F := Ideal) h (iblk m c 3 t) (ix2 k e)) = _
  rw [product_gate m c t h hh, product_up m c t h hh]
  rfl

theorem flushed_gate (t : Fin cfg0.N) (_ : (cfg0.win 4).flush t = true) :
    (dats m 0 c).flushed 4 t = ((cfg0.win 4).blk t).view.read (Elt Ideal) (gateArr m c) := by
  rw [Value.flushed4]
  have hi := at_gate t
  funext y
  rw [View.read_apply]
  have hy0 : (y 0).val < 1024 := (y 0).isLt
  have hy1 : (y 1).val < 1408 := (y 1).isLt
  have hl : (cfg0.win 4).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 4).blk t).view.emb y = ix2 (tok t ⟨(y 0).val, hy0⟩) (col t ⟨(y 1).val, hy1⟩) := by
    funext a; apply Fin.ext
    match a with
    | ⟨0, _⟩ => show win0_4.index t 0 * 1024 + 1 * (y 0).val = 1024 * (t.val / 2) + (y 0).val; omega
    | ⟨1, _⟩ => show win0_4.index t 1 * 1408 + 1 * (y 1).val = 1408 * (t.val % 2) + (y 1).val; omega
  show (outsAt0 m c t.val t.isLt).1 ((cfg0.win 4).xinj (grid0.coords t) y) = gateArr m c (((cfg0.win 4).blk t).view.emb y)
  rw [hl, hb]
  exact point_gate m c t _ _

theorem flushed_up (t : Fin cfg0.N) (_ : (cfg0.win 5).flush t = true) :
    (dats m 0 c).flushed 5 t = ((cfg0.win 5).blk t).view.read (Elt Ideal) (upArr m c) := by
  rw [Value.flushed5]
  have hi := at_up t
  funext y
  rw [View.read_apply]
  have hy0 : (y 0).val < 1024 := (y 0).isLt
  have hy1 : (y 1).val < 1408 := (y 1).isLt
  have hl : (cfg0.win 5).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 5).blk t).view.emb y = ix2 (tok t ⟨(y 0).val, hy0⟩) (col t ⟨(y 1).val, hy1⟩) := by
    funext a; apply Fin.ext
    match a with
    | ⟨0, _⟩ => show win0_5.index t 0 * 1024 + 1 * (y 0).val = 1024 * (t.val / 2) + (y 0).val; omega
    | ⟨1, _⟩ => show win0_5.index t 1 * 1408 + 1 * (y 1).val = 1408 * (t.val % 2) + (y 1).val; omega
  show (outsAt0 m c t.val t.isLt).2.1 ((cfg0.win 5).xinj (grid0.coords t) y) = upArr m c (((cfg0.win 5).blk t).view.emb y)
  rw [hl, hb]
  exact point_up m c t _ _

theorem flushed_inner (t : Fin cfg0.N) (_ : (cfg0.win 6).flush t = true) :
    (dats m 0 c).flushed 6 t = ((cfg0.win 6).blk t).view.read (Elt Ideal) (innerArr m c) := by
  rw [Value.flushed6]
  have hi := at_inner t
  funext y
  rw [View.read_apply]
  have hy0 : (y 0).val < 1024 := (y 0).isLt
  have hy1 : (y 1).val < 1408 := (y 1).isLt
  have hl : (cfg0.win 6).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 6).blk t).view.emb y = ix2 (tok t ⟨(y 0).val, hy0⟩) (col t ⟨(y 1).val, hy1⟩) := by
    funext a; apply Fin.ext
    match a with
    | ⟨0, _⟩ => show win0_6.index t 0 * 1024 + 1 * (y 0).val = 1024 * (t.val / 2) + (y 0).val; omega
    | ⟨1, _⟩ => show win0_6.index t 1 * 1408 + 1 * (y 1).val = 1408 * (t.val % 2) + (y 1).val; omega
  show (outsAt0 m c t.val t.isLt).2.2.1 ((cfg0.win 6).xinj (grid0.coords t) y) = innerArr m c (((cfg0.win 6).blk t).view.emb y)
  rw [hl, hb]
  exact point_inner m c t _ _

/-- Every block of the three arrays is some point's. -/
theorem reaches : ∀ (i : Fin 4) (j : Fin 2), ∃ t : Fin grid0.N, (win0_4.flush t = true ∧ win0_5.flush t = true ∧ win0_6.flush t = true)
    ∧ win0_4.index t = ![i.val, j.val] ∧ win0_5.index t = ![i.val, j.val] ∧ win0_6.index t = ![i.val, j.val] := by
  decide +kernel

theorem array_gate : (dats m 0 c).arrAt 4 cfg0.N = gateArr m c := by
  refine (dats m 0 c).arrAt_eq_of_cover 4 _ (fun t hf => flushed_gate m c t hf) fun i => ?_
  have h0 : (i 0).val < 4096 := (i 0).isLt
  have h1 : (i 1).val < 2816 := (i 1).isLt
  obtain ⟨t, ⟨hf, _, _⟩, ht, _, _⟩ := reaches ⟨(i 0).val / 1024, by omega⟩ ⟨(i 1).val / 1408, by omega⟩
  refine ⟨t, hf, ?_⟩
  show i ∈ ((View.whole main_v0_0).slice (win0_4.rect t)).set
  rw [View.set_slice_whole, Rect.mem_set_unit]
  have q0 : win0_4.index t 0 = (i 0).val / 1024 := congrFun ht 0
  have q1 : win0_4.index t 1 = (i 1).val / 1408 := congrFun ht 1
  intro a
  match a with
  | ⟨0, _⟩ => show win0_4.index t 0 * 1024 ≤ (i 0).val ∧ (i 0).val < win0_4.index t 0 * 1024 + 1024; omega
  | ⟨1, _⟩ => show win0_4.index t 1 * 1408 ≤ (i 1).val ∧ (i 1).val < win0_4.index t 1 * 1408 + 1408; omega

theorem array_up : (dats m 0 c).arrAt 5 cfg0.N = upArr m c := by
  refine (dats m 0 c).arrAt_eq_of_cover 5 _ (fun t hf => flushed_up m c t hf) fun i => ?_
  have h0 : (i 0).val < 4096 := (i 0).isLt
  have h1 : (i 1).val < 2816 := (i 1).isLt
  obtain ⟨t, ⟨_, hf, _⟩, _, ht, _⟩ := reaches ⟨(i 0).val / 1024, by omega⟩ ⟨(i 1).val / 1408, by omega⟩
  refine ⟨t, hf, ?_⟩
  show i ∈ ((View.whole main_v0_1).slice (win0_5.rect t)).set
  rw [View.set_slice_whole, Rect.mem_set_unit]
  have q0 : win0_5.index t 0 = (i 0).val / 1024 := congrFun ht 0
  have q1 : win0_5.index t 1 = (i 1).val / 1408 := congrFun ht 1
  intro a
  match a with
  | ⟨0, _⟩ => show win0_5.index t 0 * 1024 ≤ (i 0).val ∧ (i 0).val < win0_5.index t 0 * 1024 + 1024; omega
  | ⟨1, _⟩ => show win0_5.index t 1 * 1408 ≤ (i 1).val ∧ (i 1).val < win0_5.index t 1 * 1408 + 1408; omega

theorem array_inner : (dats m 0 c).arrAt 6 cfg0.N = innerArr m c := by
  refine (dats m 0 c).arrAt_eq_of_cover 6 _ (fun t hf => flushed_inner m c t hf) fun i => ?_
  have h0 : (i 0).val < 4096 := (i 0).isLt
  have h1 : (i 1).val < 2816 := (i 1).isLt
  obtain ⟨t, ⟨_, _, hf⟩, _, _, ht⟩ := reaches ⟨(i 0).val / 1024, by omega⟩ ⟨(i 1).val / 1408, by omega⟩
  refine ⟨t, hf, ?_⟩
  show i ∈ ((View.whole main_v0_2).slice (win0_6.rect t)).set
  rw [View.set_slice_whole, Rect.mem_set_unit]
  have q0 : win0_6.index t 0 = (i 0).val / 1024 := congrFun ht 0
  have q1 : win0_6.index t 1 = (i 1).val / 1408 := congrFun ht 1
  intro a
  match a with
  | ⟨0, _⟩ => show win0_6.index t 0 * 1024 ≤ (i 0).val ∧ (i 0).val < win0_6.index t 0 * 1024 + 1024; omega
  | ⟨1, _⟩ => show win0_6.index t 1 * 1408 ≤ (i 1).val ∧ (i 1).val < win0_6.index t 1 * 1408 + 1408; omega

/-! ## The reference -/

section Reference

open Cert.Reference10Ideal.Read

variable (x : FVec Ideal (Mat 4096 1024) .f32) (md : FVec Ideal ⟨3, ![2, 9, 1024]⟩ .f32) (w : FVec Ideal ⟨4, ![1, 4, 1024, 1408]⟩ .bf16)

theorem ref_row (b : Fin 2) (s : Fin 2048) (d : Fin 1024) :
    (val_main_v8 (F := Ideal) x md : FVec Ideal ⟨3, ![2, 2048, 1024]⟩ .f32) (ix3 b s d) = modulated 6 7 x md (2048 * b + s) d := by
  rw [val_main_v8_apply, val_main_v5_apply, val_main_v0_apply, val_main_v4_apply, val_main_v3_apply, val_main_v2_apply, val_main_cst_apply, val_main_v1_apply,
    val_main_v7_apply, val_main_v6_apply]
  unfold modulated
  rw [at2_of x ⟨2048 * b + s, by omega⟩ d rfl rfl, at3_of md (r := (2048 * b + s) / 2048) (c := 7) b 7 d (by omega) rfl rfl,
    at3_of md (r := (2048 * b + s) / 2048) (c := 6) b 6 d (by omega) rfl rfl]
  refine congrArg₂ (· + ·) (congrArg₂ (· * ·) (congrArg x ?_) (congrArg (oneWord + ·) (congrArg md ?_))) (congrArg md ?_)
  · funext a; apply Fin.ext
    match a with
    | ⟨0, _⟩ => show ((b.val * 2048 + s.val) * 1024 + d.val) / 1024 = 2048 * b.val + s.val; omega
    | ⟨1, _⟩ => show ((b.val * 2048 + s.val) * 1024 + d.val) % 1024 = d.val; omega
  all_goals
    funext a; apply Fin.ext
    match a with
    | ⟨0, _⟩ => rfl
    | ⟨1, _⟩ => rfl
    | ⟨2, _⟩ => rfl

theorem ref_pre (T : Fin 4096) (f : Fin 5632) : (val_main_v14 (F := Ideal) x md w : FVec Ideal (Mat 4096 5632) .f32) (ix2 T f) = pre 6 7 x md w T f := by
  have hT := T.isLt
  rw [val_main_v14_apply]
  refine Finset.sum_congr rfl fun d _ => congrArg₂ (· * ·) ?_ (Eq.trans ?_ (Cert.InGrad.ref_weight w d f))
  · have e : idx_main_v13 (lidx_main_v14 (ix2 T f) d) = ix3 ⟨T.val / 2048, by omega⟩ ⟨T.val % 2048, Nat.mod_lt _ (by decide)⟩ d := by
      funext a; apply Fin.ext
      match a with
      | ⟨0, _⟩ => show (T.val * 1024 + d.val) / 2097152 = T.val / 2048; omega
      | ⟨1, _⟩ => show (T.val * 1024 + d.val) / 1024 % 2048 = T.val % 2048; omega
      | ⟨2, _⟩ => show (T.val * 1024 + d.val) % 1024 = d.val; omega
    rw [val_main_v13_apply, e, ref_row]
    exact congrArg (modulated 6 7 x md · d) (show 2048 * (T.val / 2048) + T.val % 2048 = T.val by omega)
  · show val_main_v12 (F := Ideal) w _ = val_main_v12 (F := Ideal) w _
    refine congrArg (val_main_v12 (F := Ideal) w) ?_
    funext a; apply Fin.ext
    match a with
    | ⟨0, _⟩ => rfl
    | ⟨1, _⟩ => rfl

theorem ref_gate (T : Fin 4096) (f : Fin 2816) : (val_main_v15 (F := Ideal) x md w : FVec Ideal (Mat 4096 2816) .f32) (ix2 T f) = pre 6 7 x md w T f := by
  rw [val_main_v15_apply]
  refine Eq.trans (congrArg (val_main_v14 (F := Ideal) x md w) ?_) (ref_pre x md w T ⟨f.val, by omega⟩)
  funext a; apply Fin.ext
  match a with
  | ⟨0, _⟩ => rfl
  | ⟨1, _⟩ => rfl

theorem ref_up (T : Fin 4096) (f : Fin 2816) : (val_main_v16 (F := Ideal) x md w : FVec Ideal (Mat 4096 2816) .f32) (ix2 T f) = pre 6 7 x md w T (2816 + f.val) := by
  rw [val_main_v16_apply]
  refine Eq.trans (congrArg (val_main_v14 (F := Ideal) x md w) ?_) (ref_pre x md w T ⟨2816 + f.val, by omega⟩)
  funext a; apply Fin.ext
  match a with
  | ⟨0, _⟩ => rfl
  | ⟨1, _⟩ => rfl

theorem ref_inner (T : Fin 4096) (f : Fin 2816) : (val_main_v21 (F := Ideal) x md w : FVec Ideal (Mat 4096 2816) .bf16) (ix2 T f)
    = inner (pre 6 7 x md w T f) (pre 6 7 x md w T (2816 + f.val)) := by
  have e : (val_main_call0_v5 (F := Ideal) x md w : FVec Ideal (Mat 4096 2816) .f32) (ix2 T f) = Ideal.logistic (pre 6 7 x md w T f) := by
    rw [val_main_call0_v5_apply, val_main_call0_v4_apply, val_main_call0_cst_0_apply, val_main_call0_v3_apply, val_main_call0_v2_apply, val_main_call0_cst_apply,
      val_main_call0_v1_apply, val_main_call0_v0_apply, ref_gate]
    show Ideal.div oneWord (oneWord + Ideal.exp (-(pre 6 7 x md w T f))) = _
    rw [Cert.Gate.one_word]
    rfl
  show (val_main_v15 (F := Ideal) x md w (ix2 T f) * val_main_call0_v5 (F := Ideal) x md w (ix2 T f)) * val_main_v16 (F := Ideal) x md w (ix2 T f) = _
  rw [e, ref_gate, ref_up]
  rfl

end Reference

/-! ## The three results -/

theorem result_gate : (dats m 0 c).arrAt 4 cfg0.N = Cert.Reference10Ideal.Read.val_main_v17 (F := Ideal) (X m c) (Md m c) (W m c) := by
  rw [array_gate]
  have e : ∀ (T : Fin 4096) (f : Fin 2816), gateArr m c (ix2 T f)
      = (Cert.Reference10Ideal.Read.val_main_v17 (F := Ideal) (X m c) (Md m c) (W m c) : FVec Ideal (Mat 4096 2816) .bf16) (ix2 T f) :=
    fun T f => (ref_gate _ _ _ T f).symm
  funext i
  rw [← ix2_eta i]
  exact e _ _

theorem result_up : (dats m 0 c).arrAt 5 cfg0.N = Cert.Reference10Ideal.Read.val_main_v18 (F := Ideal) (X m c) (Md m c) (W m c) := by
  rw [array_up]
  have e : ∀ (T : Fin 4096) (f : Fin 2816), upArr m c (ix2 T f)
      = (Cert.Reference10Ideal.Read.val_main_v18 (F := Ideal) (X m c) (Md m c) (W m c) : FVec Ideal (Mat 4096 2816) .bf16) (ix2 T f) :=
    fun T f => (ref_up _ _ _ T f).symm
  funext i
  rw [← ix2_eta i]
  exact e _ _

theorem result_inner : (dats m 0 c).arrAt 6 cfg0.N = Cert.Reference10Ideal.Read.val_main_v21 (F := Ideal) (X m c) (Md m c) (W m c) := by
  rw [array_inner]
  have e : ∀ (T : Fin 4096) (f : Fin 2816), innerArr m c (ix2 T f)
      = (Cert.Reference10Ideal.Read.val_main_v21 (F := Ideal) (X m c) (Md m c) (W m c) : FVec Ideal (Mat 4096 2816) .bf16) (ix2 T f) :=
    fun T f => (ref_inner _ _ _ T f).symm
  funext i
  rw [← ix2_eta i]
  exact e _ _

end Cert.FfnInNext

end
-- ==== Proof.FfnOut.lean ====
module

public import proofs.«01_k».proof.Proof.Gate
public import proofs.«01_k».proof.Proof.Gen.Kernel9Ideal.Value
public import proofs.«01_k».proof.Proof.Gen.Reference9Ideal.Read

@[expose] public section

/-! # The end of a feed-forward layer

The second product of the layer, and the layer's output: the input and the gated product added, then normalised row by row and
scaled and shifted. The kernel takes 512 rows at a point. -/

noncomputable section

namespace Cert.FfnOut

open Idealize.ShloMosaic Idealize.ShloMosaic.TcCoe Idealize.SL.Sem
open Cert.Kernel9Ideal Cert.Kernel9Ideal.Gen Cert.Attn Cert.Ffn

theorem hz : (![0, 0] : Fin 2 → Nat) = fun _ => 0 := funext fun a => by fin_cases a <;> rfl
theorem hz4 : (![0, 0, 0, 0] : Fin 4 → Nat) = fun _ => 0 := funext fun a => by fin_cases a <;> rfl

/-! ## One row -/

/-- The words the programs write the residual's factor, a half, the row's length and the variance's offset as. -/
abbrev resWord : EReal := Ideal.ofBits .f32 0x3FB504F3#32
abbrev halfWord : EReal := Ideal.ofBits .f32 0x3F000000#32
abbrev lenWord : EReal := Ideal.ofBits .f32 0x44800000#32
abbrev offWord : EReal := Ideal.ofBits .f32 0x3727C5AC#32

/-- The mean of a row. -/
def mean (r : Fin 1024 → EReal) : EReal := Ideal.div (∑ d : Fin 1024, r d) lenWord

/-- The mean square of a row's distance from its mean. -/
def spread (r : Fin 1024 → EReal) : EReal := Ideal.div (∑ d : Fin 1024, (r d - mean r) * (r d - mean r)) lenWord

/-- A row normalised, scaled by `g` and shifted by `b`. -/
def normed (r g b : Fin 1024 → EReal) (d : Fin 1024) : EReal := ((r d - mean r) * Ideal.rsqrt (spread r + offWord)) * g d + b d

/-- An entry of the product with the weight. -/
def outer (a : FVec Ideal (Mat 4096 2816) .bf16) (w : FVec Ideal ⟨4, ![1, 4, 704, 1024]⟩ .bf16) (T : Fin 4096) (d : Fin 1024) : EReal :=
  ∑ f : Fin 2816, a (ix2 T f) * Cert.Gate.weight w f d

/-- An entry of the input and the gated product added, the gate in the modulation's row `j`. -/
def mixed (j : ℕ) (a : FVec Ideal (Mat 4096 2816) .bf16) (w : FVec Ideal ⟨4, ![1, 4, 704, 1024]⟩ .bf16) (x : FVec Ideal (Mat 4096 1024) .f32)
    (md : FVec Ideal ⟨3, ![2, 9, 1024]⟩ .f32) (T : Fin 4096) (d : Fin 1024) : EReal :=
  resWord * x (ix2 T d) + (halfWord * (oneWord + at3 md (T.val / 2048) j d)) * outer a w T d

/-- The weight with its four parts one above the other. -/
theorem stacked (v : FVec Ideal S1x4x704x1024 .bf16) (h1) (h2) (e : Fin 2816) (d : Fin 1024) :
    (shapeCast S2816x1024 (shapeCast S4x704x1024 v h1) h2 : FVec Ideal S2816x1024 .bf16) (ix2 e d) = Cert.Gate.weight v e d := by
  unfold Cert.Gate.weight
  rw [shapeCast_apply _ h2 (ix2 e d) (ix3 ⟨e.val / 704, by omega⟩ ⟨e.val % 704, Nat.mod_lt _ (by decide)⟩ d)
      (by rewrite [Shape.rowMajor_val_three, Shape.rowMajor_val_two]
          show (e.val / 704 * 704 + e.val % 704) * 1024 + d.val = e.val * 1024 + d.val
          omega),
    shapeCast_apply _ h1 (ix3 ⟨e.val / 704, by omega⟩ ⟨e.val % 704, Nat.mod_lt _ (by decide)⟩ d) (ix4 0 ⟨e.val / 704, by omega⟩ ⟨e.val % 704, Nat.mod_lt _ (by decide)⟩ d)
      (by rewrite [Shape.rowMajor_val_four, Shape.rowMajor_val_three]
          show ((0 * 4 + e.val / 704) * 704 + e.val % 704) * 1024 + d.val = (e.val / 704 * 704 + e.val % 704) * 1024 + d.val
          omega)]

/-! ## One block -/

theorem prod_apply (a : FVec Ideal S512x2816 .bf16) (w : FVec Ideal S1x4x704x1024 .bf16) (k : Fin 512) (d : Fin 1024) :
    k0_pay2 (F := Ideal) a w (ix2 k d) = ∑ f : Fin 2816, a (ix2 k f) * Cert.Gate.weight w f d := by
  unfold k0_pay2
  refine ((Ideal.matmul_plain_apply none a _ _ k d).trans ((congrArg (· + _) Ideal.ofBits_zero_f32).trans (zero_add _))).trans ?_
  exact Finset.sum_congr rfl fun f _ => congrArg (a (ix2 k f) * ·) (stacked w _ _ f d)

theorem mix_apply (a : FVec Ideal S512x2816 .bf16) (w : FVec Ideal S1x4x704x1024 .bf16) (x : FVec Ideal S512x1024 .f32) (g : FVec Ideal S1x1x1024 .f32) (k : Fin 512) (d : Fin 1024) :
    k0_pay3 (F := Ideal) a w x g (ix2 k d) = resWord * x (ix2 k d) + (halfWord * (oneWord + g (ix3 0 0 d))) * k0_pay2 (F := Ideal) a w (ix2 k d) := by
  unfold k0_pay3
  generalize k0_pay2 (F := Ideal) a w = y
  pointwise

theorem norm_apply (a : FVec Ideal S512x2816 .bf16) (w : FVec Ideal S1x4x704x1024 .bf16) (x : FVec Ideal S512x1024 .f32) (g : FVec Ideal S1x1x1024 .f32)
    (lg lb : FVec Ideal S1x1024 .f32) (k : Fin 512) (d : Fin 1024) :
    k0_pay1 (F := Ideal) lg lb (k0_pay5 a w x g) (k0_pay6 a w x g) (ix2 k d)
      = normed (fun e => k0_pay3 (F := Ideal) a w x g (ix2 k e)) (fun e => lg (ix2 0 e)) (fun e => lb (ix2 0 e)) d := by
  unfold k0_pay1 k0_pay5 k0_pay6 k0_pay4
  dsimp only
  generalize k0_pay3 (F := Ideal) a w x g = y
  pointwise
  rfl

/-- The gate's row of a sequence's modulation. -/
abbrev gateRow (md : Vec Ideal S1x9x1024 .f32) : Vec Ideal S1x1x1024 .f32 :=
  View.ld md (Rect.unit (s := S1x9x1024) ![0, 2, 0] S1x1x1024.size inb_S1x9x1024_S1x1x1024_0_2_0)

theorem gateRow_apply (md : Vec Ideal S1x9x1024 .f32) (d : Fin 1024) : gateRow md (ix3 0 0 d) = md (ix3 0 2 d) := by
  unfold gateRow
  rw [View.ld_unit]
  refine congrArg md ?_
  funext a; apply Fin.ext
  match a with
  | ⟨0, _⟩ => rfl
  | ⟨1, _⟩ => rfl
  | ⟨2, _⟩ => show 0 + d.val = d.val; omega

section Stores

variable (a : Vec Ideal S512x2816 .bf16) (w : Vec Ideal S1x4x704x1024 .bf16) (x : Vec Ideal S512x1024 .f32) (md : Vec Ideal S1x9x1024 .f32) (lg lb : Vec Ideal S1x1024 .f32)

/-- What a point stores of the product. -/
theorem stores_y : out0_6 (F := Ideal) a w x md lg lb = k0_pay2 (F := Ideal) a w := by
  unfold out0_6
  rw [View.canon_unit_zero hz]
  simp only [View.ld_unit_zero (S := S512x2816) hz, View.ld_unit_zero (S := S1x4x704x1024) hz4]

/-- What a point stores of the layer's output. -/
theorem stores_x : out0_7 (F := Ideal) a w x md lg lb = k0_pay1 (F := Ideal) lg lb (k0_pay5 a w x (gateRow md)) (k0_pay6 a w x (gateRow md)) := by
  unfold out0_7
  rw [View.canon_unit_zero hz]
  simp only [View.ld_unit_zero (S := S512x2816) hz, View.ld_unit_zero (S := S1x4x704x1024) hz4, View.ld_unit_zero (S := S512x1024) hz, View.ld_unit_zero (S := S1x1024) hz]

end Stores

/-! ## The arrays -/

variable (m : (ℓ : Loc nD τ sig) → Buf (Elt Ideal) ℓ) (c : Dev nD)

/-- The layer's inner array. -/
abbrev A : FVec Ideal (Mat 4096 2816) .bf16 := m ((c : Thread nD τ).loc main_arg0)
/-- The weight. -/
abbrev W : FVec Ideal ⟨4, ![1, 4, 704, 1024]⟩ .bf16 := m ((c : Thread nD τ).loc main_arg1)
/-- The layer's input. -/
abbrev X : FVec Ideal (Mat 4096 1024) .f32 := m ((c : Thread nD τ).loc main_arg2)
/-- The modulation. -/
abbrev Md : FVec Ideal ⟨3, ![2, 9, 1024]⟩ .f32 := m ((c : Thread nD τ).loc main_arg3)
/-- The scale of the normalised rows. -/
abbrev Lg : FVec Ideal (Mat 1 1024) .f32 := m ((c : Thread nD τ).loc main_arg4)
/-- The shift of the normalised rows. -/
abbrev Lb : FVec Ideal (Mat 1 1024) .f32 := m ((c : Thread nD τ).loc main_arg5)

theorem at_a : ∀ t : Fin grid0.N, win0_0.index t 0 = t.val ∧ win0_0.index t 1 = 0 := by decide +kernel
theorem at_w : ∀ t : Fin grid0.N, win0_1.index t 0 = 0 ∧ win0_1.index t 1 = 0 ∧ win0_1.index t 2 = 0 ∧ win0_1.index t 3 = 0 := by decide +kernel
theorem at_x : ∀ t : Fin grid0.N, win0_2.index t 0 = t.val ∧ win0_2.index t 1 = 0 := by decide +kernel
theorem at_md : ∀ t : Fin grid0.N, win0_3.index t 0 = t.val / 4 ∧ win0_3.index t 1 = 0 ∧ win0_3.index t 2 = 0 := by decide +kernel
theorem at_lg : ∀ t : Fin grid0.N, win0_4.index t 0 = 0 ∧ win0_4.index t 1 = 0 := by decide +kernel
theorem at_lb : ∀ t : Fin grid0.N, win0_5.index t 0 = 0 ∧ win0_5.index t 1 = 0 := by decide +kernel
theorem at_out : ∀ t : Fin grid0.N, (win0_6.index t 0 = t.val ∧ win0_6.index t 1 = 0) ∧ win0_7.index t 0 = t.val ∧ win0_7.index t 1 = 0 := by decide +kernel

theorem lt8 (t : Fin grid0.N) : t.val < 8 := lt_of_lt_of_eq t.isLt N_0

/-- The array's row that a point's row `k` is. -/
abbrev tok (t : Fin grid0.N) (k : Fin 512) : Fin 4096 := ⟨512 * t.val + k, by have := lt8 t; omega⟩

theorem block_a (t : Fin grid0.N) (k : Fin 512) (f : Fin 2816) :
    (iblk m c 0 t : FVec Ideal S512x2816 .bf16) (ix2 k f) = A m c (ix2 (tok t k) f) := by
  have hi := at_a t
  unfold iblk
  rw [View.read_apply]
  show V m c main_arg0 _ = _
  rw [V_main_arg0]
  congr 1
  funext a
  apply Fin.ext
  match a with
  | ⟨0, _⟩ => show win0_0.index t 0 * 512 + 1 * k.val = 512 * t.val + k.val; rw [hi.1]; omega
  | ⟨1, _⟩ => show win0_0.index t 1 * 2816 + 1 * f.val = f.val; rw [hi.2]; omega

theorem block_w (t : Fin grid0.N) : (iblk m c 1 t : FVec Ideal S1x4x704x1024 .bf16) = W m c := by
  obtain ⟨h0, h1, h2, h3⟩ := at_w t
  funext y
  unfold iblk
  rw [View.read_apply]
  show V m c main_arg1 _ = _
  rw [V_main_arg1]
  congr 1
  funext a
  apply Fin.ext
  match a with
  | ⟨0, _⟩ => show win0_1.index t 0 * 1 + 1 * (y 0).val = (y 0).val; rw [h0]; omega
  | ⟨1, _⟩ => show win0_1.index t 1 * 4 + 1 * (y 1).val = (y 1).val; rw [h1]; omega
  | ⟨2, _⟩ => show win0_1.index t 2 * 704 + 1 * (y 2).val = (y 2).val; rw [h2]; omega
  | ⟨3, _⟩ => show win0_1.index t 3 * 1024 + 1 * (y 3).val = (y 3).val; rw [h3]; omega

theorem block_x (t : Fin grid0.N) (k : Fin 512) (d : Fin 1024) :
    (iblk m c 2 t : FVec Ideal S512x1024 .f32) (ix2 k d) = X m c (ix2 (tok t k) d) := by
  have hi := at_x t
  unfold iblk
  rw [View.read_apply]
  show V m c main_arg2 _ = _
  rw [V_main_arg2]
  congr 1
  funext a
  apply Fin.ext
  match a with
  | ⟨0, _⟩ => show win0_2.index t 0 * 512 + 1 * k.val = 512 * t.val + k.val; rw [hi.1]; omega
  | ⟨1, _⟩ => show win0_2.index t 1 * 1024 + 1 * d.val = d.val; rw [hi.2]; omega

theorem block_md (t : Fin grid0.N) (r : Fin 9) (d : Fin 1024) :
    (iblk m c 3 t : FVec Ideal S1x9x1024 .f32) (ix3 0 r d) = at3 (Md m c) (t.val / 4) r d := by
  have hi := at_md t
  have ht := lt8 t
  rw [at3_of (Md m c) ⟨t.val / 4, by omega⟩ r d rfl rfl rfl]
  unfold iblk
  rw [View.read_apply]
  show V m c main_arg3 _ = _
  rw [V_main_arg3]
  congr 1
  funext a
  apply Fin.ext
  match a with
  | ⟨0, _⟩ => show win0_3.index t 0 * 1 + 1 * 0 = t.val / 4; rw [hi.1]; omega
  | ⟨1, _⟩ => show win0_3.index t 1 * 9 + 1 * r.val = r.val; rw [hi.2.1]; omega
  | ⟨2, _⟩ => show win0_3.index t 2 * 1024 + 1 * d.val = d.val; rw [hi.2.2]; omega

theorem block_lg (t : Fin grid0.N) (d : Fin 1024) : (iblk m c 4 t : FVec Ideal S1x1024 .f32) (ix2 0 d) = Lg m c (ix2 0 d) := by
  have hi := at_lg t
  unfold iblk
  rw [View.read_apply]
  show V m c main_arg4 _ = _
  rw [V_main_arg4]
  congr 1
  funext a
  apply Fin.ext
  match a with
  | ⟨0, _⟩ => show win0_4.index t 0 * 1 + 1 * 0 = 0; rw [hi.1]
  | ⟨1, _⟩ => show win0_4.index t 1 * 1024 + 1 * d.val = d.val; rw [hi.2]; omega

theorem block_lb (t : Fin grid0.N) (d : Fin 1024) : (iblk m c 5 t : FVec Ideal S1x1024 .f32) (ix2 0 d) = Lb m c (ix2 0 d) := by
  have hi := at_lb t
  unfold iblk
  rw [View.read_apply]
  show V m c main_arg5 _ = _
  rw [V_main_arg5]
  congr 1
  funext a
  apply Fin.ext
  match a with
  | ⟨0, _⟩ => show win0_5.index t 0 * 1 + 1 * 0 = 0; rw [hi.1]
  | ⟨1, _⟩ => show win0_5.index t 1 * 1024 + 1 * d.val = d.val; rw [hi.2]; omega

/-- The product as an array. -/
def yArr : FVec Ideal (Mat 4096 1024) .f32 := fun i => outer (A m c) (W m c) (i 0) (i 1)

/-- The layer's output as an array. -/
def xArr : FVec Ideal (Mat 4096 1024) .f32 := fun i =>
  normed (mixed 2 (A m c) (W m c) (X m c) (Md m c) (i 0)) (fun e => Lg m c (ix2 0 e)) (fun e => Lb m c (ix2 0 e)) (i 1)

theorem point_prod (t : Fin grid0.N) (k : Fin 512) (d : Fin 1024) :
    k0_pay2 (F := Ideal) (iblk m c 0 t) (iblk m c 1 t) (ix2 k d) = outer (A m c) (W m c) (tok t k) d := by
  rw [block_w]
  exact (prod_apply _ _ k d).trans (Finset.sum_congr rfl fun f _ => congrArg (· * _) (block_a m c t k f))

theorem point_y (t : Fin grid0.N) (k : Fin 512) (d : Fin 1024) :
    out0_6 (F := Ideal) (iblk m c 0 t) (iblk m c 1 t) (iblk m c 2 t) (iblk m c 3 t) (iblk m c 4 t) (iblk m c 5 t) (ix2 k d) = yArr m c (ix2 (tok t k) d) := by
  rw [stores_y]
  exact point_prod m c t k d

theorem point_mix (t : Fin grid0.N) (k : Fin 512) (d : Fin 1024) :
    k0_pay3 (F := Ideal) (iblk m c 0 t) (iblk m c 1 t) (iblk m c 2 t) (gateRow (iblk m c 3 t)) (ix2 k d) = mixed 2 (A m c) (W m c) (X m c) (Md m c) (tok t k) d := by
  have e : (tok t k).val / 2048 = t.val / 4 := by show (512 * t.val + k.val) / 2048 = _; omega
  unfold mixed
  rw [mix_apply, point_prod, block_x, e]
  exact congrArg (fun g => _ + (halfWord * (oneWord + g)) * _) ((gateRow_apply _ d).trans (block_md m c t 2 d))

theorem point_x (t : Fin grid0.N) (k : Fin 512) (d : Fin 1024) :
    out0_7 (F := Ideal) (iblk m c 0 t) (iblk m c 1 t) (iblk m c 2 t) (iblk m c 3 t) (iblk m c 4 t) (iblk m c 5 t) (ix2 k d) = xArr m c (ix2 (tok t k) d) := by
  rw [stores_x, norm_apply]
  show normed _ _ _ d = normed (mixed 2 (A m c) (W m c) (X m c) (Md m c) (tok t k)) (fun e => Lg m c (ix2 0 e)) (fun e => Lb m c (ix2 0 e)) d
  congr 1
  · exact funext fun e => point_mix m c t k e
  · exact funext fun e => block_lg m c t e
  · exact funext fun e => block_lb m c t e

theorem flushed_y (t : Fin cfg0.N) (_ : (cfg0.win 6).flush t = true) :
    (dats m 0 c).flushed 6 t = ((cfg0.win 6).blk t).view.read (Elt Ideal) (yArr m c) := by
  rw [Value.flushed6]
  have hi := (at_out t).1
  funext y
  rw [View.read_apply]
  have hy0 : (y 0).val < 512 := (y 0).isLt
  have hy1 : (y 1).val < 1024 := (y 1).isLt
  have hl : (cfg0.win 6).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 6).blk t).view.emb y = ix2 (tok t ⟨(y 0).val, hy0⟩) ⟨(y 1).val, hy1⟩ := by
    funext a; apply Fin.ext
    match a with
    | ⟨0, _⟩ => show win0_6.index t 0 * 512 + 1 * (y 0).val = 512 * t.val + (y 0).val; omega
    | ⟨1, _⟩ => show win0_6.index t 1 * 1024 + 1 * (y 1).val = (y 1).val; omega
  show out0_6 (F := Ideal) (iblk m c 0 t) (iblk m c 1 t) (iblk m c 2 t) (iblk m c 3 t) (iblk m c 4 t) (iblk m c 5 t) ((cfg0.win 6).xinj (grid0.coords t) y) = yArr m c (((cfg0.win 6).blk t).view.emb y)
  rw [hl, hb]
  exact point_y m c t _ _

theorem flushed_x (t : Fin cfg0.N) (_ : (cfg0.win 7).flush t = true) :
    (dats m 0 c).flushed 7 t = ((cfg0.win 7).blk t).view.read (Elt Ideal) (xArr m c) := by
  rw [Value.flushed7]
  have hi := (at_out t).2
  funext y
  rw [View.read_apply]
  have hy0 : (y 0).val < 512 := (y 0).isLt
  have hy1 : (y 1).val < 1024 := (y 1).isLt
  have hl : (cfg0.win 7).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 7).blk t).view.emb y = ix2 (tok t ⟨(y 0).val, hy0⟩) ⟨(y 1).val, hy1⟩ := by
    funext a; apply Fin.ext
    match a with
    | ⟨0, _⟩ => show win0_7.index t 0 * 512 + 1 * (y 0).val = 512 * t.val + (y 0).val; omega
    | ⟨1, _⟩ => show win0_7.index t 1 * 1024 + 1 * (y 1).val = (y 1).val; omega
  show out0_7 (F := Ideal) (iblk m c 0 t) (iblk m c 1 t) (iblk m c 2 t) (iblk m c 3 t) (iblk m c 4 t) (iblk m c 5 t) ((cfg0.win 7).xinj (grid0.coords t) y) = xArr m c (((cfg0.win 7).blk t).view.emb y)
  rw [hl, hb]
  exact point_x m c t _ _

/-- Every block of the two arrays is some point's. -/
theorem reaches : ∀ i : Fin 8, ∃ t : Fin grid0.N, ((win0_6.flush t = true ∧ win0_7.flush t = true) ∧ win0_6.index t = ![i.val, 0]) ∧ win0_7.index t = ![i.val, 0] := by
  decide +kernel

/-- The product after the run. -/
theorem array_y : (dats m 0 c).arrAt 6 cfg0.N = yArr m c := by
  refine (dats m 0 c).arrAt_eq_of_cover 6 _ (fun t hf => flushed_y m c t hf) fun i => ?_
  have h0 : (i 0).val < 4096 := (i 0).isLt
  have h1 : (i 1).val < 1024 := (i 1).isLt
  obtain ⟨t, ⟨⟨hf, _⟩, ht⟩, _⟩ := reaches ⟨(i 0).val / 512, by omega⟩
  refine ⟨t, hf, ?_⟩
  show i ∈ ((View.whole main_v0_0).slice (win0_6.rect t)).set
  rw [View.set_slice_whole, Rect.mem_set_unit]
  have q0 : win0_6.index t 0 = (i 0).val / 512 := congrFun ht 0
  have q1 : win0_6.index t 1 = 0 := congrFun ht 1
  intro a
  match a with
  | ⟨0, _⟩ => show win0_6.index t 0 * 512 ≤ (i 0).val ∧ (i 0).val < win0_6.index t 0 * 512 + 512; omega
  | ⟨1, _⟩ => show win0_6.index t 1 * 1024 ≤ (i 1).val ∧ (i 1).val < win0_6.index t 1 * 1024 + 1024; omega

/-- The layer's output after the run. -/
theorem array_x : (dats m 0 c).arrAt 7 cfg0.N = xArr m c := by
  refine (dats m 0 c).arrAt_eq_of_cover 7 _ (fun t hf => flushed_x m c t hf) fun i => ?_
  have h0 : (i 0).val < 4096 := (i 0).isLt
  have h1 : (i 1).val < 1024 := (i 1).isLt
  obtain ⟨t, ⟨⟨_, hf⟩, _⟩, ht⟩ := reaches ⟨(i 0).val / 512, by omega⟩
  refine ⟨t, hf, ?_⟩
  show i ∈ ((View.whole main_v0_1).slice (win0_7.rect t)).set
  rw [View.set_slice_whole, Rect.mem_set_unit]
  have q0 : win0_7.index t 0 = (i 0).val / 512 := congrFun ht 0
  have q1 : win0_7.index t 1 = 0 := congrFun ht 1
  intro a
  match a with
  | ⟨0, _⟩ => show win0_7.index t 0 * 512 ≤ (i 0).val ∧ (i 0).val < win0_7.index t 0 * 512 + 512; omega
  | ⟨1, _⟩ => show win0_7.index t 1 * 1024 ≤ (i 1).val ∧ (i 1).val < win0_7.index t 1 * 1024 + 1024; omega

/-! ## The reference -/

section Reference

open Cert.Reference9Ideal.Read

variable (a : FVec Ideal (Mat 4096 2816) .bf16) (w : FVec Ideal ⟨4, ![1, 4, 704, 1024]⟩ .bf16) (x : FVec Ideal (Mat 4096 1024) .f32)
  (md : FVec Ideal ⟨3, ![2, 9, 1024]⟩ .f32) (lg lb : FVec Ideal (Mat 1 1024) .f32)

theorem ref_y (T : Fin 4096) (d : Fin 1024) : (val_main_v4 (F := Ideal) a w : FVec Ideal (Mat 4096 1024) .f32) (ix2 T d) = outer a w T d := by
  rw [val_main_v4_apply]
  refine Finset.sum_congr rfl fun f _ => congrArg₂ (· * ·) ?_ (Eq.trans ?_ (Cert.Gate.ref_weight w f d))
  · show a _ = _
    refine congrArg a ?_
    funext a; apply Fin.ext
    match a with
    | ⟨0, _⟩ => rfl
    | ⟨1, _⟩ => rfl
  · show val_main_v3 (F := Ideal) w _ = val_main_v3 (F := Ideal) w _
    refine congrArg (val_main_v3 (F := Ideal) w) ?_
    funext a; apply Fin.ext
    match a with
    | ⟨0, _⟩ => rfl
    | ⟨1, _⟩ => rfl

theorem ref_mix (b : Fin 2) (s : Fin 2048) (d : Fin 1024) :
    (val_main_v16 (F := Ideal) a w x md : FVec Ideal ⟨3, ![2, 2048, 1024]⟩ .f32) (ix3 b s d) = mixed 2 a w x md ⟨2048 * b + s, by omega⟩ d := by
  have e6 : idx_main_v6 (ix3 b s d) = ix2 ⟨2048 * b + s, by omega⟩ d := by
    funext a; apply Fin.ext
    match a with
    | ⟨0, _⟩ => show ((b.val * 2048 + s.val) * 1024 + d.val) / 1024 = 2048 * b.val + s.val; omega
    | ⟨1, _⟩ => show ((b.val * 2048 + s.val) * 1024 + d.val) % 1024 = d.val; omega
  have e13 : idx_main_v13 (ix3 b s d) = ix2 ⟨2048 * b + s, by omega⟩ d := e6
  have e5 : idx_main_v5 (idx_main_v14 (ix3 b s d)) = ix3 b 2 d := by
    funext a; apply Fin.ext
    match a with
    | ⟨0, _⟩ => rfl
    | ⟨1, _⟩ => rfl
    | ⟨2, _⟩ => rfl
  unfold mixed
  rw [val_main_v16_apply, val_main_v8_apply, val_main_v7_apply, val_main_cst_apply, val_main_v6_apply, val_main_v15_apply, val_main_v14_apply, val_main_v12_apply,
    val_main_v11_apply, val_main_cst_1_apply, val_main_v10_apply, val_main_v9_apply, val_main_cst_0_apply, val_main_v5_apply, val_main_v13_apply, e6, e13, e5, ref_y,
    at3_of md (r := (2048 * b.val + s.val) / 2048) (c := 2) b 2 d (by omega) rfl rfl]
  rfl

theorem ref_mean (b : Fin 2) (s : Fin 2048) (z : Fin 1) :
    (val_main_v22 (F := Ideal) a w x md : FVec Ideal ⟨3, ![2, 2048, 1]⟩ .f32) (ix3 b s z) = mean (mixed 2 a w x md ⟨2048 * b + s, by omega⟩) := by
  rw [val_main_v22_apply, val_main_v20_apply, val_main_v19_apply, val_main_v21_apply, val_main_cst_3_apply]
  refine congrArg (Ideal.div · lenWord) ((congrArg (· + _) Ideal.ofBits_zero_f32).trans ((zero_add _).trans (Finset.sum_congr rfl fun d _ => Eq.trans (congrArg _ ?_) (ref_mix a w x md b s d))))
  funext a; apply Fin.ext
  match a with
  | ⟨0, _⟩ => rfl
  | ⟨1, _⟩ => rfl
  | ⟨2, _⟩ => rfl

theorem ref_spread (b : Fin 2) (s : Fin 2048) (z : Fin 1) :
    (val_main_v29 (F := Ideal) a w x md : FVec Ideal ⟨3, ![2, 2048, 1]⟩ .f32) (ix3 b s z) = spread (mixed 2 a w x md ⟨2048 * b + s, by omega⟩) := by
  have key : ∀ d : Fin 1024, (val_main_v24 (F := Ideal) a w x md : FVec Ideal ⟨3, ![2, 2048, 1024]⟩ .f32) (ix3 b s d)
      = mixed 2 a w x md ⟨2048 * b + s, by omega⟩ d - mean (mixed 2 a w x md ⟨2048 * b + s, by omega⟩) := by
    intro d
    rw [val_main_v24_apply, val_main_v23_apply, ref_mix]
    have e23 : idx_main_v23 (ix3 b s d) = ix3 b s 0 := by
      funext a; apply Fin.ext
      match a with
      | ⟨0, _⟩ => rfl
      | ⟨1, _⟩ => rfl
      | ⟨2, _⟩ => rfl
    rw [e23, ref_mean]
    rfl
  rw [val_main_v29_apply, val_main_v27_apply, val_main_v26_apply, val_main_v28_apply, val_main_cst_5_apply]
  refine congrArg (Ideal.div · lenWord) ((congrArg (· + _) Ideal.ofBits_zero_f32).trans ((zero_add _).trans (Finset.sum_congr rfl fun d _ => ?_)))
  have e : idx_main_v26 (idx_main_v27 (ix3 b s z)) d = ix3 b s d := by
    funext a; apply Fin.ext
    match a with
    | ⟨0, _⟩ => rfl
    | ⟨1, _⟩ => rfl
    | ⟨2, _⟩ => rfl
  rw [e, val_main_v25_apply, key]
  rfl

theorem ref_norm (b : Fin 2) (s : Fin 2048) (d : Fin 1024) :
    (val_main_v42 (F := Ideal) a w x md lg lb : FVec Ideal ⟨3, ![2, 2048, 1024]⟩ .f32) (ix3 b s d)
      = normed (mixed 2 a w x md ⟨2048 * b + s, by omega⟩) (fun e => lg (ix2 0 e)) (fun e => lb (ix2 0 e)) d := by
  have e17 : idx_main_v17 (idx_main_v37 (idx_main_v38 (ix3 b s d))) = ix2 0 d := by
    funext a; apply Fin.ext
    match a with
    | ⟨0, _⟩ => rfl
    | ⟨1, _⟩ => show d.val % 1024 = d.val; omega
  have e18 : idx_main_v18 (idx_main_v40 (idx_main_v41 (ix3 b s d))) = ix2 0 d := e17
  have e30 : idx_main_v30 (ix3 b s d) = ix3 b s 0 := by
    funext a; apply Fin.ext
    match a with
    | ⟨0, _⟩ => rfl
    | ⟨1, _⟩ => rfl
    | ⟨2, _⟩ => rfl
  have e35 : idx_main_v35 (ix3 b s d) = ix3 b s 0 := e30
  rw [val_main_v42_apply, val_main_v39_apply, val_main_v36_apply, val_main_v31_apply, val_main_v30_apply, val_main_v35_apply, val_main_v34_apply, val_main_v33_apply,
    val_main_v32_apply, val_main_cst_6_apply, val_main_v38_apply, val_main_v37_apply, val_main_v17_apply, val_main_v41_apply, val_main_v40_apply, val_main_v18_apply,
    e17, e18, e30, e35, ref_mix, ref_mean, ref_spread]
  rfl

theorem ref_x (T : Fin 4096) (d : Fin 1024) :
    (val_main_v43 (F := Ideal) a w x md lg lb : FVec Ideal (Mat 4096 1024) .f32) (ix2 T d)
      = normed (mixed 2 a w x md T) (fun e => lg (ix2 0 e)) (fun e => lb (ix2 0 e)) d := by
  have hT := T.isLt
  have e : idx_main_v43 (ix2 T d) = ix3 ⟨T.val / 2048, by omega⟩ ⟨T.val % 2048, Nat.mod_lt _ (by decide)⟩ d := by
    funext a; apply Fin.ext
    match a with
    | ⟨0, _⟩ => show (T.val * 1024 + d.val) / 2097152 = T.val / 2048; omega
    | ⟨1, _⟩ => show (T.val * 1024 + d.val) / 1024 % 2048 = T.val % 2048; omega
    | ⟨2, _⟩ => show (T.val * 1024 + d.val) % 1024 = d.val; omega
  rw [val_main_v43_apply, e, ref_norm]
  congr 2
  exact Fin.ext (show 2048 * (T.val / 2048) + T.val % 2048 = T.val by omega)

end Reference

/-! ## The two results -/

theorem result_y : (dats m 0 c).arrAt 6 cfg0.N = Cert.Reference9Ideal.Read.val_main_v4 (F := Ideal) (A m c) (W m c) := by
  rw [array_y]
  have e : ∀ (T : Fin 4096) (d : Fin 1024), yArr m c (ix2 T d)
      = (Cert.Reference9Ideal.Read.val_main_v4 (F := Ideal) (A m c) (W m c) : FVec Ideal (Mat 4096 1024) .f32) (ix2 T d) :=
    fun T d => (ref_y _ _ T d).symm
  funext i
  rw [← ix2_eta i]
  exact e _ _

theorem result_x : (dats m 0 c).arrAt 7 cfg0.N = Cert.Reference9Ideal.Read.val_main_v43 (F := Ideal) (A m c) (W m c) (X m c) (Md m c) (Lg m c) (Lb m c) := by
  rw [array_x]
  have e : ∀ (T : Fin 4096) (d : Fin 1024), xArr m c (ix2 T d)
      = (Cert.Reference9Ideal.Read.val_main_v43 (F := Ideal) (A m c) (W m c) (X m c) (Md m c) (Lg m c) (Lb m c) : FVec Ideal (Mat 4096 1024) .f32) (ix2 T d) :=
    fun T d => (ref_x _ _ _ _ _ _ T d).symm
  funext i
  rw [← ix2_eta i]
  exact e _ _

end Cert.FfnOut

end
-- ==== Proof.FfnOutNext.lean ====
module

public import proofs.«01_k».proof.Proof.FfnOut
public import proofs.«01_k».proof.Proof.Gen.Kernel11Ideal.Value
public import proofs.«01_k».proof.Proof.Gen.Reference11Ideal.Read

@[expose] public section

/-! # The end of the second feed-forward layer

As of the first, with the gate in the modulation's last row. -/

noncomputable section

namespace Cert.FfnOutNext

open Idealize.ShloMosaic Idealize.ShloMosaic.TcCoe Idealize.SL.Sem
open Cert.Kernel11Ideal Cert.Kernel11Ideal.Gen Cert.Attn Cert.Ffn
open Cert.FfnOut (resWord halfWord lenWord offWord mean spread normed outer mixed hz hz4)

/-! ## One block -/

theorem prod_apply (a : FVec Ideal S512x2816 .bf16) (w : FVec Ideal S1x4x704x1024 .bf16) (k : Fin 512) (d : Fin 1024) :
    k0_pay2 (F := Ideal) a w (ix2 k d) = ∑ f : Fin 2816, a (ix2 k f) * Cert.Gate.weight w f d :=
  Cert.FfnOut.prod_apply a w k d

theorem mix_apply (a : FVec Ideal S512x2816 .bf16) (w : FVec Ideal S1x4x704x1024 .bf16) (x : FVec Ideal S512x1024 .f32) (g : FVec Ideal S1x1x1024 .f32) (k : Fin 512) (d : Fin 1024) :
    k0_pay3 (F := Ideal) a w x g (ix2 k d) = resWord * x (ix2 k d) + (halfWord * (oneWord + g (ix3 0 0 d))) * k0_pay2 (F := Ideal) a w (ix2 k d) :=
  Cert.FfnOut.mix_apply a w x g k d

theorem norm_apply (a : FVec Ideal S512x2816 .bf16) (w : FVec Ideal S1x4x704x1024 .bf16) (x : FVec Ideal S512x1024 .f32) (g : FVec Ideal S1x1x1024 .f32)
    (lg lb : FVec Ideal S1x1024 .f32) (k : Fin 512) (d : Fin 1024) :
    k0_pay1 (F := Ideal) lg lb (k0_pay5 a w x g) (k0_pay6 a w x g) (ix2 k d)
      = normed (fun e => k0_pay3 (F := Ideal) a w x g (ix2 k e)) (fun e => lg (ix2 0 e)) (fun e => lb (ix2 0 e)) d :=
  Cert.FfnOut.norm_apply a w x g lg lb k d

/-- The gate's row of a sequence's modulation. -/
abbrev gateRow (md : Vec Ideal S1x9x1024 .f32) : Vec Ideal S1x1x1024 .f32 :=
  View.ld md (Rect.unit (s := S1x9x1024) ![0, 8, 0] S1x1x1024.size inb_S1x9x1024_S1x1x1024_0_8_0)

theorem gateRow_apply (md : Vec Ideal S1x9x1024 .f32) (d : Fin 1024) : gateRow md (ix3 0 0 d) = md (ix3 0 8 d) := by
  unfold gateRow
  rw [View.ld_unit]
  refine congrArg md ?_
  funext a; apply Fin.ext
  match a with
  | ⟨0, _⟩ => rfl
  | ⟨1, _⟩ => rfl
  | ⟨2, _⟩ => show 0 + d.val = d.val; omega

section Stores

variable (a : Vec Ideal S512x2816 .bf16) (w : Vec Ideal S1x4x704x1024 .bf16) (x : Vec Ideal S512x1024 .f32) (md : Vec Ideal S1x9x1024 .f32) (lg lb : Vec Ideal S1x1024 .f32)

/-- What a point stores of the product. -/
theorem stores_y : out0_6 (F := Ideal) a w x md lg lb = k0_pay2 (F := Ideal) a w := by
  unfold out0_6
  rw [View.canon_unit_zero hz]
  simp only [View.ld_unit_zero (S := S512x2816) hz, View.ld_unit_zero (S := S1x4x704x1024) hz4]

/-- What a point stores of the layer's output. -/
theorem stores_x : out0_7 (F := Ideal) a w x md lg lb = k0_pay1 (F := Ideal) lg lb (k0_pay5 a w x (gateRow md)) (k0_pay6 a w x (gateRow md)) := by
  unfold out0_7
  rw [View.canon_unit_zero hz]
  simp only [View.ld_unit_zero (S := S512x2816) hz, View.ld_unit_zero (S := S1x4x704x1024) hz4, View.ld_unit_zero (S := S512x1024) hz, View.ld_unit_zero (S := S1x1024) hz]

end Stores

/-! ## The arrays -/

variable (m : (ℓ : Loc nD τ sig) → Buf (Elt Ideal) ℓ) (c : Dev nD)

/-- The layer's inner array. -/
abbrev A : FVec Ideal (Mat 4096 2816) .bf16 := m ((c : Thread nD τ).loc main_arg0)
/-- The weight. -/
abbrev W : FVec Ideal ⟨4, ![1, 4, 704, 1024]⟩ .bf16 := m ((c : Thread nD τ).loc main_arg1)
/-- The layer's input. -/
abbrev X : FVec Ideal (Mat 4096 1024) .f32 := m ((c : Thread nD τ).loc main_arg2)
/-- The modulation. -/
abbrev Md : FVec Ideal ⟨3, ![2, 9, 1024]⟩ .f32 := m ((c : Thread nD τ).loc main_arg3)
/-- The scale of the normalised rows. -/
abbrev Lg : FVec Ideal (Mat 1 1024) .f32 := m ((c : Thread nD τ).loc main_arg4)
/-- The shift of the normalised rows. -/
abbrev Lb : FVec Ideal (Mat 1 1024) .f32 := m ((c : Thread nD τ).loc main_arg5)

theorem at_a : ∀ t : Fin grid0.N, win0_0.index t 0 = t.val ∧ win0_0.index t 1 = 0 := by decide +kernel
theorem at_w : ∀ t : Fin grid0.N, win0_1.index t 0 = 0 ∧ win0_1.index t 1 = 0 ∧ win0_1.index t 2 = 0 ∧ win0_1.index t 3 = 0 := by decide +kernel
theorem at_x : ∀ t : Fin grid0.N, win0_2.index t 0 = t.val ∧ win0_2.index t 1 = 0 := by decide +kernel
theorem at_md : ∀ t : Fin grid0.N, win0_3.index t 0 = t.val / 4 ∧ win0_3.index t 1 = 0 ∧ win0_3.index t 2 = 0 := by decide +kernel
theorem at_lg : ∀ t : Fin grid0.N, win0_4.index t 0 = 0 ∧ win0_4.index t 1 = 0 := by decide +kernel
theorem at_lb : ∀ t : Fin grid0.N, win0_5.index t 0 = 0 ∧ win0_5.index t 1 = 0 := by decide +kernel
theorem at_out : ∀ t : Fin grid0.N, (win0_6.index t 0 = t.val ∧ win0_6.index t 1 = 0) ∧ win0_7.index t 0 = t.val ∧ win0_7.index t 1 = 0 := by decide +kernel

theorem lt8 (t : Fin grid0.N) : t.val < 8 := lt_of_lt_of_eq t.isLt N_0

/-- The array's row that a point's row `k` is. -/
abbrev tok (t : Fin grid0.N) (k : Fin 512) : Fin 4096 := ⟨512 * t.val + k, by have := lt8 t; omega⟩

theorem block_a (t : Fin grid0.N) (k : Fin 512) (f : Fin 2816) :
    (iblk m c 0 t : FVec Ideal S512x2816 .bf16) (ix2 k f) = A m c (ix2 (tok t k) f) := by
  have hi := at_a t
  unfold iblk
  rw [View.read_apply]
  show V m c main_arg0 _ = _
  rw [V_main_arg0]
  congr 1
  funext a
  apply Fin.ext
  match a with
  | ⟨0, _⟩ => show win0_0.index t 0 * 512 + 1 * k.val = 512 * t.val + k.val; rw [hi.1]; omega
  | ⟨1, _⟩ => show win0_0.index t 1 * 2816 + 1 * f.val = f.val; rw [hi.2]; omega

theorem block_w (t : Fin grid0.N) : (iblk m c 1 t : FVec Ideal S1x4x704x1024 .bf16) = W m c := by
  obtain ⟨h0, h1, h2, h3⟩ := at_w t
  funext y
  unfold iblk
  rw [View.read_apply]
  show V m c main_arg1 _ = _
  rw [V_main_arg1]
  congr 1
  funext a
  apply Fin.ext
  match a with
  | ⟨0, _⟩ => show win0_1.index t 0 * 1 + 1 * (y 0).val = (y 0).val; rw [h0]; omega
  | ⟨1, _⟩ => show win0_1.index t 1 * 4 + 1 * (y 1).val = (y 1).val; rw [h1]; omega
  | ⟨2, _⟩ => show win0_1.index t 2 * 704 + 1 * (y 2).val = (y 2).val; rw [h2]; omega
  | ⟨3, _⟩ => show win0_1.index t 3 * 1024 + 1 * (y 3).val = (y 3).val; rw [h3]; omega

theorem block_x (t : Fin grid0.N) (k : Fin 512) (d : Fin 1024) :
    (iblk m c 2 t : FVec Ideal S512x1024 .f32) (ix2 k d) = X m c (ix2 (tok t k) d) := by
  have hi := at_x t
  unfold iblk
  rw [View.read_apply]
  show V m c main_arg2 _ = _
  rw [V_main_arg2]
  congr 1
  funext a
  apply Fin.ext
  match a with
  | ⟨0, _⟩ => show win0_2.index t 0 * 512 + 1 * k.val = 512 * t.val + k.val; rw [hi.1]; omega
  | ⟨1, _⟩ => show win0_2.index t 1 * 1024 + 1 * d.val = d.val; rw [hi.2]; omega

theorem block_md (t : Fin grid0.N) (r : Fin 9) (d : Fin 1024) :
    (iblk m c 3 t : FVec Ideal S1x9x1024 .f32) (ix3 0 r d) = at3 (Md m c) (t.val / 4) r d := by
  have hi := at_md t
  have ht := lt8 t
  rw [at3_of (Md m c) ⟨t.val / 4, by omega⟩ r d rfl rfl rfl]
  unfold iblk
  rw [View.read_apply]
  show V m c main_arg3 _ = _
  rw [V_main_arg3]
  congr 1
  funext a
  apply Fin.ext
  match a with
  | ⟨0, _⟩ => show win0_3.index t 0 * 1 + 1 * 0 = t.val / 4; rw [hi.1]; omega
  | ⟨1, _⟩ => show win0_3.index t 1 * 9 + 1 * r.val = r.val; rw [hi.2.1]; omega
  | ⟨2, _⟩ => show win0_3.index t 2 * 1024 + 1 * d.val = d.val; rw [hi.2.2]; omega

theorem block_lg (t : Fin grid0.N) (d : Fin 1024) : (iblk m c 4 t : FVec Ideal S1x1024 .f32) (ix2 0 d) = Lg m c (ix2 0 d) := by
  have hi := at_lg t
  unfold iblk
  rw [View.read_apply]
  show V m c main_arg4 _ = _
  rw [V_main_arg4]
  congr 1
  funext a
  apply Fin.ext
  match a with
  | ⟨0, _⟩ => show win0_4.index t 0 * 1 + 1 * 0 = 0; rw [hi.1]
  | ⟨1, _⟩ => show win0_4.index t 1 * 1024 + 1 * d.val = d.val; rw [hi.2]; omega

theorem block_lb (t : Fin grid0.N) (d : Fin 1024) : (iblk m c 5 t : FVec Ideal S1x1024 .f32) (ix2 0 d) = Lb m c (ix2 0 d) := by
  have hi := at_lb t
  unfold iblk
  rw [View.read_apply]
  show V m c main_arg5 _ = _
  rw [V_main_arg5]
  congr 1
  funext a
  apply Fin.ext
  match a with
  | ⟨0, _⟩ => show win0_5.index t 0 * 1 + 1 * 0 = 0; rw [hi.1]
  | ⟨1, _⟩ => show win0_5.index t 1 * 1024 + 1 * d.val = d.val; rw [hi.2]; omega

/-- The product as an array. -/
def yArr : FVec Ideal (Mat 4096 1024) .f32 := fun i => outer (A m c) (W m c) (i 0) (i 1)

/-- The layer's output as an array. -/
def xArr : FVec Ideal (Mat 4096 1024) .f32 := fun i =>
  normed (mixed 8 (A m c) (W m c) (X m c) (Md m c) (i 0)) (fun e => Lg m c (ix2 0 e)) (fun e => Lb m c (ix2 0 e)) (i 1)

theorem point_prod (t : Fin grid0.N) (k : Fin 512) (d : Fin 1024) :
    k0_pay2 (F := Ideal) (iblk m c 0 t) (iblk m c 1 t) (ix2 k d) = outer (A m c) (W m c) (tok t k) d := by
  rw [block_w]
  exact (prod_apply _ _ k d).trans (Finset.sum_congr rfl fun f _ => congrArg (· * _) (block_a m c t k f))

theorem point_y (t : Fin grid0.N) (k : Fin 512) (d : Fin 1024) :
    out0_6 (F := Ideal) (iblk m c 0 t) (iblk m c 1 t) (iblk m c 2 t) (iblk m c 3 t) (iblk m c 4 t) (iblk m c 5 t) (ix2 k d) = yArr m c (ix2 (tok t k) d) := by
  rw [stores_y]
  exact point_prod m c t k d

theorem point_mix (t : Fin grid0.N) (k : Fin 512) (d : Fin 1024) :
    k0_pay3 (F := Ideal) (iblk m c 0 t) (iblk m c 1 t) (iblk m c 2 t) (gateRow (iblk m c 3 t)) (ix2 k d) = mixed 8 (A m c) (W m c) (X m c) (Md m c) (tok t k) d := by
  have e : (tok t k).val / 2048 = t.val / 4 := by show (512 * t.val + k.val) / 2048 = _; omega
  unfold mixed
  rw [mix_apply, point_prod, block_x, e]
  exact congrArg (fun g => _ + (halfWord * (oneWord + g)) * _) ((gateRow_apply _ d).trans (block_md m c t 8 d))

theorem point_x (t : Fin grid0.N) (k : Fin 512) (d : Fin 1024) :
    out0_7 (F := Ideal) (iblk m c 0 t) (iblk m c 1 t) (iblk m c 2 t) (iblk m c 3 t) (iblk m c 4 t) (iblk m c 5 t) (ix2 k d) = xArr m c (ix2 (tok t k) d) := by
  rw [stores_x, norm_apply]
  show normed _ _ _ d = normed (mixed 8 (A m c) (W m c) (X m c) (Md m c) (tok t k)) (fun e => Lg m c (ix2 0 e)) (fun e => Lb m c (ix2 0 e)) d
  congr 1
  · exact funext fun e => point_mix m c t k e
  · exact funext fun e => block_lg m c t e
  · exact funext fun e => block_lb m c t e

theorem flushed_y (t : Fin cfg0.N) (_ : (cfg0.win 6).flush t = true) :
    (dats m 0 c).flushed 6 t = ((cfg0.win 6).blk t).view.read (Elt Ideal) (yArr m c) := by
  rw [Value.flushed6]
  have hi := (at_out t).1
  funext y
  rw [View.read_apply]
  have hy0 : (y 0).val < 512 := (y 0).isLt
  have hy1 : (y 1).val < 1024 := (y 1).isLt
  have hl : (cfg0.win 6).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 6).blk t).view.emb y = ix2 (tok t ⟨(y 0).val, hy0⟩) ⟨(y 1).val, hy1⟩ := by
    funext a; apply Fin.ext
    match a with
    | ⟨0, _⟩ => show win0_6.index t 0 * 512 + 1 * (y 0).val = 512 * t.val + (y 0).val; omega
    | ⟨1, _⟩ => show win0_6.index t 1 * 1024 + 1 * (y 1).val = (y 1).val; omega
  show out0_6 (F := Ideal) (iblk m c 0 t) (iblk m c 1 t) (iblk m c 2 t) (iblk m c 3 t) (iblk m c 4 t) (iblk m c 5 t) ((cfg0.win 6).xinj (grid0.coords t) y) = yArr m c (((cfg0.win 6).blk t).view.emb y)
  rw [hl, hb]
  exact point_y m c t _ _

theorem flushed_x (t : Fin cfg0.N) (_ : (cfg0.win 7).flush t = true) :
    (dats m 0 c).flushed 7 t = ((cfg0.win 7).blk t).view.read (Elt Ideal) (xArr m c) := by
  rw [Value.flushed7]
  have hi := (at_out t).2
  funext y
  rw [View.read_apply]
  have hy0 : (y 0).val < 512 := (y 0).isLt
  have hy1 : (y 1).val < 1024 := (y 1).isLt
  have hl : (cfg0.win 7).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 7).blk t).view.emb y = ix2 (tok t ⟨(y 0).val, hy0⟩) ⟨(y 1).val, hy1⟩ := by
    funext a; apply Fin.ext
    match a with
    | ⟨0, _⟩ => show win0_7.index t 0 * 512 + 1 * (y 0).val = 512 * t.val + (y 0).val; omega
    | ⟨1, _⟩ => show win0_7.index t 1 * 1024 + 1 * (y 1).val = (y 1).val; omega
  show out0_7 (F := Ideal) (iblk m c 0 t) (iblk m c 1 t) (iblk m c 2 t) (iblk m c 3 t) (iblk m c 4 t) (iblk m c 5 t) ((cfg0.win 7).xinj (grid0.coords t) y) = xArr m c (((cfg0.win 7).blk t).view.emb y)
  rw [hl, hb]
  exact point_x m c t _ _

/-- Every block of the two arrays is some point's. -/
theorem reaches : ∀ i : Fin 8, ∃ t : Fin grid0.N, ((win0_6.flush t = true ∧ win0_7.flush t = true) ∧ win0_6.index t = ![i.val, 0]) ∧ win0_7.index t = ![i.val, 0] := by
  decide +kernel

/-- The product after the run. -/
theorem array_y : (dats m 0 c).arrAt 6 cfg0.N = yArr m c := by
  refine (dats m 0 c).arrAt_eq_of_cover 6 _ (fun t hf => flushed_y m c t hf) fun i => ?_
  have h0 : (i 0).val < 4096 := (i 0).isLt
  have h1 : (i 1).val < 1024 := (i 1).isLt
  obtain ⟨t, ⟨⟨hf, _⟩, ht⟩, _⟩ := reaches ⟨(i 0).val / 512, by omega⟩
  refine ⟨t, hf, ?_⟩
  show i ∈ ((View.whole main_v0_0).slice (win0_6.rect t)).set
  rw [View.set_slice_whole, Rect.mem_set_unit]
  have q0 : win0_6.index t 0 = (i 0).val / 512 := congrFun ht 0
  have q1 : win0_6.index t 1 = 0 := congrFun ht 1
  intro a
  match a with
  | ⟨0, _⟩ => show win0_6.index t 0 * 512 ≤ (i 0).val ∧ (i 0).val < win0_6.index t 0 * 512 + 512; omega
  | ⟨1, _⟩ => show win0_6.index t 1 * 1024 ≤ (i 1).val ∧ (i 1).val < win0_6.index t 1 * 1024 + 1024; omega

/-- The layer's output after the run. -/
theorem array_x : (dats m 0 c).arrAt 7 cfg0.N = xArr m c := by
  refine (dats m 0 c).arrAt_eq_of_cover 7 _ (fun t hf => flushed_x m c t hf) fun i => ?_
  have h0 : (i 0).val < 4096 := (i 0).isLt
  have h1 : (i 1).val < 1024 := (i 1).isLt
  obtain ⟨t, ⟨⟨_, hf⟩, _⟩, ht⟩ := reaches ⟨(i 0).val / 512, by omega⟩
  refine ⟨t, hf, ?_⟩
  show i ∈ ((View.whole main_v0_1).slice (win0_7.rect t)).set
  rw [View.set_slice_whole, Rect.mem_set_unit]
  have q0 : win0_7.index t 0 = (i 0).val / 512 := congrFun ht 0
  have q1 : win0_7.index t 1 = 0 := congrFun ht 1
  intro a
  match a with
  | ⟨0, _⟩ => show win0_7.index t 0 * 512 ≤ (i 0).val ∧ (i 0).val < win0_7.index t 0 * 512 + 512; omega
  | ⟨1, _⟩ => show win0_7.index t 1 * 1024 ≤ (i 1).val ∧ (i 1).val < win0_7.index t 1 * 1024 + 1024; omega

/-! ## The reference -/

section Reference

open Cert.Reference11Ideal.Read

variable (a : FVec Ideal (Mat 4096 2816) .bf16) (w : FVec Ideal ⟨4, ![1, 4, 704, 1024]⟩ .bf16) (x : FVec Ideal (Mat 4096 1024) .f32)
  (md : FVec Ideal ⟨3, ![2, 9, 1024]⟩ .f32) (lg lb : FVec Ideal (Mat 1 1024) .f32)

theorem ref_y (T : Fin 4096) (d : Fin 1024) : (val_main_v4 (F := Ideal) a w : FVec Ideal (Mat 4096 1024) .f32) (ix2 T d) = outer a w T d :=
  Cert.FfnOut.ref_y a w T d

theorem ref_mix (b : Fin 2) (s : Fin 2048) (d : Fin 1024) :
    (val_main_v16 (F := Ideal) a w x md : FVec Ideal ⟨3, ![2, 2048, 1024]⟩ .f32) (ix3 b s d) = mixed 8 a w x md ⟨2048 * b + s, by omega⟩ d := by
  have e6 : idx_main_v6 (ix3 b s d) = ix2 ⟨2048 * b + s, by omega⟩ d := by
    funext a; apply Fin.ext
    match a with
    | ⟨0, _⟩ => show ((b.val * 2048 + s.val) * 1024 + d.val) / 1024 = 2048 * b.val + s.val; omega
    | ⟨1, _⟩ => show ((b.val * 2048 + s.val) * 1024 + d.val) % 1024 = d.val; omega
  have e13 : idx_main_v13 (ix3 b s d) = ix2 ⟨2048 * b + s, by omega⟩ d := e6
  have e5 : idx_main_v5 (idx_main_v14 (ix3 b s d)) = ix3 b 8 d := by
    funext a; apply Fin.ext
    match a with
    | ⟨0, _⟩ => rfl
    | ⟨1, _⟩ => rfl
    | ⟨2, _⟩ => rfl
  unfold mixed
  rw [val_main_v16_apply, val_main_v8_apply, val_main_v7_apply, val_main_cst_apply, val_main_v6_apply, val_main_v15_apply, val_main_v14_apply, val_main_v12_apply,
    val_main_v11_apply, val_main_cst_1_apply, val_main_v10_apply, val_main_v9_apply, val_main_cst_0_apply, val_main_v5_apply, val_main_v13_apply, e6, e13, e5, ref_y,
    at3_of md (r := (2048 * b.val + s.val) / 2048) (c := 8) b 8 d (by omega) rfl rfl]
  rfl

theorem ref_mean (b : Fin 2) (s : Fin 2048) (z : Fin 1) :
    (val_main_v22 (F := Ideal) a w x md : FVec Ideal ⟨3, ![2, 2048, 1]⟩ .f32) (ix3 b s z) = mean (mixed 8 a w x md ⟨2048 * b + s, by omega⟩) := by
  rw [val_main_v22_apply, val_main_v20_apply, val_main_v19_apply, val_main_v21_apply, val_main_cst_3_apply]
  refine congrArg (Ideal.div · lenWord) ((congrArg (· + _) Ideal.ofBits_zero_f32).trans ((zero_add _).trans (Finset.sum_congr rfl fun d _ => Eq.trans (congrArg _ ?_) (ref_mix a w x md b s d))))
  funext a; apply Fin.ext
  match a with
  | ⟨0, _⟩ => rfl
  | ⟨1, _⟩ => rfl
  | ⟨2, _⟩ => rfl

theorem ref_spread (b : Fin 2) (s : Fin 2048) (z : Fin 1) :
    (val_main_v29 (F := Ideal) a w x md : FVec Ideal ⟨3, ![2, 2048, 1]⟩ .f32) (ix3 b s z) = spread (mixed 8 a w x md ⟨2048 * b + s, by omega⟩) := by
  have key : ∀ d : Fin 1024, (val_main_v24 (F := Ideal) a w x md : FVec Ideal ⟨3, ![2, 2048, 1024]⟩ .f32) (ix3 b s d)
      = mixed 8 a w x md ⟨2048 * b + s, by omega⟩ d - mean (mixed 8 a w x md ⟨2048 * b + s, by omega⟩) := by
    intro d
    rw [val_main_v24_apply, val_main_v23_apply, ref_mix]
    have e23 : idx_main_v23 (ix3 b s d) = ix3 b s 0 := by
      funext a; apply Fin.ext
      match a with
      | ⟨0, _⟩ => rfl
      | ⟨1, _⟩ => rfl
      | ⟨2, _⟩ => rfl
    rw [e23, ref_mean]
    rfl
  rw [val_main_v29_apply, val_main_v27_apply, val_main_v26_apply, val_main_v28_apply, val_main_cst_5_apply]
  refine congrArg (Ideal.div · lenWord) ((congrArg (· + _) Ideal.ofBits_zero_f32).trans ((zero_add _).trans (Finset.sum_congr rfl fun d _ => ?_)))
  have e : idx_main_v26 (idx_main_v27 (ix3 b s z)) d = ix3 b s d := by
    funext a; apply Fin.ext
    match a with
    | ⟨0, _⟩ => rfl
    | ⟨1, _⟩ => rfl
    | ⟨2, _⟩ => rfl
  rw [e, val_main_v25_apply, key]
  rfl

theorem ref_norm (b : Fin 2) (s : Fin 2048) (d : Fin 1024) :
    (val_main_v42 (F := Ideal) a w x md lg lb : FVec Ideal ⟨3, ![2, 2048, 1024]⟩ .f32) (ix3 b s d)
      = normed (mixed 8 a w x md ⟨2048 * b + s, by omega⟩) (fun e => lg (ix2 0 e)) (fun e => lb (ix2 0 e)) d := by
  have e17 : idx_main_v17 (idx_main_v37 (idx_main_v38 (ix3 b s d))) = ix2 0 d := by
    funext a; apply Fin.ext
    match a with
    | ⟨0, _⟩ => rfl
    | ⟨1, _⟩ => show d.val % 1024 = d.val; omega
  have e18 : idx_main_v18 (idx_main_v40 (idx_main_v41 (ix3 b s d))) = ix2 0 d := e17
  have e30 : idx_main_v30 (ix3 b s d) = ix3 b s 0 := by
    funext a; apply Fin.ext
    match a with
    | ⟨0, _⟩ => rfl
    | ⟨1, _⟩ => rfl
    | ⟨2, _⟩ => rfl
  have e35 : idx_main_v35 (ix3 b s d) = ix3 b s 0 := e30
  rw [val_main_v42_apply, val_main_v39_apply, val_main_v36_apply, val_main_v31_apply, val_main_v30_apply, val_main_v35_apply, val_main_v34_apply, val_main_v33_apply,
    val_main_v32_apply, val_main_cst_6_apply, val_main_v38_apply, val_main_v37_apply, val_main_v17_apply, val_main_v41_apply, val_main_v40_apply, val_main_v18_apply,
    e17, e18, e30, e35, ref_mix, ref_mean, ref_spread]
  rfl

theorem ref_x (T : Fin 4096) (d : Fin 1024) :
    (val_main_v43 (F := Ideal) a w x md lg lb : FVec Ideal (Mat 4096 1024) .f32) (ix2 T d)
      = normed (mixed 8 a w x md T) (fun e => lg (ix2 0 e)) (fun e => lb (ix2 0 e)) d := by
  have hT := T.isLt
  have e : idx_main_v43 (ix2 T d) = ix3 ⟨T.val / 2048, by omega⟩ ⟨T.val % 2048, Nat.mod_lt _ (by decide)⟩ d := by
    funext a; apply Fin.ext
    match a with
    | ⟨0, _⟩ => show (T.val * 1024 + d.val) / 2097152 = T.val / 2048; omega
    | ⟨1, _⟩ => show (T.val * 1024 + d.val) / 1024 % 2048 = T.val % 2048; omega
    | ⟨2, _⟩ => show (T.val * 1024 + d.val) % 1024 = d.val; omega
  rw [val_main_v43_apply, e, ref_norm]
  congr 2
  exact Fin.ext (show 2048 * (T.val / 2048) + T.val % 2048 = T.val by omega)

end Reference

/-! ## The two results -/

theorem result_y : (dats m 0 c).arrAt 6 cfg0.N = Cert.Reference11Ideal.Read.val_main_v4 (F := Ideal) (A m c) (W m c) := by
  rw [array_y]
  have e : ∀ (T : Fin 4096) (d : Fin 1024), yArr m c (ix2 T d)
      = (Cert.Reference11Ideal.Read.val_main_v4 (F := Ideal) (A m c) (W m c) : FVec Ideal (Mat 4096 1024) .f32) (ix2 T d) :=
    fun T d => (ref_y _ _ T d).symm
  funext i
  rw [← ix2_eta i]
  exact e _ _

theorem result_x : (dats m 0 c).arrAt 7 cfg0.N = Cert.Reference11Ideal.Read.val_main_v43 (F := Ideal) (A m c) (W m c) (X m c) (Md m c) (Lg m c) (Lb m c) := by
  rw [array_x]
  have e : ∀ (T : Fin 4096) (d : Fin 1024), xArr m c (ix2 T d)
      = (Cert.Reference11Ideal.Read.val_main_v43 (F := Ideal) (A m c) (W m c) (X m c) (Md m c) (Lg m c) (Lb m c) : FVec Ideal (Mat 4096 1024) .f32) (ix2 T d) :=
    fun T d => (ref_x _ _ _ _ _ _ T d).symm
  funext i
  rw [← ix2_eta i]
  exact e _ _

end Cert.FfnOutNext

end
-- ==== Proof.InGradNext.lean ====
module

public import proofs.«01_k».proof.Proof.InGrad
public import proofs.«01_k».proof.Proof.Gen.Kernel7Ideal.Value
public import proofs.«01_k».proof.Proof.Gen.Reference7Ideal.Read

@[expose] public section

/-! # The gradients of the second feed-forward block's input and of its modulation

The same call as for the first block, with the scale in row 7 of the modulation. What does not depend on the program is taken from
there.

The kernel works on tiles of tokens; for each it adds the products over the two halves of the hidden columns, of the gate and of the
up columns, and adds the tile's share of the shift's and the scale's gradients to what the sequence's earlier tile left. -/

noncomputable section

namespace Cert.InGradNext

open Idealize.ShloMosaic Idealize.ShloMosaic.TcCoe Idealize.SL.Sem
open Cert.Kernel7Ideal Cert.Kernel7Ideal.Gen Cert.Attn Cert.Ffn
open Cert.InGrad (hz hz3 hz4 flatW flatW_of rows)

/-- The scale's row of a sequence's modulation. -/
abbrev scaleRow (md : Vec Ideal S1x9x1024 .f32) : Vec Ideal S1x1x1024 .f32 :=
  View.ld md (Rect.unit (s := S1x9x1024) ![0, 7, 0] S1x1x1024.size inb_S1x9x1024_S1x1x1024_0_7_0)

section Case

variable (c : Dev nD) (i : grid0.Coords) (a2 : Memref sig .tc .vmem S1024x1408 .bf16) (h2 : a2.IsWhole)
  (a3 : Memref sig .tc .vmem S1024x1408 .bf16) (h3 : a3.IsWhole) (a4 : Memref sig .tc .vmem S1x1x1024x1408 .bf16) (h4 : a4.IsWhole)
  (a5 : Memref sig .tc .vmem S1x1x1024x1408 .bf16) (h5 : a5.IsWhole) (a6 : Memref sig .tc .vmem S1024x1024 .f32) (h6 : a6.IsWhole)
  (a7 : Memref sig .tc .vmem S1x9x1024 .f32) (h7 : a7.IsWhole) (a8 : Memref sig .tc .vmem S1024x1024 .f32) (h8 : a8.IsWhole)
  (a9 : Memref sig .tc .vmem S1024x1024 .f32) (h9 : a9.IsWhole) (a10 : Memref sig .tc .vmem S1x1x1024 .f32) (h10 : a10.IsWhole)
  (a11 : Memref sig .tc .vmem S1x1x1024 .f32) (h11 : a11.IsWhole) (a12 : Memref sig .tc .vmem S1024x1024 .f32) (h12 : a12.IsWhole)
  (g u : Vec Ideal S1024x1408 .bf16) (wg wu : Vec Ideal S1x1x1024x1408 .bf16) (x : Vec Ideal S1024x1024 .f32) (md : Vec Ideal S1x9x1024 .f32)
  (res : Vec Ideal S1024x1024 .f32) (sh sc : Vec Ideal S1x1x1024 .f32) (acc : Vec Ideal S1024x1024 .f32)

/-- The first half of the hidden columns leaves its products in the accumulator. -/
theorem first (k0 : cond0_0 i) (k1 : ¬cond0_1 i) (k2 : ¬cond0_2 i) :
    sout0_A_0 c i a2 h2 a3 h3 a4 h4 a5 h5 a6 h6 a7 h7 a8 h8 a9 h9 a10 h10 a11 h11 a12 h12 k0 k1 k2 g u wg wu x md res = k0_pay1 g wg u wu := by
  unfold sout0_A_0
  rw [View.read_writes_eq_canon _ _ _ (scover0_A_0 c i a2 h2 a3 h3 a4 h4 a5 h5 a6 h6 a7 h7 a8 h8 a9 h9 a10 h10 a11 h11 a12 h12 k0 k1 k2 g u wg wu x md res)]
  unfold kernelRun0_A
  dsimp only
  sl_unfold_words
  rw [View.canon_cons_unit_zero (S := S1024x1024) hz]
  unfold k0_pay2
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The input's gradient, at the sequence's first tile. -/
theorem fresh_x (k0 : ¬cond0_0 i) (k1 : cond0_1 i) (k2 : cond0_2 i) (k3 : cond0_3 i) :
    out0_B_7 c i a2 h2 a3 h3 a4 h4 a5 h5 a6 h6 a7 h7 a8 h8 a9 h9 a10 h10 a11 h11 a12 h12 k0 k1 k2 k3 g u wg wu x md res acc = k0_pay5 (addf acc (k0_pay1 g wg u wu)) (scaleRow md) res := by
  unfold out0_B_7
  rw [View.read_writes_eq_canon _ _ _ (cover0_B_7 c i a2 h2 a3 h3 a4 h4 a5 h5 a6 h6 a7 h7 a8 h8 a9 h9 a10 h10 a11 h11 a12 h12 k0 k1 k2 k3 g u wg wu x md res acc)]
  unfold kernelRun0_B
  dsimp only
  sl_unfold_words
  rw [View.canon_cons_unit_zero (S := S1024x1024) hz]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The shift's gradient, at the sequence's first tile. -/
theorem fresh_sh (k0 : ¬cond0_0 i) (k1 : cond0_1 i) (k2 : cond0_2 i) (k3 : cond0_3 i) :
    out0_B_8 c i a2 h2 a3 h3 a4 h4 a5 h5 a6 h6 a7 h7 a8 h8 a9 h9 a10 h10 a11 h11 a12 h12 k0 k1 k2 k3 g u wg wu x md res acc = k0_pay8 (addf acc (k0_pay1 g wg u wu)) (k0_pay6 (F := Ideal)) := by
  unfold out0_B_8
  rw [View.read_writes_eq_canon _ _ _ (cover0_B_8 c i a2 h2 a3 h3 a4 h4 a5 h5 a6 h6 a7 h7 a8 h8 a9 h9 a10 h10 a11 h11 a12 h12 k0 k1 k2 k3 g u wg wu x md res acc)]
  unfold kernelRun0_B
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The scale's gradient, at the sequence's first tile. -/
theorem fresh_sc (k0 : ¬cond0_0 i) (k1 : cond0_1 i) (k2 : cond0_2 i) (k3 : cond0_3 i) :
    out0_B_9 c i a2 h2 a3 h3 a4 h4 a5 h5 a6 h6 a7 h7 a8 h8 a9 h9 a10 h10 a11 h11 a12 h12 k0 k1 k2 k3 g u wg wu x md res acc = k0_pay4 (addf acc (k0_pay1 g wg u wu)) (k0_pay7 (F := Ideal)) x := by
  unfold out0_B_9
  rw [View.read_writes_eq_canon _ _ _ (cover0_B_9 c i a2 h2 a3 h3 a4 h4 a5 h5 a6 h6 a7 h7 a8 h8 a9 h9 a10 h10 a11 h11 a12 h12 k0 k1 k2 k3 g u wg wu x md res acc)]
  unfold kernelRun0_B
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The input's gradient, at the sequence's second tile. -/
theorem again_x (k0 : ¬cond0_0 i) (k1 : cond0_1 i) (k2 : cond0_2 i) (k3 : ¬cond0_3 i) :
    out0_C_7 c i a2 h2 a3 h3 a4 h4 a5 h5 a6 h6 a7 h7 a8 h8 a9 h9 a10 h10 a11 h11 a12 h12 k0 k1 k2 k3 g u wg wu x md res sh sc acc = k0_pay5 (addf acc (k0_pay1 g wg u wu)) (scaleRow md) res := by
  unfold out0_C_7
  rw [View.read_writes_eq_canon _ _ _ (cover0_C_7 c i a2 h2 a3 h3 a4 h4 a5 h5 a6 h6 a7 h7 a8 h8 a9 h9 a10 h10 a11 h11 a12 h12 k0 k1 k2 k3 g u wg wu x md res sh sc acc)]
  unfold kernelRun0_C
  dsimp only
  sl_unfold_words
  rw [View.canon_cons_unit_zero (S := S1024x1024) hz]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The shift's gradient, at the sequence's second tile. -/
theorem again_sh (k0 : ¬cond0_0 i) (k1 : cond0_1 i) (k2 : cond0_2 i) (k3 : ¬cond0_3 i) :
    out0_C_8 c i a2 h2 a3 h3 a4 h4 a5 h5 a6 h6 a7 h7 a8 h8 a9 h9 a10 h10 a11 h11 a12 h12 k0 k1 k2 k3 g u wg wu x md res sh sc acc = k0_pay8 (addf acc (k0_pay1 g wg u wu)) sh := by
  unfold out0_C_8
  rw [View.read_writes_eq_canon _ _ _ (cover0_C_8 c i a2 h2 a3 h3 a4 h4 a5 h5 a6 h6 a7 h7 a8 h8 a9 h9 a10 h10 a11 h11 a12 h12 k0 k1 k2 k3 g u wg wu x md res sh sc acc)]
  unfold kernelRun0_C
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

/-- The scale's gradient, at the sequence's second tile. -/
theorem again_sc (k0 : ¬cond0_0 i) (k1 : cond0_1 i) (k2 : cond0_2 i) (k3 : ¬cond0_3 i) :
    out0_C_9 c i a2 h2 a3 h3 a4 h4 a5 h5 a6 h6 a7 h7 a8 h8 a9 h9 a10 h10 a11 h11 a12 h12 k0 k1 k2 k3 g u wg wu x md res sh sc acc = k0_pay4 (addf acc (k0_pay1 g wg u wu)) sc x := by
  unfold out0_C_9
  rw [View.read_writes_eq_canon _ _ _ (cover0_C_9 c i a2 h2 a3 h3 a4 h4 a5 h5 a6 h6 a7 h7 a8 h8 a9 h9 a10 h10 a11 h11 a12 h12 k0 k1 k2 k3 g u wg wu x md res sh sc acc)]
  unfold kernelRun0_C
  dsimp only
  sl_unfold_words
  rw [View.canon_cons_unit_zero (S := S1x1x1024) hz3]
  unfold k0_pay3
  simp only [View.readAt_eq_ld, h2.read_unread, h3.read_unread, h4.read_unread, h5.read_unread, h6.read_unread, h7.read_unread, h8.read_unread, h10.read_unread,
    h11.read_unread, h12.read_unread, View.readCov_unit_zero (S := S1024x1024) _ hz, View.readCov_unit_zero (S := S1x1x1024) _ hz3, View.ld_unit_zero (S := S1024x1408) hz,
    View.ld_unit_zero (S := S1024x1024) hz, View.ld_unit_zero (S := S1x1x1024) hz3, View.ld_unit_zero (S := S1x1x1024x1408) hz4, shapeCast_self]

end Case

theorem dz_apply (g u : FVec Ideal (Mat 1024 1408) .bf16) (wg wu : FVec Ideal S1x1x1024x1408 .bf16) (k d : Fin 1024) :
    (k0_pay1 (F := Ideal) g wg u wu : FVec Ideal (Mat 1024 1024) .f32) (ix2 k d)
      = ∑ f : Fin 1408, g (ix2 k f) * wg (ix4 0 0 d f) + ∑ f : Fin 1408, u (ix2 k f) * wu (ix4 0 0 d f) :=
  Cert.InGrad.dz_apply g u wg wu k d

theorem dx_apply (v : FVec Ideal S1024x1024 .f32) (md : FVec Ideal S1x9x1024 .f32) (res : FVec Ideal S1024x1024 .f32) (k d : Fin 1024) :
    k0_pay5 v (scaleRow md) res (ix2 k d) = v (ix2 k d) * (oneWord + md (ix3 0 7 d)) + res (ix2 k d) := by
  unfold scaleRow
  rw [View.ld_unit]
  unfold k0_pay5
  dsimp only
  pointwise

theorem dsh_apply (v : FVec Ideal S1024x1024 .f32) (s : FVec Ideal S1x1x1024 .f32) (d : Fin 1024) :
    k0_pay8 v s (ix3 0 0 d) = s (ix3 0 0 d) + ∑ k : Fin 1024, v (ix2 k d) :=
  Cert.InGrad.dsh_apply v s d

theorem dsc_apply (v x : FVec Ideal S1024x1024 .f32) (s : FVec Ideal S1x1x1024 .f32) (d : Fin 1024) :
    k0_pay4 v s x (ix3 0 0 d) = s (ix3 0 0 d) + ∑ k : Fin 1024, v (ix2 k d) * x (ix2 k d) :=
  Cert.InGrad.dsc_apply v x s d

theorem zero_sh (d : Fin 1024) : (k0_pay6 (F := Ideal)) (ix3 0 0 d) = 0 :=
  Cert.InGrad.zero_sh d

theorem zero_sc (d : Fin 1024) : (k0_pay7 (F := Ideal)) (ix3 0 0 d) = 0 :=
  Cert.InGrad.zero_sc d

variable (m : (ℓ : Loc nD τ sig) → Buf (Elt Ideal) ℓ) (c : Dev nD)

/-- The gate's gradient. -/
abbrev Dg : FVec Ideal (Mat 4096 2816) .bf16 := m ((c : Thread nD τ).loc main_arg0)
/-- The up columns' gradient. -/
abbrev Du : FVec Ideal (Mat 4096 2816) .bf16 := m ((c : Thread nD τ).loc main_arg1)
/-- The weight, as shards. -/
abbrev W : FVec Ideal ⟨4, ![1, 4, 1024, 1408]⟩ .bf16 := m ((c : Thread nD τ).loc main_arg2)
/-- The tokens. -/
abbrev X : FVec Ideal (Mat 4096 1024) .f32 := m ((c : Thread nD τ).loc main_arg3)
/-- The modulation. -/
abbrev Md : FVec Ideal ⟨3, ![2, 9, 1024]⟩ .f32 := m ((c : Thread nD τ).loc main_arg4)
/-- What the residual path adds. -/
abbrev Res : FVec Ideal (Mat 4096 1024) .f32 := m ((c : Thread nD τ).loc main_arg5)

theorem at_g : ∀ t : Fin grid0.N, win0_0.index t 0 = t.val / 2 ∧ win0_0.index t 1 = t.val % 2 := by decide +kernel
theorem at_u : ∀ t : Fin grid0.N, win0_1.index t 0 = t.val / 2 ∧ win0_1.index t 1 = t.val % 2 := by decide +kernel
theorem at_wg : ∀ t : Fin grid0.N, win0_2.index t = ![0, t.val % 2, 0, 0] := by decide +kernel
theorem at_wu : ∀ t : Fin grid0.N, win0_3.index t = ![0, t.val % 2 + 2, 0, 0] := by decide +kernel
theorem at_x : ∀ t : Fin grid0.N, win0_4.index t 0 = t.val / 2 ∧ win0_4.index t 1 = 0 := by decide +kernel
theorem at_md : ∀ t : Fin grid0.N, win0_5.index t = ![t.val / 4, 0, 0] := by decide +kernel
theorem at_res : ∀ t : Fin grid0.N, win0_6.index t 0 = t.val / 2 ∧ win0_6.index t 1 = 0 := by decide +kernel

theorem block_g (t : Fin grid0.N) (k : Fin 1024) (f : Fin 1408) :
    (iblk m c 0 t : FVec Ideal (Mat 1024 1408) .bf16) (ix2 k f) = beside 2816 (Dg m c) (Du m c) (1024 * (t.val / 2) + k) (1408 * (t.val % 2) + f) := by
  have ht : t.val < 8 := lt_of_lt_of_eq t.isLt N_0
  have hi := at_g t
  rw [beside, if_pos (by omega), at2_of (Dg m c) ⟨1024 * (t.val / 2) + k, by omega⟩ ⟨1408 * (t.val % 2) + f, by omega⟩ rfl rfl]
  unfold iblk
  rw [View.read_apply]
  show V m c main_arg0 _ = _
  rw [V_main_arg0]
  congr 1
  funext a
  apply Fin.ext
  match a with
  | ⟨0, _⟩ => show win0_0.index t 0 * 1024 + 1 * k.val = 1024 * (t.val / 2) + k.val; omega
  | ⟨1, _⟩ => show win0_0.index t 1 * 1408 + 1 * f.val = 1408 * (t.val % 2) + f.val; omega

theorem block_u (t : Fin grid0.N) (k : Fin 1024) (f : Fin 1408) :
    (iblk m c 1 t : FVec Ideal (Mat 1024 1408) .bf16) (ix2 k f) = beside 2816 (Dg m c) (Du m c) (1024 * (t.val / 2) + k) (2816 + (1408 * (t.val % 2) + f)) := by
  have ht : t.val < 8 := lt_of_lt_of_eq t.isLt N_0
  have hi := at_u t
  rw [beside, if_neg (by omega), at2_of (Du m c) ⟨1024 * (t.val / 2) + k, by omega⟩ ⟨1408 * (t.val % 2) + f, by omega⟩ rfl (by dsimp only; omega)]
  unfold iblk
  rw [View.read_apply]
  show V m c main_arg1 _ = _
  rw [V_main_arg1]
  congr 1
  funext a
  apply Fin.ext
  match a with
  | ⟨0, _⟩ => show win0_1.index t 0 * 1024 + 1 * k.val = 1024 * (t.val / 2) + k.val; omega
  | ⟨1, _⟩ => show win0_1.index t 1 * 1408 + 1 * f.val = 1408 * (t.val % 2) + f.val; omega

theorem block_wg (t : Fin grid0.N) (d : Fin 1024) (f : Fin 1408) :
    (iblk m c 2 t : FVec Ideal S1x1x1024x1408 .bf16) (ix4 0 0 d f) = flatW (W m c) d (1408 * (t.val % 2) + f) := by
  have ht : t.val < 8 := lt_of_lt_of_eq t.isLt N_0
  have hi := at_wg t
  rw [flatW_of (W m c) ⟨t.val % 2, by omega⟩ d f rfl]
  unfold iblk
  rw [View.read_apply]
  show V m c main_arg2 _ = _
  rw [V_main_arg2]
  congr 1
  funext a
  apply Fin.ext
  match a with
  | ⟨0, _⟩ => show win0_2.index t 0 * 1 + 1 * 0 = 0; rw [hi]; rfl
  | ⟨1, _⟩ => show win0_2.index t 1 * 1 + 1 * 0 = t.val % 2; rw [hi]; show (t.val % 2) * 1 + 1 * 0 = _; omega
  | ⟨2, _⟩ => show win0_2.index t 2 * 1024 + 1 * d.val = d.val; rw [hi]; show 0 * 1024 + 1 * d.val = d.val; omega
  | ⟨3, _⟩ => show win0_2.index t 3 * 1408 + 1 * f.val = f.val; rw [hi]; show 0 * 1408 + 1 * f.val = f.val; omega

theorem block_wu (t : Fin grid0.N) (d : Fin 1024) (f : Fin 1408) :
    (iblk m c 3 t : FVec Ideal S1x1x1024x1408 .bf16) (ix4 0 0 d f) = flatW (W m c) d (2816 + (1408 * (t.val % 2) + f)) := by
  have ht : t.val < 8 := lt_of_lt_of_eq t.isLt N_0
  have hi := at_wu t
  rw [flatW_of (W m c) ⟨t.val % 2 + 2, by omega⟩ d f (by dsimp only; omega)]
  unfold iblk
  rw [View.read_apply]
  show V m c main_arg2 _ = _
  rw [V_main_arg2]
  congr 1
  funext a
  apply Fin.ext
  match a with
  | ⟨0, _⟩ => show win0_3.index t 0 * 1 + 1 * 0 = 0; rw [hi]; rfl
  | ⟨1, _⟩ => show win0_3.index t 1 * 1 + 1 * 0 = t.val % 2 + 2; rw [hi]; show (t.val % 2 + 2) * 1 + 1 * 0 = _; omega
  | ⟨2, _⟩ => show win0_3.index t 2 * 1024 + 1 * d.val = d.val; rw [hi]; show 0 * 1024 + 1 * d.val = d.val; omega
  | ⟨3, _⟩ => show win0_3.index t 3 * 1408 + 1 * f.val = f.val; rw [hi]; show 0 * 1408 + 1 * f.val = f.val; omega

theorem block_x (t : Fin grid0.N) (k d : Fin 1024) :
    (iblk m c 4 t : FVec Ideal (Mat 1024 1024) .f32) (ix2 k d) = at2 (X m c) (1024 * (t.val / 2) + k) d := by
  have ht : t.val < 8 := lt_of_lt_of_eq t.isLt N_0
  have hi := at_x t
  rw [at2_of (X m c) ⟨1024 * (t.val / 2) + k, by omega⟩ d rfl rfl]
  unfold iblk
  rw [View.read_apply]
  show V m c main_arg3 _ = _
  rw [V_main_arg3]
  congr 1
  funext a
  apply Fin.ext
  match a with
  | ⟨0, _⟩ => show win0_4.index t 0 * 1024 + 1 * k.val = 1024 * (t.val / 2) + k.val; omega
  | ⟨1, _⟩ => show win0_4.index t 1 * 1024 + 1 * d.val = d.val; omega

theorem block_res (t : Fin grid0.N) (k d : Fin 1024) :
    (iblk m c 6 t : FVec Ideal (Mat 1024 1024) .f32) (ix2 k d) = at2 (Res m c) (1024 * (t.val / 2) + k) d := by
  have ht : t.val < 8 := lt_of_lt_of_eq t.isLt N_0
  have hi := at_res t
  rw [at2_of (Res m c) ⟨1024 * (t.val / 2) + k, by omega⟩ d rfl rfl]
  unfold iblk
  rw [View.read_apply]
  show V m c main_arg5 _ = _
  rw [V_main_arg5]
  congr 1
  funext a
  apply Fin.ext
  match a with
  | ⟨0, _⟩ => show win0_6.index t 0 * 1024 + 1 * k.val = 1024 * (t.val / 2) + k.val; omega
  | ⟨1, _⟩ => show win0_6.index t 1 * 1024 + 1 * d.val = d.val; omega

theorem block_md (t : Fin grid0.N) (r : Fin 9) (d : Fin 1024) :
    (iblk m c 5 t : FVec Ideal S1x9x1024 .f32) (ix3 0 r d) = at3 (Md m c) (t.val / 4) r d := by
  have ht : t.val < 8 := lt_of_lt_of_eq t.isLt N_0
  have hi := at_md t
  rw [at3_of (Md m c) ⟨t.val / 4, by omega⟩ r d rfl rfl rfl]
  unfold iblk
  rw [View.read_apply]
  show V m c main_arg4 _ = _
  rw [V_main_arg4]
  congr 1
  funext a
  apply Fin.ext
  match a with
  | ⟨0, _⟩ => show win0_5.index t 0 * 1 + 1 * 0 = t.val / 4; rw [hi]; show t.val / 4 * 1 + 1 * 0 = _; omega
  | ⟨1, _⟩ => show win0_5.index t 1 * 9 + 1 * r.val = r.val; rw [hi]; show 0 * 9 + 1 * r.val = r.val; omega
  | ⟨2, _⟩ => show win0_5.index t 2 * 1024 + 1 * d.val = d.val; rw [hi]; show 0 * 1024 + 1 * d.val = d.val; omega

/-- One summand of an entry of the product with the weight. -/
abbrev term (T d f : ℕ) : EReal := beside 2816 (Dg m c) (Du m c) T f * flatW (W m c) d f

/-- The gradient at the modulated rows. -/
abbrev dz (T d : ℕ) : EReal := ∑ f : Fin 5632, term m c T d f

/-- A point's two products. -/
abbrev D (t : Fin grid0.N) : FVec Ideal S1024x1024 .f32 := k0_pay1 (F := Ideal) (iblk m c 0 t) (iblk m c 2 t) (iblk m c 1 t) (iblk m c 3 t)

theorem D_apply (t : Fin grid0.N) (k d : Fin 1024) :
    D m c t (ix2 k d) = ∑ f : Fin 1408, term m c (1024 * (t.val / 2) + k) d (1408 * (t.val % 2) + f)
      + ∑ f : Fin 1408, term m c (1024 * (t.val / 2) + k) d (2816 + (1408 * (t.val % 2) + f)) :=
  (dz_apply _ _ _ _ k d).trans (congrArg₂ (· + ·)
    (Finset.sum_congr rfl fun f _ => congrArg₂ (· * ·) (block_g m c t k f) (block_wg m c t d f))
    (Finset.sum_congr rfl fun f _ => congrArg₂ (· * ·) (block_u m c t k f) (block_wu m c t d f)))

theorem pred_lt (t : Fin cfg0.N) : t.val - 1 < cfg0.N := Nat.lt_of_le_of_lt (Nat.sub_le _ _) t.isLt

/-- The two halves of the hidden columns added. -/
abbrev Z (t : Fin cfg0.N) : FVec Ideal S1024x1024 .f32 := addf (outsAt0 m c (t.val - 1) (pred_lt t)).2.2.2 (D m c t)

theorem left (s : Fin cfg0.N) (hs : s.val % 2 = 0) (n : ℕ) (h : n < cfg0.N) (e : n = s.val) :
    (outsAt0 m c n h).2.2.2 = D m c s := by
  subst e
  refine (congrArg (fun p => p.2.2.2) (outsAt0_A m c s hs (by omega) (by omega))).trans ?_
  dsimp only
  rw [first]

/-- A point in between leaves the shift's and the scale's gradients as they were. -/
theorem kept (s : Fin cfg0.N) (hs : s.val % 2 = 0) (n : ℕ) (h : n < cfg0.N) (e : n = s.val) :
    (outsAt0 m c n h).2.1 = (outsAt0 m c (s.val - 1) (pred_lt s)).2.1 ∧ (outsAt0 m c n h).2.2.1 = (outsAt0 m c (s.val - 1) (pred_lt s)).2.2.1 := by
  subst e
  constructor
  · refine (congrArg (fun p => p.2.1) (outsAt0_A m c s hs (by omega) (by omega))).trans ?_
    dsimp only
    unfold out0_A_8
    rfl
  · refine (congrArg (fun p => p.2.2.1) (outsAt0_A m c s hs (by omega) (by omega))).trans ?_
    dsimp only
    unfold out0_A_9
    rfl

theorem Z_apply (t : Fin cfg0.N) (ht : t.val % 2 = 1) (k d : Fin 1024) : Z m c t (ix2 k d) = dz m c (1024 * (t.val / 2) + k) d := by
  obtain ⟨s, hs⟩ : ∃ s : Fin cfg0.N, s.val = t.val - 1 := ⟨⟨t.val - 1, pred_lt t⟩, rfl⟩
  unfold Z
  rw [left m c s (by omega) _ _ hs.symm]
  show D m c s (ix2 k d) + D m c t (ix2 k d) = _
  rw [D_apply, D_apply, ht, show s.val % 2 = 0 by omega, show s.val / 2 = t.val / 2 by omega]
  refine Eq.trans ?_ (sum_quarters 1408 rfl fun f => term m c (1024 * (t.val / 2) + k) d f).symm
  simp only [Nat.mul_zero, Nat.zero_add, Nat.mul_one, ← Nat.add_assoc, Nat.reduceMul, Nat.reduceAdd]
  abel

theorem stored_x (t : Fin cfg0.N) (ht : t.val % 2 = 1) : (outsAt0 m c t.val t.isLt).1 = k0_pay5 (Z m c t) (scaleRow (iblk m c 5 t)) (iblk m c 6 t) := by
  by_cases h : t.val % 4 = 0 ∨ t.val % 4 = 1
  · refine (congrArg Prod.fst (outsAt0_B m c t (by omega) ht ht h)).trans ?_
    dsimp only
    rw [fresh_x]
  · refine (congrArg Prod.fst (outsAt0_C m c t (by omega) ht ht h)).trans ?_
    dsimp only
    rw [again_x]

theorem fresh_shift (t : Fin cfg0.N) (ht : t.val % 4 = 1) (n : ℕ) (h : n < cfg0.N) (e : n = t.val) : (outsAt0 m c n h).2.1 = k0_pay8 (F := Ideal) (Z m c t) (k0_pay6 (F := Ideal)) := by
  subst e
  refine (congrArg (fun p => p.2.1) (outsAt0_B m c t (by omega) (by omega) (by omega) (Or.inr ht))).trans ?_
  dsimp only
  rw [fresh_sh]

theorem fresh_scale (t : Fin cfg0.N) (ht : t.val % 4 = 1) (n : ℕ) (h : n < cfg0.N) (e : n = t.val) : (outsAt0 m c n h).2.2.1 = k0_pay4 (Z m c t) (k0_pay7 (F := Ideal)) (iblk m c 4 t) := by
  subst e
  refine (congrArg (fun p => p.2.2.1) (outsAt0_B m c t (by omega) (by omega) (by omega) (Or.inr ht))).trans ?_
  dsimp only
  rw [fresh_sc]

/-- What the last point of a sequence stores of the shift's and the scale's gradients. -/
theorem stored_shift (t s : Fin cfg0.N) (ht : t.val % 4 = 3) (hs : s.val + 2 = t.val) :
    (outsAt0 m c t.val t.isLt).2.1 = k0_pay8 (F := Ideal) (Z m c t) (k0_pay8 (F := Ideal) (Z m c s) (k0_pay6 (F := Ideal))) := by
  obtain ⟨r, hr⟩ : ∃ r : Fin cfg0.N, r.val = t.val - 1 := ⟨⟨t.val - 1, pred_lt t⟩, rfl⟩
  refine (congrArg (fun p => p.2.1) (outsAt0_C m c t (by omega) (by omega) (by omega) (by omega))).trans ?_
  dsimp only
  rw [again_sh, (kept m c r (by omega) _ _ hr.symm).1, fresh_shift m c s (by omega) (r.val - 1) _ (by omega)]

theorem stored_scale (t s : Fin cfg0.N) (ht : t.val % 4 = 3) (hs : s.val + 2 = t.val) :
    (outsAt0 m c t.val t.isLt).2.2.1 = k0_pay4 (Z m c t) (k0_pay4 (Z m c s) (k0_pay7 (F := Ideal)) (iblk m c 4 s)) (iblk m c 4 t) := by
  obtain ⟨r, hr⟩ : ∃ r : Fin cfg0.N, r.val = t.val - 1 := ⟨⟨t.val - 1, pred_lt t⟩, rfl⟩
  refine (congrArg (fun p => p.2.2.1) (outsAt0_C m c t (by omega) (by omega) (by omega) (by omega))).trans ?_
  dsimp only
  rw [again_sc, (kept m c r (by omega) _ _ hr.symm).2, fresh_scale m c s (by omega) (r.val - 1) _ (by omega)]

/-- The input's gradient after the run. -/
theorem array_x (T : Fin 4096) (d : Fin 1024) :
    ((dats m 0 c).arrAt 7 cfg0.N : FVec Ideal (Mat 4096 1024) .f32) (ix2 T d)
      = dz m c T d * (oneWord + at3 (Md m c) (T / 2048) 7 d) + at2 (Res m c) T d := by
  have hN : cfg0.N = 8 := N_0
  rw [Value.final7]
  unfold Value.G7
  have hp : Value.pt7Of (ix2 T d) = 2 * (T.val / 1024) + 1 := by
    show 2 * (1 * (T.val / 1024 - 0) + 1 * (d.val / 1024 - 0)) + 1 = _
    omega
  have hlt : Value.pt7Of (ix2 T d) < cfg0.N := by rw [hp]; omega
  rw [dif_pos hlt, ← Value.outsAt0_sweep m c _ hlt]
  have hl : Value.loc7Of (ix2 T d) = ix2 ⟨T.val % 1024, Nat.mod_lt _ (by decide)⟩ d := by
    funext a; apply Fin.ext
    match a with
    | ⟨0, _⟩ => rfl
    | ⟨1, _⟩ => show d.val % 1024 = d.val; omega
  obtain ⟨t, ht⟩ : ∃ t : Fin cfg0.N, t.val = Value.pt7Of (ix2 T d) := ⟨⟨_, hlt⟩, rfl⟩
  rw [hl]
  have h1 : t.val % 2 = 1 := by omega
  have e : (outsAt0 m c (Value.pt7Of (ix2 T d)) hlt).1 = k0_pay5 (Z m c t) (scaleRow (iblk m c 5 t)) (iblk m c 6 t) :=
    Eq.trans (by simp only [ht]) (stored_x m c t h1)
  rw [e, dx_apply, Z_apply m c t h1]
  refine congrArg₂ (· + ·) (congrArg₂ (· * ·) ?_ (congrArg (oneWord + ·) ((block_md m c t 7 d).trans ?_))) ((block_res m c t _ d).trans ?_)
  · dsimp only
    rw [show 1024 * (t.val / 2) + T.val % 1024 = T.val by omega]
  · rw [show t.val / 4 = T.val / 2048 by omega]
    rfl
  · dsimp only
    rw [show 1024 * (t.val / 2) + T.val % 1024 = T.val by omega]

/-- The shift's gradient after the run: the sum over a sequence's tokens. -/
theorem array_sh (b : Fin 2) (d : Fin 1024) :
    ((dats m 0 c).arrAt 8 cfg0.N : FVec Ideal ⟨3, ![2, 1, 1024]⟩ .f32) (ix3 b 0 d) = ∑ s : Fin 2048, dz m c (2048 * b + s) d := by
  have hN : cfg0.N = 8 := N_0
  rw [Value.final8]
  unfold Value.G8
  have hp : Value.pt8Of (ix3 b 0 d) = 4 * b.val + 3 := by
    show 4 * (1 * (b.val / 1 - 0) + 1 * (0 / 1 - 0) + 1 * (d.val / 1024 - 0)) + 3 = _
    omega
  have hlt : Value.pt8Of (ix3 b 0 d) < cfg0.N := by rw [hp]; omega
  rw [dif_pos hlt, ← Value.outsAt0_sweep m c _ hlt]
  have hl : Value.loc8Of (ix3 b 0 d) = ix3 0 0 d := by
    funext a; apply Fin.ext
    match a with
    | ⟨0, _⟩ => show b.val % 1 = 0; omega
    | ⟨1, _⟩ => rfl
    | ⟨2, _⟩ => show d.val % 1024 = d.val; omega
  obtain ⟨t, ht⟩ : ∃ t : Fin cfg0.N, t.val = Value.pt8Of (ix3 b 0 d) := ⟨⟨_, hlt⟩, rfl⟩
  obtain ⟨s, hs⟩ : ∃ s : Fin cfg0.N, s.val + 2 = t.val := ⟨⟨t.val - 2, by omega⟩, by dsimp only; omega⟩
  rw [hl]
  have e : (outsAt0 m c (Value.pt8Of (ix3 b 0 d)) hlt).2.1 = k0_pay8 (F := Ideal) (Z m c t) (k0_pay8 (F := Ideal) (Z m c s) (k0_pay6 (F := Ideal))) :=
    Eq.trans (by simp only [ht]) (stored_shift m c t s (by omega) hs)
  rw [e, dsh_apply, dsh_apply, zero_sh, zero_add, sum_halves 1024 rfl fun s => dz m c (2048 * b + s) d]
  refine congrArg₂ (· + ·) (Finset.sum_congr rfl fun k _ => (Z_apply m c s (by omega) k d).trans ?_) (Finset.sum_congr rfl fun k _ => (Z_apply m c t (by omega) k d).trans ?_)
  · rw [show 1024 * (s.val / 2) + k.val = 2048 * b.val + k.val by omega]
  · rw [show 1024 * (t.val / 2) + k.val = 2048 * b.val + (1024 + k.val) by omega]

/-- The scale's gradient after the run. -/
theorem array_sc (b : Fin 2) (d : Fin 1024) :
    ((dats m 0 c).arrAt 9 cfg0.N : FVec Ideal ⟨3, ![2, 1, 1024]⟩ .f32) (ix3 b 0 d) = ∑ s : Fin 2048, dz m c (2048 * b + s) d * at2 (X m c) (2048 * b + s) d := by
  have hN : cfg0.N = 8 := N_0
  rw [Value.final9]
  unfold Value.G9
  have hp : Value.pt9Of (ix3 b 0 d) = 4 * b.val + 3 := by
    show 4 * (1 * (b.val / 1 - 0) + 1 * (0 / 1 - 0) + 1 * (d.val / 1024 - 0)) + 3 = _
    omega
  have hlt : Value.pt9Of (ix3 b 0 d) < cfg0.N := by rw [hp]; omega
  rw [dif_pos hlt, ← Value.outsAt0_sweep m c _ hlt]
  have hl : Value.loc9Of (ix3 b 0 d) = ix3 0 0 d := by
    funext a; apply Fin.ext
    match a with
    | ⟨0, _⟩ => show b.val % 1 = 0; omega
    | ⟨1, _⟩ => rfl
    | ⟨2, _⟩ => show d.val % 1024 = d.val; omega
  obtain ⟨t, ht⟩ : ∃ t : Fin cfg0.N, t.val = Value.pt9Of (ix3 b 0 d) := ⟨⟨_, hlt⟩, rfl⟩
  obtain ⟨s, hs⟩ : ∃ s : Fin cfg0.N, s.val + 2 = t.val := ⟨⟨t.val - 2, by omega⟩, by dsimp only; omega⟩
  rw [hl]
  have e : (outsAt0 m c (Value.pt9Of (ix3 b 0 d)) hlt).2.2.1 = k0_pay4 (Z m c t) (k0_pay4 (Z m c s) (k0_pay7 (F := Ideal)) (iblk m c 4 s)) (iblk m c 4 t) :=
    Eq.trans (by simp only [ht]) (stored_scale m c t s (by omega) hs)
  rw [e, dsc_apply, dsc_apply, zero_sc, zero_add, sum_halves 1024 rfl fun s => dz m c (2048 * b + s) d * at2 (X m c) (2048 * b + s) d]
  refine congrArg₂ (· + ·) (Finset.sum_congr rfl fun k _ => (congrArg₂ (· * ·) (Z_apply m c s (by omega) k d) (block_x m c s k d)).trans ?_)
    (Finset.sum_congr rfl fun k _ => (congrArg₂ (· * ·) (Z_apply m c t (by omega) k d) (block_x m c t k d)).trans ?_)
  · rw [show 1024 * (s.val / 2) + k.val = 2048 * b.val + k.val by omega]
  · rw [show 1024 * (t.val / 2) + k.val = 2048 * b.val + (1024 + k.val) by omega]

/-! ## The reference's results -/

open Cert.Reference7Ideal.Read

section Reference

variable (y z : FVec Ideal (Mat 4096 2816) .bf16) (w : FVec Ideal ⟨4, ![1, 4, 1024, 1408]⟩ .bf16) (x : FVec Ideal (Mat 4096 1024) .f32)
  (md : FVec Ideal ⟨3, ![2, 9, 1024]⟩ .f32) (res : FVec Ideal (Mat 4096 1024) .f32)

theorem ref_dz (b : Fin 2) (s : Fin 2048) (d : Fin 1024) :
    (val_main_v18 (F := Ideal) y z w : FVec Ideal ⟨3, ![2, 2048, 1024]⟩ .f32) (ix3 b s d)
      = ∑ f : Fin 5632, beside 2816 y z (2048 * b + s) f * flatW w d f :=
  Cert.InGrad.ref_dz y z w b s d

theorem ref_sh (b : Fin 2) (d : Fin 1024) :
    (val_main_v20 (F := Ideal) y z w : FVec Ideal ⟨3, ![2, 1, 1024]⟩ .f32) (ix3 b 0 d)
      = ∑ s : Fin 2048, ∑ f : Fin 5632, beside 2816 y z (2048 * b + s) f * flatW w d f :=
  Cert.InGrad.ref_sh y z w b d

theorem ref_sc (b : Fin 2) (d : Fin 1024) :
    (val_main_v23 (F := Ideal) y z w x : FVec Ideal ⟨3, ![2, 1, 1024]⟩ .f32) (ix3 b 0 d)
      = ∑ s : Fin 2048, (∑ f : Fin 5632, beside 2816 y z (2048 * b + s) f * flatW w d f) * at2 x (2048 * b + s) d :=
  Cert.InGrad.ref_sc y z w x b d

theorem ref_dx (T : Fin 4096) (d : Fin 1024) :
    (val_main_v27 (F := Ideal) y z w md res : FVec Ideal (Mat 4096 1024) .f32) (ix2 T d)
      = (∑ f : Fin 5632, beside 2816 y z T f * flatW w d f) * (oneWord + at3 md (T / 2048) 7 d) + at2 res T d := by
  rw [val_main_v27_apply]
  have e : idx_main_v27 (ix2 T d) = ix3 ⟨T.val / 2048, by omega⟩ ⟨T.val % 2048, Nat.mod_lt _ (by decide)⟩ d := by
    funext a; apply Fin.ext
    match a with
    | ⟨0, _⟩ => show (T.val * 1024 + d.val) / 2097152 = T.val / 2048; omega
    | ⟨1, _⟩ => show (T.val * 1024 + d.val) / 1024 % 2048 = T.val % 2048; omega
    | ⟨2, _⟩ => show (T.val * 1024 + d.val) % 1024 = d.val; omega
  rw [e, val_main_v26_apply, val_main_v25_apply, val_main_v24_apply, val_main_v11_apply, val_main_v10_apply, val_main_v9_apply, val_main_v17_apply, ref_dz]
  refine (add_comm _ _).trans (congrArg₂ (· + ·) (congrArg₂ (· * ·) ?_ (congrArg (oneWord + ·) ?_)) ?_)
  · dsimp only
    rw [show 2048 * (T.val / 2048) + T.val % 2048 = T.val by omega]
  · rw [at3_of md (r := T.val / 2048) (c := 7) ⟨T.val / 2048, by omega⟩ 7 d rfl rfl rfl]
    refine congrArg md ?_
    funext a; apply Fin.ext
    match a with
    | ⟨0, _⟩ => rfl
    | ⟨1, _⟩ => rfl
    | ⟨2, _⟩ => rfl
  · rw [at2_mk res T d]
    refine congrArg res ?_
    funext a; apply Fin.ext
    match a with
    | ⟨0, _⟩ => show ((T.val / 2048 * 2048 + T.val % 2048) * 1024 + d.val) / 1024 = T.val; omega
    | ⟨1, _⟩ => show ((T.val / 2048 * 2048 + T.val % 2048) * 1024 + d.val) % 1024 = d.val; omega

end Reference

/-- The three results are the reference's. -/
theorem result_x : ((dats m 0 c).arrAt 7 cfg0.N : FVec Ideal (Mat 4096 1024) .f32)
    = val_main_v27 (F := Ideal) (Dg m c) (Du m c) (W m c) (Md m c) (Res m c) := by
  have e : ∀ (T : Fin 4096) (d : Fin 1024), ((dats m 0 c).arrAt 7 cfg0.N : FVec Ideal (Mat 4096 1024) .f32) (ix2 T d)
      = (val_main_v27 (F := Ideal) (Dg m c) (Du m c) (W m c) (Md m c) (Res m c) : FVec Ideal (Mat 4096 1024) .f32) (ix2 T d) :=
    fun T d => (array_x m c T d).trans (ref_dx _ _ _ _ _ T d).symm
  funext i
  rw [← ix2_eta i]
  exact e _ _

theorem result_sh : ((dats m 0 c).arrAt 8 cfg0.N : FVec Ideal ⟨3, ![2, 1, 1024]⟩ .f32) = val_main_v20 (F := Ideal) (Dg m c) (Du m c) (W m c) :=
  rows (φ := .f32) _ _ fun b d => (array_sh m c b d).trans (ref_sh _ _ _ b d).symm

theorem result_sc : ((dats m 0 c).arrAt 9 cfg0.N : FVec Ideal ⟨3, ![2, 1, 1024]⟩ .f32) = val_main_v23 (F := Ideal) (Dg m c) (Du m c) (W m c) (X m c) :=
  rows (φ := .f32) _ _ fun b d => (array_sc m c b d).trans (ref_sc _ _ _ _ b d).symm

end Cert.InGradNext
-- ==== Proof.OutGrad.lean ====
module

public import proofs.«01_k».proof.Proof.Sums
public import proofs.«01_k».proof.Proof.Gen.Kernel4Ideal.Value
public import proofs.«01_k».proof.Proof.Gen.Reference4Ideal.Read

@[expose] public section

/-! # The gradient of the feed-forward block's second weight

The kernel works on two halves of the weight's rows; for each it adds the products over the two halves of the tokens. -/

noncomputable section

namespace Cert.OutGrad

open Idealize.ShloMosaic Idealize.ShloMosaic.TcCoe Idealize.SL.Sem
open Cert.Kernel4Ideal Cert.Kernel4Ideal.Gen Cert.Attn Cert.Ffn

theorem hz : (![0, 0] : Fin 2 → Nat) = fun _ => 0 := funext fun a => by fin_cases a <;> rfl

/-- The product over the tokens of one block. -/
abbrev prod (x : FVec Ideal (Mat 2048 1408) .bf16) (y : FVec Ideal (Mat 2048 1024) .bf16) : FVec Ideal (Mat 1408 1024) .f32 :=
  matmul (colsDot 2048 1408 1024) none x y (constant (Mat 1408 1024) .f32 0x00000000#32)

theorem prod_apply (x : FVec Ideal (Mat 2048 1408) .bf16) (y : FVec Ideal (Mat 2048 1024) .bf16) (r : Fin 1408) (c : Fin 1024) :
    prod x y (ix2 r c) = ∑ k : Fin 2048, x (ix2 k r) * y (ix2 k c) :=
  (matmul_colsDot_apply none x y _ r c).trans ((congrArg (· + _) Ideal.ofBits_zero_f32).trans (zero_add _))

section Case

variable (c : Dev nD) (i : grid0.Coords) (a2 : Memref sig .tc .vmem S2048x1408 .bf16) (h2 : a2.IsWhole)
  (a3 : Memref sig .tc .vmem S2048x1024 .bf16) (h3 : a3.IsWhole) (a4 : Memref sig .tc .vmem S1408x1024 .bf16) (h4 : a4.IsWhole)
  (a5 : Memref sig .tc .vmem S1408x1024 .f32) (h5 : a5.IsWhole)
  (x : Vec Ideal S2048x1408 .bf16) (y : Vec Ideal S2048x1024 .bf16) (acc : Vec Ideal S1408x1024 .f32)

/-- The first half's point leaves its product in the accumulator. -/
theorem first (k0 : cond0_0 i) (k1 : ¬cond0_1 i) (k2 : ¬cond0_2 i) :
    sout0_A_0 c i a2 h2 a3 h3 a4 h4 a5 h5 k0 k1 k2 x y = prod x y := by
  unfold sout0_A_0
  rw [View.read_writes_eq_canon _ _ _ (scover0_A_0 c i a2 h2 a3 h3 a4 h4 a5 h5 k0 k1 k2 x y)]
  unfold kernelRun0_A
  dsimp only
  sl_unfold_words
  rw [View.canon_unit_zero hz]
  unfold k0_pay2 k0_pay1
  simp only [View.readAt_eq_ld, h2.read_unread, h3.read_unread, View.ld_unit_zero (S := S2048x1408) hz,
    View.ld_unit_zero (S := S2048x1024) hz, shapeCast_self]
  rfl

/-- The second half's point stores the accumulator with its product added. -/
theorem second (k0 : ¬cond0_0 i) (k1 : ¬cond0_1 i) (k2 : cond0_2 i) :
    out0_B_2 c i a2 h2 a3 h3 a4 h4 a5 h5 k0 k1 k2 x y acc = truncf .bf16 (addf acc (prod x y)) bitsLt_bf16_f32 := by
  unfold out0_B_2
  rw [View.read_writes_eq_canon _ _ _ (cover0_B_2 c i a2 h2 a3 h3 a4 h4 a5 h5 k0 k1 k2 x y acc)]
  unfold kernelRun0_B
  dsimp only
  sl_unfold_words
  rw [View.canon_unit_zero hz]
  unfold k0_pay4 k0_pay1
  simp only [View.readAt_eq_ld, h2.read_unread, h3.read_unread, h5.read_unread, View.ld_unit_zero (S := S2048x1408) hz,
    View.ld_unit_zero (S := S2048x1024) hz, View.ld_unit_zero (S := S1408x1024) hz, shapeCast_self]
  rfl

end Case

variable (m : (ℓ : Loc nD τ sig) → Buf (Elt Ideal) ℓ) (c : Dev nD)

theorem at_x : ∀ t : Fin grid0.N, win0_0.index t 0 = t.val % 2 ∧ win0_0.index t 1 = t.val / 2 := by decide +kernel
theorem at_y : ∀ t : Fin grid0.N, win0_1.index t 0 = t.val % 2 ∧ win0_1.index t 1 = 0 := by decide +kernel

/-- The activations. -/
abbrev X : FVec Ideal (Mat 4096 2816) .bf16 := m ((c : Thread nD τ).loc main_arg0)
/-- The output's gradient. -/
abbrev Y : FVec Ideal (Mat 4096 1024) .bf16 := m ((c : Thread nD τ).loc main_arg1)

theorem block_x (t : Fin grid0.N) (k : Fin 2048) (r : Fin 1408) :
    (iblk m c 0 t : FVec Ideal (Mat 2048 1408) .bf16) (ix2 k r) = at2 (X m c) (2048 * (t.val % 2) + k) (1408 * (t.val / 2) + r) := by
  have ht : t.val < 4 := lt_of_lt_of_eq t.isLt N_0
  have hi := at_x t
  rw [at2_of (X m c) ⟨2048 * (t.val % 2) + k, by omega⟩ ⟨1408 * (t.val / 2) + r, by omega⟩ rfl rfl]
  unfold iblk
  rw [View.read_apply]
  show V m c main_arg0 _ = _
  rw [V_main_arg0]
  congr 1
  funext a
  apply Fin.ext
  match a with
  | ⟨0, _⟩ => show win0_0.index t 0 * 2048 + 1 * k.val = 2048 * (t.val % 2) + k.val; rw [hi.1]; omega
  | ⟨1, _⟩ => show win0_0.index t 1 * 1408 + 1 * r.val = 1408 * (t.val / 2) + r.val; rw [hi.2]; omega

theorem block_y (t : Fin grid0.N) (k : Fin 2048) (e : Fin 1024) :
    (iblk m c 1 t : FVec Ideal (Mat 2048 1024) .bf16) (ix2 k e) = at2 (Y m c) (2048 * (t.val % 2) + k) e := by
  have ht : t.val < 4 := lt_of_lt_of_eq t.isLt N_0
  have hi := at_y t
  rw [at2_of (Y m c) ⟨2048 * (t.val % 2) + k, by omega⟩ e rfl rfl]
  unfold iblk
  rw [View.read_apply]
  show V m c main_arg1 _ = _
  rw [V_main_arg1]
  congr 1
  funext a
  apply Fin.ext
  match a with
  | ⟨0, _⟩ => show win0_1.index t 0 * 2048 + 1 * k.val = 2048 * (t.val % 2) + k.val; rw [hi.1]; omega
  | ⟨1, _⟩ => show win0_1.index t 1 * 1024 + 1 * e.val = e.val; rw [hi.2]; omega

theorem point_prod (t : Fin grid0.N) (r : Fin 1408) (e : Fin 1024) :
    prod (iblk m c 0 t) (iblk m c 1 t) (ix2 r e) = ∑ k : Fin 2048, at2 (X m c) (2048 * (t.val % 2) + k) (1408 * (t.val / 2) + r) * at2 (Y m c) (2048 * (t.val % 2) + k) e :=
  (prod_apply _ _ r e).trans (Finset.sum_congr rfl fun k _ => congrArg₂ (· * ·) (block_x m c t k r) (block_y m c t k e))

/-- What the first point of a half of the rows leaves in the accumulator. -/
theorem left (s : Fin cfg0.N) (hs : s.val % 2 = 0) (n : ℕ) (h : n < cfg0.N) (e : n = s.val) :
    (outsAt0 m c n h).2 = prod (iblk m c 0 s) (iblk m c 1 s) := by
  subst e
  refine (congrArg Prod.snd (outsAt0_A m c s hs (by omega))).trans ?_
  dsimp only
  rw [first]

/-- What the second point of a half of the rows stores. -/
theorem stored (t : Fin cfg0.N) (ht : t.val % 2 = 1) (r : Fin 1408) (e : Fin 1024) :
    (outsAt0 m c t.val t.isLt).1 (ix2 r e) = ∑ k : Fin 4096, at2 (X m c) k (1408 * (t.val / 2) + r) * at2 (Y m c) k e := by
  obtain ⟨s, hs⟩ : ∃ s : Fin cfg0.N, s.val = t.val - 1 := ⟨⟨t.val - 1, Nat.lt_of_le_of_lt (Nat.sub_le _ _) t.isLt⟩, rfl⟩
  refine (congrFun (congrArg Prod.fst (outsAt0_B m c t (by omega) ht)) (ix2 r e)).trans ?_
  dsimp only
  rw [second, left m c s (by omega) _ _ hs.symm]
  show prod (iblk m c 0 s) (iblk m c 1 s) (ix2 r e) + prod (iblk m c 0 t) (iblk m c 1 t) (ix2 r e) = _
  rw [point_prod, point_prod, show s.val % 2 = 0 by omega, show s.val / 2 = t.val / 2 by omega, ht]
  refine Eq.trans ?_ (sum_halves 2048 rfl fun k => at2 (X m c) k (1408 * (t.val / 2) + r) * at2 (Y m c) k e).symm
  simp only [Nat.mul_zero, Nat.zero_add, Nat.mul_one]

/-- The array after the run. -/
theorem array (R : Fin 2816) (e : Fin 1024) :
    ((dats m 0 c).arrAt 2 cfg0.N : FVec Ideal (Mat 2816 1024) .bf16) (ix2 R e) = ∑ k : Fin 4096, at2 (X m c) k R * at2 (Y m c) k e := by
  have hN : cfg0.N = 4 := N_0
  rw [Value.final2]
  unfold Value.G2
  have hp : Value.pt2Of (ix2 R e) = 2 * (R.val / 1408) + 1 := by
    show 2 * (1 * (R.val / 1408 - 0) + 1 * (e.val / 1024 - 0)) + 1 = _
    omega
  have hlt : Value.pt2Of (ix2 R e) < cfg0.N := by rw [hp]; omega
  rw [dif_pos hlt, ← Value.outsAt0_sweep m c _ hlt]
  have hl : Value.loc2Of (ix2 R e) = ix2 ⟨R.val % 1408, Nat.mod_lt _ (by decide)⟩ e := by
    funext a; apply Fin.ext
    match a with
    | ⟨0, _⟩ => rfl
    | ⟨1, _⟩ => show e.val % 1024 = e.val; omega
  rw [hl]
  refine (stored m c ⟨_, hlt⟩ (by dsimp only; omega) ⟨R.val % 1408, Nat.mod_lt _ (by decide)⟩ e).trans (Finset.sum_congr rfl fun k _ => ?_)
  dsimp only
  rw [hp, show 1408 * ((2 * (R.val / 1408) + 1) / 2) + R.val % 1408 = R.val by omega]

/-- The reference's result. -/
theorem reference (x : FVec Ideal (Mat 4096 2816) .bf16) (y : FVec Ideal (Mat 4096 1024) .bf16) (R : Fin 2816) (e : Fin 1024) :
    (Cert.Reference4Ideal.Read.val_main_v6 (F := Ideal) x y : FVec Ideal (Mat 2816 1024) .bf16) (ix2 R e) = ∑ k : Fin 4096, at2 x k R * at2 y k e := by
  rw [Cert.Reference4Ideal.Read.val_main_v6_apply]
  show Cert.Reference4Ideal.Read.val_main_v5 (F := Ideal) x y (ix2 R e) = _
  rw [Cert.Reference4Ideal.Read.val_main_v5_apply, Cert.Reference4Ideal.Read.val_main_v4_apply]
  refine Finset.sum_congr rfl fun k _ => ?_
  rw [at2_mk x k R, at2_mk y k e, mul_comm]
  refine congrArg₂ (· * ·) (congrArg x ?_) (congrArg y ?_)
  all_goals
    funext a; apply Fin.ext
    match a with
    | ⟨0, _⟩ => rfl
    | ⟨1, _⟩ => rfl

/-- The kernel's result is the reference's. -/
theorem result : ((dats m 0 c).arrAt 2 cfg0.N : FVec Ideal (Mat 2816 1024) .bf16) = Cert.Reference4Ideal.Read.val_main_v6 (F := Ideal) (X m c) (Y m c) := by
  have e : ∀ (R : Fin 2816) (e : Fin 1024), ((dats m 0 c).arrAt 2 cfg0.N : FVec Ideal (Mat 2816 1024) .bf16) (ix2 R e)
      = (Cert.Reference4Ideal.Read.val_main_v6 (F := Ideal) (X m c) (Y m c) : FVec Ideal (Mat 2816 1024) .bf16) (ix2 R e) :=
    fun R e => (array m c R e).trans (reference _ _ R e).symm
  funext i
  rw [← ix2_eta i]
  exact e _ _

end Cert.OutGrad
-- ==== Proof.Shards.lean ====
module

public import proofs.«01_k».proof.Proof.Sums
public import proofs.«01_k».proof.Proof.Gen.Kernel2Ideal.Frame
public import Idealize.ShloMosaic.Lib.Pipeline.Value
public import Idealize.ShloMosaic.Lib.TwoAxisContraction
public import proofs.«01_k».proof.Proof.Gen.Reference2Ideal.Read

@[expose] public section

/-! # The gradient of the first feed-forward block's first weight, as shards

The kernel works on the four shards of the weight one after the other, two of the gate's columns and two of the up columns; for each
it adds the products over the four tiles of the tokens. -/

noncomputable section

namespace Cert.Shards

open Idealize.ShloMosaic Idealize.ShloMosaic.TcCoe Idealize.SL.Sem
open Idealize.ShloMosaic.ValueIdx (contrEquiv2 contrEquiv2_symm_val0 contrEquiv2_symm_val1)
open Cert.Kernel2Ideal Cert.Kernel2Ideal.Gen Cert.Attn Cert.Ffn

theorem hz : (![0, 0] : Fin 2 → Nat) = fun _ => 0 := funext fun a => by fin_cases a <;> rfl
theorem hz3 : (![0, 0, 0] : Fin 3 → Nat) = fun _ => 0 := funext fun a => by fin_cases a <;> rfl

/-- The product over the tokens of one tile. -/
abbrev prod (x : FVec Ideal (Mat 1024 1024) .bf16) (y : FVec Ideal (Mat 1024 1408) .bf16) : FVec Ideal (Mat 1024 1408) .f32 :=
  matmul (colsDot 1024 1024 1408) none x y (constant (Mat 1024 1408) .f32 0x00000000#32)

theorem prod_apply (x : FVec Ideal (Mat 1024 1024) .bf16) (y : FVec Ideal (Mat 1024 1408) .bf16) (r : Fin 1024) (c : Fin 1408) :
    prod x y (ix2 r c) = ∑ k : Fin 1024, x (ix2 k r) * y (ix2 k c) :=
  (matmul_colsDot_apply none x y _ r c).trans ((congrArg (· + _) Ideal.ofBits_zero_f32).trans (zero_add _))

/-- A tile's tokens, scaled and shifted by their sequence's modulation. -/
abbrev hrow (x : FVec Ideal S1024x1024 .f32) (md : FVec Ideal S1x9x1024 .f32) : FVec Ideal (Mat 1024 1024) .bf16 :=
  k0_pay1 x (View.ld md (Rect.unit (s := S1x9x1024) ![0, 1, 0] S1x1x1024.size inb_S1x9x1024_S1x1x1024_0_1_0))
    (View.ld md (Rect.unit (s := S1x9x1024) ![0, 0, 0] S1x1x1024.size inb_S1x9x1024_S1x1x1024_0_0_0))

theorem hrow_apply (x : FVec Ideal S1024x1024 .f32) (md : FVec Ideal S1x9x1024 .f32) (k d : Fin 1024) :
    hrow x md (ix2 k d) = x (ix2 k d) * (oneWord + md (ix3 0 1 d)) + md (ix3 0 0 d) := by
  unfold hrow
  rw [View.ld_unit, View.ld_unit]
  unfold k0_pay1
  dsimp only
  pointwise

section Case

variable (c : Dev nD) (i : grid0.Coords) (a2 : Memref sig .tc .vmem S1024x1024 .f32) (h2 : a2.IsWhole)
  (a3 : Memref sig .tc .vmem S1x9x1024 .f32) (h3 : a3.IsWhole) (a4 : Memref sig .tc .vmem S1024x1408 .bf16) (h4 : a4.IsWhole)
  (a5 : Memref sig .tc .vmem S1024x1408 .bf16) (h5 : a5.IsWhole) (a6 : Memref sig .tc .vmem S1x1024x1408 .bf16) (h6 : a6.IsWhole)
  (a7 : Memref sig .tc .vmem S1024x1408 .f32) (h7 : a7.IsWhole)
  (x : Vec Ideal S1024x1024 .f32) (md : Vec Ideal S1x9x1024 .f32) (y z : Vec Ideal S1024x1408 .bf16) (acc : Vec Ideal S1024x1408 .f32)

/-- The first token tile of a gate shard leaves its product in the accumulator. -/
theorem first_gate (k0 : cond0_0 i) (k1 : cond0_1 i) (k2 : ¬cond0_2 i) (k3 : ¬cond0_3 i) (k4 : ¬cond0_4 i) :
    sout0_A_0 c i a2 h2 a3 h3 a4 h4 a5 h5 a6 h6 a7 h7 k0 k1 k2 k3 k4 x md y z = prod (hrow x md) y := by
  unfold sout0_A_0
  rw [View.read_writes_eq_canon _ _ _ (scover0_A_0 c i a2 h2 a3 h3 a4 h4 a5 h5 a6 h6 a7 h7 k0 k1 k2 k3 k4 x md y z)]
  unfold kernelRun0_A
  dsimp only
  sl_unfold_words
  rw [View.canon_unit_zero hz]
  unfold k0_pay3 k0_pay2
  simp only [View.readAt_eq_ld, h2.read_unread, h3.read_unread, h4.read_unread, h5.read_unread, View.ld_unit_zero (S := S1024x1024) hz,
    View.ld_unit_zero (S := S1024x1408) hz, shapeCast_self]
  rfl

/-- A token tile in between adds its product. -/
theorem next_gate (k0 : cond0_0 i) (k1 : ¬cond0_1 i) (k2 : cond0_2 i) (k3 : ¬cond0_3 i) (k4 : ¬cond0_4 i) :
    sout0_B_0 c i a2 h2 a3 h3 a4 h4 a5 h5 a6 h6 a7 h7 k0 k1 k2 k3 k4 x md y z acc = addf acc (prod (hrow x md) y) := by
  unfold sout0_B_0
  rw [View.read_writes_eq_canon _ _ _ (scover0_B_0 c i a2 h2 a3 h3 a4 h4 a5 h5 a6 h6 a7 h7 k0 k1 k2 k3 k4 x md y z acc)]
  unfold kernelRun0_B
  dsimp only
  sl_unfold_words
  rw [View.canon_unit_zero hz]
  unfold k0_pay4 k0_pay2
  simp only [View.readAt_eq_ld, h2.read_unread, h3.read_unread, h4.read_unread, h5.read_unread, h7.read_unread, View.ld_unit_zero (S := S1024x1024) hz,
    View.ld_unit_zero (S := S1024x1408) hz, shapeCast_self]
  rfl

/-- The last token tile stores the sum. -/
theorem last_gate (k0 : cond0_0 i) (k1 : ¬cond0_1 i) (k2 : ¬cond0_2 i) (k3 : cond0_3 i) (k4 : ¬cond0_4 i) :
    out0_C_4 c i a2 h2 a3 h3 a4 h4 a5 h5 a6 h6 a7 h7 k0 k1 k2 k3 k4 x md y z acc = shapeCast S1x1024x1408 (truncf .bf16 (addf acc (prod (hrow x md) y)) bitsLt_bf16_f32) shapeCasts_S1024x1408_S1x1024x1408 := by
  unfold out0_C_4
  rw [View.read_writes_eq_canon _ _ _ (cover0_C_4 c i a2 h2 a3 h3 a4 h4 a5 h5 a6 h6 a7 h7 k0 k1 k2 k3 k4 x md y z acc)]
  unfold kernelRun0_C
  dsimp only
  sl_unfold_words
  rw [View.canon_unit_zero hz3]
  unfold k0_pay5 k0_pay2
  simp only [View.readAt_eq_ld, h2.read_unread, h3.read_unread, h4.read_unread, h5.read_unread, h7.read_unread, View.ld_unit_zero (S := S1024x1024) hz,
    View.ld_unit_zero (S := S1024x1408) hz, shapeCast_self]
  rfl

/-- The first token tile of an up shard leaves its product in the accumulator. -/
theorem first_up (k0 : ¬cond0_0 i) (k4 : cond0_4 i) (k5 : cond0_5 i) (k6 : ¬cond0_6 i) (k7 : ¬cond0_7 i) :
    sout0_D_0 c i a2 h2 a3 h3 a4 h4 a5 h5 a6 h6 a7 h7 k0 k4 k5 k6 k7 x md z y = prod (hrow x md) y := by
  unfold sout0_D_0
  rw [View.read_writes_eq_canon _ _ _ (scover0_D_0 c i a2 h2 a3 h3 a4 h4 a5 h5 a6 h6 a7 h7 k0 k4 k5 k6 k7 x md z y)]
  unfold kernelRun0_D
  dsimp only
  sl_unfold_words
  rw [View.canon_unit_zero hz]
  unfold k0_pay7 k0_pay6
  simp only [View.readAt_eq_ld, h2.read_unread, h3.read_unread, h4.read_unread, h5.read_unread, View.ld_unit_zero (S := S1024x1024) hz,
    View.ld_unit_zero (S := S1024x1408) hz, shapeCast_self]
  rfl

/-- A token tile in between adds its product. -/
theorem next_up (k0 : ¬cond0_0 i) (k4 : cond0_4 i) (k5 : ¬cond0_5 i) (k6 : cond0_6 i) (k7 : ¬cond0_7 i) :
    sout0_E_0 c i a2 h2 a3 h3 a4 h4 a5 h5 a6 h6 a7 h7 k0 k4 k5 k6 k7 x md z y acc = addf acc (prod (hrow x md) y) := by
  unfold sout0_E_0
  rw [View.read_writes_eq_canon _ _ _ (scover0_E_0 c i a2 h2 a3 h3 a4 h4 a5 h5 a6 h6 a7 h7 k0 k4 k5 k6 k7 x md z y acc)]
  unfold kernelRun0_E
  dsimp only
  sl_unfold_words
  rw [View.canon_unit_zero hz]
  unfold k0_pay8 k0_pay6
  simp only [View.readAt_eq_ld, h2.read_unread, h3.read_unread, h4.read_unread, h5.read_unread, h7.read_unread, View.ld_unit_zero (S := S1024x1024) hz,
    View.ld_unit_zero (S := S1024x1408) hz, shapeCast_self]
  rfl

/-- The last token tile stores the sum. -/
theorem last_up (k0 : ¬cond0_0 i) (k4 : cond0_4 i) (k5 : ¬cond0_5 i) (k6 : ¬cond0_6 i) (k7 : cond0_7 i) :
    out0_F_4 c i a2 h2 a3 h3 a4 h4 a5 h5 a6 h6 a7 h7 k0 k4 k5 k6 k7 x md z y acc = shapeCast S1x1024x1408 (truncf .bf16 (addf acc (prod (hrow x md) y)) bitsLt_bf16_f32) shapeCasts_S1024x1408_S1x1024x1408 := by
  unfold out0_F_4
  rw [View.read_writes_eq_canon _ _ _ (cover0_F_4 c i a2 h2 a3 h3 a4 h4 a5 h5 a6 h6 a7 h7 k0 k4 k5 k6 k7 x md z y acc)]
  unfold kernelRun0_F
  dsimp only
  sl_unfold_words
  rw [View.canon_unit_zero hz3]
  unfold k0_pay9 k0_pay6
  simp only [View.readAt_eq_ld, h2.read_unread, h3.read_unread, h4.read_unread, h5.read_unread, h7.read_unread, View.ld_unit_zero (S := S1024x1024) hz,
    View.ld_unit_zero (S := S1024x1408) hz, shapeCast_self]
  rfl

end Case

variable (m : (ℓ : Loc nD τ sig) → Buf (Elt Ideal) ℓ) (ρ : Dev nD → PrngReg) (c : Dev nD)

theorem at_x : ∀ t : Fin grid0.N, win0_0.index t 0 = t.val % 4 ∧ win0_0.index t 1 = 0 := by decide +kernel
theorem at_md : ∀ t : Fin grid0.N, win0_1.index t 0 = t.val % 4 / 2 ∧ win0_1.index t 1 = 0 ∧ win0_1.index t 2 = 0 := by decide +kernel
theorem at_gate : ∀ t : Fin grid0.N, t.val < 8 → win0_2.index t 0 = t.val % 4 ∧ win0_2.index t 1 = t.val / 4 := by decide +kernel
theorem at_up : ∀ t : Fin grid0.N, ¬t.val < 8 → win0_3.index t 0 = t.val % 4 ∧ win0_3.index t 1 + 2 = t.val / 4 := by decide +kernel

/-- The tokens. -/
abbrev X : FVec Ideal (Mat 4096 1024) .f32 := m ((c : Thread nD τ).loc main_arg0)
/-- The modulation. -/
abbrev Md : FVec Ideal ⟨3, ![2, 9, 1024]⟩ .f32 := m ((c : Thread nD τ).loc main_arg1)
/-- The gate's gradient. -/
abbrev Dg : FVec Ideal (Mat 4096 2816) .bf16 := m ((c : Thread nD τ).loc main_arg2)
/-- The up columns' gradient. -/
abbrev Du : FVec Ideal (Mat 4096 2816) .bf16 := m ((c : Thread nD τ).loc main_arg3)

theorem block_x (t : Fin grid0.N) (k d : Fin 1024) :
    (iblk m c 0 t : FVec Ideal (Mat 1024 1024) .f32) (ix2 k d) = at2 (X m c) (1024 * (t.val % 4) + k) d := by
  have hi := at_x t
  rw [at2_of (X m c) ⟨1024 * (t.val % 4) + k, by omega⟩ d rfl rfl]
  unfold iblk
  rw [View.read_apply]
  show V m c main_arg0 _ = _
  rw [V_main_arg0]
  congr 1
  funext a
  apply Fin.ext
  match a with
  | ⟨0, _⟩ => show win0_0.index t 0 * 1024 + 1 * k.val = 1024 * (t.val % 4) + k.val; rw [hi.1]; omega
  | ⟨1, _⟩ => show win0_0.index t 1 * 1024 + 1 * d.val = d.val; rw [hi.2]; omega

theorem block_md (t : Fin grid0.N) (r : Fin 9) (d : Fin 1024) :
    (iblk m c 1 t : FVec Ideal S1x9x1024 .f32) (ix3 0 r d) = at3 (Md m c) (t.val % 4 / 2) r d := by
  have hi := at_md t
  rw [at3_of (Md m c) ⟨t.val % 4 / 2, by omega⟩ r d rfl rfl rfl]
  unfold iblk
  rw [View.read_apply]
  show V m c main_arg1 _ = _
  rw [V_main_arg1]
  congr 1
  funext a
  apply Fin.ext
  match a with
  | ⟨0, _⟩ => show win0_1.index t 0 * 1 + 1 * 0 = t.val % 4 / 2; rw [hi.1]; omega
  | ⟨1, _⟩ => show win0_1.index t 1 * 9 + 1 * r.val = r.val; rw [hi.2.1]; omega
  | ⟨2, _⟩ => show win0_1.index t 2 * 1024 + 1 * d.val = d.val; rw [hi.2.2]; omega

/-- The block of the gradient that a point works on: of the gate's for the first two shards, of the up columns' for the others. -/
def tile (t : Fin grid0.N) : FVec Ideal (Mat 1024 1408) .bf16 := if t.val < 8 then iblk m c 2 t else iblk m c 3 t

theorem tile_apply (t : Fin grid0.N) (k : Fin 1024) (f : Fin 1408) :
    tile m c t (ix2 k f) = beside 2816 (Dg m c) (Du m c) (1024 * (t.val % 4) + k) (1408 * (t.val / 4) + f) := by
  have ht : t.val < 16 := lt_of_lt_of_eq t.isLt N_0
  unfold tile beside
  by_cases h : t.val < 8
  · have hi := at_gate t h
    rw [if_pos h, if_pos (by omega), at2_of (Dg m c) ⟨1024 * (t.val % 4) + k, by omega⟩ ⟨1408 * (t.val / 4) + f, by omega⟩ rfl rfl]
    unfold iblk
    rw [View.read_apply]
    show V m c main_arg2 _ = _
    rw [V_main_arg2]
    congr 1
    funext a
    apply Fin.ext
    match a with
    | ⟨0, _⟩ => show win0_2.index t 0 * 1024 + 1 * k.val = 1024 * (t.val % 4) + k.val; rw [hi.1]; omega
    | ⟨1, _⟩ => show win0_2.index t 1 * 1408 + 1 * f.val = 1408 * (t.val / 4) + f.val; rw [hi.2]; omega
  · have hi := at_up t h
    rw [if_neg h, if_neg (by omega), at2_of (Du m c) ⟨1024 * (t.val % 4) + k, by omega⟩ ⟨1408 * (t.val / 4) + f - 2816, by omega⟩ rfl rfl]
    unfold iblk
    rw [View.read_apply]
    show V m c main_arg3 _ = _
    rw [V_main_arg3]
    congr 1
    funext a
    apply Fin.ext
    match a with
    | ⟨0, _⟩ => show win0_3.index t 0 * 1024 + 1 * k.val = 1024 * (t.val % 4) + k.val; rw [hi.1]; omega
    | ⟨1, _⟩ => show win0_3.index t 1 * 1408 + 1 * f.val = 1408 * (t.val / 4) + f.val - 2816; omega

/-- A point's product. -/
def P (t : Fin grid0.N) : FVec Ideal (Mat 1024 1408) .f32 := prod (hrow (iblk m c 0 t) (iblk m c 1 t)) (tile m c t)

/-- One summand of an entry of a shard. -/
abbrev term (j d f k : ℕ) : EReal := modulated 0 1 (X m c) (Md m c) k d * beside 2816 (Dg m c) (Du m c) k (1408 * j + f)

theorem P_apply (t : Fin grid0.N) (d : Fin 1024) (f : Fin 1408) :
    P m c t (ix2 d f) = ∑ k : Fin 1024, term m c (t.val / 4) d f (1024 * (t.val % 4) + k) := by
  refine (prod_apply _ _ d f).trans (Finset.sum_congr rfl fun k _ => congrArg₂ (· * ·) ?_ (tile_apply m c t k f))
  have e : (1024 * (t.val % 4) + k.val) / 2048 = t.val % 4 / 2 := by omega
  unfold modulated
  rw [e, hrow_apply, block_x]
  exact congrArg₂ (· + ·) (congrArg (_ * ·) (congrArg (oneWord + ·) (block_md m c t 1 d))) (block_md m c t 0 d)

theorem as_shard (v : FVec Ideal S1024x1408 .bf16) (d : Fin 1024) (f : Fin 1408) :
    shapeCast S1x1024x1408 v shapeCasts_S1024x1408_S1x1024x1408 (ix3 0 d f) = v (ix2 d f) := by
  pointwise

/-- What the first token tile of a shard leaves in the accumulator. -/
theorem left (s : Fin cfg0.N) (hs : s.val % 4 = 0) (n : ℕ) (h : n < cfg0.N) (e : n = s.val) :
    (outsAt0 m c n h).2 = P m c s := by
  subst e
  unfold P tile
  by_cases hg : s.val < 8
  · refine (congrArg Prod.snd (outsAt0_A m c s hg hs (by omega) (by omega) (by omega))).trans ?_
    dsimp only
    rw [first_gate, if_pos hg]
  · refine (congrArg Prod.snd (outsAt0_D m c s hg (by omega) hs (by omega) (by omega))).trans ?_
    dsimp only
    rw [first_up, if_neg hg]

/-- What a token tile in between leaves there. -/
theorem between (s : Fin cfg0.N) (hs : 1 ≤ s.val % 4 ∧ s.val % 4 ≤ 2) (n : ℕ) (h : n < cfg0.N) (e : n = s.val) :
    (outsAt0 m c n h).2 = addf (outsAt0 m c (s.val - 1) (Nat.lt_of_le_of_lt (Nat.sub_le _ _) s.isLt)).2 (P m c s) := by
  subst e
  unfold P tile
  by_cases hg : s.val < 8
  · refine (congrArg Prod.snd (outsAt0_B m c s hg (by omega) hs (by omega) (by omega))).trans ?_
    dsimp only
    rw [next_gate, if_pos hg]
  · refine (congrArg Prod.snd (outsAt0_E m c s hg (by omega) (by omega) hs (by omega))).trans ?_
    dsimp only
    rw [next_up, if_neg hg]

/-- What the last token tile stores. -/
theorem stores (s : Fin cfg0.N) (hs : s.val % 4 = 3) :
    (outsAt0 m c s.val s.isLt).1 = shapeCast S1x1024x1408 (truncf .bf16 (addf (outsAt0 m c (s.val - 1) (Nat.lt_of_le_of_lt (Nat.sub_le _ _) s.isLt)).2 (P m c s)) bitsLt_bf16_f32) shapeCasts_S1024x1408_S1x1024x1408 := by
  unfold P tile
  by_cases hg : s.val < 8
  · refine (congrArg Prod.fst (outsAt0_C m c s hg (by omega) (by omega) hs (by omega))).trans ?_
    dsimp only
    rw [last_gate, if_pos hg]
  · refine (congrArg Prod.fst (outsAt0_F m c s hg (by omega) (by omega) (by omega) hs)).trans ?_
    dsimp only
    rw [last_up, if_neg hg]

/-- An entry of what the last token tile of a shard stores: the sum over all tokens. -/
theorem stored (t : Fin cfg0.N) (ht : t.val % 4 = 3) (d : Fin 1024) (f : Fin 1408) :
    (outsAt0 m c t.val t.isLt).1 (ix3 0 d f) = ∑ k : Fin 4096, term m c (t.val / 4) d f k := by
  have lt : ∀ i, t.val - i < cfg0.N := fun i => Nat.lt_of_le_of_lt (Nat.sub_le _ _) t.isLt
  obtain ⟨s0, h0⟩ : ∃ s : Fin cfg0.N, s.val = t.val - 3 := ⟨⟨t.val - 3, lt 3⟩, rfl⟩
  obtain ⟨s1, h1⟩ : ∃ s : Fin cfg0.N, s.val = t.val - 2 := ⟨⟨t.val - 2, lt 2⟩, rfl⟩
  obtain ⟨s2, h2⟩ : ∃ s : Fin cfg0.N, s.val = t.val - 1 := ⟨⟨t.val - 1, lt 1⟩, rfl⟩
  rw [stores m c t ht, between m c s2 (by omega) _ _ h2.symm, between m c s1 (by omega) (s2.val - 1) _ (by omega), left m c s0 (by omega) (s1.val - 1) _ (by omega)]
  refine (as_shard _ d f).trans ?_
  show P m c s0 (ix2 d f) + P m c s1 (ix2 d f) + P m c s2 (ix2 d f) + P m c t (ix2 d f) = _
  rw [P_apply, P_apply, P_apply, P_apply, show s0.val % 4 = 0 by omega, show s1.val % 4 = 1 by omega, show s2.val % 4 = 2 by omega, ht,
    show s0.val / 4 = t.val / 4 by omega, show s1.val / 4 = t.val / 4 by omega, show s2.val / 4 = t.val / 4 by omega]
  refine Eq.trans ?_ (sum_quarters 1024 rfl fun k => term m c (t.val / 4) d f k).symm
  simp only [Nat.mul_zero, Nat.zero_add, Nat.mul_one]

/-- The array that the run leaves. -/
def G : FVec Ideal ⟨3, ![4, 1024, 1408]⟩ .bf16 := fun i => ∑ k : Fin 4096, term m c (i 0).val (i 1).val (i 2).val k

theorem at_out : ∀ t : Fin grid0.N, win0_4.index t 0 = t.val / 4 ∧ win0_4.index t 1 = 0 ∧ win0_4.index t 2 = 0 := by decide +kernel

/-- What a point writes back is its block of that array. -/
theorem flushed (t : Fin cfg0.N) (hf : (cfg0.win 4).flush t = true) :
    (dats m 0 c).flushed 4 t = ((cfg0.win 4).blk t).view.read (Elt Ideal) (G m c) := by
  show (cfg0.win 4).cut (grid0.coords t) ((dats m 0 c).after 4 t) = _
  rw [after0_4]
  have hm : t.val % 4 = 3 := (flush0_4 t).mp hf
  have hi := at_out t
  funext y
  rw [View.read_apply]
  have hy0 : (y 0).val < 1 := (y 0).isLt
  have hy1 : (y 1).val < 1024 := (y 1).isLt
  have hy2 : (y 2).val < 1408 := (y 2).isLt
  have hl : (cfg0.win 4).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have hb0 : (((cfg0.win 4).blk t).view.emb y 0).val = t.val / 4 := by
    show win0_4.index t 0 * 1 + 1 * (y 0).val = _; omega
  have hb1 : (((cfg0.win 4).blk t).view.emb y 1).val = (y 1).val := by
    show win0_4.index t 1 * 1024 + 1 * (y 1).val = _; omega
  have hb2 : (((cfg0.win 4).blk t).view.emb y 2).val = (y 2).val := by
    show win0_4.index t 2 * 1408 + 1 * (y 2).val = _; omega
  show (outsAt0 m c t.val t.isLt).1 ((cfg0.win 4).xinj (grid0.coords t) y) = G m c (((cfg0.win 4).blk t).view.emb y)
  rw [hl, stored m c t hm]
  unfold G
  rw [hb0, hb1, hb2]

/-- The point that writes back a shard. -/
theorem reaches : ∀ j : Fin 4, ∃ t : Fin grid0.N, win0_4.flush t = true ∧ win0_4.index t = ![j.val, 0, 0] := by decide +kernel

/-- The array after the run. -/
theorem array : (dats m 0 c).arrAt 4 cfg0.N = G m c := by
  refine (dats m 0 c).arrAt_eq_of_cover 4 _ (fun t hf => flushed m c t hf) fun i => ?_
  have h1 : (i 1).val < 1024 := (i 1).isLt
  have h2 : (i 2).val < 1408 := (i 2).isLt
  obtain ⟨t, hf, ht⟩ := reaches (i 0)
  refine ⟨t, hf, ?_⟩
  show i ∈ ((View.whole main_v0).slice (win0_4.rect t)).set
  rw [View.set_slice_whole, Rect.mem_set_unit]
  have q0 : win0_4.index t 0 = (i 0).val := congrFun ht 0
  have q1 : win0_4.index t 1 = 0 := congrFun ht 1
  have q2 : win0_4.index t 2 = 0 := congrFun ht 2
  intro a
  match a with
  | ⟨0, _⟩ => show win0_4.index t 0 * 1 ≤ (i 0).val ∧ (i 0).val < win0_4.index t 0 * 1 + 1; omega
  | ⟨1, _⟩ => show win0_4.index t 1 * 1024 ≤ (i 1).val ∧ (i 1).val < win0_4.index t 1 * 1024 + 1024; omega
  | ⟨2, _⟩ => show win0_4.index t 2 * 1408 ≤ (i 2).val ∧ (i 2).val < win0_4.index t 2 * 1408 + 1408; omega

/-- The run: the result is that array, and the arguments are kept. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

/-! ## The reference's result -/

open Cert.Reference2Ideal.Read in
theorem ref_row (x : FVec Ideal (Mat 4096 1024) .f32) (md : FVec Ideal ⟨3, ![2, 9, 1024]⟩ .f32) (b : Fin 2) (s : Fin 2048) (d : Fin 1024) :
    (val_main_v12 (F := Ideal) x md : FVec Ideal ⟨3, ![2, 2048, 1024]⟩ .f32) (ix3 b s d) = modulated 0 1 x md (2048 * b + s) d := by
  rw [val_main_v12_apply, val_main_v10_apply, val_main_v4_apply, val_main_v9_apply, val_main_v8_apply, val_main_v7_apply, val_main_v6_apply,
    val_main_v11_apply, val_main_v5_apply]
  unfold modulated
  rw [at2_of x ⟨2048 * b + s, by omega⟩ d rfl rfl, at3_of md (r := (2048 * b + s) / 2048) (c := 1) b 1 d (by omega) rfl rfl,
    at3_of md (r := (2048 * b + s) / 2048) (c := 0) b 0 d (by omega) rfl rfl]
  refine congrArg₂ (· + ·) (congrArg₂ (· * ·) (congrArg x ?_) (congrArg (oneWord + ·) (congrArg md ?_))) (congrArg md ?_)
  · funext a; apply Fin.ext
    match a with
    | ⟨0, _⟩ => show ((b.val * 2048 + s.val) * 1024 + d.val) / 1024 = 2048 * b.val + s.val; omega
    | ⟨1, _⟩ => show ((b.val * 2048 + s.val) * 1024 + d.val) % 1024 = d.val; omega
  all_goals
    funext a; apply Fin.ext
    match a with
    | ⟨0, _⟩ => rfl
    | ⟨1, _⟩ => rfl
    | ⟨2, _⟩ => rfl

open Cert.Reference2Ideal.Read in
/-- The reference's concatenation, read at an entry. -/
theorem ref_beside (y z : FVec Ideal (Mat 4096 2816) .bf16) (r : Fin 4096) (f : Fin 5632) :
    (val_main_v0 (F := Ideal) y z : FVec Ideal (Mat 4096 5632) .bf16) (ix2 r f) = beside 2816 y z r f :=
  joined y z _ r f

open Cert.Reference2Ideal.Read in
theorem ref_split (y z : FVec Ideal (Mat 4096 2816) .bf16) (b : Fin 2) (s : Fin 2048) (f : Fin 5632) :
    (val_main_v2 (F := Ideal) y z : FVec Ideal ⟨3, ![2, 2048, 5632]⟩ .f32) (ix3 b s f) = beside 2816 y z (2048 * b + s) f := by
  rw [val_main_v2_apply, val_main_v1_apply]
  refine Eq.trans ?_ (ref_beside y z ⟨2048 * b + s, by omega⟩ f)
  show val_main_v0 (F := Ideal) y z _ = _
  refine congrArg (val_main_v0 (F := Ideal) y z) ?_
  funext a; apply Fin.ext
  match a with
  | ⟨0, _⟩ => show ((b.val * 2048 + s.val) * 5632 + f.val) / 5632 = 2048 * b.val + s.val; omega
  | ⟨1, _⟩ => show ((b.val * 2048 + s.val) * 5632 + f.val) % 5632 = f.val; omega

/-- The reference's product: over the sequences and, in each, over its tokens. -/
theorem ref_prod (L : FVec Ideal ⟨3, ![2, 2048, 5632]⟩ .f32) (R : FVec Ideal ⟨3, ![2, 2048, 1024]⟩ .f32) (f : Fin 5632) (d : Fin 1024) :
    (Host.dotGeneral Cert.Reference2Ideal.dot_S2x2048x5632_S2x2048x1024_S5632x1024_01_01_2_2_n_n none L R : FVec Ideal (Mat 5632 1024) .f32) (ix2 f d)
      = ∑ b : Fin 2, ∑ s : Fin 2048, L (ix3 b s f) * R (ix3 b s d) := by
  simp only [Host.dotGeneral]
  rw [Ideal.dotGeneral_apply, ← Equiv.sum_comp (contrEquiv2 Cert.Reference2Ideal.dot_S2x2048x5632_S2x2048x1024_S5632x1024_01_01_2_2_n_n 2 2048 rfl rfl rfl).symm, Fintype.sum_prod_type]
  refine Finset.sum_congr rfl fun b _ => Finset.sum_congr rfl fun s _ => ?_
  have h0 := contrEquiv2_symm_val0 Cert.Reference2Ideal.dot_S2x2048x5632_S2x2048x1024_S5632x1024_01_01_2_2_n_n 2 2048 rfl rfl rfl (b, s)
  have h1 := contrEquiv2_symm_val1 Cert.Reference2Ideal.dot_S2x2048x5632_S2x2048x1024_S5632x1024_01_01_2_2_n_n 2 2048 rfl rfl rfl (b, s)
  refine congrArg₂ (· * ·) (congrArg L ?_) (congrArg R ?_)
  all_goals
    funext a; apply Fin.ext
    match a with
    | ⟨0, _⟩ => exact h0
    | ⟨1, _⟩ => exact h1
    | ⟨2, _⟩ => rfl

open Cert.Reference2Ideal.Read in
theorem reference (x : FVec Ideal (Mat 4096 1024) .f32) (md : FVec Ideal ⟨3, ![2, 9, 1024]⟩ .f32) (y z : FVec Ideal (Mat 4096 2816) .bf16)
    (j : Fin 4) (d : Fin 1024) (f : Fin 1408) :
    (val_main_v18 (F := Ideal) x md y z : FVec Ideal ⟨3, ![4, 1024, 1408]⟩ .bf16) (ix3 j d f)
      = ∑ k : Fin 4096, modulated 0 1 x md k d * beside 2816 y z k (1408 * j + f) := by
  rw [val_main_v18_apply]
  show val_main_v17 (F := Ideal) x md y z (ix3 j d f) = _
  rw [val_main_v17_apply, val_main_v16_apply, val_main_v15_apply]
  have e : idx_main_v15 (idx_main_v16 (idx_main_v17 (ix3 j d f))) = ix2 ⟨1408 * j + f, by omega⟩ d := by
    funext a; apply Fin.ext
    match a with
    | ⟨0, _⟩ => show ((d.val * 4 + j.val) * 1408 + f.val) % 5632 = 1408 * j.val + f.val; omega
    | ⟨1, _⟩ => show ((d.val * 4 + j.val) * 1408 + f.val) / 5632 = d.val; omega
  rw [e]
  unfold val_main_v14
  rw [ref_prod, show (∑ k : Fin 4096, modulated 0 1 x md k d * beside 2816 y z k (1408 * j + f)) = _ from
    sum_parts 2 2048 fun k => modulated 0 1 x md k d * beside 2816 y z k (1408 * j + f)]
  refine Finset.sum_congr rfl fun b _ => Finset.sum_congr rfl fun s _ => ?_
  rw [ref_split, ref_row, mul_comm]

/-- The kernel's result is the reference's. -/
theorem result : (G m c : FVec Ideal ⟨3, ![4, 1024, 1408]⟩ .bf16) = Cert.Reference2Ideal.Read.val_main_v18 (F := Ideal) (X m c) (Md m c) (Dg m c) (Du m c) := by
  funext i
  have e : i = ix3 (i 0) (i 1) (i 2) := eq_ix3 i
  exact (reference (X m c) (Md m c) (Dg m c) (Du m c) (i 0) (i 1) (i 2)).symm.trans (congrArg _ e.symm)

end Cert.Shards
-- ==== Proof.ShardsNext.lean ====
module

public import proofs.«01_k».proof.Proof.Shards
public import proofs.«01_k».proof.Proof.Gen.Kernel6Ideal.Frame
public import Idealize.ShloMosaic.Lib.Pipeline.Value
public import Idealize.ShloMosaic.Lib.TwoAxisContraction
public import proofs.«01_k».proof.Proof.Gen.Reference6Ideal.Read

@[expose] public section

/-! # The gradient of the second feed-forward block's first weight, as shards

The same call as for the first block, with the shift and the scale in rows 6 and 7 of the modulation. What does not depend on the
program is taken from there.

The kernel works on the four shards of the weight one after the other, two of the gate's columns and two of the up columns; for each
it adds the products over the four tiles of the tokens. -/

noncomputable section

namespace Cert.ShardsNext

open Idealize.ShloMosaic Idealize.ShloMosaic.TcCoe Idealize.SL.Sem
open Idealize.ShloMosaic.ValueIdx (contrEquiv2 contrEquiv2_symm_val0 contrEquiv2_symm_val1)
open Cert.Kernel6Ideal Cert.Kernel6Ideal.Gen Cert.Attn Cert.Ffn
open Cert.Shards (hz hz3 prod prod_apply)

/-- A tile's tokens, scaled and shifted by their sequence's modulation. -/
abbrev hrow (x : FVec Ideal S1024x1024 .f32) (md : FVec Ideal S1x9x1024 .f32) : FVec Ideal (Mat 1024 1024) .bf16 :=
  k0_pay1 x (View.ld md (Rect.unit (s := S1x9x1024) ![0, 7, 0] S1x1x1024.size inb_S1x9x1024_S1x1x1024_0_7_0))
    (View.ld md (Rect.unit (s := S1x9x1024) ![0, 6, 0] S1x1x1024.size inb_S1x9x1024_S1x1x1024_0_6_0))

theorem hrow_apply (x : FVec Ideal S1024x1024 .f32) (md : FVec Ideal S1x9x1024 .f32) (k d : Fin 1024) :
    hrow x md (ix2 k d) = x (ix2 k d) * (oneWord + md (ix3 0 7 d)) + md (ix3 0 6 d) := by
  unfold hrow
  rw [View.ld_unit, View.ld_unit]
  unfold k0_pay1
  dsimp only
  pointwise

section Case

variable (c : Dev nD) (i : grid0.Coords) (a2 : Memref sig .tc .vmem S1024x1024 .f32) (h2 : a2.IsWhole)
  (a3 : Memref sig .tc .vmem S1x9x1024 .f32) (h3 : a3.IsWhole) (a4 : Memref sig .tc .vmem S1024x1408 .bf16) (h4 : a4.IsWhole)
  (a5 : Memref sig .tc .vmem S1024x1408 .bf16) (h5 : a5.IsWhole) (a6 : Memref sig .tc .vmem S1x1024x1408 .bf16) (h6 : a6.IsWhole)
  (a7 : Memref sig .tc .vmem S1024x1408 .f32) (h7 : a7.IsWhole)
  (x : Vec Ideal S1024x1024 .f32) (md : Vec Ideal S1x9x1024 .f32) (y z : Vec Ideal S1024x1408 .bf16) (acc : Vec Ideal S1024x1408 .f32)

/-- The first token tile of a gate shard leaves its product in the accumulator. -/
theorem first_gate (k0 : cond0_0 i) (k1 : cond0_1 i) (k2 : ¬cond0_2 i) (k3 : ¬cond0_3 i) (k4 : ¬cond0_4 i) :
    sout0_A_0 c i a2 h2 a3 h3 a4 h4 a5 h5 a6 h6 a7 h7 k0 k1 k2 k3 k4 x md y z = prod (hrow x md) y := by
  unfold sout0_A_0
  rw [View.read_writes_eq_canon _ _ _ (scover0_A_0 c i a2 h2 a3 h3 a4 h4 a5 h5 a6 h6 a7 h7 k0 k1 k2 k3 k4 x md y z)]
  unfold kernelRun0_A
  dsimp only
  sl_unfold_words
  rw [View.canon_unit_zero hz]
  unfold k0_pay3 k0_pay2
  simp only [View.readAt_eq_ld, h2.read_unread, h3.read_unread, h4.read_unread, h5.read_unread, View.ld_unit_zero (S := S1024x1024) hz,
    View.ld_unit_zero (S := S1024x1408) hz, shapeCast_self]
  rfl

/-- A token tile in between adds its product. -/
theorem next_gate (k0 : cond0_0 i) (k1 : ¬cond0_1 i) (k2 : cond0_2 i) (k3 : ¬cond0_3 i) (k4 : ¬cond0_4 i) :
    sout0_B_0 c i a2 h2 a3 h3 a4 h4 a5 h5 a6 h6 a7 h7 k0 k1 k2 k3 k4 x md y z acc = addf acc (prod (hrow x md) y) := by
  unfold sout0_B_0
  rw [View.read_writes_eq_canon _ _ _ (scover0_B_0 c i a2 h2 a3 h3 a4 h4 a5 h5 a6 h6 a7 h7 k0 k1 k2 k3 k4 x md y z acc)]
  unfold kernelRun0_B
  dsimp only
  sl_unfold_words
  rw [View.canon_unit_zero hz]
  unfold k0_pay4 k0_pay2
  simp only [View.readAt_eq_ld, h2.read_unread, h3.read_unread, h4.read_unread, h5.read_unread, h7.read_unread, View.ld_unit_zero (S := S1024x1024) hz,
    View.ld_unit_zero (S := S1024x1408) hz, shapeCast_self]
  rfl

/-- The last token tile stores the sum. -/
theorem last_gate (k0 : cond0_0 i) (k1 : ¬cond0_1 i) (k2 : ¬cond0_2 i) (k3 : cond0_3 i) (k4 : ¬cond0_4 i) :
    out0_C_4 c i a2 h2 a3 h3 a4 h4 a5 h5 a6 h6 a7 h7 k0 k1 k2 k3 k4 x md y z acc = shapeCast S1x1024x1408 (truncf .bf16 (addf acc (prod (hrow x md) y)) bitsLt_bf16_f32) shapeCasts_S1024x1408_S1x1024x1408 := by
  unfold out0_C_4
  rw [View.read_writes_eq_canon _ _ _ (cover0_C_4 c i a2 h2 a3 h3 a4 h4 a5 h5 a6 h6 a7 h7 k0 k1 k2 k3 k4 x md y z acc)]
  unfold kernelRun0_C
  dsimp only
  sl_unfold_words
  rw [View.canon_unit_zero hz3]
  unfold k0_pay5 k0_pay2
  simp only [View.readAt_eq_ld, h2.read_unread, h3.read_unread, h4.read_unread, h5.read_unread, h7.read_unread, View.ld_unit_zero (S := S1024x1024) hz,
    View.ld_unit_zero (S := S1024x1408) hz, shapeCast_self]
  rfl

/-- The first token tile of an up shard leaves its product in the accumulator. -/
theorem first_up (k0 : ¬cond0_0 i) (k4 : cond0_4 i) (k5 : cond0_5 i) (k6 : ¬cond0_6 i) (k7 : ¬cond0_7 i) :
    sout0_D_0 c i a2 h2 a3 h3 a4 h4 a5 h5 a6 h6 a7 h7 k0 k4 k5 k6 k7 x md z y = prod (hrow x md) y := by
  unfold sout0_D_0
  rw [View.read_writes_eq_canon _ _ _ (scover0_D_0 c i a2 h2 a3 h3 a4 h4 a5 h5 a6 h6 a7 h7 k0 k4 k5 k6 k7 x md z y)]
  unfold kernelRun0_D
  dsimp only
  sl_unfold_words
  rw [View.canon_unit_zero hz]
  unfold k0_pay7 k0_pay6
  simp only [View.readAt_eq_ld, h2.read_unread, h3.read_unread, h4.read_unread, h5.read_unread, View.ld_unit_zero (S := S1024x1024) hz,
    View.ld_unit_zero (S := S1024x1408) hz, shapeCast_self]
  rfl

/-- A token tile in between adds its product. -/
theorem next_up (k0 : ¬cond0_0 i) (k4 : cond0_4 i) (k5 : ¬cond0_5 i) (k6 : cond0_6 i) (k7 : ¬cond0_7 i) :
    sout0_E_0 c i a2 h2 a3 h3 a4 h4 a5 h5 a6 h6 a7 h7 k0 k4 k5 k6 k7 x md z y acc = addf acc (prod (hrow x md) y) := by
  unfold sout0_E_0
  rw [View.read_writes_eq_canon _ _ _ (scover0_E_0 c i a2 h2 a3 h3 a4 h4 a5 h5 a6 h6 a7 h7 k0 k4 k5 k6 k7 x md z y acc)]
  unfold kernelRun0_E
  dsimp only
  sl_unfold_words
  rw [View.canon_unit_zero hz]
  unfold k0_pay8 k0_pay6
  simp only [View.readAt_eq_ld, h2.read_unread, h3.read_unread, h4.read_unread, h5.read_unread, h7.read_unread, View.ld_unit_zero (S := S1024x1024) hz,
    View.ld_unit_zero (S := S1024x1408) hz, shapeCast_self]
  rfl

/-- The last token tile stores the sum. -/
theorem last_up (k0 : ¬cond0_0 i) (k4 : cond0_4 i) (k5 : ¬cond0_5 i) (k6 : ¬cond0_6 i) (k7 : cond0_7 i) :
    out0_F_4 c i a2 h2 a3 h3 a4 h4 a5 h5 a6 h6 a7 h7 k0 k4 k5 k6 k7 x md z y acc = shapeCast S1x1024x1408 (truncf .bf16 (addf acc (prod (hrow x md) y)) bitsLt_bf16_f32) shapeCasts_S1024x1408_S1x1024x1408 := by
  unfold out0_F_4
  rw [View.read_writes_eq_canon _ _ _ (cover0_F_4 c i a2 h2 a3 h3 a4 h4 a5 h5 a6 h6 a7 h7 k0 k4 k5 k6 k7 x md z y acc)]
  unfold kernelRun0_F
  dsimp only
  sl_unfold_words
  rw [View.canon_unit_zero hz3]
  unfold k0_pay9 k0_pay6
  simp only [View.readAt_eq_ld, h2.read_unread, h3.read_unread, h4.read_unread, h5.read_unread, h7.read_unread, View.ld_unit_zero (S := S1024x1024) hz,
    View.ld_unit_zero (S := S1024x1408) hz, shapeCast_self]
  rfl

end Case

variable (m : (ℓ : Loc nD τ sig) → Buf (Elt Ideal) ℓ) (ρ : Dev nD → PrngReg) (c : Dev nD)

theorem at_x : ∀ t : Fin grid0.N, win0_0.index t 0 = t.val % 4 ∧ win0_0.index t 1 = 0 := by decide +kernel
theorem at_md : ∀ t : Fin grid0.N, win0_1.index t 0 = t.val % 4 / 2 ∧ win0_1.index t 1 = 0 ∧ win0_1.index t 2 = 0 := by decide +kernel
theorem at_gate : ∀ t : Fin grid0.N, t.val < 8 → win0_2.index t 0 = t.val % 4 ∧ win0_2.index t 1 = t.val / 4 := by decide +kernel
theorem at_up : ∀ t : Fin grid0.N, ¬t.val < 8 → win0_3.index t 0 = t.val % 4 ∧ win0_3.index t 1 + 2 = t.val / 4 := by decide +kernel

/-- The tokens. -/
abbrev X : FVec Ideal (Mat 4096 1024) .f32 := m ((c : Thread nD τ).loc main_arg0)
/-- The modulation. -/
abbrev Md : FVec Ideal ⟨3, ![2, 9, 1024]⟩ .f32 := m ((c : Thread nD τ).loc main_arg1)
/-- The gate's gradient. -/
abbrev Dg : FVec Ideal (Mat 4096 2816) .bf16 := m ((c : Thread nD τ).loc main_arg2)
/-- The up columns' gradient. -/
abbrev Du : FVec Ideal (Mat 4096 2816) .bf16 := m ((c : Thread nD τ).loc main_arg3)

theorem block_x (t : Fin grid0.N) (k d : Fin 1024) :
    (iblk m c 0 t : FVec Ideal (Mat 1024 1024) .f32) (ix2 k d) = at2 (X m c) (1024 * (t.val % 4) + k) d := by
  have hi := at_x t
  rw [at2_of (X m c) ⟨1024 * (t.val % 4) + k, by omega⟩ d rfl rfl]
  unfold iblk
  rw [View.read_apply]
  show V m c main_arg0 _ = _
  rw [V_main_arg0]
  congr 1
  funext a
  apply Fin.ext
  match a with
  | ⟨0, _⟩ => show win0_0.index t 0 * 1024 + 1 * k.val = 1024 * (t.val % 4) + k.val; rw [hi.1]; omega
  | ⟨1, _⟩ => show win0_0.index t 1 * 1024 + 1 * d.val = d.val; rw [hi.2]; omega

theorem block_md (t : Fin grid0.N) (r : Fin 9) (d : Fin 1024) :
    (iblk m c 1 t : FVec Ideal S1x9x1024 .f32) (ix3 0 r d) = at3 (Md m c) (t.val % 4 / 2) r d := by
  have hi := at_md t
  rw [at3_of (Md m c) ⟨t.val % 4 / 2, by omega⟩ r d rfl rfl rfl]
  unfold iblk
  rw [View.read_apply]
  show V m c main_arg1 _ = _
  rw [V_main_arg1]
  congr 1
  funext a
  apply Fin.ext
  match a with
  | ⟨0, _⟩ => show win0_1.index t 0 * 1 + 1 * 0 = t.val % 4 / 2; rw [hi.1]; omega
  | ⟨1, _⟩ => show win0_1.index t 1 * 9 + 1 * r.val = r.val; rw [hi.2.1]; omega
  | ⟨2, _⟩ => show win0_1.index t 2 * 1024 + 1 * d.val = d.val; rw [hi.2.2]; omega

/-- The block of the gradient that a point works on: of the gate's for the first two shards, of the up columns' for the others. -/
def tile (t : Fin grid0.N) : FVec Ideal (Mat 1024 1408) .bf16 := if t.val < 8 then iblk m c 2 t else iblk m c 3 t

theorem tile_apply (t : Fin grid0.N) (k : Fin 1024) (f : Fin 1408) :
    tile m c t (ix2 k f) = beside 2816 (Dg m c) (Du m c) (1024 * (t.val % 4) + k) (1408 * (t.val / 4) + f) := by
  have ht : t.val < 16 := lt_of_lt_of_eq t.isLt N_0
  unfold tile beside
  by_cases h : t.val < 8
  · have hi := at_gate t h
    rw [if_pos h, if_pos (by omega), at2_of (Dg m c) ⟨1024 * (t.val % 4) + k, by omega⟩ ⟨1408 * (t.val / 4) + f, by omega⟩ rfl rfl]
    unfold iblk
    rw [View.read_apply]
    show V m c main_arg2 _ = _
    rw [V_main_arg2]
    congr 1
    funext a
    apply Fin.ext
    match a with
    | ⟨0, _⟩ => show win0_2.index t 0 * 1024 + 1 * k.val = 1024 * (t.val % 4) + k.val; rw [hi.1]; omega
    | ⟨1, _⟩ => show win0_2.index t 1 * 1408 + 1 * f.val = 1408 * (t.val / 4) + f.val; rw [hi.2]; omega
  · have hi := at_up t h
    rw [if_neg h, if_neg (by omega), at2_of (Du m c) ⟨1024 * (t.val % 4) + k, by omega⟩ ⟨1408 * (t.val / 4) + f - 2816, by omega⟩ rfl rfl]
    unfold iblk
    rw [View.read_apply]
    show V m c main_arg3 _ = _
    rw [V_main_arg3]
    congr 1
    funext a
    apply Fin.ext
    match a with
    | ⟨0, _⟩ => show win0_3.index t 0 * 1024 + 1 * k.val = 1024 * (t.val % 4) + k.val; rw [hi.1]; omega
    | ⟨1, _⟩ => show win0_3.index t 1 * 1408 + 1 * f.val = 1408 * (t.val / 4) + f.val - 2816; omega

/-- A point's product. -/
def P (t : Fin grid0.N) : FVec Ideal (Mat 1024 1408) .f32 := prod (hrow (iblk m c 0 t) (iblk m c 1 t)) (tile m c t)

/-- One summand of an entry of a shard. -/
abbrev term (j d f k : ℕ) : EReal := modulated 6 7 (X m c) (Md m c) k d * beside 2816 (Dg m c) (Du m c) k (1408 * j + f)

theorem P_apply (t : Fin grid0.N) (d : Fin 1024) (f : Fin 1408) :
    P m c t (ix2 d f) = ∑ k : Fin 1024, term m c (t.val / 4) d f (1024 * (t.val % 4) + k) := by
  refine (prod_apply _ _ d f).trans (Finset.sum_congr rfl fun k _ => congrArg₂ (· * ·) ?_ (tile_apply m c t k f))
  have e : (1024 * (t.val % 4) + k.val) / 2048 = t.val % 4 / 2 := by omega
  unfold modulated
  rw [e, hrow_apply, block_x]
  exact congrArg₂ (· + ·) (congrArg (_ * ·) (congrArg (oneWord + ·) (block_md m c t 7 d))) (block_md m c t 6 d)

theorem as_shard (v : FVec Ideal S1024x1408 .bf16) (d : Fin 1024) (f : Fin 1408) :
    shapeCast S1x1024x1408 v shapeCasts_S1024x1408_S1x1024x1408 (ix3 0 d f) = v (ix2 d f) := by
  pointwise

/-- What the first token tile of a shard leaves in the accumulator. -/
theorem left (s : Fin cfg0.N) (hs : s.val % 4 = 0) (n : ℕ) (h : n < cfg0.N) (e : n = s.val) :
    (outsAt0 m c n h).2 = P m c s := by
  subst e
  unfold P tile
  by_cases hg : s.val < 8
  · refine (congrArg Prod.snd (outsAt0_A m c s hg hs (by omega) (by omega) (by omega))).trans ?_
    dsimp only
    rw [first_gate, if_pos hg]
  · refine (congrArg Prod.snd (outsAt0_D m c s hg (by omega) hs (by omega) (by omega))).trans ?_
    dsimp only
    rw [first_up, if_neg hg]

/-- What a token tile in between leaves there. -/
theorem between (s : Fin cfg0.N) (hs : 1 ≤ s.val % 4 ∧ s.val % 4 ≤ 2) (n : ℕ) (h : n < cfg0.N) (e : n = s.val) :
    (outsAt0 m c n h).2 = addf (outsAt0 m c (s.val - 1) (Nat.lt_of_le_of_lt (Nat.sub_le _ _) s.isLt)).2 (P m c s) := by
  subst e
  unfold P tile
  by_cases hg : s.val < 8
  · refine (congrArg Prod.snd (outsAt0_B m c s hg (by omega) hs (by omega) (by omega))).trans ?_
    dsimp only
    rw [next_gate, if_pos hg]
  · refine (congrArg Prod.snd (outsAt0_E m c s hg (by omega) (by omega) hs (by omega))).trans ?_
    dsimp only
    rw [next_up, if_neg hg]

/-- What the last token tile stores. -/
theorem stores (s : Fin cfg0.N) (hs : s.val % 4 = 3) :
    (outsAt0 m c s.val s.isLt).1 = shapeCast S1x1024x1408 (truncf .bf16 (addf (outsAt0 m c (s.val - 1) (Nat.lt_of_le_of_lt (Nat.sub_le _ _) s.isLt)).2 (P m c s)) bitsLt_bf16_f32) shapeCasts_S1024x1408_S1x1024x1408 := by
  unfold P tile
  by_cases hg : s.val < 8
  · refine (congrArg Prod.fst (outsAt0_C m c s hg (by omega) (by omega) hs (by omega))).trans ?_
    dsimp only
    rw [last_gate, if_pos hg]
  · refine (congrArg Prod.fst (outsAt0_F m c s hg (by omega) (by omega) (by omega) hs)).trans ?_
    dsimp only
    rw [last_up, if_neg hg]

/-- An entry of what the last token tile of a shard stores: the sum over all tokens. -/
theorem stored (t : Fin cfg0.N) (ht : t.val % 4 = 3) (d : Fin 1024) (f : Fin 1408) :
    (outsAt0 m c t.val t.isLt).1 (ix3 0 d f) = ∑ k : Fin 4096, term m c (t.val / 4) d f k := by
  have lt : ∀ i, t.val - i < cfg0.N := fun i => Nat.lt_of_le_of_lt (Nat.sub_le _ _) t.isLt
  obtain ⟨s0, h0⟩ : ∃ s : Fin cfg0.N, s.val = t.val - 3 := ⟨⟨t.val - 3, lt 3⟩, rfl⟩
  obtain ⟨s1, h1⟩ : ∃ s : Fin cfg0.N, s.val = t.val - 2 := ⟨⟨t.val - 2, lt 2⟩, rfl⟩
  obtain ⟨s2, h2⟩ : ∃ s : Fin cfg0.N, s.val = t.val - 1 := ⟨⟨t.val - 1, lt 1⟩, rfl⟩
  rw [stores m c t ht, between m c s2 (by omega) _ _ h2.symm, between m c s1 (by omega) (s2.val - 1) _ (by omega), left m c s0 (by omega) (s1.val - 1) _ (by omega)]
  refine (as_shard _ d f).trans ?_
  show P m c s0 (ix2 d f) + P m c s1 (ix2 d f) + P m c s2 (ix2 d f) + P m c t (ix2 d f) = _
  rw [P_apply, P_apply, P_apply, P_apply, show s0.val % 4 = 0 by omega, show s1.val % 4 = 1 by omega, show s2.val % 4 = 2 by omega, ht,
    show s0.val / 4 = t.val / 4 by omega, show s1.val / 4 = t.val / 4 by omega, show s2.val / 4 = t.val / 4 by omega]
  refine Eq.trans ?_ (sum_quarters 1024 rfl fun k => term m c (t.val / 4) d f k).symm
  simp only [Nat.mul_zero, Nat.zero_add, Nat.mul_one]

/-- The array that the run leaves. -/
def G : FVec Ideal ⟨3, ![4, 1024, 1408]⟩ .bf16 := fun i => ∑ k : Fin 4096, term m c (i 0).val (i 1).val (i 2).val k

theorem at_out : ∀ t : Fin grid0.N, win0_4.index t 0 = t.val / 4 ∧ win0_4.index t 1 = 0 ∧ win0_4.index t 2 = 0 := by decide +kernel

/-- What a point writes back is its block of that array. -/
theorem flushed (t : Fin cfg0.N) (hf : (cfg0.win 4).flush t = true) :
    (dats m 0 c).flushed 4 t = ((cfg0.win 4).blk t).view.read (Elt Ideal) (G m c) := by
  show (cfg0.win 4).cut (grid0.coords t) ((dats m 0 c).after 4 t) = _
  rw [after0_4]
  have hm : t.val % 4 = 3 := (flush0_4 t).mp hf
  have hi := at_out t
  funext y
  rw [View.read_apply]
  have hy0 : (y 0).val < 1 := (y 0).isLt
  have hy1 : (y 1).val < 1024 := (y 1).isLt
  have hy2 : (y 2).val < 1408 := (y 2).isLt
  have hl : (cfg0.win 4).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have hb0 : (((cfg0.win 4).blk t).view.emb y 0).val = t.val / 4 := by
    show win0_4.index t 0 * 1 + 1 * (y 0).val = _; omega
  have hb1 : (((cfg0.win 4).blk t).view.emb y 1).val = (y 1).val := by
    show win0_4.index t 1 * 1024 + 1 * (y 1).val = _; omega
  have hb2 : (((cfg0.win 4).blk t).view.emb y 2).val = (y 2).val := by
    show win0_4.index t 2 * 1408 + 1 * (y 2).val = _; omega
  show (outsAt0 m c t.val t.isLt).1 ((cfg0.win 4).xinj (grid0.coords t) y) = G m c (((cfg0.win 4).blk t).view.emb y)
  rw [hl, stored m c t hm]
  unfold G
  rw [hb0, hb1, hb2]

/-- The point that writes back a shard. -/
theorem reaches : ∀ j : Fin 4, ∃ t : Fin grid0.N, win0_4.flush t = true ∧ win0_4.index t = ![j.val, 0, 0] := by decide +kernel

/-- The array after the run. -/
theorem array : (dats m 0 c).arrAt 4 cfg0.N = G m c := by
  refine (dats m 0 c).arrAt_eq_of_cover 4 _ (fun t hf => flushed m c t hf) fun i => ?_
  have h1 : (i 1).val < 1024 := (i 1).isLt
  have h2 : (i 2).val < 1408 := (i 2).isLt
  obtain ⟨t, hf, ht⟩ := reaches (i 0)
  refine ⟨t, hf, ?_⟩
  show i ∈ ((View.whole main_v0).slice (win0_4.rect t)).set
  rw [View.set_slice_whole, Rect.mem_set_unit]
  have q0 : win0_4.index t 0 = (i 0).val := congrFun ht 0
  have q1 : win0_4.index t 1 = 0 := congrFun ht 1
  have q2 : win0_4.index t 2 = 0 := congrFun ht 2
  intro a
  match a with
  | ⟨0, _⟩ => show win0_4.index t 0 * 1 ≤ (i 0).val ∧ (i 0).val < win0_4.index t 0 * 1 + 1; omega
  | ⟨1, _⟩ => show win0_4.index t 1 * 1024 ≤ (i 1).val ∧ (i 1).val < win0_4.index t 1 * 1024 + 1024; omega
  | ⟨2, _⟩ => show win0_4.index t 2 * 1408 ≤ (i 2).val ∧ (i 2).val < win0_4.index t 2 * 1408 + 1408; omega

/-- The run: the result is that array, and the arguments are kept. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

/-! ## The reference's result -/

open Cert.Reference6Ideal.Read in
theorem ref_row (x : FVec Ideal (Mat 4096 1024) .f32) (md : FVec Ideal ⟨3, ![2, 9, 1024]⟩ .f32) (b : Fin 2) (s : Fin 2048) (d : Fin 1024) :
    (val_main_v12 (F := Ideal) x md : FVec Ideal ⟨3, ![2, 2048, 1024]⟩ .f32) (ix3 b s d) = modulated 6 7 x md (2048 * b + s) d := by
  rw [val_main_v12_apply, val_main_v10_apply, val_main_v4_apply, val_main_v9_apply, val_main_v8_apply, val_main_v7_apply, val_main_v6_apply,
    val_main_v11_apply, val_main_v5_apply]
  unfold modulated
  rw [at2_of x ⟨2048 * b + s, by omega⟩ d rfl rfl, at3_of md (r := (2048 * b + s) / 2048) (c := 7) b 7 d (by omega) rfl rfl,
    at3_of md (r := (2048 * b + s) / 2048) (c := 6) b 6 d (by omega) rfl rfl]
  refine congrArg₂ (· + ·) (congrArg₂ (· * ·) (congrArg x ?_) (congrArg (oneWord + ·) (congrArg md ?_))) (congrArg md ?_)
  · funext a; apply Fin.ext
    match a with
    | ⟨0, _⟩ => show ((b.val * 2048 + s.val) * 1024 + d.val) / 1024 = 2048 * b.val + s.val; omega
    | ⟨1, _⟩ => show ((b.val * 2048 + s.val) * 1024 + d.val) % 1024 = d.val; omega
  all_goals
    funext a; apply Fin.ext
    match a with
    | ⟨0, _⟩ => rfl
    | ⟨1, _⟩ => rfl
    | ⟨2, _⟩ => rfl

open Cert.Reference6Ideal.Read in
theorem ref_split (y z : FVec Ideal (Mat 4096 2816) .bf16) (b : Fin 2) (s : Fin 2048) (f : Fin 5632) :
    (val_main_v2 (F := Ideal) y z : FVec Ideal ⟨3, ![2, 2048, 5632]⟩ .f32) (ix3 b s f) = beside 2816 y z (2048 * b + s) f :=
  Cert.Shards.ref_split y z b s f

/-- The reference's product: over the sequences and, in each, over its tokens. -/
theorem ref_prod (L : FVec Ideal ⟨3, ![2, 2048, 5632]⟩ .f32) (R : FVec Ideal ⟨3, ![2, 2048, 1024]⟩ .f32) (f : Fin 5632) (d : Fin 1024) :
    (Host.dotGeneral Cert.Reference6Ideal.dot_S2x2048x5632_S2x2048x1024_S5632x1024_01_01_2_2_n_n none L R : FVec Ideal (Mat 5632 1024) .f32) (ix2 f d)
      = ∑ b : Fin 2, ∑ s : Fin 2048, L (ix3 b s f) * R (ix3 b s d) :=
  Cert.Shards.ref_prod L R f d

open Cert.Reference6Ideal.Read in
theorem reference (x : FVec Ideal (Mat 4096 1024) .f32) (md : FVec Ideal ⟨3, ![2, 9, 1024]⟩ .f32) (y z : FVec Ideal (Mat 4096 2816) .bf16)
    (j : Fin 4) (d : Fin 1024) (f : Fin 1408) :
    (val_main_v18 (F := Ideal) x md y z : FVec Ideal ⟨3, ![4, 1024, 1408]⟩ .bf16) (ix3 j d f)
      = ∑ k : Fin 4096, modulated 6 7 x md k d * beside 2816 y z k (1408 * j + f) := by
  rw [val_main_v18_apply]
  show val_main_v17 (F := Ideal) x md y z (ix3 j d f) = _
  rw [val_main_v17_apply, val_main_v16_apply, val_main_v15_apply]
  have e : idx_main_v15 (idx_main_v16 (idx_main_v17 (ix3 j d f))) = ix2 ⟨1408 * j + f, by omega⟩ d := by
    funext a; apply Fin.ext
    match a with
    | ⟨0, _⟩ => show ((d.val * 4 + j.val) * 1408 + f.val) % 5632 = 1408 * j.val + f.val; omega
    | ⟨1, _⟩ => show ((d.val * 4 + j.val) * 1408 + f.val) / 5632 = d.val; omega
  rw [e]
  unfold val_main_v14
  rw [ref_prod, show (∑ k : Fin 4096, modulated 6 7 x md k d * beside 2816 y z k (1408 * j + f)) = _ from
    sum_parts 2 2048 fun k => modulated 6 7 x md k d * beside 2816 y z k (1408 * j + f)]
  refine Finset.sum_congr rfl fun b _ => Finset.sum_congr rfl fun s _ => ?_
  rw [ref_split, ref_row, mul_comm]

/-- The kernel's result is the reference's. -/
theorem result : (G m c : FVec Ideal ⟨3, ![4, 1024, 1408]⟩ .bf16) = Cert.Reference6Ideal.Read.val_main_v18 (F := Ideal) (X m c) (Md m c) (Dg m c) (Du m c) := by
  funext i
  have e : i = ix3 (i 0) (i 1) (i 2) := eq_ix3 i
  exact (reference (X m c) (Md m c) (Dg m c) (Du m c) (i 0) (i 1) (i 2)).symm.trans (congrArg _ e.symm)

end Cert.ShardsNext
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite5
public import proofs.«01_k».proof.Proof.Agree
public import proofs.«01_k».proof.Proof.FfnIn
public import proofs.«01_k».proof.Proof.FfnInNext
public import proofs.«01_k».proof.Proof.FfnOut
public import proofs.«01_k».proof.Proof.FfnOutNext
public import proofs.«01_k».proof.Proof.Gate
public import proofs.«01_k».proof.Proof.InGrad
public import proofs.«01_k».proof.Proof.InGradNext
public import proofs.«01_k».proof.Proof.OutGrad
public import proofs.«01_k».proof.Proof.Shards
public import proofs.«01_k».proof.Proof.ShardsNext
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's three arrays and the reference's are the same, in the ideal arithmetic. -/
theorem value : @algebraic_KernelIdeal_ReferenceIdeal_pre_all_finite Cert.KernelIdeal.Gen.facts Cert.ReferenceIdeal.Gen.facts Cert.Pre_all_finite.Gen.facts := by
  letI := Cert.Pre_all_finite.Gen.facts
  intro m g m' g' hpre heq
  refine ⟨_, _, _, Cert.KernelIdeal.Value.run_blocks m g, ?_⟩
  refine (θ_run Cert.ReferenceIdeal.defs _ _).mono (fun r h c => ?_) (Cert.ReferenceIdeal.Value.run m' g')
  obtain ⟨q, k, v, d, H⟩ := Cert.Attn.operands_of_pre (hpre c)
  obtain ⟨eq, ek, ev⟩ := H.agree
  obtain ⟨a0, a1, a2, a3⟩ := heq c
  obtain ⟨r0, r1, r2, kept⟩ := h c
  refine ⟨r0.trans ?_, r1.trans ?_, r2.trans ?_, kept⟩
  · rw [Cert.ReferenceIdeal.Read.val_main_v66_eq, a0, a1, a2, a3]
    exact eq
  · rw [Cert.ReferenceIdeal.Read.val_main_v68_eq, a0, a1, a2, a3]
    exact ek
  · rw [Cert.ReferenceIdeal.Read.val_main_v70_eq, a0, a1, a3]
    exact ev

/-- The gradient of the weight into the gate and the up branch, in four parts: the kernel's array is the reference's. -/
theorem shards : @algebraic_Kernel2Ideal_Reference2Ideal Cert.Kernel2Ideal.Gen.facts Cert.Reference2Ideal.Gen.facts := by
  intro m g m' g' _ heq
  refine ⟨_, Cert.Shards.run m g, ?_⟩
  refine (θ_run Cert.Reference2Ideal.defs _ _).mono (fun r h c => ?_) (Cert.Reference2Ideal.Value.run m' g')
  obtain ⟨a0, a1, a2, a3⟩ := heq c
  obtain ⟨r0, kept⟩ := h c
  refine ⟨r0.trans ?_, kept⟩
  rw [Cert.Reference2Ideal.Read.val_main_v18_eq, a0, a1, a2, a3]
  exact (Cert.Shards.result m c).symm

/-- The gradients of the layer's input and of its shift and scale: the kernel's three arrays are the reference's. -/
theorem inputs : @algebraic_Kernel3Ideal_Reference3Ideal Cert.Kernel3Ideal.Gen.facts Cert.Reference3Ideal.Gen.facts := by
  intro m g m' g' _ heq
  refine ⟨_, _, _, Cert.Kernel3Ideal.Value.run_blocks m g, ?_⟩
  refine (θ_run Cert.Reference3Ideal.defs _ _).mono (fun r h c => ?_) (Cert.Reference3Ideal.Value.run m' g')
  obtain ⟨a0, a1, a2, a3, a4, a5⟩ := heq c
  obtain ⟨r0, r1, r2, kept⟩ := h c
  refine ⟨r0.trans ?_, r1.trans ?_, r2.trans ?_, kept⟩
  · rw [Cert.Reference3Ideal.Read.val_main_v27_eq, a0, a1, a2, a4, a5]
    exact (Cert.InGrad.result_x m c).symm
  · rw [Cert.Reference3Ideal.Read.val_main_v20_eq, a0, a1, a2]
    exact (Cert.InGrad.result_sh m c).symm
  · rw [Cert.Reference3Ideal.Read.val_main_v23_eq, a0, a1, a2, a3]
    exact (Cert.InGrad.result_sc m c).symm

/-- The gradient of the weight out of the SwiGLU layer: the kernel's array is the reference's. -/
theorem out_weight : @algebraic_Kernel4Ideal_Reference4Ideal Cert.Kernel4Ideal.Gen.facts Cert.Reference4Ideal.Gen.facts := by
  intro m g m' g' _ heq
  refine ⟨_, Cert.Kernel4Ideal.Value.run_blocks m g, ?_⟩
  refine (θ_run Cert.Reference4Ideal.defs _ _).mono (fun r h c => ?_) (Cert.Reference4Ideal.Value.run m' g')
  obtain ⟨a0, a1⟩ := heq c
  obtain ⟨r0, kept⟩ := h c
  refine ⟨r0.trans ?_, kept⟩
  rw [Cert.Reference4Ideal.Read.val_main_v6_eq, a0, a1]
  exact (Cert.OutGrad.result m c).symm

/-- The gradients of the gate and of the up branch: the kernel's two arrays are the reference's. -/
theorem gates : @algebraic_Kernel5Ideal_Reference5Ideal_pre_finite5 Cert.Kernel5Ideal.Gen.facts Cert.Reference5Ideal.Gen.facts Cert.Pre_finite5.Gen.facts := by
  letI := Cert.Pre_finite5.Gen.facts
  intro m g m' g' hpre heq
  refine ⟨_, _, Cert.Kernel5Ideal.Value.run_blocks m g, ?_⟩
  refine (θ_run Cert.Reference5Ideal.defs _ _).mono (fun r h c => ?_) (Cert.Reference5Ideal.Value.run m' g')
  obtain ⟨a0, a1, a2, a3⟩ := heq c
  obtain ⟨r0, r1, kept⟩ := h c
  refine ⟨r0.trans ?_, r1.trans ?_, kept⟩
  · rw [Cert.Reference5Ideal.Read.val_main_v13_eq, a0, a1, a2, a3]
    exact (Cert.Gate.result_gate m c (hpre c)).symm
  · rw [Cert.Reference5Ideal.Read.val_main_v14_eq, a0, a1, a2]
    exact (Cert.Gate.result_up m c).symm

/-- The gradient of the weight into the gate and the up branch, in four parts, of the second SwiGLU layer: the kernel's array is the reference's. -/
theorem shards_next : @algebraic_Kernel6Ideal_Reference6Ideal Cert.Kernel6Ideal.Gen.facts Cert.Reference6Ideal.Gen.facts := by
  intro m g m' g' _ heq
  refine ⟨_, Cert.ShardsNext.run m g, ?_⟩
  refine (θ_run Cert.Reference6Ideal.defs _ _).mono (fun r h c => ?_) (Cert.Reference6Ideal.Value.run m' g')
  obtain ⟨a0, a1, a2, a3⟩ := heq c
  obtain ⟨r0, kept⟩ := h c
  refine ⟨r0.trans ?_, kept⟩
  rw [Cert.Reference6Ideal.Read.val_main_v18_eq, a0, a1, a2, a3]
  exact (Cert.ShardsNext.result m c).symm

/-- The gradients of the second layer's input and of its shift and scale: the kernel's three arrays are the reference's. -/
theorem inputs_next : @algebraic_Kernel7Ideal_Reference7Ideal Cert.Kernel7Ideal.Gen.facts Cert.Reference7Ideal.Gen.facts := by
  intro m g m' g' _ heq
  refine ⟨_, _, _, Cert.Kernel7Ideal.Value.run_blocks m g, ?_⟩
  refine (θ_run Cert.Reference7Ideal.defs _ _).mono (fun r h c => ?_) (Cert.Reference7Ideal.Value.run m' g')
  obtain ⟨a0, a1, a2, a3, a4, a5⟩ := heq c
  obtain ⟨r0, r1, r2, kept⟩ := h c
  refine ⟨r0.trans ?_, r1.trans ?_, r2.trans ?_, kept⟩
  · rw [Cert.Reference7Ideal.Read.val_main_v27_eq, a0, a1, a2, a4, a5]
    exact (Cert.InGradNext.result_x m c).symm
  · rw [Cert.Reference7Ideal.Read.val_main_v20_eq, a0, a1, a2]
    exact (Cert.InGradNext.result_sh m c).symm
  · rw [Cert.Reference7Ideal.Read.val_main_v23_eq, a0, a1, a2, a3]
    exact (Cert.InGradNext.result_sc m c).symm

/-- The gate, the up branch and the inner array of the first SwiGLU layer: the kernel's three arrays are the reference's. -/
theorem layer_in : @algebraic_Kernel8Ideal_Reference8Ideal Cert.Kernel8Ideal.Gen.facts Cert.Reference8Ideal.Gen.facts := by
  intro m g m' g' _ heq
  refine ⟨_, _, _, Cert.Kernel8Ideal.Value.run_blocks m g, ?_⟩
  refine (θ_run Cert.Reference8Ideal.defs _ _).mono (fun r h c => ?_) (Cert.Reference8Ideal.Value.run m' g')
  obtain ⟨a0, a1, a2⟩ := heq c
  obtain ⟨r0, r1, r2, kept⟩ := h c
  refine ⟨r0.trans ?_, r1.trans ?_, r2.trans ?_, kept⟩
  · rw [Cert.Reference8Ideal.Read.val_main_v17_eq, a0, a1, a2]
    exact (Cert.FfnIn.result_gate m c).symm
  · rw [Cert.Reference8Ideal.Read.val_main_v18_eq, a0, a1, a2]
    exact (Cert.FfnIn.result_up m c).symm
  · rw [Cert.Reference8Ideal.Read.val_main_v21_eq, a0, a1, a2]
    exact (Cert.FfnIn.result_inner m c).symm

/-- The product out of the first SwiGLU layer and the normalized residual: the kernel's two arrays are the reference's. -/
theorem layer_out : @algebraic_Kernel9Ideal_Reference9Ideal Cert.Kernel9Ideal.Gen.facts Cert.Reference9Ideal.Gen.facts := by
  intro m g m' g' _ heq
  refine ⟨_, _, Cert.Kernel9Ideal.Value.run_blocks m g, ?_⟩
  refine (θ_run Cert.Reference9Ideal.defs _ _).mono (fun r h c => ?_) (Cert.Reference9Ideal.Value.run m' g')
  obtain ⟨a0, a1, a2, a3, a4, a5⟩ := heq c
  obtain ⟨r0, r1, kept⟩ := h c
  refine ⟨r0.trans ?_, r1.trans ?_, kept⟩
  · rw [Cert.Reference9Ideal.Read.val_main_v4_eq, a0, a1]
    exact (Cert.FfnOut.result_y m c).symm
  · rw [Cert.Reference9Ideal.Read.val_main_v43_eq, a0, a1, a2, a3, a4, a5]
    exact (Cert.FfnOut.result_x m c).symm

/-- The gate, the up branch and the inner array of the second SwiGLU layer: the kernel's three arrays are the reference's. -/
theorem layer_in_next : @algebraic_Kernel10Ideal_Reference10Ideal Cert.Kernel10Ideal.Gen.facts Cert.Reference10Ideal.Gen.facts := by
  intro m g m' g' _ heq
  refine ⟨_, _, _, Cert.Kernel10Ideal.Value.run_blocks m g, ?_⟩
  refine (θ_run Cert.Reference10Ideal.defs _ _).mono (fun r h c => ?_) (Cert.Reference10Ideal.Value.run m' g')
  obtain ⟨a0, a1, a2⟩ := heq c
  obtain ⟨r0, r1, r2, kept⟩ := h c
  refine ⟨r0.trans ?_, r1.trans ?_, r2.trans ?_, kept⟩
  · rw [Cert.Reference10Ideal.Read.val_main_v17_eq, a0, a1, a2]
    exact (Cert.FfnInNext.result_gate m c).symm
  · rw [Cert.Reference10Ideal.Read.val_main_v18_eq, a0, a1, a2]
    exact (Cert.FfnInNext.result_up m c).symm
  · rw [Cert.Reference10Ideal.Read.val_main_v21_eq, a0, a1, a2]
    exact (Cert.FfnInNext.result_inner m c).symm

/-- The product out of the second SwiGLU layer and the normalized residual: the kernel's two arrays are the reference's. -/
theorem layer_out_next : @algebraic_Kernel11Ideal_Reference11Ideal Cert.Kernel11Ideal.Gen.facts Cert.Reference11Ideal.Gen.facts := by
  intro m g m' g' _ heq
  refine ⟨_, _, Cert.Kernel11Ideal.Value.run_blocks m g, ?_⟩
  refine (θ_run Cert.Reference11Ideal.defs _ _).mono (fun r h c => ?_) (Cert.Reference11Ideal.Value.run m' g')
  obtain ⟨a0, a1, a2, a3, a4, a5⟩ := heq c
  obtain ⟨r0, r1, kept⟩ := h c
  refine ⟨r0.trans ?_, r1.trans ?_, kept⟩
  · rw [Cert.Reference11Ideal.Read.val_main_v4_eq, a0, a1]
    exact (Cert.FfnOutNext.result_y m c).symm
  · rw [Cert.Reference11Ideal.Read.val_main_v43_eq, a0, a1, a2, a3, a4, a5]
    exact (Cert.FfnOutNext.result_x m c).symm

theorem claim : Cert.Claim := by
  refine ⟨Cert.Kernel.Gen.facts, Cert.KernelIdeal.Gen.facts, Cert.ReferenceIdeal.Gen.facts, ?_⟩
  refine ⟨Cert.Kernel2.Gen.facts, Cert.Kernel2Ideal.Gen.facts, Cert.Reference2Ideal.Gen.facts, ?_⟩
  refine ⟨Cert.Kernel3.Gen.facts, Cert.Kernel3Ideal.Gen.facts, Cert.Reference3Ideal.Gen.facts, ?_⟩
  refine ⟨Cert.Kernel4.Gen.facts, Cert.Kernel4Ideal.Gen.facts, Cert.Reference4Ideal.Gen.facts, ?_⟩
  refine ⟨Cert.Kernel5.Gen.facts, Cert.Kernel5Ideal.Gen.facts, Cert.Reference5Ideal.Gen.facts, ?_⟩
  refine ⟨Cert.Kernel6.Gen.facts, Cert.Kernel6Ideal.Gen.facts, Cert.Reference6Ideal.Gen.facts, ?_⟩
  refine ⟨Cert.Kernel7.Gen.facts, Cert.Kernel7Ideal.Gen.facts, Cert.Reference7Ideal.Gen.facts, ?_⟩
  refine ⟨Cert.Kernel8.Gen.facts, Cert.Kernel8Ideal.Gen.facts, Cert.Reference8Ideal.Gen.facts, ?_⟩
  refine ⟨Cert.Kernel9.Gen.facts, Cert.Kernel9Ideal.Gen.facts, Cert.Reference9Ideal.Gen.facts, ?_⟩
  refine ⟨Cert.Kernel10.Gen.facts, Cert.Kernel10Ideal.Gen.facts, Cert.Reference10Ideal.Gen.facts, ?_⟩
  refine ⟨Cert.Kernel11.Gen.facts, Cert.Kernel11Ideal.Gen.facts, Cert.Reference11Ideal.Gen.facts, ?_⟩
  refine ⟨Cert.Pre_all_finite.Gen.facts, Cert.Pre_finite5.Gen.facts, ?_⟩
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial, value, trivial, shards, trivial, inputs, trivial, out_weight, trivial, gates, trivial, shards_next, trivial, inputs_next, trivial, layer_in, trivial, layer_out, trivial, layer_in_next,
    trivial, layer_out_next⟩
  · intro m g _
    exact Cert.Kernel.Gen.frame m g
  · intro m g _
    exact Cert.KernelIdeal.Gen.frame m g
  · intro m g _
    exact Cert.KernelIdeal.Gen.frame m g
  · intro m g _
    exact (θ_run Cert.ReferenceIdeal.defs _ _).mono (fun r h => ⟨fun c => (h c).2.2.2, sem_eq_zero_of_no_sems (by decide) r.2⟩) (Cert.ReferenceIdeal.Value.run m g)
  · intro m g _
    exact (θ_run Cert.ReferenceIdeal.defs _ _).mono (fun r h => ⟨fun c => (h c).2.2.2, sem_eq_zero_of_no_sems (by decide) r.2⟩) (Cert.ReferenceIdeal.Value.run m g)
  · intro m g _
    exact Cert.Kernel2.Gen.frame m g
  · intro m g _
    exact Cert.Kernel2Ideal.Gen.frame m g
  · intro m g _
    exact (θ_run Cert.Reference2Ideal.defs _ _).mono (fun r h => ⟨fun c => (h c).2, sem_eq_zero_of_no_sems (by decide) r.2⟩) (Cert.Reference2Ideal.Value.run m g)
  · intro m g _
    exact Cert.Kernel3.Gen.frame m g
  · intro m g _
    exact Cert.Kernel3Ideal.Gen.frame m g
  · intro m g _
    exact (θ_run Cert.Reference3Ideal.defs _ _).mono (fun r h => ⟨fun c => (h c).2.2.2, sem_eq_zero_of_no_sems (by decide) r.2⟩) (Cert.Reference3Ideal.Value.run m g)
  · intro m g _
    exact Cert.Kernel4.Gen.frame m g
  · intro m g _
    exact Cert.Kernel4Ideal.Gen.frame m g
  · intro m g _
    exact (θ_run Cert.Reference4Ideal.defs _ _).mono (fun r h => ⟨fun c => (h c).2, sem_eq_zero_of_no_sems (by decide) r.2⟩) (Cert.Reference4Ideal.Value.run m g)
  · intro m g _
    exact Cert.Kernel5.Gen.frame m g
  · intro m g _
    exact Cert.Kernel5Ideal.Gen.frame m g
  · intro m g _
    exact Cert.Kernel5Ideal.Gen.frame m g
  · intro m g _
    exact (θ_run Cert.Reference5Ideal.defs _ _).mono (fun r h => ⟨fun c => (h c).2.2, sem_eq_zero_of_no_sems (by decide) r.2⟩) (Cert.Reference5Ideal.Value.run m g)
  · intro m g _
    exact (θ_run Cert.Reference5Ideal.defs _ _).mono (fun r h => ⟨fun c => (h c).2.2, sem_eq_zero_of_no_sems (by decide) r.2⟩) (Cert.Reference5Ideal.Value.run m g)
  · intro m g _
    exact Cert.Kernel6.Gen.frame m g
  · intro m g _
    exact Cert.Kernel6Ideal.Gen.frame m g
  · intro m g _
    exact (θ_run Cert.Reference6Ideal.defs _ _).mono (fun r h => ⟨fun c => (h c).2, sem_eq_zero_of_no_sems (by decide) r.2⟩) (Cert.Reference6Ideal.Value.run m g)
  · intro m g _
    exact Cert.Kernel7.Gen.frame m g
  · intro m g _
    exact Cert.Kernel7Ideal.Gen.frame m g
  · intro m g _
    exact (θ_run Cert.Reference7Ideal.defs _ _).mono (fun r h => ⟨fun c => (h c).2.2.2, sem_eq_zero_of_no_sems (by decide) r.2⟩) (Cert.Reference7Ideal.Value.run m g)
  · intro m g _
    exact Cert.Kernel8.Gen.frame m g
  · intro m g _
    exact Cert.Kernel8Ideal.Gen.frame m g
  · intro m g _
    exact (θ_run Cert.Reference8Ideal.defs _ _).mono (fun r h => ⟨fun c => (h c).2.2.2, sem_eq_zero_of_no_sems (by decide) r.2⟩) (Cert.Reference8Ideal.Value.run m g)
  · intro m g _
    exact Cert.Kernel9.Gen.frame m g
  · intro m g _
    exact Cert.Kernel9Ideal.Gen.frame m g
  · intro m g _
    exact (θ_run Cert.Reference9Ideal.defs _ _).mono (fun r h => ⟨fun c => (h c).2.2, sem_eq_zero_of_no_sems (by decide) r.2⟩) (Cert.Reference9Ideal.Value.run m g)
  · intro m g _
    exact Cert.Kernel10.Gen.frame m g
  · intro m g _
    exact Cert.Kernel10Ideal.Gen.frame m g
  · intro m g _
    exact (θ_run Cert.Reference10Ideal.defs _ _).mono (fun r h => ⟨fun c => (h c).2.2.2, sem_eq_zero_of_no_sems (by decide) r.2⟩) (Cert.Reference10Ideal.Value.run m g)
  · intro m g _
    exact Cert.Kernel11.Gen.frame m g
  · intro m g _
    exact Cert.Kernel11Ideal.Gen.frame m g
  · intro m g _
    exact (θ_run Cert.Reference11Ideal.defs _ _).mono (fun r h => ⟨fun c => (h c).2.2, sem_eq_zero_of_no_sems (by decide) r.2⟩) (Cert.Reference11Ideal.Value.run m g)

end Cert.Proof

end
